-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v43)) (v1 : (c : Dev Cert.Kernel2Ideal.nD) → Buf (Elt Ideal) ((c.tc : Thread Cert.Kernel2Ideal.nD Cert.Kernel2Ideal.τ).loc Cert.Kernel2Ideal.main_v38_1)) (v2 : (c : Dev Cert.Kernel2Ideal.nD) → Buf (Elt Ideal) ((c.tc : Thread Cert.Kernel2Ideal.nD Cert.Kernel2Ideal.τ).loc Cert.Kernel2Ideal.main_v44)) (v3 : (c : Dev Cert.Kernel2Ideal.nD) → Buf (Elt Ideal) ((c.tc : Thread Cert.Kernel2Ideal.nD Cert.Kernel2Ideal.τ).loc Cert.Kernel2Ideal.main_v45)) (v4 : (c : Dev Cert.Kernel2Ideal.nD) → Buf (Elt Ideal) ((c.tc : Thread Cert.Kernel2Ideal.nD Cert.Kernel2Ideal.τ).loc Cert.Kernel2Ideal.main_v38_4)) (v5 : (c : Dev Cert.Kernel2Ideal.nD) → Buf (Elt Ideal) ((c.tc : Thread Cert.Kernel2Ideal.nD Cert.Kernel2Ideal.τ).loc Cert.Kernel2Ideal.main_v46)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v43) = v0 c
          ∧ r.2.mem ((c.tc : Thread Cert.Kernel2Ideal.nD Cert.Kernel2Ideal.τ).loc Cert.Kernel2Ideal.main_v38_1) = v1 c
          ∧ r.2.mem ((c.tc : Thread Cert.Kernel2Ideal.nD Cert.Kernel2Ideal.τ).loc Cert.Kernel2Ideal.main_v44) = v2 c
          ∧ r.2.mem ((c.tc : Thread Cert.Kernel2Ideal.nD Cert.Kernel2Ideal.τ).loc Cert.Kernel2Ideal.main_v45) = v3 c
          ∧ r.2.mem ((c.tc : Thread Cert.Kernel2Ideal.nD Cert.Kernel2Ideal.τ).loc Cert.Kernel2Ideal.main_v38_4) = v4 c
          ∧ r.2.mem ((c.tc : Thread Cert.Kernel2Ideal.nD Cert.Kernel2Ideal.τ).loc Cert.Kernel2Ideal.main_v46) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v50) = v0 c
          ∧ r.2.mem ((c.tc : Thread Cert.Reference2Ideal.nD Cert.Reference2Ideal.τ).loc Cert.Reference2Ideal.main_v74) = v1 c
          ∧ r.2.mem ((c.tc : Thread Cert.Reference2Ideal.nD Cert.Reference2Ideal.τ).loc Cert.Reference2Ideal.main_v57) = v2 c
          ∧ r.2.mem ((c.tc : Thread Cert.Reference2Ideal.nD Cert.Reference2Ideal.τ).loc Cert.Reference2Ideal.main_v54) = v3 c
          ∧ r.2.mem ((c.tc : Thread Cert.Reference2Ideal.nD Cert.Reference2Ideal.τ).loc Cert.Reference2Ideal.main_v95) = v4 c
          ∧ r.2.mem ((c.tc : Thread Cert.Reference2Ideal.nD Cert.Reference2Ideal.τ).loc Cert.Reference2Ideal.main_v96) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v15)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v15)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v15) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v15)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v15) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v19) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v15)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v15) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v19) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v6_0)) (v1 : (c : Dev Cert.Kernel8Ideal.nD) → Buf (Elt Ideal) ((c.tc : Thread Cert.Kernel8Ideal.nD Cert.Kernel8Ideal.τ).loc Cert.Kernel8Ideal.main_v6_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6_0) = v0 c
          ∧ r.2.mem ((c.tc : Thread Cert.Kernel8Ideal.nD Cert.Kernel8Ideal.τ).loc Cert.Kernel8Ideal.main_v6_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v10) = v0 c
          ∧ r.2.mem ((c.tc : Thread Cert.Reference8Ideal.nD Cert.Reference8Ideal.τ).loc Cert.Reference8Ideal.main_v13) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bitsLt_bf16_f32 : FTy.bits .bf16 < FTy.bits .f32
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_arg7 : FVec F S8192x1024 .f32) (main_arg8 : FVec F S8192x1024 .bf16) (main_v31 : IVec S_ 1) (main_v33 : FVec F S2816x1024 .f32) (main_cst_11 : FVec F S_ .f32) : IVec S_ 1 :=
  let main_v34 : FVec F S2816x1024 .f32 := broadcastInDim S2816x1024 ![] bcast_S_S2816x1024 main_cst_11
  let main_v35 : IVec S2816x1024 1 := cmpf .olt main_v33 main_v34
  let main_c_12 : IVec S_ 1 := constantI S_ 1 1#1
  let main_v36 : IVec S_ 1 := (fun x v => Host.reduce IntOp.andi x v reducesTo_S2816x1024_S_d0_1 h_S_) main_v35 main_c_12
  let main_v37 : IVec S_ 1 := andi main_v31 main_v36
  let main_v38 : FVec F S8192x1024 .f32 := Host.absf main_arg7
  let main_cst_13 : FVec F S_ .f32 := constant S_ .f32 0x7F800000#32
  let main_v39 : FVec F S8192x1024 .f32 := broadcastInDim S8192x1024 ![] bcast_S_S8192x1024 main_cst_13
  let main_v40 : IVec S8192x1024 1 := cmpf .olt main_v38 main_v39
  let main_c_14 : IVec S_ 1 := constantI S_ 1 1#1
  let main_v41 : IVec S_ 1 := (fun x v => Host.reduce IntOp.andi x v reducesTo_S8192x1024_S_d0_1 h_S_) main_v40 main_c_14
  let main_v42 : IVec S_ 1 := andi main_v37 main_v41
  let main_v43 : FVec F S8192x1024 .f32 := (extf .f32 · bitsLt_bf16_f32) main_arg8
  let main_v44 : FVec F S8192x1024 .f32 := Host.absf main_v43
  let main_cst_15 : FVec F S_ .f32 := constant S_ .f32 0x7F800000#32
  let main_v45 : FVec F S8192x1024 .f32 := broadcastInDim S8192x1024 ![] bcast_S_S8192x1024 main_cst_15
  let main_v46 : IVec S8192x1024 1 := cmpf .olt main_v44 main_v45
  let main_c_16 : IVec S_ 1 := constantI S_ 1 1#1
  let main_v47 : IVec S_ 1 := (fun x v => Host.reduce IntOp.andi x v reducesTo_S8192x1024_S_d0_1 h_S_) main_v46 main_c_16
  let main_v48 : IVec S_ 1 := andi main_v42 main_v47
  main_v48

def fn_part1 {F : FTy → Type} [FloatOps F] (main_arg4 : FVec F S1x1024 .f32) (main_arg5 : FVec F S1024x5632 .bf16) (main_arg6 : FVec F S2816x1024 .bf16) (main_arg7 : FVec F S8192x1024 .f32) (main_arg8 : FVec F S8192x1024 .bf16) (main_v15 : IVec S_ 1) (main_v16 : FVec F S1x1024 .f32) : IVec S_ 1 :=
  let main_cst_5 : FVec F S_ .f32 := constant S_ .f32 0x7F800000#32
  let main_v17 : FVec F S1x1024 .f32 := broadcastInDim S1x1024 ![] bcast_S_S1x1024 main_cst_5
  let main_v18 : IVec S1x1024 1 := cmpf .olt main_v16 main_v17
  let main_c_6 : IVec S_ 1 := constantI S_ 1 1#1
  let main_v19 : IVec S_ 1 := (fun x v => Host.reduce IntOp.andi x v reducesTo_S1x1024_S_d0_1 h_S_) main_v18 main_c_6
  let main_v20 : IVec S_ 1 := andi main_v15 main_v19
  let main_v21 : FVec F S1x1024 .f32 := Host.absf main_arg4
  let main_cst_7 : FVec F S_ .f32 := constant S_ .f32 0x7F800000#32
  let main_v22 : FVec F S1x1024 .f32 := broadcastInDim S1x1024 ![] bcast_S_S1x1024 main_cst_7
  let main_v23 : IVec S1x1024 1 := cmpf .olt main_v21 main_v22
  let main_c_8 : IVec S_ 1 := constantI S_ 1 1#1
  let main_v24 : IVec S_ 1 := (fun x v => Host.reduce IntOp.andi x v reducesTo_S1x1024_S_d0_1 h_S_) main_v23 main_c_8
  let main_v25 : IVec S_ 1 := andi main_v20 main_v24
  let main_v26 : FVec F S1024x5632 .f32 := (extf .f32 · bitsLt_bf16_f32) main_arg5
  let main_v27 : FVec F S1024x5632 .f32 := Host.absf main_v26
  let main_cst_9 : FVec F S_ .f32 := constant S_ .f32 0x7F800000#32
  let main_v28 : FVec F S1024x5632 .f32 := broadcastInDim S1024x5632 ![] bcast_S_S1024x5632 main_cst_9
  let main_v29 : IVec S1024x5632 1 := cmpf .olt main_v27 main_v28
  let main_c_10 : IVec S_ 1 := constantI S_ 1 1#1
  let main_v30 : IVec S_ 1 := (fun x v => Host.reduce IntOp.andi x v reducesTo_S1024x5632_S_d0_1 h_S_) main_v29 main_c_10
  let main_v31 : IVec S_ 1 := andi main_v25 main_v30
  let main_v32 : FVec F S2816x1024 .f32 := (extf .f32 · bitsLt_bf16_f32) main_arg6
  let main_v33 : FVec F S2816x1024 .f32 := Host.absf main_v32
  let main_cst_11 : FVec F S_ .f32 := constant S_ .f32 0x7F800000#32
  fn_part2 (F := F) main_arg7 main_arg8 main_v31 main_v33 main_cst_11

def fn {F : FTy → Type} [FloatOps F] (main_arg0 : FVec F S8192x1024 .f32) (main_arg1 : FVec F S8192x1024 .bf16) (main_arg2 : FVec F S1x1024 .f32) (main_arg3 : FVec F S1x1024 .f32) (main_arg4 : FVec F S1x1024 .f32) (main_arg5 : FVec F S1024x5632 .bf16) (main_arg6 : FVec F S2816x1024 .bf16) (main_arg7 : FVec F S8192x1024 .f32) (main_arg8 : FVec F S8192x1024 .bf16) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_c_0 : IVec S_ 1 := constantI S_ 1 1#1
  let main_v4 : IVec S_ 1 := andi main_c_0 main_v3
  let main_v5 : FVec F S8192x1024 .f32 := (extf .f32 · bitsLt_bf16_f32) main_arg1
  let main_v6 : FVec F S8192x1024 .f32 := Host.absf main_v5
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_c_2 : IVec S_ 1 := constantI S_ 1 1#1
  let main_v9 : IVec S_ 1 := (fun x v => Host.reduce IntOp.andi x v reducesTo_S8192x1024_S_d0_1 h_S_) main_v8 main_c_2
  let main_v10 : IVec S_ 1 := andi main_v4 main_v9
  let main_v11 : FVec F S1x1024 .f32 := Host.absf main_arg2
  let main_cst_3 : FVec F S_ .f32 := constant S_ .f32 0x7F800000#32
  let main_v12 : FVec F S1x1024 .f32 := broadcastInDim S1x1024 ![] bcast_S_S1x1024 main_cst_3
  let main_v13 : IVec S1x1024 1 := cmpf .olt main_v11 main_v12
  let main_c_4 : IVec S_ 1 := constantI S_ 1 1#1
  let main_v14 : IVec S_ 1 := (fun x v => Host.reduce IntOp.andi x v reducesTo_S1x1024_S_d0_1 h_S_) main_v13 main_c_4
  let main_v15 : IVec S_ 1 := andi main_v10 main_v14
  let main_v16 : FVec F S1x1024 .f32 := Host.absf main_arg3
  fn_part1 (F := F) main_arg4 main_arg5 main_arg6 main_arg7 main_arg8 main_v15 main_v16
-- ==== Kernel.lean ====
abbrev S8192x1024 : Shape := ⟨2, ![8192, 1024]⟩
abbrev S8192x3072 : Shape := ⟨2, ![8192, 3072]⟩
abbrev S3x1024 : Shape := ⟨2, ![3, 1024]⟩
abbrev S_ : Shape := ⟨0, ![]⟩
abbrev S8x1024 : Shape := ⟨2, ![8, 1024]⟩
abbrev S3x8x1024 : Shape := ⟨3, ![3, 8, 1024]⟩
abbrev S512x1024 : Shape := ⟨2, ![512, 1024]⟩
abbrev S16x1024 : Shape := ⟨2, ![16, 1024]⟩
abbrev S512x3072 : Shape := ⟨2, ![512, 3072]⟩
abbrev S16x3072 : Shape := ⟨2, ![16, 3072]⟩
abbrev S528x1024 : Shape := ⟨2, ![528, 1024]⟩
abbrev S1x1024 : Shape := ⟨2, ![1, 1024]⟩
abbrev S1x8x1024 : Shape := ⟨3, ![1, 8, 1024]⟩
abbrev S64x8x1024 : Shape := ⟨3, ![64, 8, 1024]⟩

abbrev nBuf : Space → Nat
  | .hbm => 10
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S3x1024, .f32⟩
  | .hbm, ⟨3, _⟩ => ⟨S_, .i32⟩
  | .hbm, ⟨4, _⟩ => ⟨S_, .f32⟩
  | .hbm, ⟨5, _⟩ => ⟨S8x1024, .f32⟩
  | .hbm, ⟨6, _⟩ => ⟨S8192x3072, .bf16⟩
  | .hbm, ⟨7, _⟩ => ⟨S3x8x1024, .f32⟩
  | .hbm, ⟨8, _⟩ => ⟨S_, .f32⟩
  | .hbm, ⟨9, _⟩ => ⟨S3x1024, .f32⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S512x3072, .bf16⟩
  | .local _ .vmem, ⟨5, _⟩ => ⟨S512x3072, .bf16⟩
  | .local _ .vmem, ⟨6, _⟩ => ⟨S16x3072, .bf16⟩
  | .local _ .vmem, ⟨7, _⟩ => ⟨S16x3072, .bf16⟩
  | .local _ .vmem, ⟨8, _⟩ => ⟨S16x3072, .bf16⟩
  | .local _ .vmem, ⟨9, _⟩ => ⟨S16x3072, .bf16⟩
  | .local _ .vmem, ⟨10, _⟩ => ⟨S8x1024, .f32⟩
  | .local _ .vmem, ⟨11, _⟩ => ⟨S512x3072, .bf16⟩
  | .local _ .vmem, ⟨12, _⟩ => ⟨S512x3072, .bf16⟩
  | .local _ .vmem, ⟨13, _⟩ => ⟨S3x8x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_cst : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S8192x1024 : Shape := ⟨2, ![8192, 1024]⟩
abbrev S8192x3072 : Shape := ⟨2, ![8192, 3072]⟩
abbrev S3x1024 : Shape := ⟨2, ![3, 1024]⟩
abbrev S_ : Shape := ⟨0, ![]⟩
abbrev S2x1024 : Shape := ⟨2, ![2, 1024]⟩
abbrev S8194x1024 : Shape := ⟨2, ![8194, 1024]⟩
abbrev S1x1024 : Shape := ⟨2, ![1, 1024]⟩
abbrev S1024 : Shape := ⟨1, ![1024]⟩

abbrev nBuf : Space → Nat
  | .hbm => 89
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S3x1024, .f32⟩
  | .hbm, ⟨3, _⟩ => ⟨S8192x3072, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S2x1024, .f32⟩
  | .hbm, ⟨10, _⟩ => ⟨S8194x1024, .f32⟩
  | .hbm, ⟨11, _⟩ => ⟨S_, .f32⟩
  | .hbm, ⟨12, _⟩ => ⟨S2x1024, .f32⟩
  | .hbm, ⟨13, _⟩ => ⟨S1x1024, .f32⟩
  | .hbm, ⟨14, _⟩ => ⟨S1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S_, .f32⟩
  | .hbm, ⟨47, _⟩ => ⟨S1024, .f32⟩
  | .hbm, ⟨48, _⟩ => ⟨S_, .f32⟩
  | .hbm, ⟨49, _⟩ => ⟨S8194x1024, .f32⟩
  | .hbm, ⟨50, _⟩ => ⟨S1x1024, .f32⟩
  | .hbm, ⟨51, _⟩ => ⟨S_, .f32⟩
  | .hbm, ⟨52, _⟩ => ⟨S3x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S_, .f32⟩
  | .hbm, ⟨60, _⟩ => ⟨S1024, .f32⟩
  | .hbm, ⟨61, _⟩ => ⟨S_, .f32⟩
  | .hbm, ⟨62, _⟩ => ⟨S8194x1024, .f32⟩
  | .hbm, ⟨63, _⟩ => ⟨S8194x1024, .f32⟩
  | .hbm, ⟨64, _⟩ => ⟨S1x1024, .f32⟩
  | .hbm, ⟨65, _⟩ => ⟨S_, .f32⟩
  | .hbm, ⟨66, _⟩ => ⟨S3x1024, .f32⟩
  | .hbm, ⟨67, _⟩ => ⟨S3x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S_, .f32⟩
  | .hbm, ⟨75, _⟩ => ⟨S1024, .f32⟩
  | .hbm, ⟨76, _⟩ => ⟨S_, .f32⟩
  | .hbm, ⟨77, _⟩ => ⟨S8194x1024, .f32⟩
  | .hbm, ⟨78, _⟩ => ⟨S8194x1024, .f32⟩
  | .hbm, ⟨79, _⟩ => ⟨S1x1024, .f32⟩
  | .hbm, ⟨80, _⟩ => ⟨S_, .f32⟩
  | .hbm, ⟨81, _⟩ => ⟨S3x1024, .f32⟩
  | .hbm, ⟨82, _⟩ => ⟨S3x1024, .f32⟩
  | .hbm, ⟨83, _⟩ => ⟨S2x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x3072, .f32⟩
  | .hbm, ⟨88, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_2 : Ref sig .tc := ⟨.hbm, 43, rfl⟩
abbrev main_v37 : Ref sig .tc := ⟨.hbm, 44, rfl⟩
abbrev main_v38 : Ref sig .tc := ⟨.hbm, 45, rfl⟩
abbrev main_cst_3 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_6 : Ref sig .tc := ⟨.hbm, 56, rfl⟩
abbrev main_v46 : Ref sig .tc := ⟨.hbm, 57, rfl⟩
abbrev main_v47 : Ref sig .tc := ⟨.hbm, 58, rfl⟩
abbrev main_cst_7 : Ref sig .tc := ⟨.hbm, 59, rfl⟩
abbrev main_v48 : Ref sig .tc := ⟨.hbm, 60, rfl⟩
abbrev main_cst_8 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_9 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_10 : Ref sig .tc := ⟨.hbm, 71, rfl⟩
abbrev main_v57 : Ref sig .tc := ⟨.hbm, 72, rfl⟩
abbrev main_v58 : Ref sig .tc := ⟨.hbm, 73, rfl⟩
abbrev main_cst_11 : Ref sig .tc := ⟨.hbm, 74, rfl⟩
abbrev main_v59 : Ref sig .tc := ⟨.hbm, 75, rfl⟩
abbrev main_cst_12 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_13 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩

abbrev nD : Nat := 1
abbrev τ : Topo := Topo.v7x

variable {F : FTy → Type} [FloatOps F]
-- ==== Kernel2.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S1024x1408 : Shape := ⟨2, ![1024, 1408]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S1x2816x1024 : Shape := ⟨3, ![1, 2816, 1024]⟩
abbrev S1x1024x5632 : Shape := ⟨3, ![1, 1024, 5632]⟩
abbrev S1x8x1024 : Shape := ⟨3, ![1, 8, 1024]⟩
abbrev S8x1024 : Shape := ⟨2, ![8, 1024]⟩
abbrev S256x1024 : Shape := ⟨2, ![256, 1024]⟩
abbrev S256x5632 : Shape := ⟨2, ![256, 5632]⟩
abbrev S1x1408x1024 : Shape := ⟨3, ![1, 1408, 1024]⟩
abbrev S1408x1024 : Shape := ⟨2, ![1408, 1024]⟩
abbrev S256x1408 : Shape := ⟨2, ![256, 1408]⟩
abbrev S256x2816 : Shape := ⟨2, ![256, 2816]⟩
abbrev S1x1024x2816 : Shape := ⟨3, ![1, 1024, 2816]⟩
abbrev S1024x2816 : Shape := ⟨2, ![1024, 2816]⟩
abbrev S256 : Shape := ⟨1, ![256]⟩
abbrev S256x1 : Shape := ⟨2, ![256, 1]⟩
abbrev S32x8x1024 : Shape := ⟨3, ![32, 8, 1024]⟩
abbrev S8192x1408 : Shape := ⟨2, ![8192, 1408]⟩
abbrev S1024 : Shape := ⟨1, ![1024]⟩

abbrev nBuf : Space → Nat
  | .hbm => 70
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1024x5632, .bf16⟩
  | .hbm, ⟨6, _⟩ => ⟨S2816x1024, .bf16⟩
  | .hbm, ⟨7, _⟩ => ⟨S8192x1024, .f32⟩
  | .hbm, ⟨8, _⟩ => ⟨S8192x1024, .bf16⟩
  | .hbm, ⟨9, _⟩ => ⟨S1024x1408, .bf16⟩
  | .hbm, ⟨10, _⟩ => ⟨S1024x1408, .bf16⟩
  | .hbm, ⟨11, _⟩ => ⟨S1024x1408, .bf16⟩
  | .hbm, ⟨12, _⟩ => ⟨S1024x1408, .bf16⟩
  | .hbm, ⟨13, _⟩ => ⟨S1024x5632, .bf16⟩
  | .hbm, ⟨14, _⟩ => ⟨S8192x1024, .f32⟩
  | .hbm, ⟨15, _⟩ => ⟨S1024x5632, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x5632, .f32⟩
  | .hbm, ⟨50, _⟩ => ⟨S1x2816x1024, .bf16⟩
  | .hbm, ⟨51, _⟩ => ⟨S8192x5632, .bf16⟩
  | .hbm, ⟨52, _⟩ => ⟨S1x1024x5632, .bf16⟩
  | .hbm, ⟨53, _⟩ => ⟨S8192x5632, .bf16⟩
  | .hbm, ⟨54, _⟩ => ⟨S8192x1024, .f32⟩
  | .hbm, ⟨55, _⟩ => ⟨S1x8x1024, .f32⟩
  | .hbm, ⟨56, _⟩ => ⟨S1x8x1024, .f32⟩
  | .hbm, ⟨57, _⟩ => ⟨S8192x1024, .bf16⟩
  | .hbm, ⟨58, _⟩ => ⟨S8x1024, .f32⟩
  | .hbm, ⟨59, _⟩ => ⟨S8192x1408, .bf16⟩
  | .hbm, ⟨60, _⟩ => ⟨S8192x1408, .bf16⟩
  | .hbm, ⟨61, _⟩ => ⟨S8192x1408, .bf16⟩
  | .hbm, ⟨62, _⟩ => ⟨S8192x1408, .bf16⟩
  | .hbm, ⟨63, _⟩ => ⟨S8192x5632, .bf16⟩
  | .hbm, ⟨64, _⟩ => ⟨S_, .f32⟩
  | .hbm, ⟨65, _⟩ => ⟨S1x1024, .f32⟩
  | .hbm, ⟨66, _⟩ => ⟨S_, .f32⟩
  | .hbm, ⟨67, _⟩ => ⟨S1x1024, .f32⟩
  | .hbm, ⟨68, _⟩ => ⟨S_, .f32⟩
  | .hbm, ⟨69, _⟩ => ⟨S1024, .f32⟩
  | .local _ .vmem, ⟨0, _⟩ => ⟨S256x1024, .bf16⟩
  | .local _ .vmem, ⟨1, _⟩ => ⟨S256x1024, .bf16⟩
  | .local _ .vmem, ⟨2, _⟩ => ⟨S1x2816x1024, .bf16⟩
  | .local _ .vmem, ⟨3, _⟩ => ⟨S256x5632, .bf16⟩
  | .local _ .vmem, ⟨4, _⟩ => ⟨S256x5632, .bf16⟩
  | .local _ .vmem, ⟨5, _⟩ => ⟨S1x1024x5632, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S256x1024, .bf16⟩
  | .local _ .vmem, ⟨12, _⟩ => ⟨S256x1024, .bf16⟩
  | .local _ .vmem, ⟨13, _⟩ => ⟨S1x1024, .f32⟩
  | .local _ .vmem, ⟨14, _⟩ => ⟨S256x5632, .bf16⟩
  | .local _ .vmem, ⟨15, _⟩ => ⟨S256x5632, .bf16⟩
  | .local _ .vmem, ⟨16, _⟩ => ⟨S256x1024, .f32⟩
  | .local _ .vmem, ⟨17, _⟩ => ⟨S256x1024, .f32⟩
  | .local _ .vmem, ⟨18, _⟩ => ⟨S1x8x1024, .f32⟩
  | .local _ .vmem, ⟨19, _⟩ => ⟨S1x8x1024, .f32⟩
  | .local _ .vmem, ⟨20, _⟩ => ⟨S256x1024, .bf16⟩
  | .local _ .vmem, ⟨21, _⟩ => ⟨S256x1024, .bf16⟩
  | .local _ .vmem, ⟨22, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38_0 : Ref sig .tc := ⟨.hbm, 53, rfl⟩
abbrev main_v38_1 : Ref sig .tc := ⟨.hbm, 54, rfl⟩
abbrev main_v38_2 : Ref sig .tc := ⟨.hbm, 55, rfl⟩
abbrev main_v38_3 : Ref sig .tc := ⟨.hbm, 56, rfl⟩
abbrev main_v38_4 : Ref sig .tc := ⟨.hbm, 57, rfl⟩
abbrev main_v38_5 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_5 : Ref sig .tc := ⟨.hbm, 64, rfl⟩
abbrev main_v44 : Ref sig .tc := ⟨.hbm, 65, rfl⟩
abbrev main_cst_6 : Ref sig .tc := ⟨.hbm, 66, rfl⟩
abbrev main_v45 : Ref sig .tc := ⟨.hbm, 67, rfl⟩
abbrev main_cst_7 : Ref sig .tc := ⟨.hbm, 68, rfl⟩
abbrev main_v46 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference2Ideal.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S1024 : Shape := ⟨1, ![1024]⟩

abbrev nBuf : Space → Nat
  | .hbm => 138
  | .vmem => 0
  | .smem => 0
  | _ => 0

abbrev hbmTy0_0 (i : Nat) : BufTy := match i % 128 with
  | 0 => ⟨S8192x1024, .f32⟩
  | 1 => ⟨S8192x1024, .bf16⟩
  | 2 => ⟨S1x1024, .f32⟩
  | 3 => ⟨S1x1024, .f32⟩
  | 4 => ⟨S1x1024, .f32⟩
  | 5 => ⟨S1024x5632, .bf16⟩
  | 6 => ⟨S2816x1024, .bf16⟩
  | 7 => ⟨S8192x1024, .f32⟩
  | 8 => ⟨S8192x1024, .bf16⟩
  | 9 => ⟨S8192x1024, .f32⟩
  | 10 => ⟨S1024x5632, .f32⟩
  | 11 => ⟨S8192x1024, .f32⟩
  | 12 => ⟨S_, .f32⟩
  | 13 => ⟨S8192, .f32⟩
  | 14 => ⟨S8192x1, .f32⟩
  | 15 => ⟨S_, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1, .f32⟩
  | 22 => ⟨S8192x1, .f32⟩
  | 23 => ⟨S_, .f32⟩
  | 24 => ⟨S8192x1, .f32⟩
  | 25 => ⟨S8192x1, .f32⟩
  | 26 => ⟨S8192x1024, .f32⟩
  | 27 => ⟨S8192x1024, .f32⟩
  | 28 => ⟨S8192x1024, .f32⟩
  | 29 => ⟨S8192x1024, .f32⟩
  | 30 => ⟨S8192x1024, .f32⟩
  | 31 => ⟨S8192x1024, .f32⟩
  | 32 => ⟨S_, .f32⟩
  | 33 => ⟨S8192, .f32⟩
  | 34 => ⟨S8192x1, .f32⟩
  | 35 => ⟨S_, .f32⟩
  | 36 => ⟨S8192x1, .f32⟩
  | 37 => ⟨S8192x1, .f32⟩
  | 38 => ⟨S_, .f32⟩
  | 39 => ⟨S8192x1, .f32⟩
  | 40 => ⟨S8192x1, .f32⟩
  | 41 => ⟨S8192x1, .f32⟩
  | 42 => ⟨S8192x1, .f32⟩
  | 43 => ⟨S_, .f32⟩
  | 44 => ⟨S8192x1, .f32⟩
  | 45 => ⟨S8192x1, .f32⟩
  | 46 => ⟨S8192x1024, .f32⟩
  | 47 => ⟨S8192x1024, .f32⟩
  | 48 => ⟨S8192x1024, .f32⟩
  | 49 => ⟨S8192x1024, .f32⟩
  | 50 => ⟨S8192x1024, .f32⟩
  | 51 => ⟨S8192x1024, .f32⟩
  | 52 => ⟨S8192x5632, .f32⟩
  | 53 => ⟨S8192x5632, .bf16⟩
  | 54 => ⟨S8192x5632, .f32⟩
  | 55 => ⟨S2816x1024, .f32⟩
  | 56 => ⟨S8192x2816, .f32⟩
  | 57 => ⟨S8192x2816, .f32⟩
  | 58 => ⟨S8192x2816, .f32⟩
  | 59 => ⟨S8192x2816, .f32⟩
  | 60 => ⟨S_, .f32⟩
  | 61 => ⟨S8192x2816, .f32⟩
  | 62 => ⟨S8192x2816, .f32⟩
  | 63 => ⟨S_, .f32⟩
  | 64 => ⟨S8192x2816, .f32⟩
  | 65 => ⟨S8192x2816, .f32⟩
  | 66 => ⟨S_, .f32⟩
  | 67 => ⟨S8192x2816, .f32⟩
  | 68 => ⟨S8192x2816, .f32⟩
  | 69 => ⟨S8192x2816, .f32⟩
  | 70 => ⟨S8192x2816, .f32⟩
  | 71 => ⟨S8192x2816, .f32⟩
  | 72 => ⟨S8192x1024, .f32⟩
  | 73 => ⟨S8192x1024, .f32⟩
  | 74 => ⟨S8192x2816, .f32⟩
  | 75 => ⟨S8192x2816, .f32⟩
  | 76 => ⟨S8192x2816, .f32⟩
  | 77 => ⟨S8192x2816, .f32⟩
  | 78 => ⟨S8192x2816, .f32⟩
  | 79 => ⟨S8192x2816, .f32⟩
  | 80 => ⟨S8192x2816, .f32⟩
  | 81 => ⟨S8192x5632, .f32⟩
  | 82 => ⟨S8192x5632, .bf16⟩
  | 83 => ⟨S8192x5632, .f32⟩
  | 84 => ⟨S8192x1024, .f32⟩
  | 85 => ⟨S_, .f32⟩
  | 86 => ⟨S1024, .f32⟩
  | 87 => ⟨S1x1024, .f32⟩
  | 88 => ⟨S8192x1024, .f32⟩
  | 89 => ⟨S_, .f32⟩
  | 90 => ⟨S1024, .f32⟩
  | 91 => ⟨S1x1024, .f32⟩
  | 92 => ⟨S8192x1024, .f32⟩
  | 93 => ⟨S8192x1024, .f32⟩
  | 94 => ⟨S8192x1024, .f32⟩
  | 95 => ⟨S_, .f32⟩
  | 96 => ⟨S8192, .f32⟩
  | 97 => ⟨S8192x1, .f32⟩
  | 98 => ⟨S8192x1024, .f32⟩
  | 99 => ⟨S8192x1024, .f32⟩
  | 100 => ⟨S8192x1024, .f32⟩
  | 101 => ⟨S8192x1, .f32⟩
  | 102 => ⟨S_, .f32⟩
  | 103 => ⟨S8192x1, .f32⟩
  | 104 => ⟨S8192x1, .f32⟩
  | 105 => ⟨S_, .f32⟩
  | 106 => ⟨S8192, .f32⟩
  | 107 => ⟨S8192x1024, .f32⟩
  | 108 => ⟨S8192x1024, .f32⟩
  | 109 => ⟨S8192x1024, .f32⟩
  | 110 => ⟨S8192x1024, .f32⟩
  | 111 => ⟨S8192x1024, .f32⟩
  | 112 => ⟨S8192x1024, .f32⟩
  | 113 => ⟨S8192x1024, .f32⟩
  | 114 => ⟨S8192x1024, .f32⟩
  | 115 => ⟨S8192x1024, .f32⟩
  | 116 => ⟨S_, .f32⟩
  | 117 => ⟨S1024, .f32⟩
  | 118 => ⟨S1x1024, .f32⟩
  | 119 => ⟨S8192x1024, .f32⟩
  | 120 => ⟨S_, .f32⟩
  | 121 => ⟨S8192, .f32⟩
  | 122 => ⟨S8192x1, .f32⟩
  | 123 => ⟨S8192x1024, .f32⟩
  | 124 => ⟨S8192x1024, .f32⟩
  | 125 => ⟨S8192x1, .f32⟩
  | 126 => ⟨S_, .f32⟩
  | 127 => ⟨S8192x1, .f32⟩
  | _ => ⟨S8192x1024, .f32⟩

abbrev hbmTy0_1 (i : Nat) : BufTy := match i % 128 with
  | 0 => ⟨S8192x1, .f32⟩
  | 1 => ⟨S_, .f32⟩
  | 2 => ⟨S8192, .f32⟩
  | 3 => ⟨S8192x1024, .f32⟩
  | 4 => ⟨S8192x1024, .f32⟩
  | 5 => ⟨S8192x1024, .f32⟩
  | 6 => ⟨S8192x1024, .f32⟩
  | 7 => ⟨S8192x1024, .f32⟩
  | 8 => ⟨S8192x1024, .bf16⟩
  | 9 => ⟨S1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_v41_2 : Ref sig .tc := ⟨.hbm, 65, rfl⟩
abbrev main_call0_cst_1 : Ref sig .tc := ⟨.hbm, 66, rfl⟩
abbrev main_call0_v6 : Ref sig .tc := ⟨.hbm, 67, rfl⟩
abbrev main_call0_v7 : Ref sig .tc := ⟨.hbm, 68, rfl⟩
abbrev main_v41_1 : Ref sig .tc := ⟨.hbm, 69, rfl⟩
abbrev main_v41_0 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_7 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_8 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_9 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_10 : Ref sig .tc := ⟨.hbm, 102, rfl⟩
abbrev main_v67 : Ref sig .tc := ⟨.hbm, 103, rfl⟩
abbrev main_v68 : Ref sig .tc := ⟨.hbm, 104, rfl⟩
abbrev main_cst_11 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_12 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_13 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_14 : Ref sig .tc := ⟨.hbm, 126, rfl⟩
abbrev main_v87 : Ref sig .tc := ⟨.hbm, 127, rfl⟩
abbrev main_v88 : Ref sig .tc := ⟨.hbm, 128, rfl⟩
abbrev main_cst_15 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩

abbrev nD : Nat := 1
abbrev τ : Topo := Topo.v7x

variable {F : FTy → Type} [FloatOps F]
-- ==== Kernel3.lean ====
abbrev S8192x5632 : Shape := ⟨2, ![8192, 5632]⟩
abbrev S2816x1024 : Shape := ⟨2, ![2816, 1024]⟩
abbrev S8192x1024 : Shape := ⟨2, ![8192, 1024]⟩
abbrev S8192x2816 : Shape := ⟨2, ![8192, 2816]⟩
abbrev S_ : Shape := ⟨0, ![]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 18
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S2816x1024, .bf16⟩
  | .hbm, ⟨2, _⟩ => ⟨S8192x1024, .bf16⟩
  | .hbm, ⟨3, _⟩ => ⟨S8192x5632, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .bf16⟩
  | .hbm, ⟨17, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x5632 : Shape := ⟨2, ![8192, 5632]⟩
abbrev S2816x1024 : Shape := ⟨2, ![2816, 1024]⟩
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩

abbrev nBuf : Space → Nat
  | .hbm => 22
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2816x1024, .bf16⟩
  | .hbm, ⟨2, _⟩ => ⟨S8192x1024, .bf16⟩
  | .hbm, ⟨3, _⟩ => ⟨S2816x1024, .f32⟩
  | .hbm, ⟨4, _⟩ => ⟨S8192x5632, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x1024, .f32⟩
  | .hbm, ⟨18, _⟩ => ⟨S8192x1024, .f32⟩
  | .hbm, ⟨19, _⟩ => ⟨S1024x2816, .f32⟩
  | .hbm, ⟨20, _⟩ => ⟨S2816x1024, .f32⟩
  | .hbm, ⟨21, _⟩ => ⟨S2816x1024, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]
-- ==== Kernel4.lean ====
abbrev S8192x1024 : Shape := ⟨2, ![8192, 1024]⟩
abbrev S1x1024 : Shape := ⟨2, ![1, 1024]⟩
abbrev S1024x5632 : Shape := ⟨2, ![1024, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 24
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x5632, .bf16⟩
  | .hbm, ⟨4, _⟩ => ⟨S8192x5632, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | .hbm, ⟨23, _⟩ => ⟨S1024x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S1x1024 : Shape := ⟨2, ![1, 1024]⟩
abbrev S1024x5632 : Shape := ⟨2, ![1024, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S5632x1024 : Shape := ⟨2, ![5632, 1024]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x5632, .bf16⟩
  | .hbm, ⟨4, _⟩ => ⟨S8192x5632, .bf16⟩
  | .hbm, ⟨5, _⟩ => ⟨S1024x5632, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x5632, .f32⟩
  | .hbm, ⟨24, _⟩ => ⟨S8192x5632, .f32⟩
  | .hbm, ⟨25, _⟩ => ⟨S5632x1024, .f32⟩
  | .hbm, ⟨26, _⟩ => ⟨S1024x5632, .f32⟩
  | .hbm, ⟨27, _⟩ => ⟨S1024x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel5.lean ====
abbrev S8192x1024 : Shape := ⟨2, ![8192, 1024]⟩
abbrev S1x1024 : Shape := ⟨2, ![1, 1024]⟩
abbrev S1024x3072 : Shape := ⟨2, ![1024, 3072]⟩
abbrev S8192x3072 : Shape := ⟨2, ![8192, 3072]⟩
abbrev S_ : Shape := ⟨0, ![]⟩
abbrev S8192 : Shape := ⟨1, ![8192]⟩
abbrev S8192x1 : Shape := ⟨2, ![8192, 1]⟩
abbrev S2048x1024 : Shape := ⟨2, ![2048, 1024]⟩
abbrev S1024x1024 : Shape := ⟨2, ![1024, 1024]⟩

abbrev nBuf : Space → Nat
  | .hbm => 24
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x3072, .bf16⟩
  | .hbm, ⟨4, _⟩ => ⟨S8192x3072, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | .hbm, ⟨23, _⟩ => ⟨S1024x3072, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S1x1024 : Shape := ⟨2, ![1, 1024]⟩
abbrev S1024x3072 : Shape := ⟨2, ![1024, 3072]⟩
abbrev S8192x3072 : Shape := ⟨2, ![8192, 3072]⟩
abbrev S_ : Shape := ⟨0, ![]⟩
abbrev S8192 : Shape := ⟨1, ![8192]⟩
abbrev S8192x1 : Shape := ⟨2, ![8192, 1]⟩
abbrev S3072x1024 : Shape := ⟨2, ![3072, 1024]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x3072, .bf16⟩
  | .hbm, ⟨4, _⟩ => ⟨S8192x3072, .bf16⟩
  | .hbm, ⟨5, _⟩ => ⟨S1024x3072, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x3072, .f32⟩
  | .hbm, ⟨24, _⟩ => ⟨S8192x3072, .f32⟩
  | .hbm, ⟨25, _⟩ => ⟨S3072x1024, .f32⟩
  | .hbm, ⟨26, _⟩ => ⟨S1024x3072, .f32⟩
  | .hbm, ⟨27, _⟩ => ⟨S1024x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel6.lean ====
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S2048x1024 : Shape := ⟨2, ![2048, 1024]⟩

abbrev nBuf : Space → Nat
  | .hbm => 24
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x1024, .bf16⟩
  | .hbm, ⟨4, _⟩ => ⟨S8192x1024, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | .hbm, ⟨23, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x1024, .bf16⟩
  | .hbm, ⟨4, _⟩ => ⟨S8192x1024, .bf16⟩
  | .hbm, ⟨5, _⟩ => ⟨S1024x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S1024x1024, .f32⟩
  | .hbm, ⟨26, _⟩ => ⟨S1024x1024, .f32⟩
  | .hbm, ⟨27, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel7.lean ====
abbrev S8192x1024 : Shape := ⟨2, ![8192, 1024]⟩
abbrev S1x1024 : Shape := ⟨2, ![1, 1024]⟩
abbrev S1024x2048 : Shape := ⟨2, ![1024, 2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S2048x1024 : Shape := ⟨2, ![2048, 1024]⟩
abbrev S1024x1024 : Shape := ⟨2, ![1024, 1024]⟩

abbrev nBuf : Space → Nat
  | .hbm => 24
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x2048, .bf16⟩
  | .hbm, ⟨4, _⟩ => ⟨S8192x2048, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | .hbm, ⟨23, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S1x1024 : Shape := ⟨2, ![1, 1024]⟩
abbrev S1024x2048 : Shape := ⟨2, ![1024, 2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S2048x1024 : Shape := ⟨2, ![2048, 1024]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x2048, .bf16⟩
  | .hbm, ⟨4, _⟩ => ⟨S8192x2048, .bf16⟩
  | .hbm, ⟨5, _⟩ => ⟨S1024x2048, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x2048, .f32⟩
  | .hbm, ⟨24, _⟩ => ⟨S8192x2048, .f32⟩
  | .hbm, ⟨25, _⟩ => ⟨S2048x1024, .f32⟩
  | .hbm, ⟨26, _⟩ => ⟨S1024x2048, .f32⟩
  | .hbm, ⟨27, _⟩ => ⟨S1024x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel8.lean ====
abbrev S8192x1024 : Shape := ⟨2, ![8192, 1024]⟩
abbrev S1024x5632 : Shape := ⟨2, ![1024, 5632]⟩
abbrev S1024x1408 : Shape := ⟨2, ![1024, 1408]⟩
abbrev S1x1024x5632 : Shape := ⟨3, ![1, 1024, 5632]⟩
abbrev S8192x5632 : Shape := ⟨2, ![8192, 5632]⟩
abbrev S8192x2816 : Shape := ⟨2, ![8192, 2816]⟩
abbrev S1024x1024 : Shape := ⟨2, ![1024, 1024]⟩
abbrev S1x1024x2816 : Shape := ⟨3, ![1, 1024, 2816]⟩
abbrev S1024x2816 : Shape := ⟨2, ![1024, 2816]⟩
abbrev S256x1024 : Shape := ⟨2, ![256, 1024]⟩
abbrev S256x2816 : Shape := ⟨2, ![256, 2816]⟩
abbrev S256x1408 : Shape := ⟨2, ![256, 1408]⟩

abbrev nBuf : Space → Nat
  | .hbm => 10
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S1024x1408, .bf16⟩
  | .hbm, ⟨3, _⟩ => ⟨S1024x1408, .bf16⟩
  | .hbm, ⟨4, _⟩ => ⟨S1024x1408, .bf16⟩
  | .hbm, ⟨5, _⟩ => ⟨S1024x1408, .bf16⟩
  | .hbm, ⟨6, _⟩ => ⟨S1024x5632, .bf16⟩
  | .hbm, ⟨7, _⟩ => ⟨S1x1024x5632, .bf16⟩
  | .hbm, ⟨8, _⟩ => ⟨S8192x5632, .bf16⟩
  | .hbm, ⟨9, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1024x2816, .bf16⟩
  | .local _ .vmem, ⟨5, _⟩ => ⟨S1024x2816, .bf16⟩
  | .local _ .vmem, ⟨6, _⟩ => ⟨S1024x1408, .bf16⟩
  | .local _ .vmem, ⟨7, _⟩ => ⟨S1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6_0 : Ref sig .tc := ⟨.hbm, 8, rfl⟩
abbrev main_v6_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩
abbrev S8192x1408 : Shape := ⟨2, ![8192, 1408]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | .hbm, ⟨5, _⟩ => ⟨S8192x2816, .f32⟩
  | .hbm, ⟨6, _⟩ => ⟨S8192x2816, .f32⟩
  | .hbm, ⟨7, _⟩ => ⟨S8192x1408, .f32⟩
  | .hbm, ⟨8, _⟩ => ⟨S8192x1408, .f32⟩
  | .hbm, ⟨9, _⟩ => ⟨S8192x1408, .f32⟩
  | .hbm, ⟨10, _⟩ => ⟨S8192x1408, .f32⟩
  | .hbm, ⟨11, _⟩ => ⟨S8192x5632, .f32⟩
  | .hbm, ⟨12, _⟩ => ⟨S8192x5632, .bf16⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S_, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩
abbrev S1x1024x1024 : Shape := ⟨3, ![1, 1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S1x1024x1024, .bf16⟩
  | .hbm, ⟨4, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S8192x1024 : Shape := ⟨2, ![8192, 1024]⟩
abbrev S1024x2048 : Shape := ⟨2, ![1024, 2048]⟩
abbrev S1x1024x2048 : Shape := ⟨3, ![1, 1024, 2048]⟩
abbrev S8192x2048 : Shape := ⟨2, ![8192, 2048]⟩
abbrev S512x1024 : Shape := ⟨2, ![512, 1024]⟩
abbrev S512x2048 : Shape := ⟨2, ![512, 2048]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S1x1024x2048, .bf16⟩
  | .hbm, ⟨3, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S1x1024x2048, .bf16⟩
  | .local _ .vmem, ⟨3, _⟩ => ⟨S512x2048, .bf16⟩
  | .local _ .vmem, ⟨4, _⟩ => ⟨S512x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S8192x2048, .f32⟩
  | .hbm, ⟨5, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel12.lean ====
abbrev S8192x1024 : Shape := ⟨2, ![8192, 1024]⟩
abbrev S1024x1024 : Shape := ⟨2, ![1024, 1024]⟩
abbrev S1x1024x1024 : Shape := ⟨3, ![1, 1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1x1024x1024, .bf16⟩
  | .hbm, ⟨3, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.ConvTerms.lean ====
/- The gradient of the gated short convolution, element by element: the terms of the formula over plain
   functions of a row and a column, and the kernel's payloads read as these terms. -/
module

public import proofs.«01_k».proof.Proof.Gen.KernelIdeal.Skeleton
public import Idealize.ShloMosaic.Lib.Pipeline.Value
public import Idealize.ShloMosaic.Lib.Pointwise
import Idealize.ShloMosaic.Lib.KernelVsHost
public import Idealize.ShloMosaic.Lib.WordCmp
public import Idealize.ShloMosaic.Lib.Tactic

@[expose] public section

set_option maxRecDepth 16384

noncomputable section

open Idealize.ShloMosaic hiding ix1 ix2 ix3
open Idealize.ShloMosaic.ValueIdx

namespace Cert.Conv

/-- The gated input of the convolution at row `g`, column `d`: the second third of `X` times its last third. -/
def Z (X : ℕ → ℕ → EReal) (g d : ℕ) : EReal := X g (1024 + d) * X g (2048 + d)

/-- The gated input `k` rows earlier, zero before the first row. -/
def Zs (X : ℕ → ℕ → EReal) (k g d : ℕ) : EReal := if k ≤ g then Z X (g - k) d else 0

/-- The cotangent of the convolution: the output's cotangent times the gate, zero past the last row. -/
def DC (U X : ℕ → ℕ → EReal) (g d : ℕ) : EReal := if g < 8192 then U g d * X g d else 0

/-- The causal convolution with three taps. -/
def CV (K X : ℕ → ℕ → EReal) (g d : ℕ) : EReal := K 0 d * Zs X 2 g d + K 1 d * Zs X 1 g d + K 2 d * Z X g d

/-- The cotangent of the gated input: the convolution run backwards. -/
def DZ (K U X : ℕ → ℕ → EReal) (g d : ℕ) : EReal :=
  K 2 d * DC U X g d + K 1 d * DC U X (g + 1) d + K 0 d * DC U X (g + 2) d

/-- The cotangent of the three thirds, at row `g` and column `c` of 3072. -/
def DX (K U X : ℕ → ℕ → EReal) (g c : ℕ) : EReal :=
  if c < 1024 then U g c * CV K X g c
  else if c < 2048 then DZ K U X g (c - 1024) * X g (2048 + (c - 1024))
  else DZ K U X g (c - 2048) * X g (1024 + (c - 2048))

end Cert.Conv

namespace Cert.KernelIdeal.Conv

open Cert.KernelIdeal Cert.KernelIdeal.Gen Cert.Conv

variable [Facts]

variable {U X K : ℕ → ℕ → EReal} {t : ℕ}

theorem pay6_at (v2 v4 : Vec Ideal S512x1024 .bf16)
    (h2 : ∀ j, v2 j = X (512 * t + (j 0).val) (1024 + (j 1).val))
    (h4 : ∀ j, v4 j = X (512 * t + (j 0).val) (2048 + (j 1).val)) (j : S512x1024.Idx) :
    k0_pay6 v2 v4 j = Z X (512 * t + (j 0).val) (j 1).val := by
  show v2 j * v4 j = _
  rw [h2, h4]; rfl

theorem pay7_at (i : grid0.Coords) (ht : (i 0).val = t) (v2 v4 : Vec Ideal S512x1024 .bf16) (v7 v9 : Vec Ideal S16x1024 .bf16)
    (h2 : ∀ j, v2 j = X (512 * t + (j 0).val) (1024 + (j 1).val))
    (h4 : ∀ j, v4 j = X (512 * t + (j 0).val) (2048 + (j 1).val))
    (h7 : 0 < t → ∀ j, v7 j = X (512 * t + (j 0).val - 16) (1024 + (j 1).val))
    (h9 : 0 < t → ∀ j, v9 j = X (512 * t + (j 0).val - 16) (2048 + (j 1).val)) (j : S528x1024.Idx) :
    k0_pay7 i v2 v4 v7 v9 j = Zs X 16 (512 * t + (j 0).val) (j 1).val := by
  have hi : (i 0).val < 16 := (i 0).isLt
  have hj0 : (j 0).val < 528 := (j 0).isLt
  have hj1 : (j 1).val < 1024 := (j 1).isLt
  unfold k0_pay7
  by_cases hj : (j 0).val < 16
  · rw [concatenate_pair_apply_left (s₁ := S16x1024) (s₂ := S512x1024) 0 _ _ _ j rfl (ix2 (⟨(j 0).val, hj⟩ : Fin 16) (⟨(j 1).val, hj1⟩ : Fin 1024))
      (fun b => by match b with | ⟨0, _⟩ => rfl | ⟨1, _⟩ => rfl)]
    by_cases h0 : 0 < t
    · have hc : Scalar.cmpi .sgt (BitVec.ofNat 32 (i 0).val) 0#32 = 1#1 := by word_cmp
      rw [hc, select_one]
      show v7 _ * v9 _ = _
      rw [h7 h0, h9 h0, Zs, if_pos (by omega)]; rfl
    · have hc : Scalar.cmpi .sgt (BitVec.ofNat 32 (i 0).val) 0#32 = 0#1 := by
        apply eq_zero_of_ne_one; word_cmp
      rw [hc, select_zero, Zs, if_neg (by omega)]
      show (Scalar.ofBits .f32 0x00000000#32 : Ideal .f32) = 0
      pointwise
  · rw [concatenate_pair_apply_right (s₁ := S16x1024) (s₂ := S512x1024) 0 _ _ _ j rfl rfl (ix2 (⟨(j 0).val - 16, by omega⟩ : Fin 512) (⟨(j 1).val, hj1⟩ : Fin 1024))
      (fun b hb => by match b with | ⟨0, _⟩ => exact absurd rfl hb | ⟨1, _⟩ => rfl) (by show (j 0).val - 16 + 16 = (j 0).val; omega)]
    rw [pay6_at v2 v4 h2 h4, Zs, if_pos (by omega)]
    show Z X (512 * t + ((j 0).val - 16)) _ = _
    rw [show 512 * t + ((j 0).val - 16) = 512 * t + (j 0).val - 16 by omega]

theorem pay8_at (i : grid0.Coords) (v2 v4 : Vec Ideal S512x1024 .bf16) (v7 v9 : Vec Ideal S16x1024 .bf16)
    (h : ∀ j, k0_pay7 i v2 v4 v7 v9 j = Zs X 16 (512 * t + (j 0).val) (j 1).val) (j : S512x1024.Idx) :
    k0_pay8 i v2 v4 v7 v9 j = Zs X 1 (512 * t + (j 0).val) (j 1).val := by
  have hj0 : (j 0).val < 512 := (j 0).isLt
  have hj1 : (j 1).val < 1024 := (j 1).isLt
  unfold k0_pay8
  rw [extractStridedSlice_apply _ _ _ j (ix2 (⟨16 + (j 0).val, by omega⟩ : Fin 528) (⟨(j 1).val, hj1⟩ : Fin 1024))
      (fun b => by match b with | ⟨0, _⟩ => rfl | ⟨1, _⟩ => exact (Nat.zero_add _).symm),
    dynamicRotate_apply (s := S528x1024) 0 _ _ _ _ (ix2 (⟨15 + (j 0).val, by omega⟩ : Fin 528) (⟨(j 1).val, hj1⟩ : Fin 1024))
      (fun b => by
        match b with
        | ⟨0, _⟩ => show 15 + (j 0).val = (16 + (j 0).val + 528 - 1 % 528) % 528; omega
        | ⟨1, _⟩ => rfl), h]
  show Zs X 16 (512 * t + (15 + (j 0).val)) (j 1).val = _
  unfold Zs
  by_cases hc : 1 ≤ 512 * t + (j 0).val
  · rw [if_pos hc, if_pos (by omega), show 512 * t + (15 + (j 0).val) - 16 = 512 * t + (j 0).val - 1 by omega]
  · rw [if_neg hc, if_neg (by omega)]

theorem pay9_at (i : grid0.Coords) (v2 v4 : Vec Ideal S512x1024 .bf16) (v7 v9 : Vec Ideal S16x1024 .bf16)
    (h : ∀ j, k0_pay7 i v2 v4 v7 v9 j = Zs X 16 (512 * t + (j 0).val) (j 1).val) (j : S512x1024.Idx) :
    k0_pay9 i v2 v4 v7 v9 j = Zs X 2 (512 * t + (j 0).val) (j 1).val := by
  have hj0 : (j 0).val < 512 := (j 0).isLt
  have hj1 : (j 1).val < 1024 := (j 1).isLt
  unfold k0_pay9
  rw [extractStridedSlice_apply _ _ _ j (ix2 (⟨16 + (j 0).val, by omega⟩ : Fin 528) (⟨(j 1).val, hj1⟩ : Fin 1024))
      (fun b => by match b with | ⟨0, _⟩ => rfl | ⟨1, _⟩ => exact (Nat.zero_add _).symm),
    dynamicRotate_apply (s := S528x1024) 0 _ _ _ _ (ix2 (⟨14 + (j 0).val, by omega⟩ : Fin 528) (⟨(j 1).val, hj1⟩ : Fin 1024))
      (fun b => by
        match b with
        | ⟨0, _⟩ => show 14 + (j 0).val = (16 + (j 0).val + 528 - 2 % 528) % 528; omega
        | ⟨1, _⟩ => rfl), h]
  show Zs X 16 (512 * t + (14 + (j 0).val)) (j 1).val = _
  unfold Zs
  by_cases hc : 2 ≤ 512 * t + (j 0).val
  · rw [if_pos hc, if_pos (by omega), show 512 * t + (14 + (j 0).val) - 16 = 512 * t + (j 0).val - 2 by omega]
  · rw [if_neg hc, if_neg (by omega)]

/-- A row of taps, broadcast down the block. -/
theorem row_at (v : Vec Ideal S1x1024 .f32) (n : ℕ) (h : ∀ j, v j = K n (j 1).val) (j : S512x1024.Idx) :
    broadcastTo S512x1024 v broadcasts_S1x1024_S512x1024 j = K n (j 1).val := by
  rw [broadcastTo_apply _ _ j (ix2 (0 : Fin 1) (⟨(j 1).val, (j 1).isLt⟩ : Fin 1024))
    (fun a => by match a with | ⟨0, _⟩ => rfl | ⟨1, _⟩ => rfl), h]

theorem pay13_at (i : grid0.Coords) (v2 v4 : Vec Ideal S512x1024 .bf16) (v7 v9 : Vec Ideal S16x1024 .bf16)
    (v20 v22 v24 : Vec Ideal S1x1024 .f32)
    (h6 : ∀ j, k0_pay6 v2 v4 j = Z X (512 * t + (j 0).val) (j 1).val)
    (h8 : ∀ j, k0_pay8 i v2 v4 v7 v9 j = Zs X 1 (512 * t + (j 0).val) (j 1).val)
    (h9 : ∀ j, k0_pay9 i v2 v4 v7 v9 j = Zs X 2 (512 * t + (j 0).val) (j 1).val)
    (k0 : ∀ j, v20 j = K 0 (j 1).val) (k1 : ∀ j, v22 j = K 1 (j 1).val) (k2 : ∀ j, v24 j = K 2 (j 1).val)
    (j : S512x1024.Idx) :
    k0_pay13 i v2 v4 v7 v9 v20 v22 v24 j = CV K X (512 * t + (j 0).val) (j 1).val := by
  unfold k0_pay13 k0_pay10 k0_pay11 k0_pay12
  simp only [shapeCast_self]
  show broadcastTo S512x1024 v20 _ j * k0_pay9 i v2 v4 v7 v9 j + broadcastTo S512x1024 v22 _ j * k0_pay8 i v2 v4 v7 v9 j
    + broadcastTo S512x1024 v24 _ j * k0_pay6 v2 v4 j = _
  rw [row_at v20 0 k0, row_at v22 1 k1, row_at v24 2 k2, h6, h8, h9]; rfl

theorem pay15_at (v0 v34 : Vec Ideal S512x1024 .bf16) (ht : t < 16)
    (h0 : ∀ j, v0 j = X (512 * t + (j 0).val) (j 1).val) (h34 : ∀ j, v34 j = U (512 * t + (j 0).val) (j 1).val)
    (j : S512x1024.Idx) : k0_pay15 v0 v34 j = DC U X (512 * t + (j 0).val) (j 1).val := by
  have hj0 : (j 0).val < 512 := (j 0).isLt
  show v34 j * v0 j = _
  rw [h0, h34, DC, if_pos (by omega)]

/-- The cotangent of the convolution over the block and the sixteen rows after it. -/
theorem ext_at (a0 : BitVec 32) (ha : a0 = BitVec.ofNat 32 t) (ht : t < 16) (v36 : FVec Ideal S512x1024 .f32) (v38 v40 : Vec Ideal S16x1024 .bf16)
    (h36 : ∀ j, v36 j = DC U X (512 * t + (j 0).val) (j 1).val)
    (h38 : t < 15 → ∀ j, v38 j = U (512 * t + 512 + (j 0).val) (j 1).val)
    (h40 : t < 15 → ∀ j, v40 j = X (512 * t + 512 + (j 0).val) (j 1).val) (j : S528x1024.Idx) :
    concatenate S528x1024 0 [⟨S512x1024, v36⟩, ⟨S16x1024, Scalar.select (Scalar.cmpi .slt a0 15#32)
        (mulf (extf .f32 v38 bitsLt_bf16_f32) (extf .f32 v40 bitsLt_bf16_f32))
        (broadcast S16x1024 (Scalar.ofBits (F := Ideal) .f32 0x00000000#32))⟩] concatenates_S512x1024_S16x1024_S528x1024_d0 j
      = DC U X (512 * t + (j 0).val) (j 1).val := by
  have hj0 : (j 0).val < 528 := (j 0).isLt
  have hj1 : (j 1).val < 1024 := (j 1).isLt
  by_cases hj : (j 0).val < 512
  · rw [concatenate_pair_apply_left (s₁ := S512x1024) (s₂ := S16x1024) 0 _ _ _ j rfl (ix2 (⟨(j 0).val, hj⟩ : Fin 512) (⟨(j 1).val, hj1⟩ : Fin 1024))
      (fun b => by match b with | ⟨0, _⟩ => rfl | ⟨1, _⟩ => rfl), h36]
  · rw [concatenate_pair_apply_right (s₁ := S512x1024) (s₂ := S16x1024) 0 _ _ _ j rfl rfl (ix2 (⟨(j 0).val - 512, by omega⟩ : Fin 16) (⟨(j 1).val, hj1⟩ : Fin 1024))
      (fun b hb => by match b with | ⟨0, _⟩ => exact absurd rfl hb | ⟨1, _⟩ => rfl) (by show (j 0).val - 512 + 512 = (j 0).val; omega)]
    subst ha
    by_cases h0 : t < 15
    · have hc : Scalar.cmpi .slt (BitVec.ofNat 32 t) 15#32 = 1#1 := by word_cmp
      rw [hc, select_one]
      show v38 _ * v40 _ = _
      rw [h38 h0, h40 h0, DC, if_pos (by omega)]
      show U (512 * t + 512 + ((j 0).val - 512)) _ * X (512 * t + 512 + ((j 0).val - 512)) _ = _
      rw [show 512 * t + 512 + ((j 0).val - 512) = 512 * t + (j 0).val by omega]
    · have hc : Scalar.cmpi .slt (BitVec.ofNat 32 t) 15#32 = 0#1 := by
        apply eq_zero_of_ne_one; word_cmp
      rw [hc, select_zero, DC, if_neg (by omega)]
      show (Scalar.ofBits .f32 0x00000000#32 : Ideal .f32) = 0
      pointwise

theorem pay16_at (a0 : BitVec 32) (ha : a0 = BitVec.ofNat 32 t) (ht : t < 16) (v21 v23 v25 : FVec Ideal S1x1024 .f32)
    (v36 : FVec Ideal S512x1024 .f32) (v38 v40 : Vec Ideal S16x1024 .bf16)
    (k0 : ∀ j, v21 j = K 0 (j 1).val) (k1 : ∀ j, v23 j = K 1 (j 1).val) (k2 : ∀ j, v25 j = K 2 (j 1).val)
    (h36 : ∀ j, v36 j = DC U X (512 * t + (j 0).val) (j 1).val)
    (h38 : t < 15 → ∀ j, v38 j = U (512 * t + 512 + (j 0).val) (j 1).val)
    (h40 : t < 15 → ∀ j, v40 j = X (512 * t + 512 + (j 0).val) (j 1).val) (j : S512x1024.Idx) :
    k0_pay16 a0 v21 v23 v25 v36 v38 v40 j = DZ K U X (512 * t + (j 0).val) (j 1).val := by
  have hj0 : (j 0).val < 512 := (j 0).isLt
  have hj1 : (j 1).val < 1024 := (j 1).isLt
  unfold k0_pay16
  dsimp only
  simp only [addf, mulf]
  show broadcastTo S512x1024 v25 _ j * v36 j + broadcastTo S512x1024 v23 _ j * extractStridedSlice S512x1024 _ _ _ j
    + broadcastTo S512x1024 v21 _ j * extractStridedSlice S512x1024 _ _ _ j = _
  rw [row_at v21 0 k0, row_at v23 1 k1, row_at v25 2 k2, h36]
  rw [extractStridedSlice_apply _ _ _ j (ix2 (⟨(j 0).val, by omega⟩ : Fin 528) (⟨(j 1).val, hj1⟩ : Fin 1024))
      (fun b => by match b with | ⟨0, _⟩ => exact (Nat.zero_add _).symm | ⟨1, _⟩ => exact (Nat.zero_add _).symm),
    extractStridedSlice_apply _ _ _ j (ix2 (⟨(j 0).val, by omega⟩ : Fin 528) (⟨(j 1).val, hj1⟩ : Fin 1024))
      (fun b => by match b with | ⟨0, _⟩ => exact (Nat.zero_add _).symm | ⟨1, _⟩ => exact (Nat.zero_add _).symm),
    dynamicRotate_apply (s := S528x1024) 0 527#32 _ _ _ (ix2 (⟨(j 0).val + 1, by omega⟩ : Fin 528) (⟨(j 1).val, hj1⟩ : Fin 1024))
      (fun b => by
        match b with
        | ⟨0, _⟩ => show (j 0).val + 1 = ((j 0).val + 528 - 527 % 528) % 528; omega
        | ⟨1, _⟩ => rfl),
    dynamicRotate_apply (s := S528x1024) 0 526#32 _ _ _ (ix2 (⟨(j 0).val + 2, by omega⟩ : Fin 528) (⟨(j 1).val, hj1⟩ : Fin 1024))
      (fun b => by
        match b with
        | ⟨0, _⟩ => show (j 0).val + 2 = ((j 0).val + 528 - 526 % 528) % 528; omega
        | ⟨1, _⟩ => rfl)]
  have e := ext_at a0 ha ht v36 v38 v40 h36 h38 h40
  simp only [mulf] at e
  rw [e, e]; rfl

theorem pay17_at (v33 v35 : FVec Ideal S512x1024 .f32) (h33 : ∀ j, v33 j = CV K X (512 * t + (j 0).val) (j 1).val)
    (h35 : ∀ j, v35 j = U (512 * t + (j 0).val) (j 1).val) (j : S512x1024.Idx) :
    k0_pay17 v33 v35 j = DX K U X (512 * t + (j 0).val) (j 1).val := by
  have hj1 : (j 1).val < 1024 := (j 1).isLt
  show v35 j * v33 j = _
  rw [h33, h35, DX, if_pos hj1]

theorem pay18_at (a0 : BitVec 32) (ha : a0 = BitVec.ofNat 32 t) (ht : t < 16) (v5 : FVec Ideal S512x1024 .f32) (v21 v23 v25 : FVec Ideal S1x1024 .f32)
    (v36 : FVec Ideal S512x1024 .f32) (v38 v40 : Vec Ideal S16x1024 .bf16)
    (h5 : ∀ j, v5 j = X (512 * t + (j 0).val) (2048 + (j 1).val))
    (k0 : ∀ j, v21 j = K 0 (j 1).val) (k1 : ∀ j, v23 j = K 1 (j 1).val) (k2 : ∀ j, v25 j = K 2 (j 1).val)
    (h36 : ∀ j, v36 j = DC U X (512 * t + (j 0).val) (j 1).val)
    (h38 : t < 15 → ∀ j, v38 j = U (512 * t + 512 + (j 0).val) (j 1).val)
    (h40 : t < 15 → ∀ j, v40 j = X (512 * t + 512 + (j 0).val) (j 1).val) (j : S512x1024.Idx) :
    k0_pay18 a0 v5 v21 v23 v25 v36 v38 v40 j = DX K U X (512 * t + (j 0).val) (1024 + (j 1).val) := by
  have hj1 : (j 1).val < 1024 := (j 1).isLt
  show k0_pay16 a0 v21 v23 v25 v36 v38 v40 j * v5 j = _
  rw [pay16_at a0 ha ht v21 v23 v25 v36 v38 v40 k0 k1 k2 h36 h38 h40, h5, DX, if_neg (by omega), if_pos (by omega), Nat.add_sub_cancel_left]

theorem pay19_at (a0 : BitVec 32) (ha : a0 = BitVec.ofNat 32 t) (ht : t < 16) (v3 : FVec Ideal S512x1024 .f32) (v21 v23 v25 : FVec Ideal S1x1024 .f32)
    (v36 : FVec Ideal S512x1024 .f32) (v38 v40 : Vec Ideal S16x1024 .bf16)
    (h3 : ∀ j, v3 j = X (512 * t + (j 0).val) (1024 + (j 1).val))
    (k0 : ∀ j, v21 j = K 0 (j 1).val) (k1 : ∀ j, v23 j = K 1 (j 1).val) (k2 : ∀ j, v25 j = K 2 (j 1).val)
    (h36 : ∀ j, v36 j = DC U X (512 * t + (j 0).val) (j 1).val)
    (h38 : t < 15 → ∀ j, v38 j = U (512 * t + 512 + (j 0).val) (j 1).val)
    (h40 : t < 15 → ∀ j, v40 j = X (512 * t + 512 + (j 0).val) (j 1).val) (j : S512x1024.Idx) :
    k0_pay19 a0 v3 v21 v23 v25 v36 v38 v40 j = DX K U X (512 * t + (j 0).val) (2048 + (j 1).val) := by
  have hj1 : (j 1).val < 1024 := (j 1).isLt
  show k0_pay16 a0 v21 v23 v25 v36 v38 v40 j * v3 j = _
  rw [pay16_at a0 ha ht v21 v23 v25 v36 v38 v40 k0 k1 k2 h36 h38 h40, h3, DX, if_neg (by omega), if_neg (by omega), Nat.add_sub_cancel_left]

/-- The sum of each eighth row of a block: row `q` of the eight, over the 64 groups. -/
theorem colsum_at (v : FVec Ideal S512x1024 .f32) (A : ℕ → ℕ → EReal) (h : ∀ j, v j = A (512 * t + (j 0).val) (j 1).val)
    (j : S8x1024.Idx) :
    multiReduction .add [0] S8x1024 (shapeCast S64x8x1024 v shapeCasts_S512x1024_S64x8x1024) 0x00000000#32
        reduces_S64x8x1024_S8x1024 (.inl rfl) rfl j
      = ∑ q : Fin 64, A (512 * t + (8 * q.val + (j 0).val)) (j 1).val := by
  have hj0 : (j 0).val < 8 := (j 0).isLt
  have hj1 : (j 1).val < 1024 := (j 1).isLt
  rw [show multiReduction .add [0] S8x1024 (shapeCast S64x8x1024 v shapeCasts_S512x1024_S64x8x1024) 0x00000000#32
        reduces_S64x8x1024_S8x1024 (.inl rfl) rfl j = Ideal.reduceAdd reduces_S64x8x1024_S8x1024
          (shapeCast S64x8x1024 v shapeCasts_S512x1024_S64x8x1024) j from rfl, Ideal.reduceAdd_r3_a0]
  refine Finset.sum_congr rfl fun q _ => ?_
  have hq := q.isLt
  rw [shapeCast_apply v _ _ (ix2 (⟨8 * q.val + (j 0).val, by omega⟩ : Fin 512) (⟨(j 1).val, hj1⟩ : Fin 1024)) (by
    rw [Shape.rowMajor_val_two, Shape.rowMajor_val_three]
    show (8 * q.val + (j 0).val) * 1024 + (j 1).val = (q.val * 8 + (j 0).val) * 1024 + (j 1).val
    omega), h]

/-- A tap's stored sums: what they held plus the block's column sums of the product. -/
theorem tap_at (v17 v36 : FVec Ideal S512x1024 .f32) (v79 : Vec Ideal S1x8x1024 .f32) (A B : ℕ → ℕ → EReal)
    (h36 : ∀ j, v36 j = A (512 * t + (j 0).val) (j 1).val) (h17 : ∀ j, v17 j = B (512 * t + (j 0).val) (j 1).val)
    (j : S1x8x1024.Idx) :
    k0_pay2 v17 v36 v79 j = v79 j + ∑ q : Fin 64, A (512 * t + (8 * q.val + (j 1).val)) (j 2).val * B (512 * t + (8 * q.val + (j 1).val)) (j 2).val := by
  have hj1 : (j 1).val < 8 := (j 1).isLt
  have hj2 : (j 2).val < 1024 := (j 2).isLt
  unfold k0_pay2
  dsimp only
  rw [shapeCast_apply _ _ j (ix2 (⟨(j 1).val, hj1⟩ : Fin 8) (⟨(j 2).val, hj2⟩ : Fin 1024)) (by
    have hj0 : (j 0).val < 1 := (j 0).isLt
    rw [Shape.rowMajor_val_two, Shape.rowMajor_val_three]
    show (j 1).val * 1024 + (j 2).val = ((j 0).val * 8 + (j 1).val) * 1024 + (j 2).val
    omega)]
  show shapeCast S8x1024 v79 shapeCasts_S1x8x1024_S8x1024 _ + multiReduction .add [0] S8x1024
    (shapeCast S64x8x1024 (mulf v36 v17) shapeCasts_S512x1024_S64x8x1024) 0x00000000#32 reduces_S64x8x1024_S8x1024 (.inl rfl) rfl _ = _
  rw [colsum_at (t := t) (mulf v36 v17) (fun g d => A g d * B g d) (fun j => by show v36 j * v17 j = _; rw [h36, h17]),
    shapeCast_apply v79 _ _ j (by
    have hj0 : (j 0).val < 1 := (j 0).isLt
    rw [Shape.rowMajor_val_two, Shape.rowMajor_val_three]
    show ((j 0).val * 8 + (j 1).val) * 1024 + (j 2).val = (j 1).val * 1024 + (j 2).val
    omega)]

theorem tap0_at (v17 v36 : FVec Ideal S512x1024 .f32) (v79 : Vec Ideal S1x8x1024 .f32) (A B : ℕ → ℕ → EReal)
    (h36 : ∀ j, v36 j = A (512 * t + (j 0).val) (j 1).val) (h17 : ∀ j, v17 j = B (512 * t + (j 0).val) (j 1).val)
    (j : S1x8x1024.Idx) :
    k0_pay1 (k0_pay21 v79) (k0_pay22 v17 v36) j = v79 j + ∑ q : Fin 64, A (512 * t + (8 * q.val + (j 1).val)) (j 2).val * B (512 * t + (8 * q.val + (j 1).val)) (j 2).val :=
  tap_at v17 v36 v79 A B h36 h17 j

end Cert.KernelIdeal.Conv
end
-- ==== Proof.Block.lean ====
/- What the body leaves at a grid point, read as the terms of the formula: a block of rows of the gradient of
   the three thirds, and the running sums of the taps' gradients. -/
module

public import proofs.«01_k».proof.Proof.ConvTerms
public import proofs.«01_k».proof.Proof.Gen.KernelIdeal.Frame
public import Idealize.ShloMosaic.Lib.Pipeline.ReadBack
public import Idealize.ShloMosaic.Lib.Tactic

@[expose] public section

set_option maxRecDepth 16384

noncomputable section

open Idealize.ShloMosaic hiding ix1 ix2 ix3
open Idealize.ShloMosaic.ValueIdx Idealize.ShloMosaic.TcCoe Idealize.SL.Sem

namespace Cert.KernelIdeal.Conv

open Cert.KernelIdeal Cert.KernelIdeal.Gen Cert.Conv

variable {U X K : ℕ → ℕ → EReal} {t : ℕ}

/-- The blocks a grid point reads, as rows of the arrays. -/
structure Blocks (U X K : ℕ → ℕ → EReal) (t : ℕ) (x0 : Vec Ideal S512x1024 .bf16) (x1 : Vec Ideal S16x1024 .bf16)
    (x2 : Vec Ideal S512x3072 .bf16) (x3 x4 : Vec Ideal S16x3072 .bf16) (x5 : Vec Ideal S8x1024 .f32) : Prop where
  h0 : ∀ j, x0 j = U (512 * t + (j 0).val) (j 1).val
  h1 : t < 15 → ∀ j, x1 j = U (512 * t + 512 + (j 0).val) (j 1).val
  h2 : ∀ j, x2 j = X (512 * t + (j 0).val) (j 1).val
  h3 : 0 < t → ∀ j, x3 j = X (512 * t + (j 0).val - 16) (j 1).val
  h4 : t < 15 → ∀ j, x4 j = X (512 * t + 512 + (j 0).val) (j 1).val
  h5 : ∀ j, (j 0).val < 3 → x5 j = K (j 0).val (j 1).val

variable {x0 : Vec Ideal S512x1024 .bf16} {x1 : Vec Ideal S16x1024 .bf16} {x2 : Vec Ideal S512x3072 .bf16}
  {x3 x4 : Vec Ideal S16x3072 .bf16} {x5 : Vec Ideal S8x1024 .f32}

/-- The contribution of a block to tap `k`'s gradient, in sublane `s`. -/
def DKb (U X : ℕ → ℕ → EReal) (t k s d : ℕ) : EReal :=
  ∑ q : Fin 64, DC U X (512 * t + (8 * q.val + s)) d * Zs X (2 - k) (512 * t + (8 * q.val + s)) d

theorem rd_X (hb : Blocks U X K t x0 x1 x2 x3 x4 x5) (arg3 : Memref sig .tc .vmem S512x3072 .bf16) (harg3 : arg3.IsWhole)
    (o : ℕ) (inb) (j : S512x1024.Idx) :
    View.readAt (Elt Ideal) arg3.view (Rect.unit (s := S512x3072) ![0, o] ![512, 1024] inb).toLoadRect (harg3.unread x2) j
      = X (512 * t + (j 0).val) (o + (j 1).val) := by
  rw [View.readAt_eq_ld, harg3.read_unread]
  refine (hb.h2 _).trans ?_
  show X (512 * t + (0 + 1 * (j 0).val)) (o + 1 * (j 1).val) = _
  rw [Nat.zero_add, Nat.one_mul, Nat.one_mul]

theorem rd_U (hb : Blocks U X K t x0 x1 x2 x3 x4 x5) (arg1 : Memref sig .tc .vmem S512x1024 .bf16) (harg1 : arg1.IsWhole)
    (inb) (j : S512x1024.Idx) :
    View.readAt (Elt Ideal) arg1.view (Rect.unit (s := S512x1024) ![0, 0] ![512, 1024] inb).toLoadRect (harg1.unread x0) j
      = U (512 * t + (j 0).val) (j 1).val := by
  rw [View.readAt_eq_ld, harg1.read_unread]
  refine (hb.h0 _).trans ?_
  show U (512 * t + (0 + 1 * (j 0).val)) (0 + 1 * (j 1).val) = _
  rw [Nat.zero_add, Nat.one_mul, Nat.zero_add, Nat.one_mul]

theorem rd_Un (hb : Blocks U X K t x0 x1 x2 x3 x4 x5) (arg2 : Memref sig .tc .vmem S16x1024 .bf16) (harg2 : arg2.IsWhole)
    (inb) (h : t < 15) (j : S16x1024.Idx) :
    View.readAt (Elt Ideal) arg2.view (Rect.unit (s := S16x1024) ![0, 0] ![16, 1024] inb).toLoadRect (harg2.unread x1) j
      = U (512 * t + 512 + (j 0).val) (j 1).val := by
  rw [View.readAt_eq_ld, harg2.read_unread]
  refine (hb.h1 h _).trans ?_
  show U (512 * t + 512 + (0 + 1 * (j 0).val)) (0 + 1 * (j 1).val) = _
  rw [Nat.zero_add, Nat.one_mul, Nat.zero_add, Nat.one_mul]

theorem rd_Xp (hb : Blocks U X K t x0 x1 x2 x3 x4 x5) (arg4 : Memref sig .tc .vmem S16x3072 .bf16) (harg4 : arg4.IsWhole)
    (o : ℕ) (inb) (h : 0 < t) (j : S16x1024.Idx) :
    View.readAt (Elt Ideal) arg4.view (Rect.unit (s := S16x3072) ![0, o] ![16, 1024] inb).toLoadRect (harg4.unread x3) j
      = X (512 * t + (j 0).val - 16) (o + (j 1).val) := by
  rw [View.readAt_eq_ld, harg4.read_unread]
  refine (hb.h3 h _).trans ?_
  show X (512 * t + (0 + 1 * (j 0).val) - 16) (o + 1 * (j 1).val) = _
  rw [Nat.zero_add, Nat.one_mul, Nat.one_mul]

theorem rd_Xn (hb : Blocks U X K t x0 x1 x2 x3 x4 x5) (arg5 : Memref sig .tc .vmem S16x3072 .bf16) (harg5 : arg5.IsWhole)
    (inb) (h : t < 15) (j : S16x1024.Idx) :
    View.readAt (Elt Ideal) arg5.view (Rect.unit (s := S16x3072) ![0, 0] ![16, 1024] inb).toLoadRect (harg5.unread x4) j
      = X (512 * t + 512 + (j 0).val) (j 1).val := by
  rw [View.readAt_eq_ld, harg5.read_unread]
  refine (hb.h4 h _).trans ?_
  show X (512 * t + 512 + (0 + 1 * (j 0).val)) (0 + 1 * (j 1).val) = _
  rw [Nat.zero_add, Nat.one_mul, Nat.zero_add, Nat.one_mul]

theorem rd_K (hb : Blocks U X K t x0 x1 x2 x3 x4 x5) (arg6 : Memref sig .tc .vmem S8x1024 .f32) (harg6 : arg6.IsWhole)
    (o : ℕ) (ho : o < 3) (inb) (j : S1x1024.Idx) :
    View.readAt (Elt Ideal) arg6.view (Rect.unit (s := S8x1024) ![o, 0] ![1, 1024] inb).toLoadRect (harg6.unread x5) j
      = K o (j 1).val := by
  have hj0 : (j 0).val < 1 := (j 0).isLt
  rw [View.readAt_eq_ld, harg6.read_unread]
  refine (hb.h5 _ (by show o + 1 * (j 0).val < 3; omega)).trans ?_
  show K (o + 1 * (j 0).val) (0 + 1 * (j 1).val) = _
  rw [show o + 1 * (j 0).val = o by omega, Nat.zero_add, Nat.one_mul]

theorem row_self {v : Vec Ideal S1x1024 .f32} {n : ℕ} (h : ∀ j, v j = K n (j 1).val) (j : S1x1024.Idx) :
    shapeCast S1x1024 v shapeCasts_S1x1024_S1x1024 j = K n (j 1).val := by
  rw [shapeCast_self, h]

theorem dc_X (hb : Blocks U X K t x0 x1 x2 x3 x4 x5) (arg3 : Memref sig .tc .vmem S512x3072 .bf16) (harg3 : arg3.IsWhole)
    (inb) (j : S512x1024.Idx) :
    View.readAt (Elt Ideal) arg3.view (Rect.unit (s := S512x3072) ![0, 0] ![512, 1024] inb).toLoadRect (harg3.unread x2) j
      = X (512 * t + (j 0).val) (j 1).val :=
  (rd_X hb arg3 harg3 0 inb j).trans (by rw [Nat.zero_add])

theorem out_A_6 (c : Dev nD) (i : grid0.Coords) (arg1 : Memref sig .tc .vmem S512x1024 .bf16) (harg1 : arg1.IsWhole) (arg2 : Memref sig .tc .vmem S16x1024 .bf16) (harg2 : arg2.IsWhole) (arg3 : Memref sig .tc .vmem S512x3072 .bf16) (harg3 : arg3.IsWhole) (arg4 : Memref sig .tc .vmem S16x3072 .bf16) (harg4 : arg4.IsWhole) (arg5 : Memref sig .tc .vmem S16x3072 .bf16) (harg5 : arg5.IsWhole) (arg6 : Memref sig .tc .vmem S8x1024 .f32) (harg6 : arg6.IsWhole) (arg7 : Memref sig .tc .vmem S512x3072 .bf16) (harg7 : arg7.IsWhole) (arg8 : Memref sig .tc .vmem S3x8x1024 .f32) (harg8 : arg8.IsWhole) (hc0 : cond0_0 i)
    (hi : (i 0).val = t) (ht : t < 16) (hb : Blocks U X K t x0 x1 x2 x3 x4 x5) :
    out0_A_6 c i arg1 harg1 arg2 harg2 arg3 harg3 arg4 harg4 arg5 harg5 arg6 harg6 arg7 harg7 arg8 harg8 hc0 x0 x1 x2 x3 x4 x5  = fun y => DX K U X (512 * t + (y 0).val) (y 1).val := by
  unfold out0_A_6
  rw [View.read_writes_eq_canon _ _ _ (cover0_A_6 c i arg1 harg1 arg2 harg2 arg3 harg3 arg4 harg4 arg5 harg5 arg6 harg6 arg7 harg7 arg8 harg8 hc0 x0 x1 x2 x3 x4 x5 )]
  funext y
  refine View.canon_apply_of_pieces (fun y => DX K U X (512 * t + (y 0).val) (y 1).val) _ ?_ y (cover0_A_6 c i arg1 harg1 arg2 harg2 arg3 harg3 arg4 harg4 arg5 harg5 arg6 harg6 arg7 harg7 arg8 harg8 hc0 x0 x1 x2 x3 x4 x5  y)
  unfold kernelRun0_A
  dsimp only
  sl_unfold_words
  simp only [List.mem_cons, List.not_mem_nil, or_false, forall_eq_or_imp, forall_eq]
  have ha : BitVec.ofNat 32 (i 0).val = BitVec.ofNat 32 t := by rw [hi]
  have k0 := fun inb j => row_self (rd_K hb arg6 harg6 0 (by decide) inb) j
  have k1 := fun inb j => row_self (rd_K hb arg6 harg6 1 (by decide) inb) j
  have k2 := fun inb j => row_self (rd_K hb arg6 harg6 2 (by decide) inb) j
  refine ⟨fun j => ?_, fun j => ?_, fun j => ?_⟩
  · refine (pay19_at (U := U) (X := X) (K := K) _ ha ht _ _ _ _ _ _ _ (rd_X hb arg3 harg3 1024 _) (k0 _) (k1 _) (k2 _)
      (pay15_at _ _ ht (dc_X hb arg3 harg3 _) (rd_U hb arg1 harg1 _)) (rd_Un hb arg2 harg2 _) (rd_Xn hb arg5 harg5 _) j).trans ?_
    exact congrArg₂ (DX K U X) (by simp) (by simp)
  · refine (pay18_at (U := U) (X := X) (K := K) _ ha ht _ _ _ _ _ _ _ (rd_X hb arg3 harg3 2048 _) (k0 _) (k1 _) (k2 _)
      (pay15_at _ _ ht (dc_X hb arg3 harg3 _) (rd_U hb arg1 harg1 _)) (rd_Un hb arg2 harg2 _) (rd_Xn hb arg5 harg5 _) j).trans ?_
    exact congrArg₂ (DX K U X) (by simp) (by simp)
  · have h7 := pay7_at (X := X) i hi _ _ _ _ (rd_X hb arg3 harg3 1024 (by decide)) (rd_X hb arg3 harg3 2048 (by decide))
      (rd_Xp hb arg4 harg4 1024 (by decide)) (rd_Xp hb arg4 harg4 2048 (by decide))
    refine (pay17_at (U := U) (X := X) (K := K) _ _ (pay13_at i _ _ _ _ _ _ _
      (pay6_at _ _ (rd_X hb arg3 harg3 1024 _) (rd_X hb arg3 harg3 2048 _)) (pay8_at i _ _ _ _ h7) (pay9_at i _ _ _ _ h7)
      (rd_K hb arg6 harg6 0 (by decide) _) (rd_K hb arg6 harg6 1 (by decide) _) (rd_K hb arg6 harg6 2 (by decide) _))
      (rd_U hb arg1 harg1 _) j).trans ?_
    exact congrArg₂ (DX K U X) (by simp) (by simp)
theorem out_B_6 (c : Dev nD) (i : grid0.Coords) (arg1 : Memref sig .tc .vmem S512x1024 .bf16) (harg1 : arg1.IsWhole) (arg2 : Memref sig .tc .vmem S16x1024 .bf16) (harg2 : arg2.IsWhole) (arg3 : Memref sig .tc .vmem S512x3072 .bf16) (harg3 : arg3.IsWhole) (arg4 : Memref sig .tc .vmem S16x3072 .bf16) (harg4 : arg4.IsWhole) (arg5 : Memref sig .tc .vmem S16x3072 .bf16) (harg5 : arg5.IsWhole) (arg6 : Memref sig .tc .vmem S8x1024 .f32) (harg6 : arg6.IsWhole) (arg7 : Memref sig .tc .vmem S512x3072 .bf16) (harg7 : arg7.IsWhole) (arg8 : Memref sig .tc .vmem S3x8x1024 .f32) (harg8 : arg8.IsWhole) (hc0 : ¬cond0_0 i) (xo7 : Vec Ideal S3x8x1024 .f32)
    (hi : (i 0).val = t) (ht : t < 16) (hb : Blocks U X K t x0 x1 x2 x3 x4 x5) :
    out0_B_6 c i arg1 harg1 arg2 harg2 arg3 harg3 arg4 harg4 arg5 harg5 arg6 harg6 arg7 harg7 arg8 harg8 hc0 x0 x1 x2 x3 x4 x5 xo7 = fun y => DX K U X (512 * t + (y 0).val) (y 1).val := by
  unfold out0_B_6
  rw [View.read_writes_eq_canon _ _ _ (cover0_B_6 c i arg1 harg1 arg2 harg2 arg3 harg3 arg4 harg4 arg5 harg5 arg6 harg6 arg7 harg7 arg8 harg8 hc0 x0 x1 x2 x3 x4 x5 xo7)]
  funext y
  refine View.canon_apply_of_pieces (fun y => DX K U X (512 * t + (y 0).val) (y 1).val) _ ?_ y (cover0_B_6 c i arg1 harg1 arg2 harg2 arg3 harg3 arg4 harg4 arg5 harg5 arg6 harg6 arg7 harg7 arg8 harg8 hc0 x0 x1 x2 x3 x4 x5 xo7 y)
  unfold kernelRun0_B
  dsimp only
  sl_unfold_words
  simp only [List.mem_cons, List.not_mem_nil, or_false, forall_eq_or_imp, forall_eq]
  have ha : BitVec.ofNat 32 (i 0).val = BitVec.ofNat 32 t := by rw [hi]
  have k0 := fun inb j => row_self (rd_K hb arg6 harg6 0 (by decide) inb) j
  have k1 := fun inb j => row_self (rd_K hb arg6 harg6 1 (by decide) inb) j
  have k2 := fun inb j => row_self (rd_K hb arg6 harg6 2 (by decide) inb) j
  refine ⟨fun j => ?_, fun j => ?_, fun j => ?_⟩
  · refine (pay19_at (U := U) (X := X) (K := K) _ ha ht _ _ _ _ _ _ _ (rd_X hb arg3 harg3 1024 _) (k0 _) (k1 _) (k2 _)
      (pay15_at _ _ ht (dc_X hb arg3 harg3 _) (rd_U hb arg1 harg1 _)) (rd_Un hb arg2 harg2 _) (rd_Xn hb arg5 harg5 _) j).trans ?_
    exact congrArg₂ (DX K U X) (by simp) (by simp)
  · refine (pay18_at (U := U) (X := X) (K := K) _ ha ht _ _ _ _ _ _ _ (rd_X hb arg3 harg3 2048 _) (k0 _) (k1 _) (k2 _)
      (pay15_at _ _ ht (dc_X hb arg3 harg3 _) (rd_U hb arg1 harg1 _)) (rd_Un hb arg2 harg2 _) (rd_Xn hb arg5 harg5 _) j).trans ?_
    exact congrArg₂ (DX K U X) (by simp) (by simp)
  · have h7 := pay7_at (X := X) i hi _ _ _ _ (rd_X hb arg3 harg3 1024 (by decide)) (rd_X hb arg3 harg3 2048 (by decide))
      (rd_Xp hb arg4 harg4 1024 (by decide)) (rd_Xp hb arg4 harg4 2048 (by decide))
    refine (pay17_at (U := U) (X := X) (K := K) _ _ (pay13_at i _ _ _ _ _ _ _
      (pay6_at _ _ (rd_X hb arg3 harg3 1024 _) (rd_X hb arg3 harg3 2048 _)) (pay8_at i _ _ _ _ h7) (pay9_at i _ _ _ _ h7)
      (rd_K hb arg6 harg6 0 (by decide) _) (rd_K hb arg6 harg6 1 (by decide) _) (rd_K hb arg6 harg6 2 (by decide) _))
      (rd_U hb arg1 harg1 _) j).trans ?_
    exact congrArg₂ (DX K U X) (by simp) (by simp)
theorem Zs_zero (g d : ℕ) : Zs X 0 g d = Z X g d := by rw [Zs, if_pos (Nat.zero_le _), Nat.sub_zero]

theorem fill_zero {r : Rect S3x8x1024} {j} : View.ld (Val := Elt Ideal) (e' := .f32) (k0_pay20 (F := Ideal)) r j = 0 := by
  show (Scalar.ofBits .f32 0x00000000#32 : Ideal .f32) = 0
  pointwise

/-- A slot's sums, at the index its rectangle places them. -/
theorem slot (j : S1x8x1024.Idx) (k : ℕ) {B : ℕ → ℕ → EReal} (hB : ∀ g d, B g d = Zs X (2 - k) g d) {inb} :
    (∑ q : Fin 64, DC U X (512 * t + (8 * q.val + (j 1).val)) (j 2).val * B (512 * t + (8 * q.val + (j 1).val)) (j 2).val)
      = DKb U X t ((Rect.unit (s := S3x8x1024) ![k, 0, 0] ![1, 8, 1024] inb).emb j 0).val
          ((Rect.unit (s := S3x8x1024) ![k, 0, 0] ![1, 8, 1024] inb).emb j 1).val
          ((Rect.unit (s := S3x8x1024) ![k, 0, 0] ![1, 8, 1024] inb).emb j 2).val := by
  have hj0 : (j 0).val < 1 := (j 0).isLt
  show _ = DKb U X t (k + 1 * (j 0).val) (0 + 1 * (j 1).val) (0 + 1 * (j 2).val)
  rw [show k + 1 * (j 0).val = k by omega, show 0 + 1 * (j 1).val = (j 1).val by omega, show 0 + 1 * (j 2).val = (j 2).val by omega, DKb]
  exact Finset.sum_congr rfl fun q _ => by rw [hB]

theorem out_B_7 (c : Dev nD) (i : grid0.Coords) (arg1 : Memref sig .tc .vmem S512x1024 .bf16) (harg1 : arg1.IsWhole) (arg2 : Memref sig .tc .vmem S16x1024 .bf16) (harg2 : arg2.IsWhole) (arg3 : Memref sig .tc .vmem S512x3072 .bf16) (harg3 : arg3.IsWhole) (arg4 : Memref sig .tc .vmem S16x3072 .bf16) (harg4 : arg4.IsWhole) (arg5 : Memref sig .tc .vmem S16x3072 .bf16) (harg5 : arg5.IsWhole) (arg6 : Memref sig .tc .vmem S8x1024 .f32) (harg6 : arg6.IsWhole) (arg7 : Memref sig .tc .vmem S512x3072 .bf16) (harg7 : arg7.IsWhole) (arg8 : Memref sig .tc .vmem S3x8x1024 .f32) (harg8 : arg8.IsWhole) (hc0 : ¬cond0_0 i) (xo7 : Vec Ideal S3x8x1024 .f32)
    (hi : (i 0).val = t) (ht : t < 16) (hb : Blocks U X K t x0 x1 x2 x3 x4 x5) :
    out0_B_7 c i arg1 harg1 arg2 harg2 arg3 harg3 arg4 harg4 arg5 harg5 arg6 harg6 arg7 harg7 arg8 harg8 hc0 x0 x1 x2 x3 x4 x5 xo7 = fun y => xo7 y + DKb U X t (y 0).val (y 1).val (y 2).val := by
  unfold out0_B_7
  rw [View.read_writes_eq_canon _ _ _ (cover0_B_7 c i arg1 harg1 arg2 harg2 arg3 harg3 arg4 harg4 arg5 harg5 arg6 harg6 arg7 harg7 arg8 harg8 hc0 x0 x1 x2 x3 x4 x5 xo7)]
  funext y
  refine View.canon_apply_of_pieces (fun y => xo7 y + DKb U X t (y 0).val (y 1).val (y 2).val) _ ?_ y (cover0_B_7 c i arg1 harg1 arg2 harg2 arg3 harg3 arg4 harg4 arg5 harg5 arg6 harg6 arg7 harg7 arg8 harg8 hc0 x0 x1 x2 x3 x4 x5 xo7 y)
  unfold kernelRun0_B
  dsimp only
  sl_unfold_words
  simp only [List.mem_cons, List.not_mem_nil, or_false, forall_eq_or_imp, forall_eq]
  have h7 := pay7_at (X := X) i hi _ _ _ _ (rd_X hb arg3 harg3 1024 (by decide)) (rd_X hb arg3 harg3 2048 (by decide))
      (rd_Xp hb arg4 harg4 1024 (by decide)) (rd_Xp hb arg4 harg4 2048 (by decide))
  have h15 := pay15_at (U := U) (X := X) _ _ ht (dc_X hb arg3 harg3 (by decide)) (rd_U hb arg1 harg1 (by decide))
  refine ⟨fun j => ?_, fun j => ?_, fun j => ?_⟩
  · refine (tap_at _ _ _ _ (Z X) h15 (pay6_at _ _ (rd_X hb arg3 harg3 1024 _) (rd_X hb arg3 harg3 2048 _)) j).trans ?_
    exact congrArg₂ (· + ·) (by rw [View.readAt_eq_ld, harg8.read_unread]; rfl) (slot j 2 (fun g d => (Zs_zero g d).symm))
  · refine (tap_at _ _ _ _ (Zs X 1) h15 (pay8_at i _ _ _ _ h7) j).trans ?_
    exact congrArg₂ (· + ·) (by rw [View.readAt_eq_ld, harg8.read_unread]; rfl) (slot j 1 (fun _ _ => rfl))
  · refine (tap0_at _ _ _ _ (Zs X 2) h15 (pay9_at i _ _ _ _ h7) j).trans ?_
    exact congrArg₂ (· + ·) (by rw [View.readAt_eq_ld, harg8.read_unread]; rfl) (slot j 0 (fun _ _ => rfl))

theorem out_A_7 (c : Dev nD) (i : grid0.Coords) (arg1 : Memref sig .tc .vmem S512x1024 .bf16) (harg1 : arg1.IsWhole) (arg2 : Memref sig .tc .vmem S16x1024 .bf16) (harg2 : arg2.IsWhole) (arg3 : Memref sig .tc .vmem S512x3072 .bf16) (harg3 : arg3.IsWhole) (arg4 : Memref sig .tc .vmem S16x3072 .bf16) (harg4 : arg4.IsWhole) (arg5 : Memref sig .tc .vmem S16x3072 .bf16) (harg5 : arg5.IsWhole) (arg6 : Memref sig .tc .vmem S8x1024 .f32) (harg6 : arg6.IsWhole) (arg7 : Memref sig .tc .vmem S512x3072 .bf16) (harg7 : arg7.IsWhole) (arg8 : Memref sig .tc .vmem S3x8x1024 .f32) (harg8 : arg8.IsWhole) (hc0 : cond0_0 i)
    (hi : (i 0).val = t) (ht : t < 16) (hb : Blocks U X K t x0 x1 x2 x3 x4 x5) :
    out0_A_7 c i arg1 harg1 arg2 harg2 arg3 harg3 arg4 harg4 arg5 harg5 arg6 harg6 arg7 harg7 arg8 harg8 hc0 x0 x1 x2 x3 x4 x5  = fun y => DKb U X t (y 0).val (y 1).val (y 2).val := by
  unfold out0_A_7
  rw [View.read_writes_eq_canon _ _ _ (cover0_A_7 c i arg1 harg1 arg2 harg2 arg3 harg3 arg4 harg4 arg5 harg5 arg6 harg6 arg7 harg7 arg8 harg8 hc0 x0 x1 x2 x3 x4 x5 )]
  funext y
  unfold kernelRun0_A
  dsimp only
  sl_unfold_words
  have h7 := pay7_at (X := X) i hi _ _ _ _ (rd_X hb arg3 harg3 1024 (by decide)) (rd_X hb arg3 harg3 2048 (by decide))
      (rd_Xp hb arg4 harg4 1024 (by decide)) (rd_Xp hb arg4 harg4 2048 (by decide))
  have h15 := pay15_at (U := U) (X := X) _ _ ht (dc_X hb arg3 harg3 (by decide)) (rd_U hb arg1 harg1 (by decide))
  refine View.canon_append_of_piecesOf (Val := Elt Ideal) (s := S3x8x1024) (e := .f32) (fun y => DKb U X t (y 0).val (y 1).val (y 2).val) [_] [_, _, _] ⟨fun j => ?_, fun j => ?_, fun j => ?_, trivial⟩ y ?_
  · refine (tap_at _ _ _ _ (Z X) h15 (pay6_at _ _ (rd_X hb arg3 harg3 1024 _) (rd_X hb arg3 harg3 2048 _)) j).trans ?_
    rw [View.readCov_skip _ _ _ _ _ (by decide), View.readCov_skip _ _ _ _ _ (by decide), View.readCov_fill _ _ _ _ _ (by decide)]
    exact (congrArg₂ (· + ·) fill_zero (slot (inb := inb_S3x8x1024_S1x8x1024_2_0_0) j 2 (fun g d => (Zs_zero g d).symm))).trans (zero_add _)
  · refine (tap_at _ _ _ _ (Zs X 1) h15 (pay8_at i _ _ _ _ h7) j).trans ?_
    rw [View.readCov_skip _ _ _ _ _ (by decide), View.readCov_fill _ _ _ _ _ (by decide)]
    exact (congrArg₂ (· + ·) fill_zero (slot (inb := inb_S3x8x1024_S1x8x1024_1_0_0) j 1 (fun _ _ => rfl))).trans (zero_add _)
  · refine (tap0_at _ _ _ _ (Zs X 2) h15 (pay9_at i _ _ _ _ h7) j).trans ?_
    rw [View.readCov_fill _ _ _ _ _ (by decide)]
    exact (congrArg₂ (· + ·) fill_zero (slot (inb := inb_S3x8x1024_S1x8x1024_0_0_0) j 0 (fun _ _ => rfl))).trans (zero_add _)
  · have h0 : (y 0).val < 3 := (y 0).isLt
    have h1 : (y 1).val < 8 := (y 1).isLt
    have h2 : (y 2).val < 1024 := (y 2).isLt
    rcases (by omega : (y 0).val = 2 ∨ (y 0).val = 1 ∨ (y 0).val = 0) with h | h | h
    · refine ⟨_, List.mem_cons_self .., ?_⟩
      rw [Rect.mem_set_unit]
      intro a; match a with
        | ⟨0, _⟩ => show 2 ≤ (y 0).val ∧ (y 0).val < 2 + 1; omega
        | ⟨1, _⟩ => show 0 ≤ (y 1).val ∧ (y 1).val < 0 + 8; omega
        | ⟨2, _⟩ => show 0 ≤ (y 2).val ∧ (y 2).val < 0 + 1024; omega
    · refine ⟨_, List.mem_cons_of_mem _ (List.mem_cons_self ..), ?_⟩
      rw [Rect.mem_set_unit]
      intro a; match a with
        | ⟨0, _⟩ => show 1 ≤ (y 0).val ∧ (y 0).val < 1 + 1; omega
        | ⟨1, _⟩ => show 0 ≤ (y 1).val ∧ (y 1).val < 0 + 8; omega
        | ⟨2, _⟩ => show 0 ≤ (y 2).val ∧ (y 2).val < 0 + 1024; omega
    · refine ⟨_, List.mem_cons_of_mem _ (List.mem_cons_of_mem _ (List.mem_cons_self ..)), ?_⟩
      rw [Rect.mem_set_unit]
      intro a; match a with
        | ⟨0, _⟩ => show 0 ≤ (y 0).val ∧ (y 0).val < 0 + 1; omega
        | ⟨1, _⟩ => show 0 ≤ (y 1).val ∧ (y 1).val < 0 + 8; omega
        | ⟨2, _⟩ => show 0 ≤ (y 2).val ∧ (y 2).val < 0 + 1024; omega

end Cert.KernelIdeal.Conv
end
-- ==== Proof.ConvArray.lean ====
/- The arrays the launch leaves: each point's blocks read as rows of the arguments, the gradient of the three thirds
   row by row, and the taps' sums over all the points. -/
module

public import proofs.«01_k».proof.Proof.Block
public import Idealize.ShloMosaic.Lib.KernelVsHost
public import Idealize.ShloMosaic.Lib.StableHlo.Run

@[expose] public section

set_option maxRecDepth 16384

noncomputable section

open Idealize.ShloMosaic hiding ix1 ix2 ix3
open Idealize.ShloMosaic.ValueIdx Idealize.ShloMosaic.TcCoe Idealize.SL.Sem

namespace Cert.Conv

/-- An array of rank two as a function of a row and a column, zero outside. -/
def rd {n k : ℕ} (x : (⟨2, ![n, k]⟩ : Shape).Idx → EReal) (g d : ℕ) : EReal :=
  if h : g < n ∧ d < k then x (ix2 ⟨g, h.1⟩ ⟨d, h.2⟩) else 0

theorem rd_eq {n k : ℕ} (x : (⟨2, ![n, k]⟩ : Shape).Idx → EReal) (i : (⟨2, ![n, k]⟩ : Shape).Idx) {g d : ℕ}
    (h0 : (i 0).val = g) (h1 : (i 1).val = d) : x i = rd x g d := by
  subst h0 h1
  have a0 : (i 0).val < n := (i 0).isLt
  have a1 : (i 1).val < k := (i 1).isLt
  rw [rd, dif_pos ⟨a0, a1⟩]
  congr 1
  funext a
  match a with
  | ⟨0, _⟩ => rfl
  | ⟨1, _⟩ => rfl

end Cert.Conv

namespace Cert.KernelIdeal.Conv

open Cert.KernelIdeal Cert.KernelIdeal.Gen Cert.Conv
open Idealize.ShloMosaic.Pipeline (Dat)

variable (m : (ℓ : Loc nD τ sig) → Buf (Elt Ideal) ℓ) (ρ : Dev nD → PrngReg)

/-- The output's cotangent. -/
abbrev Ua (c : Dev nD) : ℕ → ℕ → EReal := rd (n := 8192) (k := 1024) (m ((c : Thread nD τ).loc main_arg0))
/-- The three thirds side by side. -/
abbrev Xa (c : Dev nD) : ℕ → ℕ → EReal := rd (n := 8192) (k := 3072) (m ((c : Thread nD τ).loc main_arg1))
/-- The taps. -/
abbrev Ka (c : Dev nD) : ℕ → ℕ → EReal := rd (n := 3) (k := 1024) (m ((c : Thread nD τ).loc main_arg2))

theorem N16 : cfg0.N = 16 := N_0

theorem ix_0 : ∀ t : Fin grid0.N, win0_0.index t 0 = t.val ∧ win0_0.index t 1 = 0 := by decide +kernel
theorem ix_1 : ∀ t : Fin grid0.N, win0_1.index t 0 = min ((t.val + 1) * 32) 511 ∧ win0_1.index t 1 = 0 := by decide +kernel
theorem ix_2 : ∀ t : Fin grid0.N, win0_2.index t 0 = t.val ∧ win0_2.index t 1 = 0 := by decide +kernel
theorem ix_3 : ∀ t : Fin grid0.N, win0_3.index t 0 = t.val * 32 - 1 ∧ win0_3.index t 1 = 0 := by decide +kernel
theorem ix_4 : ∀ t : Fin grid0.N, win0_4.index t 0 = min ((t.val + 1) * 32) 511 ∧ win0_4.index t 1 = 0 := by decide +kernel
theorem ix_5 : ∀ t : Fin grid0.N, win0_5.index t 0 = 0 ∧ win0_5.index t 1 = 0 := by decide +kernel
theorem ix_6 : ∀ t : Fin grid0.N, win0_6.index t 0 = t.val ∧ win0_6.index t 1 = 0 := by decide +kernel
theorem ix_7 : ∀ t : Fin grid0.N, win0_7.index t 0 = 0 ∧ win0_7.index t 1 = 0 ∧ win0_7.index t 2 = 0 := by decide +kernel
theorem co_0 : ∀ t : Fin grid0.N, ((grid0.coords t) 0).val = t.val := by decide +kernel

/-- The padded taps: the first three rows are the taps. -/
theorem V_taps (c : Dev nD) (i : S8x1024.Idx) (h : (i 0).val < 3) : (V m c main_v0 : S8x1024.Idx → EReal) i = Ka m c (i 0).val (i 1).val := by
  have hv : V m c main_v0 = pad S8x1024 ![0, 0] ![5, 0] ![0, 0] (m ((c : Thread nD τ).loc main_arg2)) (sitofp (F := Ideal) .f32 (constantI S_ 32 0#32)) pads_S3x1024_S8x1024_050_000 h_S_ := by
    unfold V V0
    simp only [hostOps0, hostOps0_1, List.flatten_cons, List.flatten_nil, List.append_nil, List.cons_append, List.nil_append]
    after_results
    rfl
  rw [hv]
  have h1 : (i 1).val < 1024 := (i 1).isLt
  refine (pad_apply_of_inside _ _ _ _ _ _ _ i (ix2 (⟨(i 0).val, h⟩ : Fin 3) (⟨(i 1).val, h1⟩ : Fin 1024))
    (fun a => by match a with
      | ⟨0, _⟩ => show (i 0).val = 0 + (i 0).val * (0 + 1); omega
      | ⟨1, _⟩ => show (i 1).val = 0 + (i 1).val * (0 + 1); omega)).trans ?_
  exact rd_eq _ _ rfl rfl

theorem blocks (c : Dev nD) (t : Fin cfg0.N) :
    Blocks (Ua m c) (Xa m c) (Ka m c) t.val (iblk m c 0 t) (iblk m c 1 t) (iblk m c 2 t) (iblk m c 3 t) (iblk m c 4 t) (iblk m c 5 t) where
  h0 j := by
    unfold iblk
    rw [View.read_apply]
    show V m c main_arg0 _ = _
    rw [V_main_arg0]
    refine rd_eq _ _ ?_ ?_
    · show win0_0.index t 0 * 512 + 1 * (j 0).val = _; rw [(ix_0 t).1]; omega
    · show win0_0.index t 1 * 1024 + 1 * (j 1).val = _; rw [(ix_0 t).2]; omega
  h1 ht j := by
    unfold iblk
    rw [View.read_apply]
    show V m c main_arg0 _ = _
    rw [V_main_arg0]
    refine rd_eq _ _ ?_ ?_
    · show win0_1.index t 0 * 16 + 1 * (j 0).val = _; rw [(ix_1 t).1]; omega
    · show win0_1.index t 1 * 1024 + 1 * (j 1).val = _; rw [(ix_1 t).2]; omega
  h2 j := by
    unfold iblk
    rw [View.read_apply]
    show V m c main_arg1 _ = _
    rw [V_main_arg1]
    refine rd_eq _ _ ?_ ?_
    · show win0_2.index t 0 * 512 + 1 * (j 0).val = _; rw [(ix_2 t).1]; omega
    · show win0_2.index t 1 * 3072 + 1 * (j 1).val = _; rw [(ix_2 t).2]; omega
  h3 ht j := by
    unfold iblk
    rw [View.read_apply]
    show V m c main_arg1 _ = _
    rw [V_main_arg1]
    refine rd_eq _ _ ?_ ?_
    · show win0_3.index t 0 * 16 + 1 * (j 0).val = _; rw [(ix_3 t).1]; omega
    · show win0_3.index t 1 * 3072 + 1 * (j 1).val = _; rw [(ix_3 t).2]; omega
  h4 ht j := by
    unfold iblk
    rw [View.read_apply]
    show V m c main_arg1 _ = _
    rw [V_main_arg1]
    refine rd_eq _ _ ?_ ?_
    · show win0_4.index t 0 * 16 + 1 * (j 0).val = _; rw [(ix_4 t).1]; omega
    · show win0_4.index t 1 * 3072 + 1 * (j 1).val = _; rw [(ix_4 t).2]; omega
  h5 j hj := by
    unfold iblk
    rw [View.read_apply]
    show V m c main_v0 _ = _
    have e0 : ∀ z : S8x1024.Idx, ((((cfg0.win 5).blk t).view.emb z : S8x1024.Idx) 0).val = (z 0).val := fun z => by
      show win0_5.index t 0 * 8 + 1 * (z 0).val = _; rw [(ix_5 t).1]; omega
    have e1 : ∀ z : S8x1024.Idx, ((((cfg0.win 5).blk t).view.emb z : S8x1024.Idx) 1).val = (z 1).val := fun z => by
      show win0_5.index t 1 * 1024 + 1 * (z 1).val = _; rw [(ix_5 t).2]; omega
    refine (V_taps m c _ ((e0 j).trans_lt hj)).trans ?_
    exact congrArg₂ (Ka m c) (e0 j) (e1 j)

end Cert.KernelIdeal.Conv
end
-- ==== Proof.ConvRun.lean ====
/- The contents after each point, the two result arrays, and the whole run. -/
module

public import proofs.«01_k».proof.Proof.ConvArray
public import Idealize.ShloMosaic.Lib.KernelVsHost
public import Idealize.ShloMosaic.Lib.StableHlo.Run
public import Idealize.ShloMosaic.Lib.Pointwise

@[expose] public section

set_option maxRecDepth 16384

noncomputable section

open Idealize.ShloMosaic hiding ix1 ix2 ix3
open Idealize.ShloMosaic.ValueIdx Idealize.ShloMosaic.TcCoe Idealize.SL.Sem

namespace Cert.KernelIdeal.Conv

open Cert.KernelIdeal Cert.KernelIdeal.Gen Cert.Conv
open Idealize.ShloMosaic.Pipeline (Dat)

variable (m : (ℓ : Loc nD τ sig) → Buf (Elt Ideal) ℓ) (ρ : Dev nD → PrngReg)

theorem fst_of {α β : Type} {p : α × β} {a c : α} {b : β} (h : p = (a, b)) (h' : a = c) : p.1 = c := by subst h; exact h'
theorem snd_of {α β : Type} {p : α × β} {a : α} {b c : β} (h : p = (a, b)) (h' : b = c) : p.2 = c := by subst h; exact h'

theorem outs_1 (c : Dev nD) (t : Fin cfg0.N) : (outsAt0 m c t.val t.isLt).1
    = fun y => DX (Ka m c) (Ua m c) (Xa m c) (512 * t.val + (y 0).val) (y 1).val := by
  have hN := N16
  have ht := t.isLt
  by_cases h0 : t.val % 16 = 0
  · exact fst_of (outsAt0_A m c t h0) (out_A_6 (U := Ua m c) (X := Xa m c) (K := Ka m c) (t := t.val) (x0 := iblk m c 0 t) (x1 := iblk m c 1 t) (x2 := iblk m c 2 t) (x3 := iblk m c 3 t) (x4 := iblk m c 4 t) (x5 := iblk m c 5 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0)  (co_0 t) (by omega) (blocks m c t))
  · exact fst_of (outsAt0_B m c t h0) (out_B_6 (U := Ua m c) (X := Xa m c) (K := Ka m c) (t := t.val) (x0 := iblk m c 0 t) (x1 := iblk m c 1 t) (x2 := iblk m c 2 t) (x3 := iblk m c 3 t) (x4 := iblk m c 4 t) (x5 := iblk m c 5 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (outsAt0 m c (t.val - 1) (Nat.lt_of_le_of_lt (Nat.sub_le _ _) t.isLt)).2 (co_0 t) (by omega) (blocks m c t))

theorem outs_2_A (c : Dev nD) (t : Fin cfg0.N) (h0 : t.val % 16 = 0) : (outsAt0 m c t.val t.isLt).2
    = fun y => DKb (Ua m c) (Xa m c) t.val (y 0).val (y 1).val (y 2).val := by
  have hN := N16
  have ht := t.isLt
  exact snd_of (outsAt0_A m c t h0) (out_A_7 (U := Ua m c) (X := Xa m c) (K := Ka m c) (t := t.val) (x0 := iblk m c 0 t) (x1 := iblk m c 1 t) (x2 := iblk m c 2 t) (x3 := iblk m c 3 t) (x4 := iblk m c 4 t) (x5 := iblk m c 5 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0)  (co_0 t) (by omega) (blocks m c t))

theorem outs_2_B (c : Dev nD) (t : Fin cfg0.N) (h0 : ¬t.val % 16 = 0) : (outsAt0 m c t.val t.isLt).2
    = fun y => (outsAt0 m c (t.val - 1) (Nat.lt_of_le_of_lt (Nat.sub_le _ _) t.isLt)).2 y + DKb (Ua m c) (Xa m c) t.val (y 0).val (y 1).val (y 2).val := by
  have hN := N16
  have ht := t.isLt
  exact snd_of (outsAt0_B m c t h0) (out_B_7 (U := Ua m c) (X := Xa m c) (K := Ka m c) (t := t.val) (x0 := iblk m c 0 t) (x1 := iblk m c 1 t) (x2 := iblk m c 2 t) (x3 := iblk m c 3 t) (x4 := iblk m c 4 t) (x5 := iblk m c 5 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (outsAt0 m c (t.val - 1) (Nat.lt_of_le_of_lt (Nat.sub_le _ _) t.isLt)).2 (co_0 t) (by omega) (blocks m c t))

/-- The taps' sums after point `n`. -/
theorem outs_2 (c : Dev nD) : ∀ (n : ℕ) (h : n < cfg0.N), (outsAt0 m c n h).2
    = fun y => ∑ t ∈ Finset.range (n + 1), DKb (Ua m c) (Xa m c) t (y 0).val (y 1).val (y 2).val
  | 0, h => by
    refine (outs_2_A m c ⟨0, h⟩ rfl).trans ?_
    funext y
    rw [Finset.sum_range_one]
  | n + 1, h => by
    have hN := N16
    refine (outs_2_B m c ⟨n + 1, h⟩ (by dsimp only; omega)).trans ?_
    funext y
    rw [Finset.sum_range_succ]
    exact congrArg (· + DKb (Ua m c) (Xa m c) (n + 1) (y 0).val (y 1).val (y 2).val) (congrFun (outs_2 c n (Nat.lt_of_succ_lt h)) y)

/-- The gradient of the three thirds, as an array. -/
def res0 (c : Dev nD) : S8192x3072.Idx → EReal := fun i => DX (Ka m c) (Ua m c) (Xa m c) (i 0).val (i 1).val

theorem final_6 (c : Dev nD) : (dats m 0 c).arrAt 6 cfg0.N = res0 m c := by
  refine (dats m 0 c).arrAt_eq_of_cover 6 (res0 m c) (fun t _ => ?_) fun (i : S8192x3072.Idx) => ?_
  · show (cfg0.win 6).cut (grid0.coords t) ((dats m 0 c).after 6 t) = _
    rw [after0_6, outs_1]
    funext y
    rw [View.read_apply]
    show DX _ _ _ (512 * t.val + (y 0).val) (y 1).val = DX _ _ _ (win0_6.index t 0 * 512 + 1 * (y 0).val) (win0_6.index t 1 * 3072 + 1 * (y 1).val)
    rw [(ix_6 t).1, (ix_6 t).2]
    exact congrArg₂ (DX _ _ _) (by omega) (by omega)
  · have hN := N16
    have h0 : (i 0 : Nat) < 8192 := (i 0).isLt
    have h1 : (i 1 : Nat) < 3072 := (i 1).isLt
    have ht : (i 0 : Nat) / 512 < cfg0.N := by omega
    refine ⟨⟨(i 0 : Nat) / 512, ht⟩, flush0_6 _, ?_⟩
    show i ∈ ((View.whole main_v1_0).slice (win0_6.rect ⟨(i 0 : Nat) / 512, ht⟩)).set
    rw [View.set_slice_whole, Rect.mem_set_unit]
    intro a
    match a with
    | ⟨0, _⟩ =>
      show win0_6.index _ 0 * 512 ≤ (i 0 : Nat) ∧ (i 0 : Nat) < win0_6.index _ 0 * 512 + 512
      rw [(ix_6 _).1]; show (i 0 : Nat) / 512 * 512 ≤ _ ∧ _ < (i 0 : Nat) / 512 * 512 + 512; omega
    | ⟨1, _⟩ =>
      show win0_6.index _ 1 * 3072 ≤ (i 1 : Nat) ∧ (i 1 : Nat) < win0_6.index _ 1 * 3072 + 3072
      rw [(ix_6 _).2]; omega

/-- The taps' sums, as an array. -/
def sums (c : Dev nD) : S3x8x1024.Idx → EReal := fun y => ∑ t ∈ Finset.range 16, DKb (Ua m c) (Xa m c) t (y 0).val (y 1).val (y 2).val

theorem final_7 (c : Dev nD) : (dats m 0 c).arrAt 7 cfg0.N = sums m c := by
  have hN := N16
  refine (dats m 0 c).arrAt_eq_of_cover 7 (sums m c) (fun t hf => ?_) fun (i : S3x8x1024.Idx) => ?_
  · have ht : t.val = 15 := by have := (flush0_7 t).mp hf; have := t.isLt; omega
    show (cfg0.win 7).cut (grid0.coords t) ((dats m 0 c).after 7 t) = _
    rw [after0_7, outs_2, ht]
    funext y
    rw [View.read_apply]
    show (∑ t ∈ Finset.range 16, DKb _ _ t (y 0).val (y 1).val (y 2).val) = ∑ u ∈ Finset.range 16, DKb _ _ u (win0_7.index t 0 * 3 + 1 * (y 0).val) (win0_7.index t 1 * 8 + 1 * (y 1).val) (win0_7.index t 2 * 1024 + 1 * (y 2).val)
    rw [(ix_7 t).1, (ix_7 t).2.1, (ix_7 t).2.2]
    simp only [Nat.zero_mul, Nat.zero_add, Nat.one_mul]
  · have h0 : (i 0 : Nat) < 3 := (i 0).isLt
    have h1 : (i 1 : Nat) < 8 := (i 1).isLt
    have h2 : (i 2 : Nat) < 1024 := (i 2).isLt
    refine ⟨t0_15, (flush0_7 _).mpr rfl, ?_⟩
    show i ∈ ((View.whole main_v1_1).slice (win0_7.rect t0_15)).set
    rw [View.set_slice_whole, Rect.mem_set_unit]
    intro a
    match a with
    | ⟨0, _⟩ =>
      show win0_7.index t0_15 0 * 3 ≤ (i 0 : Nat) ∧ (i 0 : Nat) < win0_7.index t0_15 0 * 3 + 3
      rw [(ix_7 _).1]; omega
    | ⟨1, _⟩ =>
      show win0_7.index t0_15 1 * 8 ≤ (i 1 : Nat) ∧ (i 1 : Nat) < win0_7.index t0_15 1 * 8 + 8
      rw [(ix_7 _).2.1]; omega
    | ⟨2, _⟩ =>
      show win0_7.index t0_15 2 * 1024 ≤ (i 2 : Nat) ∧ (i 2 : Nat) < win0_7.index t0_15 2 * 1024 + 1024
      rw [(ix_7 _).2.2]; omega

/-- The taps' gradient, as an array. -/
def res1 (c : Dev nD) : S3x1024.Idx → EReal := fun i => ∑ s : Fin 8, ∑ t ∈ Finset.range 16, DKb (Ua m c) (Xa m c) t (i 0).val s.val (i 1).val

theorem tail_v2 (c : Dev nD) : Pipeline.afterTail₀ cfgs (dats m) 0 (V0 m) [hostOps1] c main_v2 = res1 m c := by
  have e : Pipeline.afterTail₀ cfgs (dats m) 0 (V0 m) [hostOps1] c main_v2
      = Host.reduceAdd (F := Ideal) (sums m c) (constant S_ .f32 0x00000000#32) reducesTo_S3x8x1024_S3x1024_d1 h_S_ := by
    unfold Pipeline.afterTail₀
    simp only [hostOps1, List.flatten_cons, List.flatten_nil, List.append_nil]
    after_results
    exact congrArg (fun x => Host.reduceAdd (F := Ideal) x (constant S_ .f32 0x00000000#32) reducesTo_S3x8x1024_S3x1024_d1 h_S_)
      (((dats m 0 c).withArrays_arrAt (by decide) (V0 m c) (fun w => A_eq m c w) 7).trans (final_7 m c))
  rw [e]
  funext i
  show Ideal.hostReduceAdd reducesTo_S3x8x1024_S3x1024_d1 (sums m c) (Ideal.ofBits .f32 0x00000000#32) i = res1 m c i
  rw [Ideal.hostReduceAdd_r3_a1, Ideal.ofBits_zero_f32, zero_add]
  rfl

/-- The run: both results, the arguments unchanged. -/
theorem run : θ_run defs (onTc (τ := τ) (main (F := Ideal))) ⟨m, fun _ => 0, ρ⟩ fun r => ∀ c : Dev nD,
      r.2.mem ((c.tc : Thread nD τ).loc main_v1_0) = res0 m c
      ∧ r.2.mem ((c.tc : Thread nD τ).loc main_v2) = res1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 6).trans (final_6 m c),
    ((h c).2 main_v2 (Pipeline.mem_restRefs_of main_v2 (by decide) (by decide))).trans (tail_v2 m c),
    ((h c).1 1).trans (((dats m 0 c).arrAt_in 1 rfl _).trans ((A_eq m c 1).trans (V_main_arg0 m c))),
    ((h c).1 4).trans (((dats m 0 c).arrAt_in 4 rfl _).trans ((A_eq m c 4).trans (V_main_arg1 m c))),
    ((h c).2 main_arg2 (Pipeline.mem_restRefs_of main_arg2 (by decide) (by decide))).trans (W_main_arg2 m (dats m) c)⟩)
    (run_main m ρ)

end Cert.KernelIdeal.Conv
end
-- ==== Proof.ConvRef.lean ====
/- The reference at an index: the gradient of the three thirds row by row, and the taps' sums over all rows. -/
module

public import proofs.«01_k».proof.Proof.ConvRun
public import proofs.«01_k».proof.Proof.Gen.ReferenceIdeal.Read

@[expose] public section

set_option maxRecDepth 16384

noncomputable section

open Idealize.ShloMosaic hiding ix1 ix2 ix3
open Idealize.ShloMosaic.ValueIdx

namespace Cert.Conv

/-- The taps' gradient: the sum over all rows. -/
def DK (U X : ℕ → ℕ → EReal) (k d : ℕ) : EReal := ∑ g : Fin 8192, DC U X g.val d * Zs X (2 - k) g.val d

end Cert.Conv

namespace Cert.ReferenceIdeal.Conv

open Cert.ReferenceIdeal Cert.ReferenceIdeal.Gen Cert.ReferenceIdeal.Read Cert.Conv

/-- The output's cotangent. -/
abbrev Ur (x0 : S8192x1024.Idx → EReal) : ℕ → ℕ → EReal := rd (n := 8192) (k := 1024) x0
/-- The three thirds side by side. -/
abbrev Xr (x1 : S8192x3072.Idx → EReal) : ℕ → ℕ → EReal := rd (n := 8192) (k := 3072) x1
/-- The taps. -/
abbrev Kr (x2 : S3x1024.Idx → EReal) : ℕ → ℕ → EReal := rd (n := 3) (k := 1024) x2

variable (x0 : S8192x1024.Idx → EReal) (x1 : S8192x3072.Idx → EReal) (x2 : S3x1024.Idx → EReal)

theorem v1_at (i : S8192x1024.Idx) : val_main_v1 (F := Ideal) x1 i = (Xr x1) (i 0).val (i 1).val := by
  rw [val_main_v1_apply, val_main_v0_apply]
  exact rd_eq x1 _ rfl rfl
theorem v2_at (i : S8192x1024.Idx) : val_main_v2 (F := Ideal) x1 i = (Xr x1) (i 0).val (1024 + (i 1).val) := by
  rw [val_main_v2_apply, val_main_v0_apply]
  exact rd_eq x1 _ rfl rfl
theorem v3_at (i : S8192x1024.Idx) : val_main_v3 (F := Ideal) x1 i = (Xr x1) (i 0).val (2048 + (i 1).val) := by
  rw [val_main_v3_apply, val_main_v0_apply]
  exact rd_eq x1 _ rfl rfl
theorem v4_at (i : S8192x1024.Idx) : val_main_v4 (F := Ideal) x1 i = Z (Xr x1) (i 0).val (i 1).val :=
  congrArg₂ (· * ·) (v2_at x1 i) (v3_at x1 i)

theorem v6_at (j : S8194x1024.Idx) : val_main_v6 (F := Ideal) x1 j = Zs (Xr x1) 2 (j 0).val (j 1).val := by
  have h0 : (j 0).val < 8194 := (j 0).isLt
  have h1 : (j 1).val < 1024 := (j 1).isLt
  unfold val_main_v6
  by_cases h : (j 0).val < 2
  · rw [concatenate_pair_apply_left (s₁ := S2x1024) (s₂ := S8192x1024) 0 _ _ _ j rfl (ix2 (⟨(j 0).val, h⟩ : Fin 2) (⟨(j 1).val, h1⟩ : Fin 1024))
      (fun b => by match b with | ⟨0, _⟩ => rfl | ⟨1, _⟩ => rfl), val_main_v5_apply, Zs, if_neg (by omega)]
    exact Ideal.ofBits_zero_f32
  · rw [concatenate_pair_apply_right (s₁ := S2x1024) (s₂ := S8192x1024) 0 _ _ _ j rfl rfl (ix2 (⟨(j 0).val - 2, by omega⟩ : Fin 8192) (⟨(j 1).val, h1⟩ : Fin 1024))
      (fun b hb => by match b with | ⟨0, _⟩ => exact absurd rfl hb | ⟨1, _⟩ => rfl) (by show (j 0).val - 2 + 2 = (j 0).val; omega),
      v4_at, Zs, if_pos (by omega)]

theorem v10_at (i : S8192x1024.Idx) : val_main_v10 (F := Ideal) x1 i = Zs (Xr x1) 2 (i 0).val (i 1).val := by
  rw [val_main_v10_apply, v6_at]
theorem v18_at (i : S8192x1024.Idx) : val_main_v18 (F := Ideal) x1 i = Zs (Xr x1) 1 (i 0).val (i 1).val := by
  rw [val_main_v18_apply, v6_at]
  show Zs (Xr x1) 2 (1 + (i 0).val) (i 1).val = _
  unfold Zs
  by_cases h : 1 ≤ (i 0).val
  · rw [if_pos (by omega), if_pos h, show 1 + (i 0).val - 2 = (i 0).val - 1 by omega]
  · rw [if_neg (by omega), if_neg h]
theorem v25_at (i : S8192x1024.Idx) : val_main_v25 (F := Ideal) x1 i = Z (Xr x1) (i 0).val (i 1).val := by
  rw [val_main_v25_apply, v6_at]
  show Zs (Xr x1) 2 (2 + (i 0).val) (i 1).val = _
  rw [Zs, if_pos (by omega), show 2 + (i 0).val - 2 = (i 0).val by omega]

theorem v11_at (i : S1x1024.Idx) : val_main_v11 (F := Ideal) x2 i = (Kr x2) 0 (i 1).val := by
  have h1 : (i 1).val < 1024 := (i 1).isLt
  rw [val_main_v11_apply, val_main_v9_apply, val_main_v8_apply]
  exact rd_eq x2 _ rfl (by show (i 1).val % 1024 = _; omega)
theorem v12_at (i : S8192x1024.Idx) : val_main_v12 (F := Ideal) x2 i = (Kr x2) 0 (i 1).val := by
  rw [val_main_v12_apply, v11_at]
theorem v54_at (i : S8192x1024.Idx) : val_main_v54 (F := Ideal) x2 i = (Kr x2) 0 (i 1).val := by
  rw [val_main_v54_apply, v11_at]
theorem v19_at (i : S1x1024.Idx) : val_main_v19 (F := Ideal) x2 i = (Kr x2) 1 (i 1).val := by
  have h1 : (i 1).val < 1024 := (i 1).isLt
  rw [val_main_v19_apply, val_main_v17_apply, val_main_v16_apply]
  exact rd_eq x2 _ rfl (by show (i 1).val % 1024 = _; omega)
theorem v20_at (i : S8192x1024.Idx) : val_main_v20 (F := Ideal) x2 i = (Kr x2) 1 (i 1).val := by
  rw [val_main_v20_apply, v19_at]
theorem v43_at (i : S8192x1024.Idx) : val_main_v43 (F := Ideal) x2 i = (Kr x2) 1 (i 1).val := by
  rw [val_main_v43_apply, v19_at]
theorem v26_at (i : S1x1024.Idx) : val_main_v26 (F := Ideal) x2 i = (Kr x2) 2 (i 1).val := by
  have h1 : (i 1).val < 1024 := (i 1).isLt
  rw [val_main_v26_apply, val_main_v24_apply, val_main_v23_apply]
  exact rd_eq x2 _ rfl (by show (i 1).val % 1024 = _; omega)
theorem v27_at (i : S8192x1024.Idx) : val_main_v27 (F := Ideal) x2 i = (Kr x2) 2 (i 1).val := by
  rw [val_main_v27_apply, v26_at]
theorem v34_at (i : S8192x1024.Idx) : val_main_v34 (F := Ideal) x2 i = (Kr x2) 2 (i 1).val := by
  rw [val_main_v34_apply, v26_at]

theorem v29_at (i : S8192x1024.Idx) : val_main_v29 (F := Ideal) x1 x2 i = CV (Kr x2) (Xr x1) (i 0).val (i 1).val := by
  show Ideal.ofBits .f32 0x00000000#32 + val_main_v12 (F := Ideal) x2 i * val_main_v10 (F := Ideal) x1 i
    + val_main_v20 (F := Ideal) x2 i * val_main_v18 (F := Ideal) x1 i + val_main_v27 (F := Ideal) x2 i * val_main_v25 (F := Ideal) x1 i = _
  rw [Ideal.ofBits_zero_f32, zero_add, v12_at, v10_at, v20_at, v18_at, v27_at, v25_at]
  rfl
theorem v32_at (i : S8192x1024.Idx) : val_main_v32 (F := Ideal) x0 x1 i = DC (Ur x0) (Xr x1) (i 0).val (i 1).val := by
  have h0 : (i 0).val < 8192 := (i 0).isLt
  show val_main_v1 (F := Ideal) x1 i * x0 i = _
  rw [v1_at, DC, if_pos h0, rd_eq x0 i rfl rfl, mul_comm]
theorem v33_at (i : S8192x1024.Idx) : val_main_v33 (F := Ideal) x0 x1 x2 i = (Ur x0) (i 0).val (i 1).val * CV (Kr x2) (Xr x1) (i 0).val (i 1).val := by
  show x0 i * val_main_v29 (F := Ideal) x1 x2 i = _
  rw [v29_at, rd_eq x0 i rfl rfl]

theorem v35_at (i : S8192x1024.Idx) : val_main_v35 (F := Ideal) x0 x1 x2 i = (Kr x2) 2 (i 1).val * DC (Ur x0) (Xr x1) (i 0).val (i 1).val := by
  show val_main_v34 (F := Ideal) x2 i * val_main_v32 (F := Ideal) x0 x1 i = _
  rw [v34_at, v32_at]
theorem v40_at (j : S8194x1024.Idx) (h : 2 ≤ (j 0).val) : val_main_v40 (F := Ideal) x0 x1 x2 j = (Kr x2) 2 (j 1).val * DC (Ur x0) (Xr x1) ((j 0).val - 2) (j 1).val := by
  have h0 : (j 0).val < 8194 := (j 0).isLt
  have h1 : (j 1).val < 1024 := (j 1).isLt
  unfold val_main_v40
  by_cases hb : (j 0).val - 2 < 8192
  · refine (pad_apply_of_inside _ _ _ _ _ _ _ j (ix2 (⟨(j 0).val - 2, hb⟩ : Fin 8192) (⟨(j 1).val, h1⟩ : Fin 1024))
      (fun a => by match a with
        | ⟨0, _⟩ => show (j 0).val = 2 + ((j 0).val - 2) * (0 + 1); omega
        | ⟨1, _⟩ => show (j 1).val = 0 + (j 1).val * (0 + 1); omega)).trans ?_
    rw [v35_at]
  · refine (pad_apply_of_not_inside _ _ _ _ _ _ _ j (0 : Fin 2) (fun h => hb ?_)).trans ?_
    · have h2 : ((j 0).val - 2) / (0 + 1) < 8192 := h.2.2
      omega
    · rw [DC, if_neg hb, mul_zero]
      exact Ideal.ofBits_zero_f32
theorem v44_at (i : S8192x1024.Idx) : val_main_v44 (F := Ideal) x0 x1 x2 i = (Kr x2) 1 (i 1).val * DC (Ur x0) (Xr x1) (i 0).val (i 1).val := by
  show val_main_v43 (F := Ideal) x2 i * val_main_v32 (F := Ideal) x0 x1 i = _
  rw [v43_at, v32_at]
theorem v49_at (j : S8194x1024.Idx) (h : 2 ≤ (j 0).val) : val_main_v49 (F := Ideal) x0 x1 x2 j = (Kr x2) 1 (j 1).val * DC (Ur x0) (Xr x1) ((j 0).val - 1) (j 1).val := by
  have h0 : (j 0).val < 8194 := (j 0).isLt
  have h1 : (j 1).val < 1024 := (j 1).isLt
  unfold val_main_v49
  by_cases hb : (j 0).val - 1 < 8192
  · refine (pad_apply_of_inside _ _ _ _ _ _ _ j (ix2 (⟨(j 0).val - 1, hb⟩ : Fin 8192) (⟨(j 1).val, h1⟩ : Fin 1024))
      (fun a => by match a with
        | ⟨0, _⟩ => show (j 0).val = 1 + ((j 0).val - 1) * (0 + 1); omega
        | ⟨1, _⟩ => show (j 1).val = 0 + (j 1).val * (0 + 1); omega)).trans ?_
    rw [v44_at]
  · refine (pad_apply_of_not_inside _ _ _ _ _ _ _ j (0 : Fin 2) (fun h => hb ?_)).trans ?_
    · have h2 : ((j 0).val - 1) / (0 + 1) < 8192 := h.2.2
      omega
    · rw [DC, if_neg hb, mul_zero]
      exact Ideal.ofBits_zero_f32
theorem v55_at (i : S8192x1024.Idx) : val_main_v55 (F := Ideal) x0 x1 x2 i = (Kr x2) 0 (i 1).val * DC (Ur x0) (Xr x1) (i 0).val (i 1).val := by
  show val_main_v54 (F := Ideal) x2 i * val_main_v32 (F := Ideal) x0 x1 i = _
  rw [v54_at, v32_at]
theorem v60_at (j : S8194x1024.Idx) (h : 2 ≤ (j 0).val) : val_main_v60 (F := Ideal) x0 x1 x2 j = (Kr x2) 0 (j 1).val * DC (Ur x0) (Xr x1) ((j 0).val - 0) (j 1).val := by
  have h0 : (j 0).val < 8194 := (j 0).isLt
  have h1 : (j 1).val < 1024 := (j 1).isLt
  unfold val_main_v60
  by_cases hb : (j 0).val - 0 < 8192
  · refine (pad_apply_of_inside _ _ _ _ _ _ _ j (ix2 (⟨(j 0).val - 0, hb⟩ : Fin 8192) (⟨(j 1).val, h1⟩ : Fin 1024))
      (fun a => by match a with
        | ⟨0, _⟩ => show (j 0).val = 0 + ((j 0).val - 0) * (0 + 1); omega
        | ⟨1, _⟩ => show (j 1).val = 0 + (j 1).val * (0 + 1); omega)).trans ?_
    rw [v55_at]
  · refine (pad_apply_of_not_inside _ _ _ _ _ _ _ j (0 : Fin 2) (fun h => hb ?_)).trans ?_
    · have h2 : ((j 0).val - 0) / (0 + 1) < 8192 := h.2.2
      omega
    · rw [DC, if_neg hb, mul_zero]
      exact Ideal.ofBits_zero_f32

theorem v66_at (i : S8192x1024.Idx) : val_main_v66 (F := Ideal) x0 x1 x2 i = DZ (Kr x2) (Ur x0) (Xr x1) (i 0).val (i 1).val := by
  rw [val_main_v66_apply]
  show val_main_v40 (F := Ideal) x0 x1 x2 (idx_main_v66 i) + val_main_v49 (F := Ideal) x0 x1 x2 (idx_main_v66 i)
    + val_main_v60 (F := Ideal) x0 x1 x2 (idx_main_v66 i) = _
  have h : 2 ≤ ((idx_main_v66 i) 0).val := by show 2 ≤ 2 + (i 0).val; omega
  rw [v40_at x0 x1 x2 _ h, v49_at x0 x1 x2 _ h, v60_at x0 x1 x2 _ h]
  show (Kr x2) 2 (i 1).val * DC (Ur x0) (Xr x1) (2 + (i 0).val - 2) (i 1).val + (Kr x2) 1 (i 1).val * DC (Ur x0) (Xr x1) (2 + (i 0).val - 1) (i 1).val
    + (Kr x2) 0 (i 1).val * DC (Ur x0) (Xr x1) (2 + (i 0).val - 0) (i 1).val = _
  rw [show 2 + (i 0).val - 2 = (i 0).val by omega, show 2 + (i 0).val - 1 = (i 0).val + 1 by omega, show 2 + (i 0).val - 0 = (i 0).val + 2 by omega]
  rfl

theorem v69_piece (j : S8192x3072.Idx) (k : ℕ) (hk : k < 3) (v : S8192x1024.Idx → EReal)
    (hx : ([⟨S8192x1024, val_main_v33 (F := Ideal) x0 x1 x2⟩, ⟨S8192x1024, val_main_v68 (F := Ideal) x0 x1 x2⟩, ⟨S8192x1024, val_main_v67 (F := Ideal) x0 x1 x2⟩] :
      List ((s : Shape) × (s.Idx → EReal)))[k] = ⟨S8192x1024, v⟩)
    (hpre : (((([⟨S8192x1024, val_main_v33 (F := Ideal) x0 x1 x2⟩, ⟨S8192x1024, val_main_v68 (F := Ideal) x0 x1 x2⟩, ⟨S8192x1024, val_main_v67 (F := Ideal) x0 x1 x2⟩] :
      List ((s : Shape) × (s.Idx → EReal))).take k).map (·.1)).map fun s => if h : s.rank = S8192x3072.rank then s.size ((1 : Fin S8192x3072.rank).cast h.symm) else 0).sum = 1024 * k)
    (hlo : 1024 * k ≤ (j 1).val) (hhi : (j 1).val - 1024 * k < 1024) :
    val_main_v69 (F := Ideal) x0 x1 x2 j = v (ix2 (⟨(j 0).val, (j 0).isLt⟩ : Fin 8192) (⟨(j 1).val - 1024 * k, hhi⟩ : Fin 1024)) := by
  unfold val_main_v69
  exact concatenate_apply_piece (t := S8192x3072) 1 [⟨S8192x1024, val_main_v33 (F := Ideal) x0 x1 x2⟩, ⟨S8192x1024, val_main_v68 (F := Ideal) x0 x1 x2⟩, ⟨S8192x1024, val_main_v67 (F := Ideal) x0 x1 x2⟩] concatenates_S8192x1024_S8192x1024_S8192x1024_S8192x3072_d1 j k hk S8192x1024 v hx rfl (1024 * k) hpre _
    (fun b hb => by match b with | ⟨0, _⟩ => rfl | ⟨1, _⟩ => exact absurd rfl hb)
    (by show 1024 * k + ((j 1).val - 1024 * k) = (j 1).val; omega)

theorem v70_at (j : S8192x3072.Idx) : val_main_v70 (F := Ideal) x0 x1 x2 j = DX (Kr x2) (Ur x0) (Xr x1) (j 0).val (j 1).val := by
  have h1 : (j 1).val < 3072 := (j 1).isLt
  show val_main_v69 (F := Ideal) x0 x1 x2 j = _
  unfold DX
  by_cases ha : (j 1).val < 1024
  · rw [v69_piece x0 x1 x2 j 0 (by decide) _ rfl rfl (by omega) (by omega), v33_at, if_pos ha]
    rfl
  · rw [if_neg ha]
    by_cases hb : (j 1).val < 2048
    · rw [v69_piece x0 x1 x2 j 1 (by decide) _ rfl rfl (by omega) (by omega), if_pos hb]
      show val_main_v66 (F := Ideal) x0 x1 x2 _ * val_main_v3 (F := Ideal) x1 _ = _
      rw [v66_at, v3_at]
    · rw [v69_piece x0 x1 x2 j 2 (by decide) _ rfl rfl (by omega) (by omega), if_neg hb]
      show val_main_v2 (F := Ideal) x1 _ * val_main_v66 (F := Ideal) x0 x1 x2 _ = _
      rw [v66_at, v2_at, mul_comm]

theorem v41_at (i : S1x1024.Idx) : val_main_v41 (F := Ideal) x0 x1 i = DK (Ur x0) (Xr x1) 2 (i 1).val := by
  have h1 : (i 1).val < 1024 := (i 1).isLt
  rw [val_main_v41_apply, val_main_v39_apply, Fin.sum_univ_one, val_main_v38_apply, val_main_v37_apply]
  show Ideal.ofBits .f32 0x00000000#32 + (Ideal.ofBits .f32 0x00000000#32 + _) = _
  rw [Ideal.ofBits_zero_f32, zero_add, zero_add]
  refine Finset.sum_congr rfl fun g _ => ?_
  show val_main_v32 (F := Ideal) x0 x1 _ * val_main_v25 (F := Ideal) x1 _ = _
  rw [v32_at, v25_at]
  show DC (Ur x0) (Xr x1) g.val (0 * 1024 + (i 1).val) * _ = _
  rw [Nat.zero_mul, Nat.zero_add]
  rw [show 2 - 2 = 0 from rfl, Cert.KernelIdeal.Conv.Zs_zero]
  first | rfl | (congr 1; simp)
theorem v42_at (j : S3x1024.Idx) : val_main_v42 (F := Ideal) x0 x1 j = if (j 0).val = 2 then DK (Ur x0) (Xr x1) 2 (j 1).val else 0 := by
  have h0 : (j 0).val < 3 := (j 0).isLt
  have h1 : (j 1).val < 1024 := (j 1).isLt
  unfold val_main_v42
  by_cases hb : (j 0).val = 2
  · rw [if_pos hb]
    refine (pad_apply_of_inside _ _ _ _ _ _ _ j (ix2 (0 : Fin 1) (⟨(j 1).val, h1⟩ : Fin 1024))
      (fun a => by match a with
        | ⟨0, _⟩ => show (j 0).val = 2 + 0 * (0 + 1); omega
        | ⟨1, _⟩ => show (j 1).val = 0 + (j 1).val * (0 + 1); omega)).trans ?_
    rw [v41_at]
  · rw [if_neg hb]
    refine (pad_apply_of_not_inside _ _ _ _ _ _ _ j (0 : Fin 2) (fun h => hb ?_)).trans ?_
    · have h3 : 2 ≤ (j 0).val := h.1
      have h2 : ((j 0).val - 2) / (0 + 1) < 1 := h.2.2
      omega
    · exact Ideal.ofBits_zero_f32

theorem v51_at (i : S1x1024.Idx) : val_main_v51 (F := Ideal) x0 x1 i = DK (Ur x0) (Xr x1) 1 (i 1).val := by
  have h1 : (i 1).val < 1024 := (i 1).isLt
  rw [val_main_v51_apply, val_main_v48_apply, Fin.sum_univ_one, val_main_v47_apply, val_main_v46_apply]
  show Ideal.ofBits .f32 0x00000000#32 + (Ideal.ofBits .f32 0x00000000#32 + _) = _
  rw [Ideal.ofBits_zero_f32, zero_add, zero_add]
  refine Finset.sum_congr rfl fun g _ => ?_
  show val_main_v32 (F := Ideal) x0 x1 _ * val_main_v18 (F := Ideal) x1 _ = _
  rw [v32_at, v18_at]
  show DC (Ur x0) (Xr x1) g.val (0 * 1024 + (i 1).val) * _ = _
  rw [Nat.zero_mul, Nat.zero_add]
  skip
  first | rfl | (congr 1; simp)
theorem v52_at (j : S3x1024.Idx) : val_main_v52 (F := Ideal) x0 x1 j = if (j 0).val = 1 then DK (Ur x0) (Xr x1) 1 (j 1).val else 0 := by
  have h0 : (j 0).val < 3 := (j 0).isLt
  have h1 : (j 1).val < 1024 := (j 1).isLt
  unfold val_main_v52
  by_cases hb : (j 0).val = 1
  · rw [if_pos hb]
    refine (pad_apply_of_inside _ _ _ _ _ _ _ j (ix2 (0 : Fin 1) (⟨(j 1).val, h1⟩ : Fin 1024))
      (fun a => by match a with
        | ⟨0, _⟩ => show (j 0).val = 1 + 0 * (0 + 1); omega
        | ⟨1, _⟩ => show (j 1).val = 0 + (j 1).val * (0 + 1); omega)).trans ?_
    rw [v51_at]
  · rw [if_neg hb]
    refine (pad_apply_of_not_inside _ _ _ _ _ _ _ j (0 : Fin 2) (fun h => hb ?_)).trans ?_
    · have h3 : 1 ≤ (j 0).val := h.1
      have h2 : ((j 0).val - 1) / (0 + 1) < 1 := h.2.2
      omega
    · exact Ideal.ofBits_zero_f32

theorem v62_at (i : S1x1024.Idx) : val_main_v62 (F := Ideal) x0 x1 i = DK (Ur x0) (Xr x1) 0 (i 1).val := by
  have h1 : (i 1).val < 1024 := (i 1).isLt
  rw [val_main_v62_apply, val_main_v59_apply, Fin.sum_univ_one, val_main_v58_apply, val_main_v57_apply]
  show Ideal.ofBits .f32 0x00000000#32 + (Ideal.ofBits .f32 0x00000000#32 + _) = _
  rw [Ideal.ofBits_zero_f32, zero_add, zero_add]
  refine Finset.sum_congr rfl fun g _ => ?_
  show val_main_v32 (F := Ideal) x0 x1 _ * val_main_v10 (F := Ideal) x1 _ = _
  rw [v32_at, v10_at]
  show DC (Ur x0) (Xr x1) g.val (0 * 1024 + (i 1).val) * _ = _
  rw [Nat.zero_mul, Nat.zero_add]
  skip
  first | rfl | (congr 1; simp)
theorem v63_at (j : S3x1024.Idx) : val_main_v63 (F := Ideal) x0 x1 j = if (j 0).val = 0 then DK (Ur x0) (Xr x1) 0 (j 1).val else 0 := by
  have h0 : (j 0).val < 3 := (j 0).isLt
  have h1 : (j 1).val < 1024 := (j 1).isLt
  unfold val_main_v63
  by_cases hb : (j 0).val = 0
  · rw [if_pos hb]
    refine (pad_apply_of_inside _ _ _ _ _ _ _ j (ix2 (0 : Fin 1) (⟨(j 1).val, h1⟩ : Fin 1024))
      (fun a => by match a with
        | ⟨0, _⟩ => show (j 0).val = 0 + 0 * (0 + 1); omega
        | ⟨1, _⟩ => show (j 1).val = 0 + (j 1).val * (0 + 1); omega)).trans ?_
    rw [v62_at]
  · rw [if_neg hb]
    refine (pad_apply_of_not_inside _ _ _ _ _ _ _ j (0 : Fin 2) (fun h => hb ?_)).trans ?_
    · have h3 : 0 ≤ (j 0).val := h.1
      have h2 : ((j 0).val - 0) / (0 + 1) < 1 := h.2.2
      omega
    · exact Ideal.ofBits_zero_f32

theorem v64_at (j : S3x1024.Idx) : val_main_v64 (F := Ideal) x0 x1 j = DK (Ur x0) (Xr x1) (j 0).val (j 1).val := by
  have h0 : (j 0).val < 3 := (j 0).isLt
  show val_main_v42 (F := Ideal) x0 x1 j + val_main_v52 (F := Ideal) x0 x1 j + val_main_v63 (F := Ideal) x0 x1 j = _
  rw [v42_at, v52_at, v63_at]
  obtain h | h | h : (j 0).val = 0 ∨ (j 0).val = 1 ∨ (j 0).val = 2 := by omega
  · rw [h]; simp
  · rw [h]; simp
  · rw [h]; simp

end Cert.ReferenceIdeal.Conv
end
-- ==== Proof.ConvEq.lean ====
/- The two programs' results are equal: the taps' sums by blocks, groups and sublanes are the sums over all rows. -/
module

public import proofs.«01_k».proof.Proof.ConvRef
public import proofs.«01_k».proof.Defs

@[expose] public section

noncomputable section

open Idealize.ShloMosaic hiding ix1 ix2 ix3
open Idealize.ShloMosaic.ValueIdx Idealize.ShloMosaic.TcCoe Idealize.SL.Sem

namespace Cert.Conv

/-- A sum over `a * b` numbers, by blocks of `b`. -/
theorem sum_blocks (a b : ℕ) (f : ℕ → EReal) : ∑ g : Fin (a * b), f g.val = ∑ t : Fin a, ∑ r : Fin b, f (b * t.val + r.val) := by
  rw [← finProdFinEquiv.sum_comp, Fintype.sum_prod_type]
  refine Finset.sum_congr rfl fun t _ => Finset.sum_congr rfl fun r _ => ?_
  rw [finProdFinEquiv_apply_val, add_comm]

/-- The taps' sums by blocks of 512 rows, groups of eight and sublanes are the sums over all rows. -/
theorem sums_eq (U X : ℕ → ℕ → EReal) (k d : ℕ) :
    ∑ s : Fin 8, ∑ t ∈ Finset.range 16, Cert.KernelIdeal.Conv.DKb U X t k s.val d = DK U X k d := by
  have e : DK U X k d = ∑ t : Fin 16, ∑ r : Fin 512, DC U X (512 * t.val + r.val) d * Zs X (2 - k) (512 * t.val + r.val) d :=
    sum_blocks 16 512 fun g => DC U X g d * Zs X (2 - k) g d
  rw [e, Finset.sum_comm, Finset.sum_range]
  refine Finset.sum_congr rfl fun t _ => ?_
  have e' : ∑ r : Fin 512, DC U X (512 * t.val + r.val) d * Zs X (2 - k) (512 * t.val + r.val) d
      = ∑ q : Fin 64, ∑ s : Fin 8, DC U X (512 * t.val + (8 * q.val + s.val)) d * Zs X (2 - k) (512 * t.val + (8 * q.val + s.val)) d :=
    sum_blocks 64 8 fun r => DC U X (512 * t.val + r) d * Zs X (2 - k) (512 * t.val + r) d
  rw [e', Finset.sum_comm]
  rfl

/-- Kernel and reference: the same gradients of the thirds and of the taps. -/
theorem algebraic : Cert.algebraic_KernelIdeal_ReferenceIdeal := by
  intro m g m' g' _ ha
  refine ⟨fun c => Cert.KernelIdeal.Conv.res0 m c, fun c => Cert.KernelIdeal.Conv.res1 m c, Cert.KernelIdeal.Conv.run m g, ?_⟩
  refine (θ_run Cert.ReferenceIdeal.defs _ _).mono (fun r h c => ⟨(h c).1.trans ?_, (h c).2.1.trans ?_, (h c).2.2⟩) (Cert.ReferenceIdeal.Value.run (F := Ideal) m' g')
  · rw [Cert.ReferenceIdeal.Read.val_main_v70_eq, (ha c).1, (ha c).2.1, (ha c).2.2]
    funext j
    exact Cert.ReferenceIdeal.Conv.v70_at _ _ _ j
  · refine (Cert.ReferenceIdeal.Read.val_main_v64_eq _ _).trans ?_
    rw [(ha c).1, (ha c).2.1]
    funext j
    exact (Cert.ReferenceIdeal.Conv.v64_at _ _ j).trans (sums_eq _ _ _ _).symm

/-- The reference's frame. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

end Cert.Conv
end
-- ==== Proof.FfnTerms.lean ====
/- The SwiGLU block's backward, element by element: the terms of the formula over plain functions of a row and a
   column, and the kernel's payloads read as these terms. -/
module

public import proofs.«01_k».proof.Proof.ConvEq
public import proofs.«01_k».proof.Proof.Gen.Kernel2Ideal.Skeleton
public import Idealize.ShloMosaic.Lib.MatmulPlain

@[expose] public section

set_option maxRecDepth 16384

noncomputable section

open Idealize.ShloMosaic hiding ix1 ix2 ix3
open Idealize.ShloMosaic.ValueIdx

namespace Cert.Ffn

/-- The constants of the norm: its width, its ε, and one. -/
def cN : EReal := Ideal.ofBits .f32 0x44800000#32
def cE : EReal := Ideal.ofBits .f32 0x358637BD#32
def cO : EReal := Ideal.ofBits .f32 0x3F800000#32

/-- The reciprocal root mean square of a row. -/
def rs (A : ℕ → ℕ → EReal) (g : ℕ) : EReal := Ideal.rsqrt (Ideal.div (∑ d : Fin 1024, A g d.val * A g d.val) cN + cE)
/-- The normed row. -/
def nm (A : ℕ → ℕ → EReal) (g d : ℕ) : EReal := A g d * rs A g
/-- The norm's gradient, as the kernel forms it: the cotangent less its part along the normed row. -/
def pg (A D : ℕ → ℕ → EReal) (g d : ℕ) : EReal :=
  rs A g * (D g d - nm A g d * Ideal.div (∑ e : Fin 1024, D g e.val * nm A g e.val) cN)

/-- The gate's gradient, and the up projection's. -/
def kg (a g u : EReal) : EReal := a * u * (Ideal.logistic g * (cO + g * (cO - Ideal.logistic g)))
def ku (a g : EReal) : EReal := a * (g * Ideal.logistic g)

/-- The arrays the kernel reads, as functions of a row and a column. The columns of `GU` and `WI` run in the
    kernel's order: half of the gates, half of the ups, the other half of the gates, the other half of the ups. -/
structure Arr where
  DY : ℕ → ℕ → EReal
  WO : ℕ → ℕ → EReal
  GU : ℕ → ℕ → EReal
  WI : ℕ → ℕ → EReal
  X : ℕ → ℕ → EReal
  D : ℕ → ℕ → EReal
  S : ℕ → ℕ → EReal
  Y : ℕ → ℕ → EReal
  G : ℕ → ℕ → EReal

/-- The activation's cotangent. -/
def Arr.DA (a : Arr) (g f : ℕ) : EReal := ∑ d : Fin 1024, a.DY g d.val * a.WO f d.val
/-- The cotangent of gates and ups, columns in the kernel's order. -/
def Arr.DGU (a : Arr) (g c : ℕ) : EReal :=
  if c < 1408 then kg (a.DA g c) (a.GU g c) (a.GU g (1408 + c))
  else if c < 2816 then ku (a.DA g (c - 1408)) (a.GU g (c - 1408))
  else if c < 4224 then kg (a.DA g (c - 1408)) (a.GU g c) (a.GU g (1408 + c))
  else ku (a.DA g (c - 2816)) (a.GU g (c - 1408))
/-- The cotangent of the block's input after scale and shift. -/
def Arr.DH (a : Arr) (g d : ℕ) : EReal :=
  (∑ k : Fin 2816, a.DGU g k.val * a.WI d k.val) + ∑ k : Fin 2816, a.DGU g (2816 + k.val) * a.WI d (2816 + k.val)
/-- The cotangent of the normed input. -/
def Arr.DXH (a : Arr) (g d : ℕ) : EReal := a.DH g d * a.S 0 d
/-- The residual stream's cotangent. -/
def Arr.DXN (a : Arr) (g d : ℕ) : EReal := a.D g d + pg a.X a.DXH g d
/-- The cotangent of the normed mixer output, and of the mixer output. -/
def Arr.DN (a : Arr) (g d : ℕ) : EReal := a.DXN g d * a.G 0 d
def Arr.DYN (a : Arr) (g d : ℕ) : EReal := pg a.Y a.DN g d

end Cert.Ffn

namespace Cert.Kernel2Ideal.Ffn

open Cert.Kernel2Ideal Cert.Kernel2Ideal.Gen Cert.Ffn

variable [Facts]

variable {a : Arr} {t : ℕ}

theorem zeroW : Ideal.ofBits .f32 0x00000000#32 = 0 := Ideal.ofBits_zero_f32

theorem pay6_at (v4 : Vec Ideal S256x1024 .bf16) (v5 : Vec Ideal S1x1408x1024 .bf16) (o : ℕ)
    (h4 : ∀ j, v4 j = a.DY (256 * t + (j 0).val) (j 1).val) (h5 : ∀ j, v5 j = a.WO (o + (j 1).val) (j 2).val) (j : S256x1408.Idx) :
    k0_pay6 v4 v5 j = a.DA (256 * t + (j 0).val) (o + (j 1).val) := by
  unfold k0_pay6
  dsimp only
  rw [show j = ix2 (j 0) (j 1) from ValueIdx.eq_ix2 j]
  refine (Ideal.matmul_transposedRhs_apply (M := 256) (K := 1024) (N := 1408) none v4 (shapeCast S1408x1024 v5 shapeCasts_S1x1408x1024_S1408x1024) _ (j 0) (j 1)).trans ?_
  rw [show (constant S256x1408 .f32 0x00000000#32 : FVec Ideal S256x1408 .f32) (ix2 (j 0) (j 1)) = 0 from zeroW, zero_add]
  refine Finset.sum_congr rfl fun k _ => ?_
  refine congrArg₂ (· * ·) (h4 _) ?_
  rw [shapeCast_apply v5 _ _ (ix3 (0 : Fin 1) (⟨(j 1).val, (j 1).isLt⟩ : Fin 1408) k) (by
    rw [Shape.rowMajor_val_two, Shape.rowMajor_val_three]
    show (0 * 1408 + (j 1).val) * 1024 + k.val = (j 1).val * 1024 + k.val
    omega), h5]

theorem pay7_at (v4 : Vec Ideal S256x1024 .bf16) (v5 : Vec Ideal S1x1408x1024 .bf16) (o : ℕ)
    (h4 : ∀ j, v4 j = a.DY (256 * t + (j 0).val) (j 1).val) (h5 : ∀ j, v5 j = a.WO (o + (j 1).val) (j 2).val) (j : S256x1408.Idx) :
    k0_pay7 v4 v5 j = a.DA (256 * t + (j 0).val) (o + (j 1).val) := pay6_at v4 v5 o h4 h5 j

/-- The gate's half of a pair. -/
theorem pay14_at (v11 : FVec Ideal S256x1408 .f32) (v39 v42 : Vec Ideal S256x1408 .bf16) (j : S256x1408.Idx) :
    k0_pay14 v11 v39 v42 j = kg (v11 j) (v39 j) (v42 j) := by
  unfold k0_pay14 k0_pay13 k0_pay12
  dsimp only
  rw [shapeCast_self, shapeCast_self]
  rfl
theorem pay15_at (v11 : FVec Ideal S256x1408 .f32) (v39 : Vec Ideal S256x1408 .bf16) (j : S256x1408.Idx) :
    k0_pay15 v11 v39 j = ku (v11 j) (v39 j) := by
  unfold k0_pay15 k0_pay13 k0_pay12
  dsimp only
  rw [shapeCast_self]
  rfl
theorem pay10_at (v4 : Vec Ideal S256x1024 .bf16) (v5 : Vec Ideal S1x1408x1024 .bf16) (v12 v15 : Vec Ideal S256x1408 .bf16) (j : S256x1408.Idx) :
    k0_pay10 v4 v5 v12 v15 j = kg (k0_pay6 v4 v5 j) (v12 j) (v15 j) := pay14_at (k0_pay6 v4 v5) v12 v15 j
theorem pay11_at (v4 : Vec Ideal S256x1024 .bf16) (v5 : Vec Ideal S1x1408x1024 .bf16) (v12 : Vec Ideal S256x1408 .bf16) (j : S256x1408.Idx) :
    k0_pay11 v4 v5 v12 j = ku (k0_pay6 v4 v5 j) (v12 j) := pay15_at (k0_pay6 v4 v5) v12 j

/-- One product with half of the input projection. -/
theorem half_at (v33 : Vec Ideal S256x2816 .bf16) (v35 : Vec Ideal S1x1024x2816 .bf16) (o : ℕ)
    (h33 : ∀ j, v33 j = a.DGU (256 * t + (j 0).val) (o + (j 1).val)) (h35 : ∀ j, v35 j = a.WI (j 1).val (o + (j 2).val)) (j : S256x1024.Idx) :
    matmul dot_S256x2816_S1024x2816_S256x1024_1_1_0_0_n_n none (shapeCast S256x2816 v33 shapeCasts_S256x2816_S256x2816 : FVec Ideal S256x2816 .bf16)
      (shapeCast S1024x2816 v35 shapeCasts_S1x1024x2816_S1024x2816 : FVec Ideal S1024x2816 .bf16) (constant S256x1024 .f32 0x00000000#32) j
      = ∑ k : Fin 2816, a.DGU (256 * t + (j 0).val) (o + k.val) * a.WI (j 1).val (o + k.val) := by
  rw [show j = ix2 (j 0) (j 1) from ValueIdx.eq_ix2 j, shapeCast_self]
  refine (Ideal.matmul_transposedRhs_apply (M := 256) (K := 2816) (N := 1024) none v33 (shapeCast S1024x2816 v35 shapeCasts_S1x1024x2816_S1024x2816) _ (j 0) (j 1)).trans ?_
  rw [show (constant S256x1024 .f32 0x00000000#32 : FVec Ideal S256x1024 .f32) (ix2 (j 0) (j 1)) = 0 from zeroW, zero_add]
  refine Finset.sum_congr rfl fun k _ => ?_
  refine congrArg₂ (· * ·) (h33 _) ?_
  rw [shapeCast_apply v35 _ _ (ix3 (0 : Fin 1) (⟨(j 1).val, (j 1).isLt⟩ : Fin 1024) k) (by
    rw [Shape.rowMajor_val_two, Shape.rowMajor_val_three]
    show (0 * 1024 + (j 1).val) * 2816 + k.val = (j 1).val * 2816 + k.val
    omega), h35]

theorem pay16_at (v33 : Vec Ideal S256x2816 .bf16) (v35 : Vec Ideal S1x1024x2816 .bf16) (v60 : Vec Ideal S256x2816 .bf16) (v62 : Vec Ideal S1x1024x2816 .bf16)
    (h33 : ∀ j, v33 j = a.DGU (256 * t + (j 0).val) (j 1).val) (h35 : ∀ j, v35 j = a.WI (j 1).val (j 2).val)
    (h60 : ∀ j, v60 j = a.DGU (256 * t + (j 0).val) (2816 + (j 1).val)) (h62 : ∀ j, v62 j = a.WI (j 1).val (2816 + (j 2).val)) (j : S256x1024.Idx) :
    k0_pay16 (F := Ideal) k0_pay5 v33 v35 v60 v62 j = a.DH (256 * t + (j 0).val) (j 1).val := by
  have e1 := half_at (a := a) (t := t) v33 v35 0 (fun j => by rw [h33, Nat.zero_add]) (fun j => by rw [h35, Nat.zero_add]) j
  have e2 := half_at (a := a) (t := t) v60 v62 2816 h60 h62 j
  unfold k0_pay16
  dsimp only
  refine (congrArg₂ (· + ·) (congrArg₂ (· + ·) (show (k0_pay5 (F := Ideal)) j = 0 from zeroW) e1) e2).trans ?_
  simp only [Nat.zero_add, zero_add]
  rfl

/-- A row's sum. -/
theorem rowsum_at (v : FVec Ideal S256x1024 .f32) (A : ℕ → ℕ → EReal) (h : ∀ j, v j = A (256 * t + (j 0).val) (j 1).val) (j : S256.Idx) :
    multiReduction .add [1] S256 v 0x00000000#32 reduces_S256x1024_S256 (.inl rfl) rfl j = ∑ d : Fin 1024, A (256 * t + (j 0).val) d.val := by
  rw [show multiReduction .add [1] S256 v 0x00000000#32 reduces_S256x1024_S256 (.inl rfl) rfl j = Ideal.reduceAdd reduces_S256x1024_S256 v j from rfl,
    Ideal.reduceAdd_r2_a1]
  exact Finset.sum_congr rfl fun d _ => h _

/-- A column of row values, as the kernel shapes it, and broadcast across the block. -/
theorem col_at (v : FVec Ideal S256 .f32) (j : S256x1.Idx) :
    shapeCast S256x1 v shapeCasts_S256_S256x1 j = v (ix1 (⟨(j 0).val, (j 0).isLt⟩ : Fin 256)) :=
  shapeCast_apply v _ _ _ (by
    have hj1 : (j 1).val < 1 := (j 1).isLt
    rw [Shape.rowMajor_val_one, Shape.rowMajor_val_two]
    show (j 0).val = (j 0).val * 1 + (j 1).val
    omega)
theorem across_at (v : FVec Ideal S256x1 .f32) (A : ℕ → EReal) (h : ∀ j, v j = A (256 * t + (j 0).val)) (j : S256x1024.Idx) :
    broadcastTo S256x1024 v broadcasts_S256x1_S256x1024 j = A (256 * t + (j 0).val) := by
  rw [broadcastTo_apply _ _ j (ix2 (⟨(j 0).val, (j 0).isLt⟩ : Fin 256) (0 : Fin 1)) (fun b => by match b with | ⟨0, _⟩ => rfl | ⟨1, _⟩ => rfl), h]
theorem down_at (v : Vec Ideal S1x1024 .f32) (A : ℕ → ℕ → EReal) (h : ∀ j, v j = A 0 (j 1).val) (j : S256x1024.Idx) :
    broadcastTo S256x1024 v broadcasts_S1x1024_S256x1024 j = A 0 (j 1).val := by
  rw [broadcastTo_apply _ _ j (ix2 (0 : Fin 1) (⟨(j 1).val, (j 1).isLt⟩ : Fin 1024)) (fun b => by match b with | ⟨0, _⟩ => rfl | ⟨1, _⟩ => rfl), h]

/-- The reciprocal root mean square, of a block whose elements are `A`'s. -/
theorem rms_at (v : FVec Ideal S256x1024 .f32) (A : ℕ → ℕ → EReal) (h : ∀ j, v j = A (256 * t + (j 0).val) (j 1).val) (j : S256x1.Idx) :
    rsqrt (addf (divf (shapeCast S256x1 (multiReduction .add [1] S256 (mulf v v) 0x00000000#32 reduces_S256x1024_S256 (.inl rfl) rfl) shapeCasts_S256_S256x1)
      (broadcast S256x1 (Scalar.ofBits .f32 0x44800000#32))) (broadcast S256x1 (Scalar.ofBits .f32 0x358637BD#32))) j = rs A (256 * t + (j 0).val) := by
  refine congrArg Ideal.rsqrt (congrArg (· + cE) (congrArg (Ideal.div · cN) ((col_at _ j).trans ?_)))
  exact rowsum_at (t := t) (mulf v v) (fun g d => A g d * A g d) (fun j => congrArg₂ (· * ·) (h j) (h j)) _

theorem pay18_at (v66 : Vec Ideal S256x1024 .f32) (h : ∀ j, v66 j = a.X (256 * t + (j 0).val) (j 1).val) (j : S256x1.Idx) :
    k0_pay18 v66 j = rs a.X (256 * t + (j 0).val) := by
  unfold k0_pay18 k0_pay17
  dsimp only
  rw [shapeCast_self]
  exact rms_at v66 a.X h j
theorem pay26_at (v111 : Vec Ideal S256x1024 .bf16) (h : ∀ j, v111 j = a.Y (256 * t + (j 0).val) (j 1).val) (j : S256x1.Idx) :
    k0_pay26 v111 j = rs a.Y (256 * t + (j 0).val) := by
  unfold k0_pay26 k0_pay25
  dsimp only
  exact rms_at (extf .f32 v111 bitsLt_bf16_f32) a.Y h j
theorem pay19_at (v66 : Vec Ideal S256x1024 .f32) (h : ∀ j, v66 j = a.X (256 * t + (j 0).val) (j 1).val) (j : S256x1024.Idx) :
    k0_pay19 v66 j = nm a.X (256 * t + (j 0).val) (j 1).val := by
  unfold k0_pay19 k0_pay17
  dsimp only
  rw [shapeCast_self]
  exact congrArg₂ (· * ·) (h j) (across_at _ (rs a.X) (pay18_at v66 h) j)
theorem pay27_at (v111 : Vec Ideal S256x1024 .bf16) (h : ∀ j, v111 j = a.Y (256 * t + (j 0).val) (j 1).val) (j : S256x1024.Idx) :
    k0_pay27 v111 j = nm a.Y (256 * t + (j 0).val) (j 1).val := by
  unfold k0_pay27 k0_pay25
  dsimp only
  exact congrArg₂ (· * ·) (h j) (across_at _ (rs a.Y) (pay26_at v111 h) j)

theorem pay20_at (v65 : FVec Ideal S256x1024 .f32) (v78 : Vec Ideal S1x1024 .f32) (h65 : ∀ j, v65 j = a.DH (256 * t + (j 0).val) (j 1).val)
    (h78 : ∀ j, v78 j = a.S 0 (j 1).val) (j : S256x1024.Idx) : k0_pay20 v65 v78 j = a.DXH (256 * t + (j 0).val) (j 1).val := by
  unfold k0_pay20
  dsimp only
  exact congrArg₂ (· * ·) (h65 j) (down_at v78 a.S h78 j)
theorem pay23_at (v65 : FVec Ideal S256x1024 .f32) (v66 : Vec Ideal S256x1024 .f32) (v78 : Vec Ideal S1x1024 .f32)
    (h65 : ∀ j, v65 j = a.DH (256 * t + (j 0).val) (j 1).val) (h : ∀ j, v66 j = a.X (256 * t + (j 0).val) (j 1).val)
    (h78 : ∀ j, v78 j = a.S 0 (j 1).val) (j : S256.Idx) :
    k0_pay23 v65 v66 v78 j = ∑ e : Fin 1024, a.DXH (256 * t + (j 0).val) e.val * nm a.X (256 * t + (j 0).val) e.val := by
  unfold k0_pay23
  dsimp only
  exact rowsum_at (mulf (k0_pay20 v65 v78) (k0_pay19 v66)) (fun g e => a.DXH g e * nm a.X g e)
    (fun j => congrArg₂ (· * ·) (pay20_at v65 v78 h65 h78 j) (pay19_at v66 h j)) j

/-- The norm's gradient over a block. -/
theorem grad_at (A D : ℕ → ℕ → EReal) (r : FVec Ideal S256x1 .f32) (n : FVec Ideal S256x1024 .f32) (e : FVec Ideal S256x1024 .f32) (s : FVec Ideal S256 .f32)
    (hr : ∀ j, r j = rs A (256 * t + (j 0).val)) (hn : ∀ j, n j = nm A (256 * t + (j 0).val) (j 1).val)
    (he : ∀ j, e j = D (256 * t + (j 0).val) (j 1).val)
    (hs : ∀ j, s j = ∑ e : Fin 1024, D (256 * t + (j 0).val) e.val * nm A (256 * t + (j 0).val) e.val) (j : S256x1024.Idx) :
    mulf (broadcastTo S256x1024 r broadcasts_S256x1_S256x1024) (subf e (mulf n (broadcastTo S256x1024 (divf (shapeCast S256x1 s shapeCasts_S256_S256x1)
      (broadcast S256x1 (Scalar.ofBits .f32 0x44800000#32))) broadcasts_S256x1_S256x1024))) j = pg A D (256 * t + (j 0).val) (j 1).val := by
  refine congrArg₂ (· * ·) (across_at r (rs A) hr j) (congrArg₂ (· - ·) (he j) (congrArg₂ (· * ·) (hn j) ?_))
  exact across_at _ (fun g => Ideal.div (∑ e : Fin 1024, D g e.val * nm A g e.val) cN)
    (fun j => congrArg (Ideal.div · cN) ((col_at s j).trans (hs _))) j

theorem pay24_at (v75 : FVec Ideal S256x1 .f32) (v77 v80 : FVec Ideal S256x1024 .f32) (v98 : Vec Ideal S256x1024 .f32) (v100 : FVec Ideal S256 .f32)
    (h75 : ∀ j, v75 j = rs a.X (256 * t + (j 0).val)) (h77 : ∀ j, v77 j = nm a.X (256 * t + (j 0).val) (j 1).val)
    (h80 : ∀ j, v80 j = a.DXH (256 * t + (j 0).val) (j 1).val) (h98 : ∀ j, v98 j = a.D (256 * t + (j 0).val) (j 1).val)
    (h100 : ∀ j, v100 j = ∑ e : Fin 1024, a.DXH (256 * t + (j 0).val) e.val * nm a.X (256 * t + (j 0).val) e.val) (j : S256x1024.Idx) :
    k0_pay24 v75 v77 v80 v98 v100 j = a.DXN (256 * t + (j 0).val) (j 1).val := by
  unfold k0_pay24
  dsimp only
  exact congrArg₂ (· + ·) (h98 j) (grad_at a.X a.DXH v75 v77 v80 v100 h75 h77 h80 h100 j)

theorem pay28_at (v75 : FVec Ideal S256x1 .f32) (v77 v80 : FVec Ideal S256x1024 .f32) (v98 : Vec Ideal S256x1024 .f32) (v100 : FVec Ideal S256 .f32)
    (v111 : Vec Ideal S256x1024 .bf16) (v112 : Vec Ideal S1x1024 .f32)
    (h24 : ∀ j, k0_pay24 v75 v77 v80 v98 v100 j = a.DXN (256 * t + (j 0).val) (j 1).val)
    (h111 : ∀ j, v111 j = a.Y (256 * t + (j 0).val) (j 1).val) (h112 : ∀ j, v112 j = a.G 0 (j 1).val) (j : S256x1024.Idx) :
    k0_pay28 v75 v77 v80 v98 v100 v111 v112 j = a.DYN (256 * t + (j 0).val) (j 1).val := by
  have hD : ∀ j, mulf (k0_pay24 v75 v77 v80 v98 v100) (broadcastTo S256x1024 v112 broadcasts_S1x1024_S256x1024) j
      = a.DN (256 * t + (j 0).val) (j 1).val := fun j => congrArg₂ (· * ·) (h24 j) (down_at v112 a.G h112 j)
  unfold k0_pay28
  dsimp only
  exact grad_at a.Y a.DN (k0_pay26 v111) (k0_pay27 v111) (mulf (k0_pay24 v75 v77 v80 v98 v100) (broadcastTo S256x1024 v112 broadcasts_S1x1024_S256x1024)) _
    (pay26_at v111 h111) (pay27_at v111 h111) hD
    (rowsum_at _ (fun g e => a.DN g e * nm a.Y g e) (fun j => congrArg₂ (· * ·) (hD j) (pay27_at v111 h111 j))) j

/-- The sum of each eighth row of a block, over its 32 groups. -/
theorem colsum_at (v : FVec Ideal S256x1024 .f32) (A : ℕ → ℕ → EReal) (h : ∀ j, v j = A (256 * t + (j 0).val) (j 1).val)
    (j : S8x1024.Idx) :
    multiReduction .add [0] S8x1024 (shapeCast S32x8x1024 v shapeCasts_S256x1024_S32x8x1024) 0x00000000#32
        reduces_S32x8x1024_S8x1024 (.inl rfl) rfl j
      = ∑ q : Fin 32, A (256 * t + (8 * q.val + (j 0).val)) (j 1).val := by
  have hj0 : (j 0).val < 8 := (j 0).isLt
  have hj1 : (j 1).val < 1024 := (j 1).isLt
  rw [show multiReduction .add [0] S8x1024 (shapeCast S32x8x1024 v shapeCasts_S256x1024_S32x8x1024) 0x00000000#32
        reduces_S32x8x1024_S8x1024 (.inl rfl) rfl j = Ideal.reduceAdd reduces_S32x8x1024_S8x1024
          (shapeCast S32x8x1024 v shapeCasts_S256x1024_S32x8x1024) j from rfl, Ideal.reduceAdd_r3_a0]
  refine Finset.sum_congr rfl fun q _ => ?_
  have hq := q.isLt
  rw [shapeCast_apply v _ _ (ix2 (⟨8 * q.val + (j 0).val, by omega⟩ : Fin 256) (⟨(j 1).val, hj1⟩ : Fin 1024)) (by
    rw [Shape.rowMajor_val_two, Shape.rowMajor_val_three]
    show (8 * q.val + (j 0).val) * 1024 + (j 1).val = (q.val * 8 + (j 0).val) * 1024 + (j 1).val
    omega), h]

/-- The contribution of a block to a column sum, in sublane `s`. -/
def part (A : ℕ → ℕ → EReal) (t s d : ℕ) : EReal := ∑ q : Fin 32, A (256 * t + (8 * q.val + s)) d

/-- A stored sum: what it held plus the block's column sums. -/
theorem pay22_at (v65 : FVec Ideal S256x1024 .f32) (v90 : Vec Ideal S1x8x1024 .f32) (A : ℕ → ℕ → EReal)
    (h : ∀ j, v65 j = A (256 * t + (j 0).val) (j 1).val) (j : S1x8x1024.Idx) :
    k0_pay22 v65 v90 j = v90 j + part A t (j 1).val (j 2).val := by
  have hj0 : (j 0).val < 1 := (j 0).isLt
  have hj1 : (j 1).val < 8 := (j 1).isLt
  have hj2 : (j 2).val < 1024 := (j 2).isLt
  unfold k0_pay22
  dsimp only
  rw [shapeCast_apply _ _ j (ix2 (⟨(j 1).val, hj1⟩ : Fin 8) (⟨(j 2).val, hj2⟩ : Fin 1024)) (by
    rw [Shape.rowMajor_val_two, Shape.rowMajor_val_three]
    show (j 1).val * 1024 + (j 2).val = ((j 0).val * 8 + (j 1).val) * 1024 + (j 2).val
    omega)]
  refine congrArg₂ (· + ·) ?_ (colsum_at v65 A h _)
  exact shapeCast_apply v90 _ _ j (by
    rw [Shape.rowMajor_val_two, Shape.rowMajor_val_three]
    show ((j 0).val * 8 + (j 1).val) * 1024 + (j 2).val = (j 1).val * 1024 + (j 2).val
    omega)
theorem pay21_at (v65 : FVec Ideal S256x1024 .f32) (v66 : Vec Ideal S256x1024 .f32) (v81 : Vec Ideal S1x8x1024 .f32)
    (h65 : ∀ j, v65 j = a.DH (256 * t + (j 0).val) (j 1).val) (h : ∀ j, v66 j = a.X (256 * t + (j 0).val) (j 1).val) (j : S1x8x1024.Idx) :
    k0_pay21 v65 v66 v81 j = v81 j + part (fun g d => a.DH g d * nm a.X g d) t (j 1).val (j 2).val :=
  pay22_at (mulf v65 (k0_pay19 v66)) v81 (fun g d => a.DH g d * nm a.X g d) (fun j => congrArg₂ (· * ·) (h65 j) (pay19_at v66 h j)) j

theorem pay1_at (v75 : FVec Ideal S256x1 .f32) (v77 v80 : FVec Ideal S256x1024 .f32) (v98 : Vec Ideal S256x1024 .f32) (v100 : FVec Ideal S256 .f32)
    (v111 : Vec Ideal S256x1024 .bf16) (v139 : Vec Ideal S8x1024 .f32)
    (h24 : ∀ j, k0_pay24 v75 v77 v80 v98 v100 j = a.DXN (256 * t + (j 0).val) (j 1).val)
    (h111 : ∀ j, v111 j = a.Y (256 * t + (j 0).val) (j 1).val) (j : S8x1024.Idx) :
    k0_pay1 (k0_pay29 v139) (k0_pay30 v75 v77 v80 v98 v100 v111) j = v139 j + part (fun g d => a.DXN g d * nm a.Y g d) t (j 0).val (j 1).val := by
  unfold k0_pay1 k0_pay29 k0_pay30
  dsimp only
  rw [shapeCast_self]
  exact congrArg (v139 j + ·) (colsum_at (mulf (k0_pay24 v75 v77 v80 v98 v100) (k0_pay27 v111)) (fun g d => a.DXN g d * nm a.Y g d)
    (fun j => congrArg₂ (· * ·) (h24 j) (pay27_at v111 h111 j)) j)

end Cert.Kernel2Ideal.Ffn
end
-- ==== Proof.FfnBlock.lean ====
/- What the SwiGLU backward's body leaves at a grid point, read as the terms of the formula: a block of rows of the
   cotangents, and the running column sums. -/
module

public import proofs.«01_k».proof.Proof.FfnTerms
public import proofs.«01_k».proof.Proof.Gen.Kernel2Ideal.Frame

@[expose] public section

set_option maxRecDepth 16384

noncomputable section

open Idealize.ShloMosaic hiding ix1 ix2 ix3
open Idealize.ShloMosaic.ValueIdx Idealize.ShloMosaic.TcCoe Idealize.SL.Sem

namespace Cert.Kernel2Ideal.Ffn

open Cert.Kernel2Ideal Cert.Kernel2Ideal.Gen Cert.Ffn

variable {a : Arr} {t : ℕ}

/-- The blocks a grid point reads, as rows of the arrays. -/
structure Blocks (a : Arr) (t : ℕ) (x0 : Vec Ideal S256x1024 .bf16) (x1 : Vec Ideal S1x2816x1024 .bf16) (x2 : Vec Ideal S256x5632 .bf16)
    (x3 : Vec Ideal S1x1024x5632 .bf16) (x4 x5 : Vec Ideal S256x1024 .f32) (x6 : Vec Ideal S1x1024 .f32) (x7 : Vec Ideal S256x1024 .bf16)
    (x8 : Vec Ideal S1x1024 .f32) : Prop where
  h0 : ∀ j, x0 j = a.DY (256 * t + (j 0).val) (j 1).val
  h1 : ∀ j, x1 j = a.WO (j 1).val (j 2).val
  h2 : ∀ j, x2 j = a.GU (256 * t + (j 0).val) (j 1).val
  h3 : ∀ j, x3 j = a.WI (j 1).val (j 2).val
  h4 : ∀ j, x4 j = a.X (256 * t + (j 0).val) (j 1).val
  h5 : ∀ j, x5 j = a.D (256 * t + (j 0).val) (j 1).val
  h6 : ∀ j, x6 j = a.S 0 (j 1).val
  h7 : ∀ j, x7 j = a.Y (256 * t + (j 0).val) (j 1).val
  h8 : ∀ j, x8 j = a.G 0 (j 1).val

variable {x0 : Vec Ideal S256x1024 .bf16} {x1 : Vec Ideal S1x2816x1024 .bf16} {x2 : Vec Ideal S256x5632 .bf16}
    {x3 : Vec Ideal S1x1024x5632 .bf16} {x4 x5 : Vec Ideal S256x1024 .f32} {x6 : Vec Ideal S1x1024 .f32} {x7 : Vec Ideal S256x1024 .bf16}
    {x8 : Vec Ideal S1x1024 .f32}

/-- A whole block of rows, read back. -/
theorem rd_rows {e : EltTy} (f : ℕ → ℕ → Elt Ideal e) (x : Vec Ideal S256x1024 e) (h : ∀ j, x j = f (256 * t + (j 0).val) (j 1).val)
    (arg : Memref sig .tc .vmem S256x1024 e) (harg : arg.IsWhole) (inb) (j : S256x1024.Idx) :
    View.readAt (Elt Ideal) arg.view (Rect.unit (s := S256x1024) ![0, 0] ![256, 1024] inb).toLoadRect (harg.unread x) j
      = f (256 * t + (j 0).val) (j 1).val := by
  rw [View.readAt_eq_ld, harg.read_unread]
  refine (h _).trans ?_
  show f (256 * t + (0 + 1 * (j 0).val)) (0 + 1 * (j 1).val) = _
  rw [Nat.zero_add, Nat.one_mul, Nat.zero_add, Nat.one_mul]

/-- A row, read back. -/
theorem rd_row {e : EltTy} (f : ℕ → ℕ → Elt Ideal e) (x : Vec Ideal S1x1024 e) (h : ∀ j, x j = f 0 (j 1).val)
    (arg : Memref sig .tc .vmem S1x1024 e) (harg : arg.IsWhole) (inb) (j : S1x1024.Idx) :
    View.readAt (Elt Ideal) arg.view (Rect.unit (s := S1x1024) ![0, 0] ![1, 1024] inb).toLoadRect (harg.unread x) j = f 0 (j 1).val := by
  rw [View.readAt_eq_ld, harg.read_unread]
  refine (h _).trans ?_
  show f 0 (0 + 1 * (j 1).val) = _
  rw [Nat.zero_add, Nat.one_mul]

theorem rd_GU (hb : Blocks a t x0 x1 x2 x3 x4 x5 x6 x7 x8) (arg3 : Memref sig .tc .vmem S256x5632 .bf16) (harg3 : arg3.IsWhole)
    (o : ℕ) (inb) (j : S256x1408.Idx) :
    View.readAt (Elt Ideal) arg3.view (Rect.unit (s := S256x5632) ![0, o] ![256, 1408] inb).toLoadRect (harg3.unread x2) j
      = a.GU (256 * t + (j 0).val) (o + (j 1).val) := by
  rw [View.readAt_eq_ld, harg3.read_unread]
  refine (hb.h2 _).trans ?_
  show a.GU (256 * t + (0 + 1 * (j 0).val)) (o + 1 * (j 1).val) = _
  rw [Nat.zero_add, Nat.one_mul, Nat.one_mul]

theorem rd_WO (hb : Blocks a t x0 x1 x2 x3 x4 x5 x6 x7 x8) (arg2 : Memref sig .tc .vmem S1x2816x1024 .bf16) (harg2 : arg2.IsWhole)
    (o : ℕ) (inb) (j : S1x1408x1024.Idx) :
    View.readAt (Elt Ideal) arg2.view (Rect.unit (s := S1x2816x1024) ![0, o, 0] ![1, 1408, 1024] inb).toLoadRect (harg2.unread x1) j
      = a.WO (o + (j 1).val) (j 2).val := by
  rw [View.readAt_eq_ld, harg2.read_unread]
  refine (hb.h1 _).trans ?_
  show a.WO (o + 1 * (j 1).val) (0 + 1 * (j 2).val) = _
  rw [Nat.zero_add, Nat.one_mul, Nat.one_mul]

theorem rd_WI (hb : Blocks a t x0 x1 x2 x3 x4 x5 x6 x7 x8) (arg4 : Memref sig .tc .vmem S1x1024x5632 .bf16) (harg4 : arg4.IsWhole)
    (o : ℕ) (inb) (j : S1x1024x2816.Idx) :
    View.readAt (Elt Ideal) arg4.view (Rect.unit (s := S1x1024x5632) ![0, 0, o] ![1, 1024, 2816] inb).toLoadRect (harg4.unread x3) j
      = a.WI (j 1).val (o + (j 2).val) := by
  rw [View.readAt_eq_ld, harg4.read_unread]
  refine (hb.h3 _).trans ?_
  show a.WI (0 + 1 * (j 1).val) (o + 1 * (j 2).val) = _
  rw [Nat.zero_add, Nat.one_mul, Nat.one_mul]

/-- The four quarters of the cotangent of gates and ups. -/
theorem dgu0 (j : S256x1408.Idx) (inb) : kg (a.DA (256 * t + (j 0).val) (0 + (j 1).val)) (a.GU (256 * t + (j 0).val) (0 + (j 1).val)) (a.GU (256 * t + (j 0).val) (1408 + (j 1).val))
    = a.DGU (256 * t + ((Rect.unit (s := S256x5632) ![0, 0] ![256, 1408] inb).emb j 0).val) ((Rect.unit (s := S256x5632) ![0, 0] ![256, 1408] inb).emb j 1).val := by
  have h1 : (j 1).val < 1408 := (j 1).isLt
  show _ = a.DGU (256 * t + (0 + 1 * (j 0).val)) (0 + 1 * (j 1).val)
  rw [show 0 + 1 * (j 0).val = (j 0).val by omega, show 0 + 1 * (j 1).val = (j 1).val by omega, Arr.DGU, if_pos h1, Nat.zero_add]
theorem dgu1 (j : S256x1408.Idx) (inb) : ku (a.DA (256 * t + (j 0).val) (0 + (j 1).val)) (a.GU (256 * t + (j 0).val) (0 + (j 1).val))
    = a.DGU (256 * t + ((Rect.unit (s := S256x5632) ![0, 1408] ![256, 1408] inb).emb j 0).val) ((Rect.unit (s := S256x5632) ![0, 1408] ![256, 1408] inb).emb j 1).val := by
  have h1 : (j 1).val < 1408 := (j 1).isLt
  show _ = a.DGU (256 * t + (0 + 1 * (j 0).val)) (1408 + 1 * (j 1).val)
  rw [show 0 + 1 * (j 0).val = (j 0).val by omega, show 1408 + 1 * (j 1).val = 1408 + (j 1).val by omega, Arr.DGU, if_neg (by omega), if_pos (by omega), Nat.add_sub_cancel_left, Nat.zero_add]
theorem dgu2 (j : S256x1408.Idx) (inb) : kg (a.DA (256 * t + (j 0).val) (1408 + (j 1).val)) (a.GU (256 * t + (j 0).val) (2816 + (j 1).val)) (a.GU (256 * t + (j 0).val) (4224 + (j 1).val))
    = a.DGU (256 * t + ((Rect.unit (s := S256x5632) ![0, 2816] ![256, 1408] inb).emb j 0).val) ((Rect.unit (s := S256x5632) ![0, 2816] ![256, 1408] inb).emb j 1).val := by
  have h1 : (j 1).val < 1408 := (j 1).isLt
  show _ = a.DGU (256 * t + (0 + 1 * (j 0).val)) (2816 + 1 * (j 1).val)
  rw [show 0 + 1 * (j 0).val = (j 0).val by omega, show 2816 + 1 * (j 1).val = 2816 + (j 1).val by omega, Arr.DGU, if_neg (by omega), if_neg (by omega), if_pos (by omega),
    show 2816 + (j 1).val - 1408 = 1408 + (j 1).val by omega, show 1408 + (2816 + (j 1).val) = 4224 + (j 1).val by omega]
theorem dgu3 (j : S256x1408.Idx) (inb) : ku (a.DA (256 * t + (j 0).val) (1408 + (j 1).val)) (a.GU (256 * t + (j 0).val) (2816 + (j 1).val))
    = a.DGU (256 * t + ((Rect.unit (s := S256x5632) ![0, 4224] ![256, 1408] inb).emb j 0).val) ((Rect.unit (s := S256x5632) ![0, 4224] ![256, 1408] inb).emb j 1).val := by
  have h1 : (j 1).val < 1408 := (j 1).isLt
  show _ = a.DGU (256 * t + (0 + 1 * (j 0).val)) (4224 + 1 * (j 1).val)
  rw [show 0 + 1 * (j 0).val = (j 0).val by omega, show 4224 + 1 * (j 1).val = 4224 + (j 1).val by omega, Arr.DGU, if_neg (by omega), if_neg (by omega), if_neg (by omega),
    show 4224 + (j 1).val - 1408 = 2816 + (j 1).val by omega, show 4224 + (j 1).val - 2816 = 1408 + (j 1).val by omega]

section
variable (arg1 : Memref sig .tc .vmem S256x1024 .bf16) (harg1 : arg1.IsWhole) (arg2 : Memref sig .tc .vmem S1x2816x1024 .bf16) (harg2 : arg2.IsWhole)
  (arg3 : Memref sig .tc .vmem S256x5632 .bf16) (harg3 : arg3.IsWhole)

theorem q0 (hb : Blocks a t x0 x1 x2 x3 x4 x5 x6 x7 x8) {i1 i2 i3 i4 inb} (j : S256x1408.Idx) :
    k0_pay10 (View.readAt (Elt Ideal) arg1.view (Rect.unit (s := S256x1024) ![0, 0] ![256, 1024] i1).toLoadRect (harg1.unread x0))
      (View.readAt (Elt Ideal) arg2.view (Rect.unit (s := S1x2816x1024) ![0, 0, 0] ![1, 1408, 1024] i2).toLoadRect (harg2.unread x1))
      (View.readAt (Elt Ideal) arg3.view (Rect.unit (s := S256x5632) ![0, 0] ![256, 1408] i3).toLoadRect (harg3.unread x2))
      (View.readAt (Elt Ideal) arg3.view (Rect.unit (s := S256x5632) ![0, 1408] ![256, 1408] i4).toLoadRect (harg3.unread x2)) j
    = a.DGU (256 * t + ((Rect.unit (s := S256x5632) ![0, 0] ![256, 1408] inb).emb j 0).val) ((Rect.unit (s := S256x5632) ![0, 0] ![256, 1408] inb).emb j 1).val := by
  rw [pay10_at, pay6_at (a := a) (t := t) _ _ 0 (rd_rows a.DY x0 hb.h0 arg1 harg1 _) (rd_WO hb arg2 harg2 0 _), rd_GU hb, rd_GU hb]
  exact dgu0 j inb
theorem q1 (hb : Blocks a t x0 x1 x2 x3 x4 x5 x6 x7 x8) {i1 i2 i3 inb} (j : S256x1408.Idx) :
    k0_pay11 (View.readAt (Elt Ideal) arg1.view (Rect.unit (s := S256x1024) ![0, 0] ![256, 1024] i1).toLoadRect (harg1.unread x0))
      (View.readAt (Elt Ideal) arg2.view (Rect.unit (s := S1x2816x1024) ![0, 0, 0] ![1, 1408, 1024] i2).toLoadRect (harg2.unread x1))
      (View.readAt (Elt Ideal) arg3.view (Rect.unit (s := S256x5632) ![0, 0] ![256, 1408] i3).toLoadRect (harg3.unread x2)) j
    = a.DGU (256 * t + ((Rect.unit (s := S256x5632) ![0, 1408] ![256, 1408] inb).emb j 0).val) ((Rect.unit (s := S256x5632) ![0, 1408] ![256, 1408] inb).emb j 1).val := by
  rw [pay11_at, pay6_at (a := a) (t := t) _ _ 0 (rd_rows a.DY x0 hb.h0 arg1 harg1 _) (rd_WO hb arg2 harg2 0 _), rd_GU hb]
  exact dgu1 j inb
theorem q2 (hb : Blocks a t x0 x1 x2 x3 x4 x5 x6 x7 x8) {i1 i2 i3 i4 inb} (j : S256x1408.Idx) :
    k0_pay14 (k0_pay7 (View.readAt (Elt Ideal) arg1.view (Rect.unit (s := S256x1024) ![0, 0] ![256, 1024] i1).toLoadRect (harg1.unread x0))
      (View.readAt (Elt Ideal) arg2.view (Rect.unit (s := S1x2816x1024) ![0, 1408, 0] ![1, 1408, 1024] i2).toLoadRect (harg2.unread x1)))
      (View.readAt (Elt Ideal) arg3.view (Rect.unit (s := S256x5632) ![0, 2816] ![256, 1408] i3).toLoadRect (harg3.unread x2))
      (View.readAt (Elt Ideal) arg3.view (Rect.unit (s := S256x5632) ![0, 4224] ![256, 1408] i4).toLoadRect (harg3.unread x2)) j
    = a.DGU (256 * t + ((Rect.unit (s := S256x5632) ![0, 2816] ![256, 1408] inb).emb j 0).val) ((Rect.unit (s := S256x5632) ![0, 2816] ![256, 1408] inb).emb j 1).val := by
  rw [pay14_at, pay7_at (a := a) (t := t) _ _ 1408 (rd_rows a.DY x0 hb.h0 arg1 harg1 _) (rd_WO hb arg2 harg2 1408 _), rd_GU hb, rd_GU hb]
  exact dgu2 j inb
theorem q3 (hb : Blocks a t x0 x1 x2 x3 x4 x5 x6 x7 x8) {i1 i2 i3 inb} (j : S256x1408.Idx) :
    k0_pay15 (k0_pay7 (View.readAt (Elt Ideal) arg1.view (Rect.unit (s := S256x1024) ![0, 0] ![256, 1024] i1).toLoadRect (harg1.unread x0))
      (View.readAt (Elt Ideal) arg2.view (Rect.unit (s := S1x2816x1024) ![0, 1408, 0] ![1, 1408, 1024] i2).toLoadRect (harg2.unread x1)))
      (View.readAt (Elt Ideal) arg3.view (Rect.unit (s := S256x5632) ![0, 2816] ![256, 1408] i3).toLoadRect (harg3.unread x2)) j
    = a.DGU (256 * t + ((Rect.unit (s := S256x5632) ![0, 4224] ![256, 1408] inb).emb j 0).val) ((Rect.unit (s := S256x5632) ![0, 4224] ![256, 1408] inb).emb j 1).val := by
  rw [pay15_at, pay7_at (a := a) (t := t) _ _ 1408 (rd_rows a.DY x0 hb.h0 arg1 harg1 _) (rd_WO hb arg2 harg2 1408 _), rd_GU hb]
  exact dgu3 j inb
end

/-- A half of the cotangent's columns, read back over the stored quarters. -/
theorem back (v : View sig .tc .vmem S256x5632 .bf16) (L : List (View.Piece (Elt Ideal) S256x5632 .bf16)) (o : ℕ)
    (hL : View.PiecesOf (fun y => a.DGU (256 * t + (y 0).val) (y 1).val) L) {inb} (hc : ∀ y : S256x5632.Idx, o ≤ (y 1).val → (y 1).val < o + 2816 → ∃ p ∈ L, y ∈ p.1.set)
    (j : S256x2816.Idx) :
    v.readCov L (Rect.unit (s := S256x5632) ![0, o] ![256, 2816] inb).toLoadRect j = a.DGU (256 * t + (j 0).val) (o + (j 1).val) := by
  have hj1 : (j 1).val < 2816 := (j 1).isLt
  rw [View.readCov_eq_canon']
  refine (View.canon_apply_of_pieces (fun y => a.DGU (256 * t + (y 0).val) (y 1).val) L hL.mem _ (hc _ ?_ ?_)).trans ?_
  · show o ≤ o + 1 * (j 1).val; omega
  · show o + 1 * (j 1).val < o + 2816; omega
  · show a.DGU (256 * t + (0 + 1 * (j 0).val)) (o + 1 * (j 1).val) = _
    rw [show 0 + 1 * (j 0).val = (j 0).val by omega, Nat.one_mul]

theorem mem_q (o : ℕ) {inb} (y : S256x5632.Idx) (h : o ≤ (y 1).val) (h' : (y 1).val < o + 1408) :
    y ∈ (Rect.unit (s := S256x5632) ![0, o] ![256, 1408] inb).set := by
  have h0 : (y 0).val < 256 := (y 0).isLt
  rw [Rect.mem_set_unit]
  intro b; match b with
    | ⟨0, _⟩ => show 0 ≤ (y 0).val ∧ (y 0).val < 0 + 256; omega
    | ⟨1, _⟩ => show o ≤ (y 1).val ∧ (y 1).val < o + 1408; omega

section
variable (arg1 : Memref sig .tc .vmem S256x1024 .bf16) (harg1 : arg1.IsWhole) (arg2 : Memref sig .tc .vmem S1x2816x1024 .bf16) (harg2 : arg2.IsWhole)
  (arg3 : Memref sig .tc .vmem S256x5632 .bf16) (harg3 : arg3.IsWhole) (arg4 : Memref sig .tc .vmem S1x1024x5632 .bf16) (harg4 : arg4.IsWhole)
  (arg10 : Memref sig .tc .vmem S256x5632 .bf16)

/-- The cotangent after scale and shift, formed from the stored quarters. -/
theorem v65_at (hb : Blocks a t x0 x1 x2 x3 x4 x5 x6 x7 x8) (j : S256x1024.Idx) :
    k0_pay16 (F := Ideal) k0_pay5
      (arg10.view.readCov [⟨Rect.unit (s := S256x5632) ![0, 1408] ![256, 1408] inb_S256x5632_S256x1408_0_1408, k0_pay11 (View.readAt (Elt Ideal) arg1.view (Rect.unit (s := S256x1024) ![0, 0] ![256, 1024] inb_S256x1024_S256x1024_0_0).toLoadRect (harg1.unread x0))
      (View.readAt (Elt Ideal) arg2.view (Rect.unit (s := S1x2816x1024) ![0, 0, 0] ![1, 1408, 1024] inb_S1x2816x1024_S1x1408x1024_0_0_0).toLoadRect (harg2.unread x1))
      (View.readAt (Elt Ideal) arg3.view (Rect.unit (s := S256x5632) ![0, 0] ![256, 1408] inb_S256x5632_S256x1408_0_0).toLoadRect (harg3.unread x2))⟩,
      ⟨Rect.unit (s := S256x5632) ![0, 0] ![256, 1408] inb_S256x5632_S256x1408_0_0, k0_pay10 (View.readAt (Elt Ideal) arg1.view (Rect.unit (s := S256x1024) ![0, 0] ![256, 1024] inb_S256x1024_S256x1024_0_0).toLoadRect (harg1.unread x0))
      (View.readAt (Elt Ideal) arg2.view (Rect.unit (s := S1x2816x1024) ![0, 0, 0] ![1, 1408, 1024] inb_S1x2816x1024_S1x1408x1024_0_0_0).toLoadRect (harg2.unread x1))
      (View.readAt (Elt Ideal) arg3.view (Rect.unit (s := S256x5632) ![0, 0] ![256, 1408] inb_S256x5632_S256x1408_0_0).toLoadRect (harg3.unread x2))
      (View.readAt (Elt Ideal) arg3.view (Rect.unit (s := S256x5632) ![0, 1408] ![256, 1408] inb_S256x5632_S256x1408_0_1408).toLoadRect (harg3.unread x2))⟩]
        (Rect.unit (s := S256x5632) ![0, 0] ![256, 2816] inb_S256x5632_S256x2816_0_0).toLoadRect)
      (View.readAt (Elt Ideal) arg4.view (Rect.unit (s := S1x1024x5632) ![0, 0, 0] ![1, 1024, 2816] inb_S1x1024x5632_S1x1024x2816_0_0_0).toLoadRect (harg4.unread x3))
      (arg10.view.readCov [⟨Rect.unit (s := S256x5632) ![0, 4224] ![256, 1408] inb_S256x5632_S256x1408_0_4224, k0_pay15 (k0_pay7 (View.readAt (Elt Ideal) arg1.view (Rect.unit (s := S256x1024) ![0, 0] ![256, 1024] inb_S256x1024_S256x1024_0_0).toLoadRect (harg1.unread x0))
      (View.readAt (Elt Ideal) arg2.view (Rect.unit (s := S1x2816x1024) ![0, 1408, 0] ![1, 1408, 1024] inb_S1x2816x1024_S1x1408x1024_0_1408_0).toLoadRect (harg2.unread x1)))
      (View.readAt (Elt Ideal) arg3.view (Rect.unit (s := S256x5632) ![0, 2816] ![256, 1408] inb_S256x5632_S256x1408_0_2816).toLoadRect (harg3.unread x2))⟩,
      ⟨Rect.unit (s := S256x5632) ![0, 2816] ![256, 1408] inb_S256x5632_S256x1408_0_2816, k0_pay14 (k0_pay7 (View.readAt (Elt Ideal) arg1.view (Rect.unit (s := S256x1024) ![0, 0] ![256, 1024] inb_S256x1024_S256x1024_0_0).toLoadRect (harg1.unread x0))
      (View.readAt (Elt Ideal) arg2.view (Rect.unit (s := S1x2816x1024) ![0, 1408, 0] ![1, 1408, 1024] inb_S1x2816x1024_S1x1408x1024_0_1408_0).toLoadRect (harg2.unread x1)))
      (View.readAt (Elt Ideal) arg3.view (Rect.unit (s := S256x5632) ![0, 2816] ![256, 1408] inb_S256x5632_S256x1408_0_2816).toLoadRect (harg3.unread x2))
      (View.readAt (Elt Ideal) arg3.view (Rect.unit (s := S256x5632) ![0, 4224] ![256, 1408] inb_S256x5632_S256x1408_0_4224).toLoadRect (harg3.unread x2))⟩,
      ⟨Rect.unit (s := S256x5632) ![0, 1408] ![256, 1408] inb_S256x5632_S256x1408_0_1408, k0_pay11 (View.readAt (Elt Ideal) arg1.view (Rect.unit (s := S256x1024) ![0, 0] ![256, 1024] inb_S256x1024_S256x1024_0_0).toLoadRect (harg1.unread x0))
      (View.readAt (Elt Ideal) arg2.view (Rect.unit (s := S1x2816x1024) ![0, 0, 0] ![1, 1408, 1024] inb_S1x2816x1024_S1x1408x1024_0_0_0).toLoadRect (harg2.unread x1))
      (View.readAt (Elt Ideal) arg3.view (Rect.unit (s := S256x5632) ![0, 0] ![256, 1408] inb_S256x5632_S256x1408_0_0).toLoadRect (harg3.unread x2))⟩,
      ⟨Rect.unit (s := S256x5632) ![0, 0] ![256, 1408] inb_S256x5632_S256x1408_0_0, k0_pay10 (View.readAt (Elt Ideal) arg1.view (Rect.unit (s := S256x1024) ![0, 0] ![256, 1024] inb_S256x1024_S256x1024_0_0).toLoadRect (harg1.unread x0))
      (View.readAt (Elt Ideal) arg2.view (Rect.unit (s := S1x2816x1024) ![0, 0, 0] ![1, 1408, 1024] inb_S1x2816x1024_S1x1408x1024_0_0_0).toLoadRect (harg2.unread x1))
      (View.readAt (Elt Ideal) arg3.view (Rect.unit (s := S256x5632) ![0, 0] ![256, 1408] inb_S256x5632_S256x1408_0_0).toLoadRect (harg3.unread x2))
      (View.readAt (Elt Ideal) arg3.view (Rect.unit (s := S256x5632) ![0, 1408] ![256, 1408] inb_S256x5632_S256x1408_0_1408).toLoadRect (harg3.unread x2))⟩]
        (Rect.unit (s := S256x5632) ![0, 2816] ![256, 2816] inb_S256x5632_S256x2816_0_2816).toLoadRect)
      (View.readAt (Elt Ideal) arg4.view (Rect.unit (s := S1x1024x5632) ![0, 0, 2816] ![1, 1024, 2816] inb_S1x1024x5632_S1x1024x2816_0_0_2816).toLoadRect (harg4.unread x3)) j
    = a.DH (256 * t + (j 0).val) (j 1).val := by
  refine pay16_at (a := a) (t := t) _ _ _ _ (fun j => ?_) (fun j => ?_) (fun j => ?_) (rd_WI hb arg4 harg4 2816 _) j
  · refine Eq.trans ?_ (congrArg (a.DGU _) (Nat.zero_add _))
    refine back (a := a) (t := t) arg10.view _ 0 ?_ (fun y h h' => ?_) j
    · exact ⟨fun j => q1 (inb := inb_S256x5632_S256x1408_0_1408) arg1 harg1 arg2 harg2 arg3 harg3 hb j, fun j => q0 (inb := inb_S256x5632_S256x1408_0_0) arg1 harg1 arg2 harg2 arg3 harg3 hb j, trivial⟩
    by_cases hy : (y 1).val < 1408
    · exact ⟨_, List.mem_cons_of_mem _ (List.mem_cons_self ..), mem_q (inb := inb_S256x5632_S256x1408_0_0) 0 y h (by omega)⟩
    · exact ⟨_, List.mem_cons_self .., mem_q (inb := inb_S256x5632_S256x1408_0_1408) 1408 y (by omega) (by omega)⟩
  · exact (rd_WI hb arg4 harg4 0 _ j).trans (by rw [Nat.zero_add])
  · refine back (a := a) (t := t) arg10.view _ 2816 ?_ (fun y h h' => ?_) j
    · exact ⟨fun j => q3 (inb := inb_S256x5632_S256x1408_0_4224) arg1 harg1 arg2 harg2 arg3 harg3 hb j, fun j => q2 (inb := inb_S256x5632_S256x1408_0_2816) arg1 harg1 arg2 harg2 arg3 harg3 hb j,
        fun j => q1 (inb := inb_S256x5632_S256x1408_0_1408) arg1 harg1 arg2 harg2 arg3 harg3 hb j, fun j => q0 (inb := inb_S256x5632_S256x1408_0_0) arg1 harg1 arg2 harg2 arg3 harg3 hb j, trivial⟩
    by_cases hy : (y 1).val < 4224
    · exact ⟨_, List.mem_cons_of_mem _ (List.mem_cons_self ..), mem_q (inb := inb_S256x5632_S256x1408_0_2816) 2816 y h (by omega)⟩
    · exact ⟨_, List.mem_cons_self .., mem_q (inb := inb_S256x5632_S256x1408_0_4224) 4224 y (by omega) (by omega)⟩
end

theorem fill2 {r : Rect S1x8x1024} {j} : View.ld (Val := Elt Ideal) (e' := .f32) (k0_pay2 (F := Ideal)) r j = 0 := zeroW
theorem fill3 {r : Rect S1x8x1024} {j} : View.ld (Val := Elt Ideal) (e' := .f32) (k0_pay3 (F := Ideal)) r j = 0 := zeroW
theorem fill4 {r : Rect S8x1024} {j} : View.ld (Val := Elt Ideal) (e' := .f32) (k0_pay4 (F := Ideal)) r j = 0 := zeroW

theorem mem_all3 {inb} (y : S1x8x1024.Idx) : y ∈ (Rect.unit (s := S1x8x1024) ![0, 0, 0] ![1, 8, 1024] inb).set := by
  have h0 : (y 0).val < 1 := (y 0).isLt
  have h1 : (y 1).val < 8 := (y 1).isLt
  have h2 : (y 2).val < 1024 := (y 2).isLt
  rw [Rect.mem_set_unit]
  intro b; match b with
    | ⟨0, _⟩ => show 0 ≤ (y 0).val ∧ (y 0).val < 0 + 1; omega
    | ⟨1, _⟩ => show 0 ≤ (y 1).val ∧ (y 1).val < 0 + 8; omega
    | ⟨2, _⟩ => show 0 ≤ (y 2).val ∧ (y 2).val < 0 + 1024; omega
theorem mem_all2 {inb} (y : S8x1024.Idx) : y ∈ (Rect.unit (s := S8x1024) ![0, 0] ![8, 1024] inb).set := by
  have h0 : (y 0).val < 8 := (y 0).isLt
  have h1 : (y 1).val < 1024 := (y 1).isLt
  rw [Rect.mem_set_unit]
  intro b; match b with
    | ⟨0, _⟩ => show 0 ≤ (y 0).val ∧ (y 0).val < 0 + 8; omega
    | ⟨1, _⟩ => show 0 ≤ (y 1).val ∧ (y 1).val < 0 + 1024; omega

theorem out_A_9 (c : Dev nD) (i : grid0.Coords) (arg1 : Memref sig .tc .vmem S256x1024 .bf16) (harg1 : arg1.IsWhole) (arg2 : Memref sig .tc .vmem S1x2816x1024 .bf16) (harg2 : arg2.IsWhole) (arg3 : Memref sig .tc .vmem S256x5632 .bf16) (harg3 : arg3.IsWhole) (arg4 : Memref sig .tc .vmem S1x1024x5632 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole) (arg8 : Memref sig .tc .vmem S256x1024 .bf16) (harg8 : arg8.IsWhole) (arg9 : Memref sig .tc .vmem S1x1024 .f32) (harg9 : arg9.IsWhole) (arg10 : Memref sig .tc .vmem S256x5632 .bf16) (harg10 : arg10.IsWhole) (arg11 : Memref sig .tc .vmem S256x1024 .f32) (harg11 : arg11.IsWhole) (arg12 : Memref sig .tc .vmem S1x8x1024 .f32) (harg12 : arg12.IsWhole) (arg13 : Memref sig .tc .vmem S1x8x1024 .f32) (harg13 : arg13.IsWhole) (arg14 : Memref sig .tc .vmem S256x1024 .bf16) (harg14 : arg14.IsWhole) (arg15 : Memref sig .tc .vmem S8x1024 .f32) (harg15 : arg15.IsWhole) (hc0 : cond0_0 i)
    (hb : Blocks a t x0 x1 x2 x3 x4 x5 x6 x7 x8) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 = fun y => a.DGU (256 * t + (y 0).val) (y 1).val := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8)]
  funext y
  refine View.canon_apply_of_pieces (fun y => a.DGU (256 * t + (y 0).val) (y 1).val) _ ?_ y (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 y)
  unfold kernelRun0_A
  dsimp only
  sl_unfold_words
  simp only [List.mem_cons, List.not_mem_nil, or_false, forall_eq_or_imp, forall_eq]
  exact ⟨fun j => q3 (inb := inb_S256x5632_S256x1408_0_4224) arg1 harg1 arg2 harg2 arg3 harg3 hb j, fun j => q2 (inb := inb_S256x5632_S256x1408_0_2816) arg1 harg1 arg2 harg2 arg3 harg3 hb j,
    fun j => q1 (inb := inb_S256x5632_S256x1408_0_1408) arg1 harg1 arg2 harg2 arg3 harg3 hb j, fun j => q0 arg1 harg1 arg2 harg2 arg3 harg3 hb j⟩

theorem out_A_10 (c : Dev nD) (i : grid0.Coords) (arg1 : Memref sig .tc .vmem S256x1024 .bf16) (harg1 : arg1.IsWhole) (arg2 : Memref sig .tc .vmem S1x2816x1024 .bf16) (harg2 : arg2.IsWhole) (arg3 : Memref sig .tc .vmem S256x5632 .bf16) (harg3 : arg3.IsWhole) (arg4 : Memref sig .tc .vmem S1x1024x5632 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole) (arg8 : Memref sig .tc .vmem S256x1024 .bf16) (harg8 : arg8.IsWhole) (arg9 : Memref sig .tc .vmem S1x1024 .f32) (harg9 : arg9.IsWhole) (arg10 : Memref sig .tc .vmem S256x5632 .bf16) (harg10 : arg10.IsWhole) (arg11 : Memref sig .tc .vmem S256x1024 .f32) (harg11 : arg11.IsWhole) (arg12 : Memref sig .tc .vmem S1x8x1024 .f32) (harg12 : arg12.IsWhole) (arg13 : Memref sig .tc .vmem S1x8x1024 .f32) (harg13 : arg13.IsWhole) (arg14 : Memref sig .tc .vmem S256x1024 .bf16) (harg14 : arg14.IsWhole) (arg15 : Memref sig .tc .vmem S8x1024 .f32) (harg15 : arg15.IsWhole) (hc0 : cond0_0 i)
    (hb : Blocks a t x0 x1 x2 x3 x4 x5 x6 x7 x8) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 = fun y => a.DXN (256 * t + (y 0).val) (y 1).val := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8)]
  funext y
  refine View.canon_apply_of_pieces (fun y => a.DXN (256 * t + (y 0).val) (y 1).val) _ ?_ y (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 y)
  unfold kernelRun0_A
  dsimp only
  sl_unfold_words
  simp only [List.mem_cons, List.not_mem_nil, or_false, forall_eq_or_imp, forall_eq]
  have h65 := v65_at (a := a) (t := t) arg1 harg1 arg2 harg2 arg3 harg3 arg4 harg4 arg10 hb
  have h66 := rd_rows a.X x4 hb.h4 arg5 harg5 inb_S256x1024_S256x1024_0_0
  have h78 := rd_row a.S x6 hb.h6 arg7 harg7 inb_S1x1024_S1x1024_0_0
  have h24 := pay24_at (a := a) (t := t) _ _ _ _ _ (pay18_at _ h66) (pay19_at _ h66) (pay20_at _ _ h65 h78)
    (rd_rows a.D x5 hb.h5 arg6 harg6 inb_S256x1024_S256x1024_0_0) (pay23_at _ _ _ h65 h66 h78)
  have h111 := rd_rows a.Y x7 hb.h7 arg8 harg8 inb_S256x1024_S256x1024_0_0
  exact fun j => (h24 j).trans (congrArg₂ a.DXN (by simp) (by simp))

theorem out_A_11 (c : Dev nD) (i : grid0.Coords) (arg1 : Memref sig .tc .vmem S256x1024 .bf16) (harg1 : arg1.IsWhole) (arg2 : Memref sig .tc .vmem S1x2816x1024 .bf16) (harg2 : arg2.IsWhole) (arg3 : Memref sig .tc .vmem S256x5632 .bf16) (harg3 : arg3.IsWhole) (arg4 : Memref sig .tc .vmem S1x1024x5632 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole) (arg8 : Memref sig .tc .vmem S256x1024 .bf16) (harg8 : arg8.IsWhole) (arg9 : Memref sig .tc .vmem S1x1024 .f32) (harg9 : arg9.IsWhole) (arg10 : Memref sig .tc .vmem S256x5632 .bf16) (harg10 : arg10.IsWhole) (arg11 : Memref sig .tc .vmem S256x1024 .f32) (harg11 : arg11.IsWhole) (arg12 : Memref sig .tc .vmem S1x8x1024 .f32) (harg12 : arg12.IsWhole) (arg13 : Memref sig .tc .vmem S1x8x1024 .f32) (harg13 : arg13.IsWhole) (arg14 : Memref sig .tc .vmem S256x1024 .bf16) (harg14 : arg14.IsWhole) (arg15 : Memref sig .tc .vmem S8x1024 .f32) (harg15 : arg15.IsWhole) (hc0 : cond0_0 i)
    (hb : Blocks a t x0 x1 x2 x3 x4 x5 x6 x7 x8) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 = fun y => part (fun g d => a.DH g d * nm a.X g d) t (y 1).val (y 2).val := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8)]
  funext y
  unfold kernelRun0_A
  dsimp only
  sl_unfold_words
  have h65 := v65_at (a := a) (t := t) arg1 harg1 arg2 harg2 arg3 harg3 arg4 harg4 arg10 hb
  have h66 := rd_rows a.X x4 hb.h4 arg5 harg5 inb_S256x1024_S256x1024_0_0
  refine View.canon_append_of_piecesOf (Val := Elt Ideal) (s := S1x8x1024) (e := .f32) (fun y => part (fun g d => a.DH g d * nm a.X g d) t (y 1).val (y 2).val) [_] [_] ⟨fun j => ?_, trivial⟩ y ?_
  rotate_left
  · exact ⟨_, List.mem_cons_self .., mem_all3 (inb := inb_S1x8x1024_S1x8x1024_0_0_0) y⟩
  refine (pay21_at (a := a) (t := t) _ _ _ h65 h66 j).trans ?_
  rw [View.readCov_fill _ _ _ _ _ (by decide)]
  exact (congrArg₂ (· + ·) fill2 (congrArg₂ (part (fun g d => a.DH g d * nm a.X g d) t) (by simp) (by simp))).trans (zero_add _)

theorem out_A_12 (c : Dev nD) (i : grid0.Coords) (arg1 : Memref sig .tc .vmem S256x1024 .bf16) (harg1 : arg1.IsWhole) (arg2 : Memref sig .tc .vmem S1x2816x1024 .bf16) (harg2 : arg2.IsWhole) (arg3 : Memref sig .tc .vmem S256x5632 .bf16) (harg3 : arg3.IsWhole) (arg4 : Memref sig .tc .vmem S1x1024x5632 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole) (arg8 : Memref sig .tc .vmem S256x1024 .bf16) (harg8 : arg8.IsWhole) (arg9 : Memref sig .tc .vmem S1x1024 .f32) (harg9 : arg9.IsWhole) (arg10 : Memref sig .tc .vmem S256x5632 .bf16) (harg10 : arg10.IsWhole) (arg11 : Memref sig .tc .vmem S256x1024 .f32) (harg11 : arg11.IsWhole) (arg12 : Memref sig .tc .vmem S1x8x1024 .f32) (harg12 : arg12.IsWhole) (arg13 : Memref sig .tc .vmem S1x8x1024 .f32) (harg13 : arg13.IsWhole) (arg14 : Memref sig .tc .vmem S256x1024 .bf16) (harg14 : arg14.IsWhole) (arg15 : Memref sig .tc .vmem S8x1024 .f32) (harg15 : arg15.IsWhole) (hc0 : cond0_0 i)
    (hb : Blocks a t x0 x1 x2 x3 x4 x5 x6 x7 x8) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 = fun y => part a.DH t (y 1).val (y 2).val := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8)]
  funext y
  unfold kernelRun0_A
  dsimp only
  sl_unfold_words
  have h65 := v65_at (a := a) (t := t) arg1 harg1 arg2 harg2 arg3 harg3 arg4 harg4 arg10 hb
  have h66 := rd_rows a.X x4 hb.h4 arg5 harg5 inb_S256x1024_S256x1024_0_0
  refine View.canon_append_of_piecesOf (Val := Elt Ideal) (s := S1x8x1024) (e := .f32) (fun y => part a.DH t (y 1).val (y 2).val) [_] [_] ⟨fun j => ?_, trivial⟩ y ?_
  rotate_left
  · exact ⟨_, List.mem_cons_self .., mem_all3 (inb := inb_S1x8x1024_S1x8x1024_0_0_0) y⟩
  refine (pay22_at (t := t) _ _ a.DH h65 j).trans ?_
  rw [View.readCov_fill _ _ _ _ _ (by decide)]
  exact (congrArg₂ (· + ·) fill3 (congrArg₂ (part a.DH t) (by simp) (by simp))).trans (zero_add _)

theorem out_A_13 (c : Dev nD) (i : grid0.Coords) (arg1 : Memref sig .tc .vmem S256x1024 .bf16) (harg1 : arg1.IsWhole) (arg2 : Memref sig .tc .vmem S1x2816x1024 .bf16) (harg2 : arg2.IsWhole) (arg3 : Memref sig .tc .vmem S256x5632 .bf16) (harg3 : arg3.IsWhole) (arg4 : Memref sig .tc .vmem S1x1024x5632 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole) (arg8 : Memref sig .tc .vmem S256x1024 .bf16) (harg8 : arg8.IsWhole) (arg9 : Memref sig .tc .vmem S1x1024 .f32) (harg9 : arg9.IsWhole) (arg10 : Memref sig .tc .vmem S256x5632 .bf16) (harg10 : arg10.IsWhole) (arg11 : Memref sig .tc .vmem S256x1024 .f32) (harg11 : arg11.IsWhole) (arg12 : Memref sig .tc .vmem S1x8x1024 .f32) (harg12 : arg12.IsWhole) (arg13 : Memref sig .tc .vmem S1x8x1024 .f32) (harg13 : arg13.IsWhole) (arg14 : Memref sig .tc .vmem S256x1024 .bf16) (harg14 : arg14.IsWhole) (arg15 : Memref sig .tc .vmem S8x1024 .f32) (harg15 : arg15.IsWhole) (hc0 : cond0_0 i)
    (hb : Blocks a t x0 x1 x2 x3 x4 x5 x6 x7 x8) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 = fun y => a.DYN (256 * t + (y 0).val) (y 1).val := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8)]
  funext y
  refine View.canon_apply_of_pieces (fun y => a.DYN (256 * t + (y 0).val) (y 1).val) _ ?_ y (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 y)
  unfold kernelRun0_A
  dsimp only
  sl_unfold_words
  simp only [List.mem_cons, List.not_mem_nil, or_false, forall_eq_or_imp, forall_eq]
  have h65 := v65_at (a := a) (t := t) arg1 harg1 arg2 harg2 arg3 harg3 arg4 harg4 arg10 hb
  have h66 := rd_rows a.X x4 hb.h4 arg5 harg5 inb_S256x1024_S256x1024_0_0
  have h78 := rd_row a.S x6 hb.h6 arg7 harg7 inb_S1x1024_S1x1024_0_0
  have h24 := pay24_at (a := a) (t := t) _ _ _ _ _ (pay18_at _ h66) (pay19_at _ h66) (pay20_at _ _ h65 h78)
    (rd_rows a.D x5 hb.h5 arg6 harg6 inb_S256x1024_S256x1024_0_0) (pay23_at _ _ _ h65 h66 h78)
  have h111 := rd_rows a.Y x7 hb.h7 arg8 harg8 inb_S256x1024_S256x1024_0_0
  exact fun j => (pay28_at (a := a) (t := t) _ _ _ _ _ _ _ h24 h111 (rd_row a.G x8 hb.h8 arg9 harg9 inb_S1x1024_S1x1024_0_0) j).trans (congrArg₂ a.DYN (by simp) (by simp))

theorem out_A_14 (c : Dev nD) (i : grid0.Coords) (arg1 : Memref sig .tc .vmem S256x1024 .bf16) (harg1 : arg1.IsWhole) (arg2 : Memref sig .tc .vmem S1x2816x1024 .bf16) (harg2 : arg2.IsWhole) (arg3 : Memref sig .tc .vmem S256x5632 .bf16) (harg3 : arg3.IsWhole) (arg4 : Memref sig .tc .vmem S1x1024x5632 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole) (arg8 : Memref sig .tc .vmem S256x1024 .bf16) (harg8 : arg8.IsWhole) (arg9 : Memref sig .tc .vmem S1x1024 .f32) (harg9 : arg9.IsWhole) (arg10 : Memref sig .tc .vmem S256x5632 .bf16) (harg10 : arg10.IsWhole) (arg11 : Memref sig .tc .vmem S256x1024 .f32) (harg11 : arg11.IsWhole) (arg12 : Memref sig .tc .vmem S1x8x1024 .f32) (harg12 : arg12.IsWhole) (arg13 : Memref sig .tc .vmem S1x8x1024 .f32) (harg13 : arg13.IsWhole) (arg14 : Memref sig .tc .vmem S256x1024 .bf16) (harg14 : arg14.IsWhole) (arg15 : Memref sig .tc .vmem S8x1024 .f32) (harg15 : arg15.IsWhole) (hc0 : cond0_0 i)
    (hb : Blocks a t x0 x1 x2 x3 x4 x5 x6 x7 x8) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 = fun y => part (fun g d => a.DXN g d * nm a.Y g d) t (y 0).val (y 1).val := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8)]
  funext y
  unfold kernelRun0_A
  dsimp only
  sl_unfold_words
  have h65 := v65_at (a := a) (t := t) arg1 harg1 arg2 harg2 arg3 harg3 arg4 harg4 arg10 hb
  have h66 := rd_rows a.X x4 hb.h4 arg5 harg5 inb_S256x1024_S256x1024_0_0
  have h78 := rd_row a.S x6 hb.h6 arg7 harg7 inb_S1x1024_S1x1024_0_0
  have h24 := pay24_at (a := a) (t := t) _ _ _ _ _ (pay18_at _ h66) (pay19_at _ h66) (pay20_at _ _ h65 h78)
    (rd_rows a.D x5 hb.h5 arg6 harg6 inb_S256x1024_S256x1024_0_0) (pay23_at _ _ _ h65 h66 h78)
  have h111 := rd_rows a.Y x7 hb.h7 arg8 harg8 inb_S256x1024_S256x1024_0_0
  refine View.canon_append_of_piecesOf (Val := Elt Ideal) (s := S8x1024) (e := .f32) (fun y => part (fun g d => a.DXN g d * nm a.Y g d) t (y 0).val (y 1).val) [_] [_] ⟨fun j => ?_, trivial⟩ y ?_
  rotate_left
  · exact ⟨_, List.mem_cons_self .., mem_all2 (inb := inb_S8x1024_S8x1024_0_0) y⟩
  refine (pay1_at (a := a) (t := t) _ _ _ _ _ _ _ h24 h111 j).trans ?_
  rw [View.readCov_fill _ _ _ _ _ (by decide)]
  exact (congrArg₂ (· + ·) fill4 (congrArg₂ (part (fun g d => a.DXN g d * nm a.Y g d) t) (by simp) (by simp))).trans (zero_add _)

theorem out_B_9 (c : Dev nD) (i : grid0.Coords) (arg1 : Memref sig .tc .vmem S256x1024 .bf16) (harg1 : arg1.IsWhole) (arg2 : Memref sig .tc .vmem S1x2816x1024 .bf16) (harg2 : arg2.IsWhole) (arg3 : Memref sig .tc .vmem S256x5632 .bf16) (harg3 : arg3.IsWhole) (arg4 : Memref sig .tc .vmem S1x1024x5632 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole) (arg8 : Memref sig .tc .vmem S256x1024 .bf16) (harg8 : arg8.IsWhole) (arg9 : Memref sig .tc .vmem S1x1024 .f32) (harg9 : arg9.IsWhole) (arg10 : Memref sig .tc .vmem S256x5632 .bf16) (harg10 : arg10.IsWhole) (arg11 : Memref sig .tc .vmem S256x1024 .f32) (harg11 : arg11.IsWhole) (arg12 : Memref sig .tc .vmem S1x8x1024 .f32) (harg12 : arg12.IsWhole) (arg13 : Memref sig .tc .vmem S1x8x1024 .f32) (harg13 : arg13.IsWhole) (arg14 : Memref sig .tc .vmem S256x1024 .bf16) (harg14 : arg14.IsWhole) (arg15 : Memref sig .tc .vmem S8x1024 .f32) (harg15 : arg15.IsWhole) (hc0 : ¬cond0_0 i) (xo11 xo12 : Vec Ideal S1x8x1024 .f32) (xo14 : Vec Ideal S8x1024 .f32)
    (hb : Blocks a t x0 x1 x2 x3 x4 x5 x6 x7 x8) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo11 xo12 xo14 = fun y => a.DGU (256 * t + (y 0).val) (y 1).val := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo11 xo12 xo14)]
  funext y
  refine View.canon_apply_of_pieces (fun y => a.DGU (256 * t + (y 0).val) (y 1).val) _ ?_ y (cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo11 xo12 xo14 y)
  unfold kernelRun0_B
  dsimp only
  sl_unfold_words
  simp only [List.mem_cons, List.not_mem_nil, or_false, forall_eq_or_imp, forall_eq]
  exact ⟨fun j => q3 (inb := inb_S256x5632_S256x1408_0_4224) arg1 harg1 arg2 harg2 arg3 harg3 hb j, fun j => q2 (inb := inb_S256x5632_S256x1408_0_2816) arg1 harg1 arg2 harg2 arg3 harg3 hb j,
    fun j => q1 (inb := inb_S256x5632_S256x1408_0_1408) arg1 harg1 arg2 harg2 arg3 harg3 hb j, fun j => q0 arg1 harg1 arg2 harg2 arg3 harg3 hb j⟩

theorem out_B_10 (c : Dev nD) (i : grid0.Coords) (arg1 : Memref sig .tc .vmem S256x1024 .bf16) (harg1 : arg1.IsWhole) (arg2 : Memref sig .tc .vmem S1x2816x1024 .bf16) (harg2 : arg2.IsWhole) (arg3 : Memref sig .tc .vmem S256x5632 .bf16) (harg3 : arg3.IsWhole) (arg4 : Memref sig .tc .vmem S1x1024x5632 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole) (arg8 : Memref sig .tc .vmem S256x1024 .bf16) (harg8 : arg8.IsWhole) (arg9 : Memref sig .tc .vmem S1x1024 .f32) (harg9 : arg9.IsWhole) (arg10 : Memref sig .tc .vmem S256x5632 .bf16) (harg10 : arg10.IsWhole) (arg11 : Memref sig .tc .vmem S256x1024 .f32) (harg11 : arg11.IsWhole) (arg12 : Memref sig .tc .vmem S1x8x1024 .f32) (harg12 : arg12.IsWhole) (arg13 : Memref sig .tc .vmem S1x8x1024 .f32) (harg13 : arg13.IsWhole) (arg14 : Memref sig .tc .vmem S256x1024 .bf16) (harg14 : arg14.IsWhole) (arg15 : Memref sig .tc .vmem S8x1024 .f32) (harg15 : arg15.IsWhole) (hc0 : ¬cond0_0 i) (xo11 xo12 : Vec Ideal S1x8x1024 .f32) (xo14 : Vec Ideal S8x1024 .f32)
    (hb : Blocks a t x0 x1 x2 x3 x4 x5 x6 x7 x8) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo11 xo12 xo14 = fun y => a.DXN (256 * t + (y 0).val) (y 1).val := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo11 xo12 xo14)]
  funext y
  refine View.canon_apply_of_pieces (fun y => a.DXN (256 * t + (y 0).val) (y 1).val) _ ?_ y (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo11 xo12 xo14 y)
  unfold kernelRun0_B
  dsimp only
  sl_unfold_words
  simp only [List.mem_cons, List.not_mem_nil, or_false, forall_eq_or_imp, forall_eq]
  have h65 := v65_at (a := a) (t := t) arg1 harg1 arg2 harg2 arg3 harg3 arg4 harg4 arg10 hb
  have h66 := rd_rows a.X x4 hb.h4 arg5 harg5 inb_S256x1024_S256x1024_0_0
  have h78 := rd_row a.S x6 hb.h6 arg7 harg7 inb_S1x1024_S1x1024_0_0
  have h24 := pay24_at (a := a) (t := t) _ _ _ _ _ (pay18_at _ h66) (pay19_at _ h66) (pay20_at _ _ h65 h78)
    (rd_rows a.D x5 hb.h5 arg6 harg6 inb_S256x1024_S256x1024_0_0) (pay23_at _ _ _ h65 h66 h78)
  have h111 := rd_rows a.Y x7 hb.h7 arg8 harg8 inb_S256x1024_S256x1024_0_0
  exact fun j => (h24 j).trans (congrArg₂ a.DXN (by simp) (by simp))

theorem out_B_11 (c : Dev nD) (i : grid0.Coords) (arg1 : Memref sig .tc .vmem S256x1024 .bf16) (harg1 : arg1.IsWhole) (arg2 : Memref sig .tc .vmem S1x2816x1024 .bf16) (harg2 : arg2.IsWhole) (arg3 : Memref sig .tc .vmem S256x5632 .bf16) (harg3 : arg3.IsWhole) (arg4 : Memref sig .tc .vmem S1x1024x5632 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole) (arg8 : Memref sig .tc .vmem S256x1024 .bf16) (harg8 : arg8.IsWhole) (arg9 : Memref sig .tc .vmem S1x1024 .f32) (harg9 : arg9.IsWhole) (arg10 : Memref sig .tc .vmem S256x5632 .bf16) (harg10 : arg10.IsWhole) (arg11 : Memref sig .tc .vmem S256x1024 .f32) (harg11 : arg11.IsWhole) (arg12 : Memref sig .tc .vmem S1x8x1024 .f32) (harg12 : arg12.IsWhole) (arg13 : Memref sig .tc .vmem S1x8x1024 .f32) (harg13 : arg13.IsWhole) (arg14 : Memref sig .tc .vmem S256x1024 .bf16) (harg14 : arg14.IsWhole) (arg15 : Memref sig .tc .vmem S8x1024 .f32) (harg15 : arg15.IsWhole) (hc0 : ¬cond0_0 i) (xo11 xo12 : Vec Ideal S1x8x1024 .f32) (xo14 : Vec Ideal S8x1024 .f32)
    (hb : Blocks a t x0 x1 x2 x3 x4 x5 x6 x7 x8) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo11 xo12 xo14 = fun y => xo11 y + part (fun g d => a.DH g d * nm a.X g d) t (y 1).val (y 2).val := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo11 xo12 xo14)]
  funext y
  refine View.canon_apply_of_pieces (fun y => xo11 y + part (fun g d => a.DH g d * nm a.X g d) t (y 1).val (y 2).val) _ ?_ y (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo11 xo12 xo14 y)
  unfold kernelRun0_B
  dsimp only
  sl_unfold_words
  simp only [List.mem_cons, List.not_mem_nil, or_false, forall_eq_or_imp, forall_eq]
  have h65 := v65_at (a := a) (t := t) arg1 harg1 arg2 harg2 arg3 harg3 arg4 harg4 arg10 hb
  have h66 := rd_rows a.X x4 hb.h4 arg5 harg5 inb_S256x1024_S256x1024_0_0
  intro j
  refine (pay21_at (a := a) (t := t) _ _ _ h65 h66 j).trans ?_
  exact congrArg₂ (· + ·) (by rw [View.readAt_eq_ld, harg12.read_unread]; rfl) (congrArg₂ (part (fun g d => a.DH g d * nm a.X g d) t) (by simp) (by simp))

theorem out_B_12 (c : Dev nD) (i : grid0.Coords) (arg1 : Memref sig .tc .vmem S256x1024 .bf16) (harg1 : arg1.IsWhole) (arg2 : Memref sig .tc .vmem S1x2816x1024 .bf16) (harg2 : arg2.IsWhole) (arg3 : Memref sig .tc .vmem S256x5632 .bf16) (harg3 : arg3.IsWhole) (arg4 : Memref sig .tc .vmem S1x1024x5632 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole) (arg8 : Memref sig .tc .vmem S256x1024 .bf16) (harg8 : arg8.IsWhole) (arg9 : Memref sig .tc .vmem S1x1024 .f32) (harg9 : arg9.IsWhole) (arg10 : Memref sig .tc .vmem S256x5632 .bf16) (harg10 : arg10.IsWhole) (arg11 : Memref sig .tc .vmem S256x1024 .f32) (harg11 : arg11.IsWhole) (arg12 : Memref sig .tc .vmem S1x8x1024 .f32) (harg12 : arg12.IsWhole) (arg13 : Memref sig .tc .vmem S1x8x1024 .f32) (harg13 : arg13.IsWhole) (arg14 : Memref sig .tc .vmem S256x1024 .bf16) (harg14 : arg14.IsWhole) (arg15 : Memref sig .tc .vmem S8x1024 .f32) (harg15 : arg15.IsWhole) (hc0 : ¬cond0_0 i) (xo11 xo12 : Vec Ideal S1x8x1024 .f32) (xo14 : Vec Ideal S8x1024 .f32)
    (hb : Blocks a t x0 x1 x2 x3 x4 x5 x6 x7 x8) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo11 xo12 xo14 = fun y => xo12 y + part a.DH t (y 1).val (y 2).val := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo11 xo12 xo14)]
  funext y
  refine View.canon_apply_of_pieces (fun y => xo12 y + part a.DH t (y 1).val (y 2).val) _ ?_ y (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo11 xo12 xo14 y)
  unfold kernelRun0_B
  dsimp only
  sl_unfold_words
  simp only [List.mem_cons, List.not_mem_nil, or_false, forall_eq_or_imp, forall_eq]
  have h65 := v65_at (a := a) (t := t) arg1 harg1 arg2 harg2 arg3 harg3 arg4 harg4 arg10 hb
  have h66 := rd_rows a.X x4 hb.h4 arg5 harg5 inb_S256x1024_S256x1024_0_0
  intro j
  refine (pay22_at (t := t) _ _ a.DH h65 j).trans ?_
  exact congrArg₂ (· + ·) (by rw [View.readAt_eq_ld, harg13.read_unread]; rfl) (congrArg₂ (part a.DH t) (by simp) (by simp))

theorem out_B_13 (c : Dev nD) (i : grid0.Coords) (arg1 : Memref sig .tc .vmem S256x1024 .bf16) (harg1 : arg1.IsWhole) (arg2 : Memref sig .tc .vmem S1x2816x1024 .bf16) (harg2 : arg2.IsWhole) (arg3 : Memref sig .tc .vmem S256x5632 .bf16) (harg3 : arg3.IsWhole) (arg4 : Memref sig .tc .vmem S1x1024x5632 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole) (arg8 : Memref sig .tc .vmem S256x1024 .bf16) (harg8 : arg8.IsWhole) (arg9 : Memref sig .tc .vmem S1x1024 .f32) (harg9 : arg9.IsWhole) (arg10 : Memref sig .tc .vmem S256x5632 .bf16) (harg10 : arg10.IsWhole) (arg11 : Memref sig .tc .vmem S256x1024 .f32) (harg11 : arg11.IsWhole) (arg12 : Memref sig .tc .vmem S1x8x1024 .f32) (harg12 : arg12.IsWhole) (arg13 : Memref sig .tc .vmem S1x8x1024 .f32) (harg13 : arg13.IsWhole) (arg14 : Memref sig .tc .vmem S256x1024 .bf16) (harg14 : arg14.IsWhole) (arg15 : Memref sig .tc .vmem S8x1024 .f32) (harg15 : arg15.IsWhole) (hc0 : ¬cond0_0 i) (xo11 xo12 : Vec Ideal S1x8x1024 .f32) (xo14 : Vec Ideal S8x1024 .f32)
    (hb : Blocks a t x0 x1 x2 x3 x4 x5 x6 x7 x8) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo11 xo12 xo14 = fun y => a.DYN (256 * t + (y 0).val) (y 1).val := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo11 xo12 xo14)]
  funext y
  refine View.canon_apply_of_pieces (fun y => a.DYN (256 * t + (y 0).val) (y 1).val) _ ?_ y (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo11 xo12 xo14 y)
  unfold kernelRun0_B
  dsimp only
  sl_unfold_words
  simp only [List.mem_cons, List.not_mem_nil, or_false, forall_eq_or_imp, forall_eq]
  have h65 := v65_at (a := a) (t := t) arg1 harg1 arg2 harg2 arg3 harg3 arg4 harg4 arg10 hb
  have h66 := rd_rows a.X x4 hb.h4 arg5 harg5 inb_S256x1024_S256x1024_0_0
  have h78 := rd_row a.S x6 hb.h6 arg7 harg7 inb_S1x1024_S1x1024_0_0
  have h24 := pay24_at (a := a) (t := t) _ _ _ _ _ (pay18_at _ h66) (pay19_at _ h66) (pay20_at _ _ h65 h78)
    (rd_rows a.D x5 hb.h5 arg6 harg6 inb_S256x1024_S256x1024_0_0) (pay23_at _ _ _ h65 h66 h78)
  have h111 := rd_rows a.Y x7 hb.h7 arg8 harg8 inb_S256x1024_S256x1024_0_0
  exact fun j => (pay28_at (a := a) (t := t) _ _ _ _ _ _ _ h24 h111 (rd_row a.G x8 hb.h8 arg9 harg9 inb_S1x1024_S1x1024_0_0) j).trans (congrArg₂ a.DYN (by simp) (by simp))

theorem out_B_14 (c : Dev nD) (i : grid0.Coords) (arg1 : Memref sig .tc .vmem S256x1024 .bf16) (harg1 : arg1.IsWhole) (arg2 : Memref sig .tc .vmem S1x2816x1024 .bf16) (harg2 : arg2.IsWhole) (arg3 : Memref sig .tc .vmem S256x5632 .bf16) (harg3 : arg3.IsWhole) (arg4 : Memref sig .tc .vmem S1x1024x5632 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole) (arg8 : Memref sig .tc .vmem S256x1024 .bf16) (harg8 : arg8.IsWhole) (arg9 : Memref sig .tc .vmem S1x1024 .f32) (harg9 : arg9.IsWhole) (arg10 : Memref sig .tc .vmem S256x5632 .bf16) (harg10 : arg10.IsWhole) (arg11 : Memref sig .tc .vmem S256x1024 .f32) (harg11 : arg11.IsWhole) (arg12 : Memref sig .tc .vmem S1x8x1024 .f32) (harg12 : arg12.IsWhole) (arg13 : Memref sig .tc .vmem S1x8x1024 .f32) (harg13 : arg13.IsWhole) (arg14 : Memref sig .tc .vmem S256x1024 .bf16) (harg14 : arg14.IsWhole) (arg15 : Memref sig .tc .vmem S8x1024 .f32) (harg15 : arg15.IsWhole) (hc0 : ¬cond0_0 i) (xo11 xo12 : Vec Ideal S1x8x1024 .f32) (xo14 : Vec Ideal S8x1024 .f32)
    (hb : Blocks a t x0 x1 x2 x3 x4 x5 x6 x7 x8) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo11 xo12 xo14 = fun y => xo14 y + part (fun g d => a.DXN g d * nm a.Y g d) t (y 0).val (y 1).val := by
  unfold out0_B_14
  rw [View.read_writes_eq_canon _ _ _ (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo11 xo12 xo14)]
  funext y
  refine View.canon_apply_of_pieces (fun y => xo14 y + part (fun g d => a.DXN g d * nm a.Y g d) t (y 0).val (y 1).val) _ ?_ y (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo11 xo12 xo14 y)
  unfold kernelRun0_B
  dsimp only
  sl_unfold_words
  simp only [List.mem_cons, List.not_mem_nil, or_false, forall_eq_or_imp, forall_eq]
  have h65 := v65_at (a := a) (t := t) arg1 harg1 arg2 harg2 arg3 harg3 arg4 harg4 arg10 hb
  have h66 := rd_rows a.X x4 hb.h4 arg5 harg5 inb_S256x1024_S256x1024_0_0
  have h78 := rd_row a.S x6 hb.h6 arg7 harg7 inb_S1x1024_S1x1024_0_0
  have h24 := pay24_at (a := a) (t := t) _ _ _ _ _ (pay18_at _ h66) (pay19_at _ h66) (pay20_at _ _ h65 h78)
    (rd_rows a.D x5 hb.h5 arg6 harg6 inb_S256x1024_S256x1024_0_0) (pay23_at _ _ _ h65 h66 h78)
  have h111 := rd_rows a.Y x7 hb.h7 arg8 harg8 inb_S256x1024_S256x1024_0_0
  intro j
  refine (pay1_at (a := a) (t := t) _ _ _ _ _ _ _ h24 h111 j).trans ?_
  exact congrArg₂ (· + ·) (by rw [View.readAt_eq_ld, harg15.read_unread]; rfl) (congrArg₂ (part (fun g d => a.DXN g d * nm a.Y g d) t) (by simp) (by simp))

end Cert.Kernel2Ideal.Ffn
end
-- ==== Proof.FfnArray.lean ====
/- The arrays the SwiGLU block's launch reads: what the host forms before it, as functions of a row and a column of
   the arguments, and each point's blocks as rows of them. -/
module

public import proofs.«01_k».proof.Proof.FfnBlock
public import Idealize.ShloMosaic.Lib.KernelVsHost
public import Idealize.ShloMosaic.Lib.StableHlo.Run
public import Idealize.ShloMosaic.Lib.StackMember
public import Idealize.ShloMosaic.Lib.Pointwise

@[expose] public section

set_option maxRecDepth 16384

noncomputable section

open Idealize.ShloMosaic hiding ix1 ix2 ix3
open Idealize.ShloMosaic.ValueIdx Idealize.ShloMosaic.TcCoe Idealize.SL.Sem

namespace Cert.Ffn

/-- The arguments as functions of a row and a column. -/
structure Args where
  x : ℕ → ℕ → EReal
  y : ℕ → ℕ → EReal
  gate : ℕ → ℕ → EReal
  scale : ℕ → ℕ → EReal
  shift : ℕ → ℕ → EReal
  wi : ℕ → ℕ → EReal
  wo : ℕ → ℕ → EReal
  dx : ℕ → ℕ → EReal
  dy : ℕ → ℕ → EReal

/-- The residual stream after the mixer. -/
def Args.XN (p : Args) (g d : ℕ) : EReal := p.x g d + p.gate 0 d * nm p.y g d
/-- The SwiGLU block's input after scale and shift. -/
def Args.H (p : Args) (g d : ℕ) : EReal := nm p.XN g d * p.scale 0 d + p.shift 0 d
/-- Gates and ups. -/
def Args.GU (p : Args) (g c : ℕ) : EReal := ∑ e : Fin 1024, p.H g e.val * p.wi e.val c

/-- The kernel's order of the columns: the second and the third quarter change places. -/
def pr (c : ℕ) : ℕ := if c < 1408 then c else if c < 2816 then c + 1408 else if c < 4224 then c - 1408 else c

/-- The arrays the kernel reads. -/
def Args.arr (p : Args) : Arr where
  DY := p.dy
  WO := p.wo
  GU g c := p.GU g (pr c)
  WI e c := p.wi e (pr c)
  X := p.XN
  D := p.dx
  S := p.scale
  Y := p.y
  G := p.gate

/-- Four blocks of 1408 columns side by side, the middle two exchanged. -/
theorem four_at {n : ℕ} (v0 v1 v2 v3 : (⟨2, ![n, 1408]⟩ : Shape).Idx → EReal) (f : ℕ → ℕ → EReal)
    (h : Shape.Concatenates (([⟨⟨2, ![n, 1408]⟩, v0⟩, ⟨⟨2, ![n, 1408]⟩, v1⟩, ⟨⟨2, ![n, 1408]⟩, v2⟩, ⟨⟨2, ![n, 1408]⟩, v3⟩] :
      List ((s : Shape) × (s.Idx → EReal))).map (·.1)) ⟨2, ![n, 5632]⟩ 1)
    (h0 : ∀ i, v0 i = f (i 0).val (i 1).val) (h1 : ∀ i, v1 i = f (i 0).val (2816 + (i 1).val))
    (h2 : ∀ i, v2 i = f (i 0).val (1408 + (i 1).val)) (h3 : ∀ i, v3 i = f (i 0).val (4224 + (i 1).val))
    (j : (⟨2, ![n, 5632]⟩ : Shape).Idx) :
    concatenate ⟨2, ![n, 5632]⟩ 1 [⟨⟨2, ![n, 1408]⟩, v0⟩, ⟨⟨2, ![n, 1408]⟩, v1⟩, ⟨⟨2, ![n, 1408]⟩, v2⟩, ⟨⟨2, ![n, 1408]⟩, v3⟩] h j
      = f (j 0).val (pr (j 1).val) := by
  have l0 : (j 0).val < n := (j 0).isLt
  have l1 : (j 1).val < 5632 := (j 1).isLt
  have key : ∀ (k : ℕ) (hk : k < 4) (v : (⟨2, ![n, 1408]⟩ : Shape).Idx → EReal)
      (hx : ([⟨⟨2, ![n, 1408]⟩, v0⟩, ⟨⟨2, ![n, 1408]⟩, v1⟩, ⟨⟨2, ![n, 1408]⟩, v2⟩, ⟨⟨2, ![n, 1408]⟩, v3⟩] :
        List ((s : Shape) × (s.Idx → EReal)))[k] = ⟨⟨2, ![n, 1408]⟩, v⟩)
      (hpre : (((([⟨⟨2, ![n, 1408]⟩, v0⟩, ⟨⟨2, ![n, 1408]⟩, v1⟩, ⟨⟨2, ![n, 1408]⟩, v2⟩, ⟨⟨2, ![n, 1408]⟩, v3⟩] :
        List ((s : Shape) × (s.Idx → EReal))).take k).map (·.1)).map fun s => if h : s.rank = 2 then s.size ((1 : Fin 2).cast h.symm) else 0).sum = 1408 * k)
      (hlo : 1408 * k ≤ (j 1).val) (hhi : (j 1).val - 1408 * k < 1408),
      concatenate ⟨2, ![n, 5632]⟩ 1 [⟨⟨2, ![n, 1408]⟩, v0⟩, ⟨⟨2, ![n, 1408]⟩, v1⟩, ⟨⟨2, ![n, 1408]⟩, v2⟩, ⟨⟨2, ![n, 1408]⟩, v3⟩] h j
        = v (ix2 (⟨(j 0).val, l0⟩ : Fin n) (⟨(j 1).val - 1408 * k, hhi⟩ : Fin 1408)) := by
    intro k hk v hx hpre hlo hhi
    exact concatenate_apply_piece (t := ⟨2, ![n, 5632]⟩) 1 _ h j k hk ⟨2, ![n, 1408]⟩ v hx rfl (1408 * k) hpre _
      (fun b hb => by match b with | ⟨0, _⟩ => rfl | ⟨1, _⟩ => exact absurd rfl hb)
      (by show 1408 * k + ((j 1).val - 1408 * k) = (j 1).val; omega)
  unfold pr
  by_cases a : (j 1).val < 1408
  · rw [key 0 (by decide) v0 rfl rfl (by omega) (by omega), h0, if_pos a]
    exact congrArg (f _) (show (j 1).val - 1408 * 0 = _ by omega)
  rw [if_neg a]
  by_cases b : (j 1).val < 2816
  · rw [key 1 (by decide) v1 rfl rfl (by omega) (by omega), h1, if_pos b]
    exact congrArg (f _) (show 2816 + ((j 1).val - 1408 * 1) = _ by omega)
  rw [if_neg b]
  by_cases d : (j 1).val < 4224
  · rw [key 2 (by decide) v2 rfl rfl (by omega) (by omega), h2, if_pos d]
    exact congrArg (f _) (show 1408 + ((j 1).val - 1408 * 2) = _ by omega)
  · rw [key 3 (by decide) v3 rfl rfl (by omega) (by omega), h3, if_neg d]
    exact congrArg (f _) (show 4224 + ((j 1).val - 1408 * 3) = _ by omega)

end Cert.Ffn

namespace Cert.Kernel2Ideal.Ffn

open Cert.Kernel2Ideal Cert.Kernel2Ideal.Gen Cert.Ffn Cert.Conv
open Idealize.ShloMosaic.Pipeline (Dat)

/-- The host's norm. -/
def hN (y : FVec Ideal S8192x1024 .f32) : FVec Ideal S8192x1024 .f32 :=
  mulf y (broadcastInDim S8192x1024 ![0, 1] bcast_S8192x1_S8192x1024_0_1 (Host.rsqrt (addf (Host.divf
    (broadcastInDim S8192x1 ![0] bcast_S8192_S8192x1_0 (Host.reduceAdd (mulf y y) (constant S_ .f32 0x00000000#32) reducesTo_S8192x1024_S8192_d1 h_S_))
    (broadcastInDim S8192x1 ![] bcast_S_S8192x1 (constant S_ .f32 0x44800000#32)))
    (broadcastInDim S8192x1 ![] bcast_S_S8192x1 (constant S_ .f32 0x358637BD#32)))))

theorem hN_at (y : FVec Ideal S8192x1024 .f32) (f : ℕ → ℕ → EReal) (h : ∀ j, y j = f (j 0).val (j 1).val) (j : S8192x1024.Idx) :
    hN y j = nm f (j 0).val (j 1).val := by
  have l0 : (j 0).val < 8192 := (j 0).isLt
  have e : ∀ (u : FVec Ideal S8192x1 .f32), broadcastInDim S8192x1024 ![0, 1] bcast_S8192x1_S8192x1024_0_1 u j = u (ix2 (⟨(j 0).val, l0⟩ : Fin 8192) (0 : Fin 1)) := fun u =>
    broadcastInDim_apply _ _ _ _ _ (fun a => by match a with | ⟨0, _⟩ => rfl | ⟨1, _⟩ => rfl)
  have e1 : ∀ (u : FVec Ideal S8192 .f32), broadcastInDim S8192x1 ![0] bcast_S8192_S8192x1_0 u (ix2 (⟨(j 0).val, l0⟩ : Fin 8192) (0 : Fin 1)) = u (ix1 (⟨(j 0).val, l0⟩ : Fin 8192)) := fun u =>
    broadcastInDim_apply _ _ _ _ _ (fun a => by match a with | ⟨0, _⟩ => rfl)
  have e2 : Host.reduceAdd (mulf y y) (constant S_ .f32 0x00000000#32) reducesTo_S8192x1024_S8192_d1 h_S_ (ix1 (⟨(j 0).val, l0⟩ : Fin 8192))
      = ∑ d : Fin 1024, f (j 0).val d.val * f (j 0).val d.val := by
    show Ideal.hostReduceAdd reducesTo_S8192x1024_S8192_d1 (mulf y y) (Ideal.ofBits .f32 0x00000000#32) _ = _
    rw [Ideal.hostReduceAdd_r2_a1, Ideal.ofBits_zero_f32, zero_add]
    refine Finset.sum_congr rfl fun d _ => ?_
    show y _ * y _ = _
    rw [h]
    rfl
  refine (congrArg₂ (· * ·) (h j) (e _)).trans ?_
  exact congrArg (fun z => f (j 0).val (j 1).val * Ideal.rsqrt (Ideal.div z cN + cE)) ((e1 _).trans e2)

theorem row_at (u : FVec Ideal S1x1024 .f32) (j : S8192x1024.Idx) :
    broadcastInDim S8192x1024 ![0, 1] bcast_S1x1024_S8192x1024_0_1 u j = rd (n := 1) (k := 1024) u 0 (j 1).val := by
  have l1 : (j 1).val < 1024 := (j 1).isLt
  refine (broadcastInDim_apply _ _ u j (ix2 (0 : Fin 1) (⟨(j 1).val, l1⟩ : Fin 1024)) (fun a => by match a with | ⟨0, _⟩ => rfl | ⟨1, _⟩ => rfl)).trans ?_
  exact rd_eq u _ rfl rfl

variable (m : (ℓ : Loc nD τ sig) → Buf (Elt Ideal) ℓ) (ρ : Dev nD → PrngReg)

/-- The arguments, as the launch memory holds them. -/
abbrev P (c : Dev nD) : Args where
  x := rd (n := 8192) (k := 1024) (m ((c : Thread nD τ).loc main_arg0))
  y := rd (n := 8192) (k := 1024) (m ((c : Thread nD τ).loc main_arg1))
  gate := rd (n := 1) (k := 1024) (m ((c : Thread nD τ).loc main_arg2))
  scale := rd (n := 1) (k := 1024) (m ((c : Thread nD τ).loc main_arg3))
  shift := rd (n := 1) (k := 1024) (m ((c : Thread nD τ).loc main_arg4))
  wi := rd (n := 1024) (k := 5632) (m ((c : Thread nD τ).loc main_arg5))
  wo := rd (n := 2816) (k := 1024) (m ((c : Thread nD τ).loc main_arg6))
  dx := rd (n := 8192) (k := 1024) (m ((c : Thread nD τ).loc main_arg7))
  dy := rd (n := 8192) (k := 1024) (m ((c : Thread nD τ).loc main_arg8))

/-- The host's residual stream. -/
def hX (x : FVec Ideal S8192x1024 .f32) (y : FVec Ideal S8192x1024 .bf16) (gate : FVec Ideal S1x1024 .f32) : FVec Ideal S8192x1024 .f32 :=
  addf x (mulf (broadcastInDim S8192x1024 ![0, 1] bcast_S1x1024_S8192x1024_0_1 gate) (hN (extf .f32 y bitsLt_bf16_f32)))
/-- The host's input of the block. -/
def hH (xn : FVec Ideal S8192x1024 .f32) (scale shift : FVec Ideal S1x1024 .f32) : FVec Ideal S8192x1024 .f32 :=
  addf (mulf (hN xn) (broadcastInDim S8192x1024 ![0, 1] bcast_S1x1024_S8192x1024_0_1 scale)) (broadcastInDim S8192x1024 ![0, 1] bcast_S1x1024_S8192x1024_0_1 shift)
/-- The host's paired weights. -/
def hW (w : FVec Ideal S1024x5632 .bf16) : FVec Ideal S1024x5632 .bf16 :=
  concatenate S1024x5632 1 [⟨S1024x1408, extractStridedSlice S1024x1408 ![0, 0] w slices_S1024x5632_S1024x1408_0_0⟩,
    ⟨S1024x1408, extractStridedSlice S1024x1408 ![0, 2816] w slices_S1024x5632_S1024x1408_0_2816⟩,
    ⟨S1024x1408, extractStridedSlice S1024x1408 ![0, 1408] w slices_S1024x5632_S1024x1408_0_1408⟩,
    ⟨S1024x1408, extractStridedSlice S1024x1408 ![0, 4224] w slices_S1024x5632_S1024x1408_0_4224⟩]
    concatenates_S1024x1408_S1024x1408_S1024x1408_S1024x1408_S1024x5632_d1

theorem V_xn (c : Dev nD) : V m c main_v19 = hX (m ((c : Thread nD τ).loc main_arg0)) (m ((c : Thread nD τ).loc main_arg1)) (m ((c : Thread nD τ).loc main_arg2)) := by
  unfold V V0
  simp only [hostOps0, List.flatten_cons, List.flatten_nil, List.append_nil, List.cons_append, List.nil_append]
  after_results
  rfl
theorem V_wo (c : Dev nD) : V m c main_v35 = broadcastInDim S1x2816x1024 ![1, 2] bcast_S2816x1024_S1x2816x1024_1_2 (m ((c : Thread nD τ).loc main_arg6)) := by
  unfold V V0
  simp only [hostOps0, List.flatten_cons, List.flatten_nil, List.append_nil, List.cons_append, List.nil_append]
  after_results
theorem V_wi (c : Dev nD) : V m c main_v37 = broadcastInDim S1x1024x5632 ![1, 2] bcast_S1024x5632_S1x1024x5632_1_2 (hW (m ((c : Thread nD τ).loc main_arg5))) := by
  unfold V V0
  simp only [hostOps0, List.flatten_cons, List.flatten_nil, List.append_nil, List.cons_append, List.nil_append]
  after_results
  rfl
theorem V_gu (c : Dev nD) : V m c main_v36 = truncf .bf16 (Host.dotGeneral dot_S8192x1024_S1024x5632_S8192x5632_1_0_0_1_n_n none
      (hH (hX (m ((c : Thread nD τ).loc main_arg0)) (m ((c : Thread nD τ).loc main_arg1)) (m ((c : Thread nD τ).loc main_arg2)))
        (m ((c : Thread nD τ).loc main_arg3)) (m ((c : Thread nD τ).loc main_arg4)))
      (extf .f32 (hW (m ((c : Thread nD τ).loc main_arg5))) bitsLt_bf16_f32)) bitsLt_bf16_f32 := by
  unfold V V0
  simp only [hostOps0, List.flatten_cons, List.flatten_nil, List.append_nil, List.cons_append, List.nil_append]
  after_results
  rfl

theorem xn_at (c : Dev nD) (j : S8192x1024.Idx) : (V m c main_v19 : S8192x1024.Idx → EReal) j = (P m c).XN (j 0).val (j 1).val := by
  rw [V_xn]
  exact congrArg₂ (· + ·) (rd_eq _ j rfl rfl) (congrArg₂ (· * ·) (row_at _ j) (hN_at _ (P m c).y (fun i => rd_eq _ i rfl rfl) j))
theorem wo_at (c : Dev nD) (j : S1x2816x1024.Idx) : (V m c main_v35 : S1x2816x1024.Idx → EReal) j = (P m c).wo (j 1).val (j 2).val := by
  have l1 : (j 1).val < 2816 := (j 1).isLt
  have l2 : (j 2).val < 1024 := (j 2).isLt
  rw [V_wo]
  refine (broadcastInDim_apply _ _ _ j (ix2 (⟨(j 1).val, l1⟩ : Fin 2816) (⟨(j 2).val, l2⟩ : Fin 1024)) (fun a => by match a with | ⟨0, _⟩ => rfl | ⟨1, _⟩ => rfl)).trans ?_
  exact rd_eq _ _ rfl rfl
theorem hW_at (w : FVec Ideal S1024x5632 .bf16) (j : S1024x5632.Idx) : hW w j = rd (n := 1024) (k := 5632) w (j 0).val (pr (j 1).val) := by
  refine four_at (n := 1024) _ _ _ _ (rd (n := 1024) (k := 5632) w) _ (fun i => ?_) (fun i => ?_) (fun i => ?_) (fun i => ?_) j
  · exact rd_eq w _ (Nat.zero_add _) (Nat.zero_add _)
  · exact rd_eq w _ (Nat.zero_add _) rfl
  · exact rd_eq w _ (Nat.zero_add _) rfl
  · exact rd_eq w _ (Nat.zero_add _) rfl
theorem wi_at (c : Dev nD) (j : S1x1024x5632.Idx) : (V m c main_v37 : S1x1024x5632.Idx → EReal) j = (P m c).wi (j 1).val (pr (j 2).val) := by
  have l1 : (j 1).val < 1024 := (j 1).isLt
  have l2 : (j 2).val < 5632 := (j 2).isLt
  rw [V_wi]
  refine (broadcastInDim_apply _ _ _ j (ix2 (⟨(j 1).val, l1⟩ : Fin 1024) (⟨(j 2).val, l2⟩ : Fin 5632)) (fun a => by match a with | ⟨0, _⟩ => rfl | ⟨1, _⟩ => rfl)).trans ?_
  exact hW_at _ _
theorem hH_at (c : Dev nD) (j : S8192x1024.Idx) : hH (hX (m ((c : Thread nD τ).loc main_arg0)) (m ((c : Thread nD τ).loc main_arg1)) (m ((c : Thread nD τ).loc main_arg2)))
        (m ((c : Thread nD τ).loc main_arg3)) (m ((c : Thread nD τ).loc main_arg4)) j = (P m c).H (j 0).val (j 1).val :=
  congrArg₂ (· + ·) (congrArg₂ (· * ·) (hN_at _ (P m c).XN (fun i => (congrFun (V_xn m c) i).symm.trans (xn_at m c i)) j) (row_at _ j)) (row_at _ j)
theorem gu_at (c : Dev nD) (j : S8192x5632.Idx) : (V m c main_v36 : S8192x5632.Idx → EReal) j = (P m c).GU (j 0).val (pr (j 1).val) := by
  have l0 : (j 0).val < 8192 := (j 0).isLt
  have l1 : (j 1).val < 5632 := (j 1).isLt
  rw [V_gu]
  have ej : j = ix2 (⟨(j 0).val, l0⟩ : Fin 8192) (⟨(j 1).val, l1⟩ : Fin 5632) := ValueIdx.eq_ix2 j
  rw [ej]
  refine (StackMember.dotGeneral_plain_apply (m := 8192) (k := 1024) (n := 5632) none _ _ _ _).trans ?_
  refine Finset.sum_congr rfl fun e _ => ?_
  exact congrArg₂ (· * ·) (hH_at m c _) (hW_at _ _)

theorem N32 : cfg0.N = 32 := N_0

theorem ix_0 : ∀ t : Fin grid0.N, win0_0.index t 0 = t.val ∧ win0_0.index t 1 = 0 := by decide +kernel
theorem ix_1 : ∀ t : Fin grid0.N, win0_1.index t 0 = 0 ∧ win0_1.index t 1 = 0 ∧ win0_1.index t 2 = 0 := by decide +kernel
theorem ix_2 : ∀ t : Fin grid0.N, win0_2.index t 0 = t.val ∧ win0_2.index t 1 = 0 := by decide +kernel
theorem ix_3 : ∀ t : Fin grid0.N, win0_3.index t 0 = 0 ∧ win0_3.index t 1 = 0 ∧ win0_3.index t 2 = 0 := by decide +kernel
theorem ix_4 : ∀ t : Fin grid0.N, win0_4.index t 0 = t.val ∧ win0_4.index t 1 = 0 := by decide +kernel
theorem ix_5 : ∀ t : Fin grid0.N, win0_5.index t 0 = t.val ∧ win0_5.index t 1 = 0 := by decide +kernel
theorem ix_6 : ∀ t : Fin grid0.N, win0_6.index t 0 = 0 ∧ win0_6.index t 1 = 0 := by decide +kernel
theorem ix_7 : ∀ t : Fin grid0.N, win0_7.index t 0 = t.val ∧ win0_7.index t 1 = 0 := by decide +kernel
theorem ix_8 : ∀ t : Fin grid0.N, win0_8.index t 0 = 0 ∧ win0_8.index t 1 = 0 := by decide +kernel
theorem ix_9 : ∀ t : Fin grid0.N, win0_9.index t 0 = t.val ∧ win0_9.index t 1 = 0 := by decide +kernel
theorem ix_10 : ∀ t : Fin grid0.N, win0_10.index t 0 = t.val ∧ win0_10.index t 1 = 0 := by decide +kernel
theorem ix_11 : ∀ t : Fin grid0.N, win0_11.index t 0 = 0 ∧ win0_11.index t 1 = 0 ∧ win0_11.index t 2 = 0 := by decide +kernel
theorem ix_12 : ∀ t : Fin grid0.N, win0_12.index t 0 = 0 ∧ win0_12.index t 1 = 0 ∧ win0_12.index t 2 = 0 := by decide +kernel
theorem ix_13 : ∀ t : Fin grid0.N, win0_13.index t 0 = t.val ∧ win0_13.index t 1 = 0 := by decide +kernel
theorem ix_14 : ∀ t : Fin grid0.N, win0_14.index t 0 = 0 ∧ win0_14.index t 1 = 0 := by decide +kernel

theorem rb_0 (c : Dev nD) (t : Fin cfg0.N) (j : S256x1024.Idx) : (iblk m c 0 t : S256x1024.Idx → EReal) j = (P m c).arr.DY (256 * t.val + (j 0).val) (j 1).val := by
  unfold iblk
  rw [View.read_apply]
  show V m c main_arg8 _ = _
  rw [V_main_arg8]
  refine rd_eq _ _ ?_ ?_
  · show win0_0.index t 0 * 256 + 1 * (j 0).val = _; rw [(ix_0 t).1]; omega
  · show win0_0.index t 1 * 1024 + 1 * (j 1).val = _; rw [(ix_0 t).2]; omega
theorem rb_1 (c : Dev nD) (t : Fin cfg0.N) (j : S1x2816x1024.Idx) : (iblk m c 1 t : S1x2816x1024.Idx → EReal) j = (P m c).arr.WO (j 1).val (j 2).val := by
  unfold iblk
  rw [View.read_apply]
  show V m c main_v35 _ = _
  refine (wo_at m c _).trans ?_
  refine congrArg₂ (P m c).wo ?_ ?_
  · show win0_1.index t 1 * 2816 + 1 * (j 1).val = _; rw [(ix_1 t).2.1]; omega
  · show win0_1.index t 2 * 1024 + 1 * (j 2).val = _; rw [(ix_1 t).2.2]; omega
theorem rb_2 (c : Dev nD) (t : Fin cfg0.N) (j : S256x5632.Idx) : (iblk m c 2 t : S256x5632.Idx → EReal) j = (P m c).arr.GU (256 * t.val + (j 0).val) (j 1).val := by
  unfold iblk
  rw [View.read_apply]
  show V m c main_v36 _ = _
  refine (gu_at m c _).trans ?_
  refine congrArg₂ (P m c).GU ?_ ?_
  · show win0_2.index t 0 * 256 + 1 * (j 0).val = _; rw [(ix_2 t).1]; omega
  · exact congrArg pr (show win0_2.index t 1 * 5632 + 1 * (j 1).val = _ by rw [(ix_2 t).2]; omega)
theorem rb_3 (c : Dev nD) (t : Fin cfg0.N) (j : S1x1024x5632.Idx) : (iblk m c 3 t : S1x1024x5632.Idx → EReal) j = (P m c).arr.WI (j 1).val (j 2).val := by
  unfold iblk
  rw [View.read_apply]
  show V m c main_v37 _ = _
  refine (wi_at m c _).trans ?_
  refine congrArg₂ (P m c).wi ?_ ?_
  · show win0_3.index t 1 * 1024 + 1 * (j 1).val = _; rw [(ix_3 t).2.1]; omega
  · exact congrArg pr (show win0_3.index t 2 * 5632 + 1 * (j 2).val = _ by rw [(ix_3 t).2.2]; omega)
theorem rb_4 (c : Dev nD) (t : Fin cfg0.N) (j : S256x1024.Idx) : (iblk m c 4 t : S256x1024.Idx → EReal) j = (P m c).arr.X (256 * t.val + (j 0).val) (j 1).val := by
  unfold iblk
  rw [View.read_apply]
  show V m c main_v19 _ = _
  refine (xn_at m c _).trans ?_
  refine congrArg₂ (P m c).XN ?_ ?_
  · show win0_4.index t 0 * 256 + 1 * (j 0).val = _; rw [(ix_4 t).1]; omega
  · show win0_4.index t 1 * 1024 + 1 * (j 1).val = _; rw [(ix_4 t).2]; omega
theorem rb_5 (c : Dev nD) (t : Fin cfg0.N) (j : S256x1024.Idx) : (iblk m c 5 t : S256x1024.Idx → EReal) j = (P m c).arr.D (256 * t.val + (j 0).val) (j 1).val := by
  unfold iblk
  rw [View.read_apply]
  show V m c main_arg7 _ = _
  rw [V_main_arg7]
  refine rd_eq _ _ ?_ ?_
  · show win0_5.index t 0 * 256 + 1 * (j 0).val = _; rw [(ix_5 t).1]; omega
  · show win0_5.index t 1 * 1024 + 1 * (j 1).val = _; rw [(ix_5 t).2]; omega
theorem rb_6 (c : Dev nD) (t : Fin cfg0.N) (j : S1x1024.Idx) : (iblk m c 6 t : S1x1024.Idx → EReal) j = (P m c).arr.S 0 (j 1).val := by
  unfold iblk
  rw [View.read_apply]
  show V m c main_arg3 _ = _
  rw [V_main_arg3]
  refine rd_eq _ _ ?_ ?_
  · have l0 : (j 0).val < 1 := (j 0).isLt
    show win0_6.index t 0 * 1 + 1 * (j 0).val = _; rw [(ix_6 t).1]; omega
  · show win0_6.index t 1 * 1024 + 1 * (j 1).val = _; rw [(ix_6 t).2]; omega
theorem rb_7 (c : Dev nD) (t : Fin cfg0.N) (j : S256x1024.Idx) : (iblk m c 7 t : S256x1024.Idx → EReal) j = (P m c).arr.Y (256 * t.val + (j 0).val) (j 1).val := by
  unfold iblk
  rw [View.read_apply]
  show V m c main_arg1 _ = _
  rw [V_main_arg1]
  refine rd_eq _ _ ?_ ?_
  · show win0_7.index t 0 * 256 + 1 * (j 0).val = _; rw [(ix_7 t).1]; omega
  · show win0_7.index t 1 * 1024 + 1 * (j 1).val = _; rw [(ix_7 t).2]; omega
theorem rb_8 (c : Dev nD) (t : Fin cfg0.N) (j : S1x1024.Idx) : (iblk m c 8 t : S1x1024.Idx → EReal) j = (P m c).arr.G 0 (j 1).val := by
  unfold iblk
  rw [View.read_apply]
  show V m c main_arg2 _ = _
  rw [V_main_arg2]
  refine rd_eq _ _ ?_ ?_
  · have l0 : (j 0).val < 1 := (j 0).isLt
    show win0_8.index t 0 * 1 + 1 * (j 0).val = _; rw [(ix_8 t).1]; omega
  · show win0_8.index t 1 * 1024 + 1 * (j 1).val = _; rw [(ix_8 t).2]; omega

theorem blocks (c : Dev nD) (t : Fin cfg0.N) :
    Blocks (P m c).arr t.val (iblk m c 0 t) (iblk m c 1 t) (iblk m c 2 t) (iblk m c 3 t) (iblk m c 4 t) (iblk m c 5 t) (iblk m c 6 t) (iblk m c 7 t) (iblk m c 8 t) :=
  ⟨rb_0 m c t, rb_1 m c t, rb_2 m c t, rb_3 m c t, rb_4 m c t, rb_5 m c t, rb_6 m c t, rb_7 m c t, rb_8 m c t⟩

end Cert.Kernel2Ideal.Ffn
end
-- ==== Proof.FfnRun.lean ====
/- The contents after each point, the result arrays of the launch and of the host's lines after it, and the whole run. -/
module

public import proofs.«01_k».proof.Proof.FfnArray

@[expose] public section

set_option maxRecDepth 16384

noncomputable section

open Idealize.ShloMosaic hiding ix1 ix2 ix3
open Idealize.ShloMosaic.ValueIdx Idealize.ShloMosaic.TcCoe Idealize.SL.Sem

namespace Cert.Kernel2Ideal.Ffn

open Cert.Kernel2Ideal Cert.Kernel2Ideal.Gen Cert.Ffn Cert.Conv
open Idealize.ShloMosaic.Pipeline (Dat)

section
variable {α β γ δ ε ζ : Type} {p : α × β × γ × δ × ε × ζ} {a : α} {b : β} {c : γ} {d : δ} {e : ε} {f : ζ}
theorem of_9 {z : α} (h : p = (a, b, c, d, e, f)) (h' : a = z) : p.1 = z := by subst h; exact h'
theorem of_10 {z : β} (h : p = (a, b, c, d, e, f)) (h' : b = z) : p.2.1 = z := by subst h; exact h'
theorem of_11 {z : γ} (h : p = (a, b, c, d, e, f)) (h' : c = z) : p.2.2.1 = z := by subst h; exact h'
theorem of_12 {z : δ} (h : p = (a, b, c, d, e, f)) (h' : d = z) : p.2.2.2.1 = z := by subst h; exact h'
theorem of_13 {z : ε} (h : p = (a, b, c, d, e, f)) (h' : e = z) : p.2.2.2.2.1 = z := by subst h; exact h'
theorem of_14 {z : ζ} (h : p = (a, b, c, d, e, f)) (h' : f = z) : p.2.2.2.2.2 = z := by subst h; exact h'
end

/-- The last point. -/
abbrev t0_31 : Fin cfg0.N := ⟨31, by rw [N32]; decide⟩

variable (m : (ℓ : Loc nD τ sig) → Buf (Elt Ideal) ℓ) (ρ : Dev nD → PrngReg)

theorem outs_9 (c : Dev nD) (t : Fin cfg0.N) : (outsAt0 m c t.val t.isLt).1
    = fun y => (P m c).arr.DGU (256 * t.val + (y 0).val) (y 1).val := by
  by_cases h0 : t.val % 32 = 0
  · exact of_9 (outsAt0_A m c t h0) (out_A_9 (a := (P m c).arr) (t := t.val) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (blocks m c t))
  · exact of_9 (outsAt0_B m c t h0) (out_B_9 (a := (P m c).arr) (t := t.val) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2 (blocks m c t))

theorem outs_10 (c : Dev nD) (t : Fin cfg0.N) : (outsAt0 m c t.val t.isLt).2.1
    = fun y => (P m c).arr.DXN (256 * t.val + (y 0).val) (y 1).val := by
  by_cases h0 : t.val % 32 = 0
  · exact of_10 (outsAt0_A m c t h0) (out_A_10 (a := (P m c).arr) (t := t.val) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (blocks m c t))
  · exact of_10 (outsAt0_B m c t h0) (out_B_10 (a := (P m c).arr) (t := t.val) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2 (blocks m c t))

theorem outs_13 (c : Dev nD) (t : Fin cfg0.N) : (outsAt0 m c t.val t.isLt).2.2.2.2.1
    = fun y => (P m c).arr.DYN (256 * t.val + (y 0).val) (y 1).val := by
  by_cases h0 : t.val % 32 = 0
  · exact of_13 (outsAt0_A m c t h0) (out_A_13 (a := (P m c).arr) (t := t.val) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (blocks m c t))
  · exact of_13 (outsAt0_B m c t h0) (out_B_13 (a := (P m c).arr) (t := t.val) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2 (blocks m c t))

theorem outs_11_A (c : Dev nD) (t : Fin cfg0.N) (h0 : t.val % 32 = 0) : (outsAt0 m c t.val t.isLt).2.2.1
    = fun y => part (fun g d => (P m c).arr.DH g d * nm (P m c).arr.X g d) t.val (y 1).val (y 2).val :=
  of_11 (outsAt0_A m c t h0) (out_A_11 (a := (P m c).arr) (t := t.val) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (blocks m c t))
theorem outs_11_B (c : Dev nD) (t : Fin cfg0.N) (h0 : ¬t.val % 32 = 0) : (outsAt0 m c t.val t.isLt).2.2.1
    = fun y => (outsAt0 m c (t.val - 1) (Nat.lt_of_le_of_lt (Nat.sub_le _ _) t.isLt)).2.2.1 y + part (fun g d => (P m c).arr.DH g d * nm (P m c).arr.X g d) t.val (y 1).val (y 2).val :=
  of_11 (outsAt0_B m c t h0) (out_B_11 (a := (P m c).arr) (t := t.val) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2 (blocks m c t))
/-- The column sums after point `n`. -/
theorem outs_11 (c : Dev nD) : ∀ (n : ℕ) (h : n < cfg0.N), (outsAt0 m c n h).2.2.1
    = fun y => ∑ t ∈ Finset.range (n + 1), part (fun g d => (P m c).arr.DH g d * nm (P m c).arr.X g d) t (y 1).val (y 2).val
  | 0, h => by
    refine (outs_11_A m c ⟨0, h⟩ rfl).trans ?_
    funext y
    rw [Finset.sum_range_one]
  | n + 1, h => by
    have hN := N32
    refine (outs_11_B m c ⟨n + 1, h⟩ (by dsimp only; omega)).trans ?_
    funext y
    rw [Finset.sum_range_succ]
    exact congrArg (· + part (fun g d => (P m c).arr.DH g d * nm (P m c).arr.X g d) (n + 1) (y 1).val (y 2).val) (congrFun (outs_11 c n (Nat.lt_of_succ_lt h)) y)

theorem outs_12_A (c : Dev nD) (t : Fin cfg0.N) (h0 : t.val % 32 = 0) : (outsAt0 m c t.val t.isLt).2.2.2.1
    = fun y => part (P m c).arr.DH t.val (y 1).val (y 2).val :=
  of_12 (outsAt0_A m c t h0) (out_A_12 (a := (P m c).arr) (t := t.val) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (blocks m c t))
theorem outs_12_B (c : Dev nD) (t : Fin cfg0.N) (h0 : ¬t.val % 32 = 0) : (outsAt0 m c t.val t.isLt).2.2.2.1
    = fun y => (outsAt0 m c (t.val - 1) (Nat.lt_of_le_of_lt (Nat.sub_le _ _) t.isLt)).2.2.2.1 y + part (P m c).arr.DH t.val (y 1).val (y 2).val :=
  of_12 (outsAt0_B m c t h0) (out_B_12 (a := (P m c).arr) (t := t.val) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2 (blocks m c t))
/-- The column sums after point `n`. -/
theorem outs_12 (c : Dev nD) : ∀ (n : ℕ) (h : n < cfg0.N), (outsAt0 m c n h).2.2.2.1
    = fun y => ∑ t ∈ Finset.range (n + 1), part (P m c).arr.DH t (y 1).val (y 2).val
  | 0, h => by
    refine (outs_12_A m c ⟨0, h⟩ rfl).trans ?_
    funext y
    rw [Finset.sum_range_one]
  | n + 1, h => by
    have hN := N32
    refine (outs_12_B m c ⟨n + 1, h⟩ (by dsimp only; omega)).trans ?_
    funext y
    rw [Finset.sum_range_succ]
    exact congrArg (· + part (P m c).arr.DH (n + 1) (y 1).val (y 2).val) (congrFun (outs_12 c n (Nat.lt_of_succ_lt h)) y)

theorem outs_14_A (c : Dev nD) (t : Fin cfg0.N) (h0 : t.val % 32 = 0) : (outsAt0 m c t.val t.isLt).2.2.2.2.2
    = fun y => part (fun g d => (P m c).arr.DXN g d * nm (P m c).arr.Y g d) t.val (y 0).val (y 1).val :=
  of_14 (outsAt0_A m c t h0) (out_A_14 (a := (P m c).arr) (t := t.val) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (blocks m c t))
theorem outs_14_B (c : Dev nD) (t : Fin cfg0.N) (h0 : ¬t.val % 32 = 0) : (outsAt0 m c t.val t.isLt).2.2.2.2.2
    = fun y => (outsAt0 m c (t.val - 1) (Nat.lt_of_le_of_lt (Nat.sub_le _ _) t.isLt)).2.2.2.2.2 y + part (fun g d => (P m c).arr.DXN g d * nm (P m c).arr.Y g d) t.val (y 0).val (y 1).val :=
  of_14 (outsAt0_B m c t h0) (out_B_14 (a := (P m c).arr) (t := t.val) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2 (blocks m c t))
/-- The column sums after point `n`. -/
theorem outs_14 (c : Dev nD) : ∀ (n : ℕ) (h : n < cfg0.N), (outsAt0 m c n h).2.2.2.2.2
    = fun y => ∑ t ∈ Finset.range (n + 1), part (fun g d => (P m c).arr.DXN g d * nm (P m c).arr.Y g d) t (y 0).val (y 1).val
  | 0, h => by
    refine (outs_14_A m c ⟨0, h⟩ rfl).trans ?_
    funext y
    rw [Finset.sum_range_one]
  | n + 1, h => by
    have hN := N32
    refine (outs_14_B m c ⟨n + 1, h⟩ (by dsimp only; omega)).trans ?_
    funext y
    rw [Finset.sum_range_succ]
    exact congrArg (· + part (fun g d => (P m c).arr.DXN g d * nm (P m c).arr.Y g d) (n + 1) (y 0).val (y 1).val) (congrFun (outs_14 c n (Nat.lt_of_succ_lt h)) y)

def res_9 (c : Dev nD) : S8192x5632.Idx → EReal := fun i => (P m c).arr.DGU (i 0).val (i 1).val

theorem final_9 (c : Dev nD) : (dats m 0 c).arrAt 9 cfg0.N = res_9 m c := by
  refine (dats m 0 c).arrAt_eq_of_cover 9 (res_9 m c) (fun t _ => ?_) fun (i : S8192x5632.Idx) => ?_
  · show (cfg0.win 9).cut (grid0.coords t) ((dats m 0 c).after 9 t) = _
    rw [after0_9, outs_9]
    funext y
    rw [View.read_apply]
    show (P m c).arr.DGU (256 * t.val + (y 0).val) (y 1).val = (P m c).arr.DGU (win0_9.index t 0 * 256 + 1 * (y 0).val) (win0_9.index t 1 * 5632 + 1 * (y 1).val)
    rw [(ix_9 t).1, (ix_9 t).2]
    exact congrArg₂ _ (by omega) (by omega)
  · have hN := N32
    have h0 : (i 0 : Nat) < 8192 := (i 0).isLt
    have h1 : (i 1 : Nat) < 5632 := (i 1).isLt
    have ht : (i 0 : Nat) / 256 < cfg0.N := by omega
    refine ⟨⟨(i 0 : Nat) / 256, ht⟩, flush0_9 _, ?_⟩
    show i ∈ ((View.whole main_v38_0).slice (win0_9.rect ⟨(i 0 : Nat) / 256, ht⟩)).set
    rw [View.set_slice_whole, Rect.mem_set_unit]
    intro a
    match a with
    | ⟨0, _⟩ =>
      show win0_9.index _ 0 * 256 ≤ (i 0 : Nat) ∧ (i 0 : Nat) < win0_9.index _ 0 * 256 + 256
      rw [(ix_9 _).1]; show (i 0 : Nat) / 256 * 256 ≤ _ ∧ _ < (i 0 : Nat) / 256 * 256 + 256; omega
    | ⟨1, _⟩ =>
      show win0_9.index _ 1 * 5632 ≤ (i 1 : Nat) ∧ (i 1 : Nat) < win0_9.index _ 1 * 5632 + 5632
      rw [(ix_9 _).2]; omega

def res_10 (c : Dev nD) : S8192x1024.Idx → EReal := fun i => (P m c).arr.DXN (i 0).val (i 1).val

theorem final_10 (c : Dev nD) : (dats m 0 c).arrAt 10 cfg0.N = res_10 m c := by
  refine (dats m 0 c).arrAt_eq_of_cover 10 (res_10 m c) (fun t _ => ?_) fun (i : S8192x1024.Idx) => ?_
  · show (cfg0.win 10).cut (grid0.coords t) ((dats m 0 c).after 10 t) = _
    rw [after0_10, outs_10]
    funext y
    rw [View.read_apply]
    show (P m c).arr.DXN (256 * t.val + (y 0).val) (y 1).val = (P m c).arr.DXN (win0_10.index t 0 * 256 + 1 * (y 0).val) (win0_10.index t 1 * 1024 + 1 * (y 1).val)
    rw [(ix_10 t).1, (ix_10 t).2]
    exact congrArg₂ _ (by omega) (by omega)
  · have hN := N32
    have h0 : (i 0 : Nat) < 8192 := (i 0).isLt
    have h1 : (i 1 : Nat) < 1024 := (i 1).isLt
    have ht : (i 0 : Nat) / 256 < cfg0.N := by omega
    refine ⟨⟨(i 0 : Nat) / 256, ht⟩, flush0_10 _, ?_⟩
    show i ∈ ((View.whole main_v38_1).slice (win0_10.rect ⟨(i 0 : Nat) / 256, ht⟩)).set
    rw [View.set_slice_whole, Rect.mem_set_unit]
    intro a
    match a with
    | ⟨0, _⟩ =>
      show win0_10.index _ 0 * 256 ≤ (i 0 : Nat) ∧ (i 0 : Nat) < win0_10.index _ 0 * 256 + 256
      rw [(ix_10 _).1]; show (i 0 : Nat) / 256 * 256 ≤ _ ∧ _ < (i 0 : Nat) / 256 * 256 + 256; omega
    | ⟨1, _⟩ =>
      show win0_10.index _ 1 * 1024 ≤ (i 1 : Nat) ∧ (i 1 : Nat) < win0_10.index _ 1 * 1024 + 1024
      rw [(ix_10 _).2]; omega

def res_13 (c : Dev nD) : S8192x1024.Idx → EReal := fun i => (P m c).arr.DYN (i 0).val (i 1).val

theorem final_13 (c : Dev nD) : (dats m 0 c).arrAt 13 cfg0.N = res_13 m c := by
  refine (dats m 0 c).arrAt_eq_of_cover 13 (res_13 m c) (fun t _ => ?_) fun (i : S8192x1024.Idx) => ?_
  · show (cfg0.win 13).cut (grid0.coords t) ((dats m 0 c).after 13 t) = _
    rw [after0_13, outs_13]
    funext y
    rw [View.read_apply]
    show (P m c).arr.DYN (256 * t.val + (y 0).val) (y 1).val = (P m c).arr.DYN (win0_13.index t 0 * 256 + 1 * (y 0).val) (win0_13.index t 1 * 1024 + 1 * (y 1).val)
    rw [(ix_13 t).1, (ix_13 t).2]
    exact congrArg₂ _ (by omega) (by omega)
  · have hN := N32
    have h0 : (i 0 : Nat) < 8192 := (i 0).isLt
    have h1 : (i 1 : Nat) < 1024 := (i 1).isLt
    have ht : (i 0 : Nat) / 256 < cfg0.N := by omega
    refine ⟨⟨(i 0 : Nat) / 256, ht⟩, flush0_13 _, ?_⟩
    show i ∈ ((View.whole main_v38_4).slice (win0_13.rect ⟨(i 0 : Nat) / 256, ht⟩)).set
    rw [View.set_slice_whole, Rect.mem_set_unit]
    intro a
    match a with
    | ⟨0, _⟩ =>
      show win0_13.index _ 0 * 256 ≤ (i 0 : Nat) ∧ (i 0 : Nat) < win0_13.index _ 0 * 256 + 256
      rw [(ix_13 _).1]; show (i 0 : Nat) / 256 * 256 ≤ _ ∧ _ < (i 0 : Nat) / 256 * 256 + 256; omega
    | ⟨1, _⟩ =>
      show win0_13.index _ 1 * 1024 ≤ (i 1 : Nat) ∧ (i 1 : Nat) < win0_13.index _ 1 * 1024 + 1024
      rw [(ix_13 _).2]; omega

def sums_11 (c : Dev nD) : S1x8x1024.Idx → EReal := fun y => ∑ t ∈ Finset.range 32, part (fun g d => (P m c).arr.DH g d * nm (P m c).arr.X g d) t (y 1).val (y 2).val

theorem final_11 (c : Dev nD) : (dats m 0 c).arrAt 11 cfg0.N = sums_11 m c := by
  have hN := N32
  refine (dats m 0 c).arrAt_eq_of_cover 11 (sums_11 m c) (fun t hf => ?_) fun (i : S1x8x1024.Idx) => ?_
  · have ht : t.val = 31 := by have := (flush0_11 t).mp hf; have := t.isLt; omega
    show (cfg0.win 11).cut (grid0.coords t) ((dats m 0 c).after 11 t) = _
    rw [after0_11, outs_11, ht]
    funext y
    rw [View.read_apply]
    show (∑ t ∈ Finset.range 32, part (fun g d => (P m c).arr.DH g d * nm (P m c).arr.X g d) t (y 1).val (y 2).val) = ∑ u ∈ Finset.range 32, part (fun g d => (P m c).arr.DH g d * nm (P m c).arr.X g d) u (win0_11.index t 1 * 8 + 1 * (y 1).val) (win0_11.index t 2 * 1024 + 1 * (y 2).val)
    rw [(ix_11 t).2.1, (ix_11 t).2.2]
    simp only [Nat.zero_mul, Nat.zero_add, Nat.one_mul]
  · have h0 : (i 0 : Nat) < 1 := (i 0).isLt
    have h1 : (i 1 : Nat) < 8 := (i 1).isLt
    have h2 : (i 2 : Nat) < 1024 := (i 2).isLt
    refine ⟨t0_31, (flush0_11 _).mpr rfl, ?_⟩
    show i ∈ ((View.whole main_v38_2).slice (win0_11.rect t0_31)).set
    rw [View.set_slice_whole, Rect.mem_set_unit]
    intro a
    match a with
    | ⟨0, _⟩ =>
      show win0_11.index t0_31 0 * 1 ≤ (i 0 : Nat) ∧ (i 0 : Nat) < win0_11.index t0_31 0 * 1 + 1
      rw [(ix_11 _).1]; omega
    | ⟨1, _⟩ =>
      show win0_11.index t0_31 1 * 8 ≤ (i 1 : Nat) ∧ (i 1 : Nat) < win0_11.index t0_31 1 * 8 + 8
      rw [(ix_11 _).2.1]; omega
    | ⟨2, _⟩ =>
      show win0_11.index t0_31 2 * 1024 ≤ (i 2 : Nat) ∧ (i 2 : Nat) < win0_11.index t0_31 2 * 1024 + 1024
      rw [(ix_11 _).2.2]; omega

def sums_12 (c : Dev nD) : S1x8x1024.Idx → EReal := fun y => ∑ t ∈ Finset.range 32, part (P m c).arr.DH t (y 1).val (y 2).val

theorem final_12 (c : Dev nD) : (dats m 0 c).arrAt 12 cfg0.N = sums_12 m c := by
  have hN := N32
  refine (dats m 0 c).arrAt_eq_of_cover 12 (sums_12 m c) (fun t hf => ?_) fun (i : S1x8x1024.Idx) => ?_
  · have ht : t.val = 31 := by have := (flush0_12 t).mp hf; have := t.isLt; omega
    show (cfg0.win 12).cut (grid0.coords t) ((dats m 0 c).after 12 t) = _
    rw [after0_12, outs_12, ht]
    funext y
    rw [View.read_apply]
    show (∑ t ∈ Finset.range 32, part (P m c).arr.DH t (y 1).val (y 2).val) = ∑ u ∈ Finset.range 32, part (P m c).arr.DH u (win0_12.index t 1 * 8 + 1 * (y 1).val) (win0_12.index t 2 * 1024 + 1 * (y 2).val)
    rw [(ix_12 t).2.1, (ix_12 t).2.2]
    simp only [Nat.zero_mul, Nat.zero_add, Nat.one_mul]
  · have h0 : (i 0 : Nat) < 1 := (i 0).isLt
    have h1 : (i 1 : Nat) < 8 := (i 1).isLt
    have h2 : (i 2 : Nat) < 1024 := (i 2).isLt
    refine ⟨t0_31, (flush0_12 _).mpr rfl, ?_⟩
    show i ∈ ((View.whole main_v38_3).slice (win0_12.rect t0_31)).set
    rw [View.set_slice_whole, Rect.mem_set_unit]
    intro a
    match a with
    | ⟨0, _⟩ =>
      show win0_12.index t0_31 0 * 1 ≤ (i 0 : Nat) ∧ (i 0 : Nat) < win0_12.index t0_31 0 * 1 + 1
      rw [(ix_12 _).1]; omega
    | ⟨1, _⟩ =>
      show win0_12.index t0_31 1 * 8 ≤ (i 1 : Nat) ∧ (i 1 : Nat) < win0_12.index t0_31 1 * 8 + 8
      rw [(ix_12 _).2.1]; omega
    | ⟨2, _⟩ =>
      show win0_12.index t0_31 2 * 1024 ≤ (i 2 : Nat) ∧ (i 2 : Nat) < win0_12.index t0_31 2 * 1024 + 1024
      rw [(ix_12 _).2.2]; omega

def sums_14 (c : Dev nD) : S8x1024.Idx → EReal := fun y => ∑ t ∈ Finset.range 32, part (fun g d => (P m c).arr.DXN g d * nm (P m c).arr.Y g d) t (y 0).val (y 1).val

theorem final_14 (c : Dev nD) : (dats m 0 c).arrAt 14 cfg0.N = sums_14 m c := by
  have hN := N32
  refine (dats m 0 c).arrAt_eq_of_cover 14 (sums_14 m c) (fun t hf => ?_) fun (i : S8x1024.Idx) => ?_
  · have ht : t.val = 31 := by have := (flush0_14 t).mp hf; have := t.isLt; omega
    show (cfg0.win 14).cut (grid0.coords t) ((dats m 0 c).after 14 t) = _
    rw [after0_14, outs_14, ht]
    funext y
    rw [View.read_apply]
    show (∑ t ∈ Finset.range 32, part (fun g d => (P m c).arr.DXN g d * nm (P m c).arr.Y g d) t (y 0).val (y 1).val) = ∑ u ∈ Finset.range 32, part (fun g d => (P m c).arr.DXN g d * nm (P m c).arr.Y g d) u (win0_14.index t 0 * 8 + 1 * (y 0).val) (win0_14.index t 1 * 1024 + 1 * (y 1).val)
    rw [(ix_14 t).1, (ix_14 t).2]
    simp only [Nat.zero_mul, Nat.zero_add, Nat.one_mul]
  · have h0 : (i 0 : Nat) < 8 := (i 0).isLt
    have h1 : (i 1 : Nat) < 1024 := (i 1).isLt
    refine ⟨t0_31, (flush0_14 _).mpr rfl, ?_⟩
    show i ∈ ((View.whole main_v38_5).slice (win0_14.rect t0_31)).set
    rw [View.set_slice_whole, Rect.mem_set_unit]
    intro a
    match a with
    | ⟨0, _⟩ =>
      show win0_14.index t0_31 0 * 8 ≤ (i 0 : Nat) ∧ (i 0 : Nat) < win0_14.index t0_31 0 * 8 + 8
      rw [(ix_14 _).1]; omega
    | ⟨1, _⟩ =>
      show win0_14.index t0_31 1 * 1024 ≤ (i 1 : Nat) ∧ (i 1 : Nat) < win0_14.index t0_31 1 * 1024 + 1024
      rw [(ix_14 _).2]; omega

/-- The host's order of the columns, from the kernel's. -/
def unpair (w : FVec Ideal S8192x5632 .bf16) : FVec Ideal S8192x5632 .bf16 :=
  concatenate S8192x5632 1 [⟨S8192x1408, extractStridedSlice S8192x1408 ![0, 0] w slices_S8192x5632_S8192x1408_0_0⟩,
    ⟨S8192x1408, extractStridedSlice S8192x1408 ![0, 2816] w slices_S8192x5632_S8192x1408_0_2816⟩,
    ⟨S8192x1408, extractStridedSlice S8192x1408 ![0, 1408] w slices_S8192x5632_S8192x1408_0_1408⟩,
    ⟨S8192x1408, extractStridedSlice S8192x1408 ![0, 4224] w slices_S8192x5632_S8192x1408_0_4224⟩]
    concatenates_S8192x1408_S8192x1408_S8192x1408_S8192x1408_S8192x5632_d1

theorem v43_eq (c : Dev nD) : Pipeline.afterTail₀ cfgs (dats m) 0 (V0 m) [hostOps1] c main_v43 = unpair (res_9 m c) := by
  unfold Pipeline.afterTail₀
  simp only [hostOps1, List.flatten_cons, List.flatten_nil, List.append_nil]
  after_results
  exact congrArg unpair (((dats m 0 c).withArrays_arrAt (by decide) (V0 m c) (fun w => A_eq m c w) 9).trans (final_9 m c))

theorem v44_eq (c : Dev nD) : Pipeline.afterTail₀ cfgs (dats m) 0 (V0 m) [hostOps1] c main_v44 = Host.reduceAdd (F := Ideal) (sums_11 m c) (constant S_ .f32 0x00000000#32) reducesTo_S1x8x1024_S1x1024_d1 h_S_ := by
  unfold Pipeline.afterTail₀
  simp only [hostOps1, List.flatten_cons, List.flatten_nil, List.append_nil]
  after_results
  exact congrArg (fun x => Host.reduceAdd (F := Ideal) x (constant S_ .f32 0x00000000#32) reducesTo_S1x8x1024_S1x1024_d1 h_S_) (((dats m 0 c).withArrays_arrAt (by decide) (V0 m c) (fun w => A_eq m c w) 11).trans (final_11 m c))

theorem v45_eq (c : Dev nD) : Pipeline.afterTail₀ cfgs (dats m) 0 (V0 m) [hostOps1] c main_v45 = Host.reduceAdd (F := Ideal) (sums_12 m c) (constant S_ .f32 0x00000000#32) reducesTo_S1x8x1024_S1x1024_d1 h_S_ := by
  unfold Pipeline.afterTail₀
  simp only [hostOps1, List.flatten_cons, List.flatten_nil, List.append_nil]
  after_results
  exact congrArg (fun x => Host.reduceAdd (F := Ideal) x (constant S_ .f32 0x00000000#32) reducesTo_S1x8x1024_S1x1024_d1 h_S_) (((dats m 0 c).withArrays_arrAt (by decide) (V0 m c) (fun w => A_eq m c w) 12).trans (final_12 m c))

theorem v46_eq (c : Dev nD) : Pipeline.afterTail₀ cfgs (dats m) 0 (V0 m) [hostOps1] c main_v46 = Host.reduceAdd (F := Ideal) (sums_14 m c) (constant S_ .f32 0x00000000#32) reducesTo_S8x1024_S1024_d0 h_S_ := by
  unfold Pipeline.afterTail₀
  simp only [hostOps1, List.flatten_cons, List.flatten_nil, List.append_nil]
  after_results
  exact congrArg (fun x => Host.reduceAdd (F := Ideal) x (constant S_ .f32 0x00000000#32) reducesTo_S8x1024_S1024_d0 h_S_) (((dats m 0 c).withArrays_arrAt (by decide) (V0 m c) (fun w => A_eq m c w) 14).trans (final_14 m c))

/-- The results as arrays. -/
def res0 (c : Dev nD) : S8192x5632.Idx → EReal := fun i => (P m c).arr.DGU (i 0).val (pr (i 1).val)
def res2 (c : Dev nD) : S1x1024.Idx → EReal := fun i => ∑ s : Fin 8, ∑ t ∈ Finset.range 32, part (fun g d => (P m c).arr.DH g d * nm (P m c).arr.X g d) t s.val (i 1).val
def res3 (c : Dev nD) : S1x1024.Idx → EReal := fun i => ∑ s : Fin 8, ∑ t ∈ Finset.range 32, part (P m c).arr.DH t s.val (i 1).val
def res5 (c : Dev nD) : S1024.Idx → EReal := fun i => ∑ s : Fin 8, ∑ t ∈ Finset.range 32, part (fun g d => (P m c).arr.DXN g d * nm (P m c).arr.Y g d) t s.val (i 0).val

theorem tail_v43 (c : Dev nD) : Pipeline.afterTail₀ cfgs (dats m) 0 (V0 m) [hostOps1] c main_v43 = res0 m c := by
  rw [v43_eq]
  funext j
  refine four_at (n := 8192) _ _ _ _ (P m c).arr.DGU _ (fun i => ?_) (fun i => ?_) (fun i => ?_) (fun i => ?_) j
  · exact congrArg₂ (P m c).arr.DGU (Nat.zero_add _) (Nat.zero_add _)
  · exact congrArg₂ (P m c).arr.DGU (Nat.zero_add _) rfl
  · exact congrArg₂ (P m c).arr.DGU (Nat.zero_add _) rfl
  · exact congrArg₂ (P m c).arr.DGU (Nat.zero_add _) rfl
theorem tail_v44 (c : Dev nD) : Pipeline.afterTail₀ cfgs (dats m) 0 (V0 m) [hostOps1] c main_v44 = res2 m c := by
  rw [v44_eq]
  funext i
  show Ideal.hostReduceAdd reducesTo_S1x8x1024_S1x1024_d1 (sums_11 m c) (Ideal.ofBits .f32 0x00000000#32) i = res2 m c i
  rw [Ideal.hostReduceAdd_r3_a1, Ideal.ofBits_zero_f32, zero_add]
  rfl
theorem tail_v45 (c : Dev nD) : Pipeline.afterTail₀ cfgs (dats m) 0 (V0 m) [hostOps1] c main_v45 = res3 m c := by
  rw [v45_eq]
  funext i
  show Ideal.hostReduceAdd reducesTo_S1x8x1024_S1x1024_d1 (sums_12 m c) (Ideal.ofBits .f32 0x00000000#32) i = res3 m c i
  rw [Ideal.hostReduceAdd_r3_a1, Ideal.ofBits_zero_f32, zero_add]
  rfl
theorem tail_v46 (c : Dev nD) : Pipeline.afterTail₀ cfgs (dats m) 0 (V0 m) [hostOps1] c main_v46 = res5 m c := by
  rw [v46_eq]
  funext i
  show Ideal.hostReduceAdd reducesTo_S8x1024_S1024_d0 (sums_14 m c) (Ideal.ofBits .f32 0x00000000#32) i = res5 m c i
  rw [Ideal.hostReduceAdd_r2_a0, Ideal.ofBits_zero_f32, zero_add]
  rfl

/-- The run: the six results, the arguments unchanged. -/
theorem run : θ_run defs (onTc (τ := τ) (main (F := Ideal))) ⟨m, fun _ => 0, ρ⟩ fun r => ∀ c : Dev nD,
      r.2.mem ((c.tc : Thread nD τ).loc main_v43) = res0 m c
      ∧ r.2.mem ((c.tc : Thread nD τ).loc main_v38_1) = res_10 m c
      ∧ r.2.mem ((c.tc : Thread nD τ).loc main_v44) = res2 m c
      ∧ r.2.mem ((c.tc : Thread nD τ).loc main_v45) = res3 m c
      ∧ r.2.mem ((c.tc : Thread nD τ).loc main_v38_4) = res_13 m c
      ∧ r.2.mem ((c.tc : Thread nD τ).loc main_v46) = res5 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨((h c).2 main_v43 (Pipeline.mem_restRefs_of main_v43 (by decide) (by decide))).trans (tail_v43 m c),
    ((h c).1 10).trans (final_10 m c),
    ((h c).2 main_v44 (Pipeline.mem_restRefs_of main_v44 (by decide) (by decide))).trans (tail_v44 m c),
    ((h c).2 main_v45 (Pipeline.mem_restRefs_of main_v45 (by decide) (by decide))).trans (tail_v45 m c),
    ((h c).1 13).trans (final_13 m c),
    ((h c).2 main_v46 (Pipeline.mem_restRefs_of main_v46 (by decide) (by decide))).trans (tail_v46 m c),
    ((h c).2 main_arg0 (Pipeline.mem_restRefs_of main_arg0 (by decide) (by decide))).trans (W_main_arg0 m (dats m) c),
    ((h c).1 7).trans (((dats m 0 c).arrAt_in 7 rfl _).trans ((A_eq m c 7).trans (V_main_arg1 m c))),
    ((h c).1 8).trans (((dats m 0 c).arrAt_in 8 rfl _).trans ((A_eq m c 8).trans (V_main_arg2 m c))),
    ((h c).1 6).trans (((dats m 0 c).arrAt_in 6 rfl _).trans ((A_eq m c 6).trans (V_main_arg3 m c))),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).1 5).trans (((dats m 0 c).arrAt_in 5 rfl _).trans ((A_eq m c 5).trans (V_main_arg7 m c))),
    ((h c).1 0).trans (((dats m 0 c).arrAt_in 0 rfl _).trans ((A_eq m c 0).trans (V_main_arg8 m c)))⟩)
    (run_main m ρ)

end Cert.Kernel2Ideal.Ffn
end
-- ==== Proof.FfnMath.lean ====
/- The identities between the two forms of the gradients, over real numbers: the norm's gradient, the gate's, the order
   of the columns, and the sums over the rows. -/
module

public import proofs.«01_k».proof.Proof.FfnRun

@[expose] public section

set_option maxRecDepth 16384

noncomputable section

open Idealize.ShloMosaic hiding ix1 ix2 ix3
open Idealize.ShloMosaic.ValueIdx

namespace Cert.Ffn

/-- A real number among the extended ones. -/
def IsR (x : EReal) : Prop := ∃ r : ℝ, x = (r : EReal)

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem IsR.add {x y : EReal} (hx : IsR x) (hy : IsR y) : IsR (x + y) := by
  obtain ⟨a, rfl⟩ := hx
  obtain ⟨b, rfl⟩ := hy
  exact ⟨a + b, (EReal.coe_add a b).symm⟩
theorem IsR.sub {x y : EReal} (hx : IsR x) (hy : IsR y) : IsR (x - y) := by
  obtain ⟨a, rfl⟩ := hx
  obtain ⟨b, rfl⟩ := hy
  exact ⟨a - b, (EReal.coe_sub a b).symm⟩
theorem IsR.mul {x y : EReal} (hx : IsR x) (hy : IsR y) : IsR (x * y) := by
  obtain ⟨a, rfl⟩ := hx
  obtain ⟨b, rfl⟩ := hy
  exact ⟨a * b, (EReal.coe_mul a b).symm⟩
theorem IsR.sum {n : ℕ} {f : Fin n → EReal} (h : ∀ i, IsR (f i)) : IsR (∑ i, f i) := by
  choose r hr using h
  exact ⟨∑ i, r i, by rw [coe_sum]; exact Finset.sum_congr rfl fun i _ => hr i⟩
theorem IsR.logistic {x : EReal} (hx : IsR x) : IsR (Ideal.logistic x) := by
  obtain ⟨a, rfl⟩ := hx
  exact ⟨_, Ideal.logistic_coe a⟩

/-- Minus one half. -/
def cM : EReal := Ideal.ofBits .f32 0xBF000000#32

theorem cN_eq : cN = ((1024 : ℝ) : EReal) := by
  simp [cN, Ideal.ofBits, Ideal.ieee, -EReal.coe_mul]; norm_num
theorem cO_eq : cO = ((1 : ℝ) : EReal) := Ideal.ofBits_one_f32
theorem cM_eq : cM = ((-(1 / 2) : ℝ) : EReal) := by
  simp [cM, Ideal.ofBits, Ideal.ieee, -EReal.coe_mul, -EReal.coe_neg]; norm_num
theorem cE_eq : ∃ e : ℝ, 0 < e ∧ cE = (e : EReal) := by
  refine ⟨(8388608 + 407485 : ℝ) * (2 : ℝ) ^ (-43 : ℤ), by positivity, ?_⟩
  simp [cE, Ideal.ofBits, Ideal.ieee, -EReal.coe_mul]; norm_num

/-- The mean square of a row, and the norm's ε. -/
def vr (A : ℕ → ℕ → EReal) (g : ℕ) : EReal := Ideal.div (∑ d : Fin 1024, A g d.val * A g d.val) cN + cE

theorem rs_vr (A : ℕ → ℕ → EReal) (g : ℕ) : rs A g = Ideal.rsqrt (vr A g) := rfl

theorem vr_pos (A : ℕ → ℕ → EReal) (g : ℕ) (a : ℕ → ℝ) (ha : ∀ d, A g d = (a d : EReal)) : ∃ v : ℝ, 0 < v ∧ vr A g = (v : EReal) := by
  obtain ⟨e, he, hE⟩ := cE_eq
  refine ⟨(∑ d : Fin 1024, a d.val * a d.val) * (1 / 1024) + e, ?_, ?_⟩
  · have : 0 ≤ ∑ d : Fin 1024, a d.val * a d.val := Finset.sum_nonneg fun d _ => mul_self_nonneg _
    positivity
  · rw [vr, cN_eq, hE, Ideal.div_coe (by norm_num), EReal.coe_add, EReal.coe_mul, coe_sum]
    refine congrArg (fun z : EReal => z * _ + _) (Finset.sum_congr rfl fun d _ => ?_)
    rw [ha, EReal.coe_mul]

theorem rs_real {A : ℕ → ℕ → EReal} {g : ℕ} {v : ℝ} (hv : 0 < v) (h : vr A g = (v : EReal)) : rs A g = (((Real.sqrt v)⁻¹ : ℝ) : EReal) := by
  rw [rs_vr, h, Ideal.rsqrt_coe, if_neg (by linarith), if_neg (by linarith)]

theorem IsR.rs {A : ℕ → ℕ → EReal} {g : ℕ} (h : ∀ d, IsR (A g d)) : IsR (Cert.Ffn.rs A g) := by
  choose a ha using h
  obtain ⟨v, hv, e⟩ := vr_pos A g a ha
  exact ⟨_, rs_real hv e⟩
theorem IsR.nm {A : ℕ → ℕ → EReal} {g d : ℕ} (h : ∀ d, IsR (A g d)) : IsR (Cert.Ffn.nm A g d) := (h d).mul (IsR.rs h)
theorem IsR.pg {A D : ℕ → ℕ → EReal} {g d : ℕ} (h : ∀ d, IsR (A g d)) (h' : ∀ d, IsR (D g d)) : IsR (Cert.Ffn.pg A D g d) := by
  refine (IsR.rs h).mul ((h' d).sub ((IsR.nm h).mul ?_))
  rw [cN_eq, Ideal.div_coe (by norm_num)]
  exact (IsR.sum fun e => (h' _).mul (IsR.nm h)).mul ⟨_, rfl⟩

/-- The share of a row's cotangent that comes through its mean square, once for each of the two equal factors. -/
def mq (A D : ℕ → ℕ → EReal) (g : ℕ) : EReal :=
  Ideal.div ((∑ e : Fin 1024, A g e.val * D g e.val) * (cM * Ideal.div (rs A g) (vr A g))) cN

/-- The norm's gradient, factor by factor, is the kernel's. -/
theorem pg_eq (A D : ℕ → ℕ → EReal) (g d : ℕ) (h : ∀ d, IsR (A g d)) (h' : ∀ d, IsR (D g d)) :
    D g d * rs A g + A g d * mq A D g + mq A D g * A g d = pg A D g d := by
  choose a ha using h
  choose b hb using h'
  obtain ⟨v, hv, e⟩ := vr_pos A g a ha
  have hr := rs_real hv e
  have hq : 1 / v = (Real.sqrt v)⁻¹ * (Real.sqrt v)⁻¹ := by
    rw [← mul_inv, Real.mul_self_sqrt hv.le, one_div]
  generalize (Real.sqrt v)⁻¹ = r at hr hq
  have e1 : ∑ e : Fin 1024, A g e.val * D g e.val = ((∑ e : Fin 1024, a e.val * b e.val : ℝ) : EReal) := by
    rw [coe_sum]
    exact Finset.sum_congr rfl fun e _ => by rw [ha, hb, EReal.coe_mul]
  have e2 : ∑ e : Fin 1024, D g e.val * nm A g e.val = (((∑ e : Fin 1024, a e.val * b e.val) * r : ℝ) : EReal) := by
    rw [Finset.sum_mul, coe_sum]
    refine Finset.sum_congr rfl fun e _ => ?_
    rw [nm, ha, hb, hr, ← EReal.coe_mul, ← EReal.coe_mul]
    exact congrArg _ (by ring)
  have e3 : mq A D g = (((∑ e : Fin 1024, a e.val * b e.val) * (-(1 / 2) * (r * (1 / v))) * (1 / 1024) : ℝ) : EReal) := by
    rw [mq, e1, cM_eq, hr, e, cN_eq, Ideal.div_coe (by norm_num), Ideal.div_coe (by linarith)]
    simp only [← EReal.coe_mul]
  rw [pg, e2, e3, nm, ha, hb, hr, cN_eq, Ideal.div_coe (by norm_num)]
  simp only [← EReal.coe_mul, ← EReal.coe_add, ← EReal.coe_sub]
  refine congrArg _ ?_
  rw [hq]
  ring

/-- The gate's gradient, term by term, is the kernel's. -/
theorem kg_eq {a g u : EReal} (ha : IsR a) (hg : IsR g) (hu : IsR u) :
    a * u * Ideal.logistic g + g * (a * u) * (Ideal.logistic g * (cO - Ideal.logistic g)) = kg a g u := by
  obtain ⟨x, rfl⟩ := ha
  obtain ⟨y, rfl⟩ := hg
  obtain ⟨z, rfl⟩ := hu
  rw [kg, Ideal.logistic_coe, cO_eq]
  generalize (1 + Real.exp (-y))⁻¹ = w
  simp only [← EReal.coe_mul, ← EReal.coe_add, ← EReal.coe_sub]
  refine congrArg _ ?_
  ring

/-- Every argument is real. -/
structure Args.Fin (p : Args) : Prop where
  x : ∀ g d, IsR (p.x g d)
  y : ∀ g d, IsR (p.y g d)
  gate : ∀ g d, IsR (p.gate g d)
  scale : ∀ g d, IsR (p.scale g d)
  shift : ∀ g d, IsR (p.shift g d)
  wi : ∀ g d, IsR (p.wi g d)
  wo : ∀ g d, IsR (p.wo g d)
  dx : ∀ g d, IsR (p.dx g d)
  dy : ∀ g d, IsR (p.dy g d)

variable {p : Args}

theorem Args.Fin.XN (h : p.Fin) (g d : ℕ) : IsR (p.XN g d) := (h.x g d).add ((h.gate 0 d).mul (IsR.nm (h.y g)))
theorem Args.Fin.H (h : p.Fin) (g d : ℕ) : IsR (p.H g d) := ((IsR.nm (h.XN g)).mul (h.scale 0 d)).add (h.shift 0 d)
theorem Args.Fin.GU (h : p.Fin) (g c : ℕ) : IsR (p.GU g c) := IsR.sum fun e => (h.H g _).mul (h.wi _ c)
theorem Args.Fin.DA (h : p.Fin) (g c : ℕ) : IsR (p.arr.DA g c) := IsR.sum fun e => (h.dy g _).mul (h.wo c _)
theorem IsR.kg {a g u : EReal} (ha : IsR a) (hg : IsR g) (hu : IsR u) : IsR (Cert.Ffn.kg a g u) := by
  rw [← kg_eq ha hg hu, cO_eq]
  exact ((ha.mul hu).mul hg.logistic).add ((hg.mul (ha.mul hu)).mul (hg.logistic.mul (IsR.sub ⟨_, rfl⟩ hg.logistic)))
theorem IsR.ku {a g : EReal} (ha : IsR a) (hg : IsR g) : IsR (Cert.Ffn.ku a g) := ha.mul (hg.mul hg.logistic)
theorem Args.Fin.DGU (h : p.Fin) (g c : ℕ) : IsR (p.arr.DGU g c) := by
  unfold Arr.DGU
  split_ifs
  · exact IsR.kg (h.DA _ _) (h.GU _ _) (h.GU _ _)
  · exact IsR.ku (h.DA _ _) (h.GU _ _)
  · exact IsR.kg (h.DA _ _) (h.GU _ _) (h.GU _ _)
  · exact IsR.ku (h.DA _ _) (h.GU _ _)
theorem Args.Fin.DH (h : p.Fin) (g d : ℕ) : IsR (p.arr.DH g d) :=
  (IsR.sum fun k => (h.DGU g _).mul (h.wi d _)).add (IsR.sum fun k => (h.DGU g _).mul (h.wi d _))
theorem Args.Fin.DXH (h : p.Fin) (g d : ℕ) : IsR (p.arr.DXH g d) := (h.DH g d).mul (h.scale 0 d)
theorem Args.Fin.DXN (h : p.Fin) (g d : ℕ) : IsR (p.arr.DXN g d) := (h.dx g d).add (IsR.pg (h.XN g) (h.DXH g))
theorem Args.Fin.DN (h : p.Fin) (g d : ℕ) : IsR (p.arr.DN g d) := (h.DXN g d).mul (h.gate 0 d)

theorem pr_lt {c : ℕ} (h : c < 5632) : pr c < 5632 := by unfold pr; split_ifs <;> omega
theorem pr_pr {c : ℕ} (h : c < 5632) : pr (pr c) = c := by unfold pr; split_ifs <;> omega

theorem gate_eq (h : p.Fin) (g c : ℕ) (hc : c < 2816) :
    p.arr.DA g c * p.GU g (2816 + c) * Ideal.logistic (p.GU g c)
      + p.GU g c * (p.arr.DA g c * p.GU g (2816 + c)) * (Ideal.logistic (p.GU g c) * (cO - Ideal.logistic (p.GU g c))) = p.arr.DGU g (pr c) := by
  rw [kg_eq (h.DA g c) (h.GU g c) (h.GU g (2816 + c))]
  by_cases h1 : c < 1408
  · have e : pr c = c := if_pos h1
    rw [e, Arr.DGU, if_pos h1]
    show _ = kg _ (p.GU g (pr c)) (p.GU g (pr (1408 + c)))
    rw [e, show pr (1408 + c) = 2816 + c by unfold pr; split_ifs <;> omega]
  · have e : pr c = c + 1408 := by unfold pr; split_ifs <;> omega
    rw [e, Arr.DGU, if_neg (by omega), if_neg (by omega), if_pos (by omega)]
    show _ = kg _ (p.GU g (pr (c + 1408))) (p.GU g (pr (1408 + (c + 1408))))
    rw [show c + 1408 - 1408 = c by omega, show pr (c + 1408) = c by unfold pr; split_ifs <;> omega,
      show pr (1408 + (c + 1408)) = 2816 + c by unfold pr; split_ifs <;> omega]

theorem up_eq (p : Args) (g c : ℕ) (hc : 2816 ≤ c) (hc' : c < 5632) :
    p.GU g (c - 2816) * Ideal.logistic (p.GU g (c - 2816)) * p.arr.DA g (c - 2816) = p.arr.DGU g (pr c) := by
  by_cases h1 : c < 4224
  · have e : pr c = c - 1408 := by unfold pr; split_ifs <;> omega
    rw [e, Arr.DGU, if_neg (by omega), if_pos (by omega), show c - 1408 - 1408 = c - 2816 by omega]
    show _ = ku _ (p.GU g (pr (c - 2816)))
    rw [show pr (c - 2816) = c - 2816 by unfold pr; split_ifs <;> omega, ku, mul_comm]
  · have e : pr c = c := by unfold pr; split_ifs <;> omega
    rw [e, Arr.DGU, if_neg (by omega), if_neg (by omega), if_neg (by omega)]
    show _ = ku _ (p.GU g (pr (c - 1408)))
    rw [show pr (c - 1408) = c - 2816 by unfold pr; split_ifs <;> omega, ku, mul_comm]

/-- The sum over the columns in the host's order is the sum in the kernel's. -/
theorem dh_eq (p : Args) (g d : ℕ) : ∑ c : Fin 5632, p.arr.DGU g (pr c.val) * p.wi d c.val = p.arr.DH g d := by
  let e : Fin 5632 ≃ Fin 5632 := ⟨fun c => ⟨pr c.val, pr_lt c.isLt⟩, fun c => ⟨pr c.val, pr_lt c.isLt⟩,
    fun c => Fin.ext (pr_pr c.isLt), fun c => Fin.ext (pr_pr c.isLt)⟩
  rw [← e.sum_comp fun c : Fin 5632 => p.arr.DGU g (pr c.val) * p.wi d c.val]
  have e' : ∀ c : Fin 5632, p.arr.DGU g (pr (e c).val) * p.wi d (e c).val = p.arr.DGU g c.val * p.arr.WI d c.val := fun c => by
    show p.arr.DGU g (pr (pr c.val)) * p.wi d (pr c.val) = _
    rw [pr_pr c.isLt]
    rfl
  rw [Finset.sum_congr rfl fun c _ => e' c]
  exact Fin.sum_univ_add (a := 2816) (b := 2816) fun c : Fin (2816 + 2816) => p.arr.DGU g c.val * p.arr.WI d c.val

/-- The sums by blocks of 256 rows, groups of eight and sublanes are the sums over all rows. -/
theorem rows_eq (F : ℕ → ℕ → EReal) (d : ℕ) :
    ∑ s : Fin 8, ∑ t ∈ Finset.range 32, Cert.Kernel2Ideal.Ffn.part F t s.val d = ∑ g : Fin 8192, F g.val d := by
  have e : ∑ g : Fin 8192, F g.val d = ∑ t : Fin 32, ∑ r : Fin 256, F (256 * t.val + r.val) d :=
    Cert.Conv.sum_blocks 32 256 fun g => F g d
  rw [e, Finset.sum_comm, Finset.sum_range]
  refine Finset.sum_congr rfl fun t _ => ?_
  rw [show ∑ r : Fin 256, F (256 * t.val + r.val) d = ∑ q : Fin 32, ∑ s : Fin 8, F (256 * t.val + (8 * q.val + s.val)) d from
    Cert.Conv.sum_blocks 32 8 fun r => F (256 * t.val + r) d, Finset.sum_comm]
  rfl

end Cert.Ffn
end
-- ==== Proof.FfnRef.lean ====
/- The reference at an index: the gradients of the SwiGLU block, row by row and summed over the rows. -/
module

public import proofs.«01_k».proof.Proof.FfnMath
public import proofs.«01_k».proof.Proof.Gen.Reference2Ideal.Read

@[expose] public section

set_option maxRecDepth 16384

noncomputable section

open Idealize.ShloMosaic hiding ix1 ix2 ix3
open Idealize.ShloMosaic.ValueIdx

namespace Cert.Reference2Ideal.Ffn

open Cert.Reference2Ideal Cert.Reference2Ideal.Gen Cert.Reference2Ideal.Read Cert.Ffn Cert.Conv

/-- The arguments, as arrays. -/
abbrev Q (x0 x1 : S8192x1024.Idx → EReal) (x2 x3 x4 : S1x1024.Idx → EReal) (x5 : S1024x5632.Idx → EReal) (x6 : S2816x1024.Idx → EReal)
    (x7 x8 : S8192x1024.Idx → EReal) : Args where
  x := rd (n := 8192) (k := 1024) x0
  y := rd (n := 8192) (k := 1024) x1
  gate := rd (n := 1) (k := 1024) x2
  scale := rd (n := 1) (k := 1024) x3
  shift := rd (n := 1) (k := 1024) x4
  wi := rd (n := 1024) (k := 5632) x5
  wo := rd (n := 2816) (k := 1024) x6
  dx := rd (n := 8192) (k := 1024) x7
  dy := rd (n := 8192) (k := 1024) x8

variable (x0 x1 : S8192x1024.Idx → EReal) (x2 x3 x4 : S1x1024.Idx → EReal) (x5 : S1024x5632.Idx → EReal) (x6 : S2816x1024.Idx → EReal)
  (x7 x8 : S8192x1024.Idx → EReal)

theorem v0_at (i : S8192x1024.Idx) : val_main_v0 (F := Ideal) x1 i = (Q x0 x1 x2 x3 x4 x5 x6 x7 x8).y (i 0).val (i 1).val := by
  exact rd_eq x1 i rfl rfl
theorem v8_at (i : S8192x1.Idx) : val_main_v8 (F := Ideal) x1 i = vr (Q x0 x1 x2 x3 x4 x5 x6 x7 x8).y (i 0).val := by
  rw [val_main_v8_apply, val_main_v6_apply, val_main_v4_apply, val_main_v3_apply, val_main_v5_apply, val_main_v7_apply]
  show Ideal.div (Ideal.ofBits .f32 0x00000000#32 + _) cN + cE = _
  rw [Ideal.ofBits_zero_f32, zero_add]
  refine congrArg (fun z => Ideal.div z cN + cE) (Finset.sum_congr rfl fun k _ => ?_)
  exact congrArg₂ (· * ·) (v0_at x0 x1 x2 x3 x4 x5 x6 x7 x8 _) (v0_at x0 x1 x2 x3 x4 x5 x6 x7 x8 _)
theorem v9_at (i : S8192x1.Idx) : val_main_v9 (F := Ideal) x1 i = rs (Q x0 x1 x2 x3 x4 x5 x6 x7 x8).y (i 0).val := by
  rw [val_main_v9_apply, v8_at x0 x1 x2 x3 x4 x5 x6 x7 x8]
  rfl
theorem v12_at (i : S8192x1.Idx) : val_main_v12 (F := Ideal) x1 i = cM * Ideal.div (rs (Q x0 x1 x2 x3 x4 x5 x6 x7 x8).y (i 0).val) (vr (Q x0 x1 x2 x3 x4 x5 x6 x7 x8).y (i 0).val) := by
  rw [val_main_v12_apply, val_main_v10_apply, val_main_v11_apply, v9_at x0 x1 x2 x3 x4 x5 x6 x7 x8, v8_at x0 x1 x2 x3 x4 x5 x6 x7 x8]
  rfl
theorem v14_at (i : S8192x1024.Idx) : val_main_v14 (F := Ideal) x1 i = nm (Q x0 x1 x2 x3 x4 x5 x6 x7 x8).y (i 0).val (i 1).val := by
  rw [val_main_v14_apply, val_main_v13_apply, v9_at x0 x1 x2 x3 x4 x5 x6 x7 x8, v0_at x0 x1 x2 x3 x4 x5 x6 x7 x8]
  rfl
theorem v17_at (i : S8192x1024.Idx) : val_main_v17 (F := Ideal) x0 x1 x2 i = (Q x0 x1 x2 x3 x4 x5 x6 x7 x8).XN (i 0).val (i 1).val := by
  rw [val_main_v17_apply, val_main_v16_apply, val_main_v15_apply, v14_at x0 x1 x2 x3 x4 x5 x6 x7 x8]
  exact congrArg₂ (· + ·) (rd_eq x0 i rfl rfl) (congrArg (· * nm (Q x0 x1 x2 x3 x4 x5 x6 x7 x8).y (i 0).val (i 1).val) (rd_eq x2 _ rfl rfl))
theorem v24_at (i : S8192x1.Idx) : val_main_v24 (F := Ideal) x0 x1 x2 i = vr (Q x0 x1 x2 x3 x4 x5 x6 x7 x8).XN (i 0).val := by
  rw [val_main_v24_apply, val_main_v22_apply, val_main_v20_apply, val_main_v19_apply, val_main_v21_apply, val_main_v23_apply]
  show Ideal.div (Ideal.ofBits .f32 0x00000000#32 + _) cN + cE = _
  rw [Ideal.ofBits_zero_f32, zero_add]
  refine congrArg (fun z => Ideal.div z cN + cE) (Finset.sum_congr rfl fun k _ => ?_)
  exact congrArg₂ (· * ·) (v17_at x0 x1 x2 x3 x4 x5 x6 x7 x8 _) (v17_at x0 x1 x2 x3 x4 x5 x6 x7 x8 _)
theorem v25_at (i : S8192x1.Idx) : val_main_v25 (F := Ideal) x0 x1 x2 i = rs (Q x0 x1 x2 x3 x4 x5 x6 x7 x8).XN (i 0).val := by
  rw [val_main_v25_apply, v24_at x0 x1 x2 x3 x4 x5 x6 x7 x8]
  rfl
theorem v28_at (i : S8192x1.Idx) : val_main_v28 (F := Ideal) x0 x1 x2 i = cM * Ideal.div (rs (Q x0 x1 x2 x3 x4 x5 x6 x7 x8).XN (i 0).val) (vr (Q x0 x1 x2 x3 x4 x5 x6 x7 x8).XN (i 0).val) := by
  rw [val_main_v28_apply, val_main_v26_apply, val_main_v27_apply, v25_at x0 x1 x2 x3 x4 x5 x6 x7 x8, v24_at x0 x1 x2 x3 x4 x5 x6 x7 x8]
  rfl
theorem v30_at (i : S8192x1024.Idx) : val_main_v30 (F := Ideal) x0 x1 x2 i = nm (Q x0 x1 x2 x3 x4 x5 x6 x7 x8).XN (i 0).val (i 1).val := by
  rw [val_main_v30_apply, val_main_v29_apply, v25_at x0 x1 x2 x3 x4 x5 x6 x7 x8, v17_at x0 x1 x2 x3 x4 x5 x6 x7 x8]
  rfl
theorem v34_at (i : S8192x1024.Idx) : val_main_v34 (F := Ideal) x0 x1 x2 x3 x4 i = (Q x0 x1 x2 x3 x4 x5 x6 x7 x8).H (i 0).val (i 1).val := by
  rw [val_main_v34_apply, val_main_v32_apply, val_main_v31_apply, val_main_v33_apply, v30_at x0 x1 x2 x3 x4 x5 x6 x7 x8]
  exact congrArg₂ (· + ·) (congrArg (nm (Q x0 x1 x2 x3 x4 x5 x6 x7 x8).XN (i 0).val (i 1).val * ·) (rd_eq x3 _ rfl rfl)) (rd_eq x4 _ rfl rfl)
theorem v35_at (i : S8192x5632.Idx) : val_main_v35 (F := Ideal) x0 x1 x2 x3 x4 x5 i = (Q x0 x1 x2 x3 x4 x5 x6 x7 x8).GU (i 0).val (i 1).val := by
  rw [val_main_v35_apply]
  exact Finset.sum_congr rfl fun k _ => congrArg₂ (· * ·) (v34_at x0 x1 x2 x3 x4 x5 x6 x7 x8 _) (rd_eq x5 _ rfl rfl)
theorem v39_at (i : S8192x2816.Idx) : val_main_v39 (F := Ideal) x0 x1 x2 x3 x4 x5 i = (Q x0 x1 x2 x3 x4 x5 x6 x7 x8).GU (i 0).val (i 1).val := by
  rw [val_main_v39_apply]
  exact v35_at x0 x1 x2 x3 x4 x5 x6 x7 x8 _
theorem v40_at (i : S8192x2816.Idx) : val_main_v40 (F := Ideal) x0 x1 x2 x3 x4 x5 i = (Q x0 x1 x2 x3 x4 x5 x6 x7 x8).GU (i 0).val (2816 + (i 1).val) := by
  rw [val_main_v40_apply]
  exact v35_at x0 x1 x2 x3 x4 x5 x6 x7 x8 _
theorem v41_2_at (i : S8192x2816.Idx) : val_main_v41_2 (F := Ideal) x0 x1 x2 x3 x4 x5 i = Ideal.logistic ((Q x0 x1 x2 x3 x4 x5 x6 x7 x8).GU (i 0).val (i 1).val) := by
  rw [val_main_v41_2_apply, val_main_call0_v4_apply, val_main_call0_v3_apply, val_main_call0_v2_apply, val_main_call0_v1_apply, val_main_call0_v0_apply, v39_at x0 x1 x2 x3 x4 x5 x6 x7 x8]
  show Ideal.div (Ideal.ofBits .f32 0x3F800000#32) (Ideal.ofBits .f32 0x3F800000#32 + Ideal.exp (-(Q x0 x1 x2 x3 x4 x5 x6 x7 x8).GU (i 0).val (i 1).val)) = _
  rw [Ideal.ofBits_one_f32]
  rfl
theorem v41_1_at (i : S8192x2816.Idx) : val_main_v41_1 (F := Ideal) x0 x1 x2 x3 x4 x5 i = Ideal.logistic ((Q x0 x1 x2 x3 x4 x5 x6 x7 x8).GU (i 0).val (i 1).val) * (cO - Ideal.logistic ((Q x0 x1 x2 x3 x4 x5 x6 x7 x8).GU (i 0).val (i 1).val)) := by
  rw [val_main_v41_1_apply, val_main_call0_v7_apply, val_main_call0_v6_apply, v41_2_at x0 x1 x2 x3 x4 x5 x6 x7 x8]
  rfl
theorem v45_at (i : S8192x2816.Idx) : val_main_v45 (F := Ideal) x6 x8 i = (Q x0 x1 x2 x3 x4 x5 x6 x7 x8).arr.DA (i 0).val (i 1).val := by
  rw [val_main_v45_apply]
  exact Finset.sum_congr rfl fun k _ => congrArg₂ (· * ·) (rd_eq x8 _ rfl rfl) (rd_eq x6 _ rfl rfl)
theorem v46_at (i : S8192x2816.Idx) : val_main_v46 (F := Ideal) x0 x1 x2 x3 x4 x5 x6 x8 i = (Q x0 x1 x2 x3 x4 x5 x6 x7 x8).GU (i 0).val (i 1).val * Ideal.logistic ((Q x0 x1 x2 x3 x4 x5 x6 x7 x8).GU (i 0).val (i 1).val) * (Q x0 x1 x2 x3 x4 x5 x6 x7 x8).arr.DA (i 0).val (i 1).val := by
  rw [val_main_v46_apply, val_main_v41_0_apply, v39_at x0 x1 x2 x3 x4 x5 x6 x7 x8, v41_2_at x0 x1 x2 x3 x4 x5 x6 x7 x8, v45_at x0 x1 x2 x3 x4 x5 x6 x7 x8]
  rfl
theorem v47_at (i : S8192x2816.Idx) : val_main_v47 (F := Ideal) x0 x1 x2 x3 x4 x5 x6 x8 i = (Q x0 x1 x2 x3 x4 x5 x6 x7 x8).arr.DA (i 0).val (i 1).val * (Q x0 x1 x2 x3 x4 x5 x6 x7 x8).GU (i 0).val (2816 + (i 1).val) := by
  rw [val_main_v47_apply, v45_at x0 x1 x2 x3 x4 x5 x6 x7 x8, v40_at x0 x1 x2 x3 x4 x5 x6 x7 x8]
  rfl
theorem v48_at (hp : (Q x0 x1 x2 x3 x4 x5 x6 x7 x8).Fin) (i : S8192x2816.Idx) : val_main_v48 (F := Ideal) x0 x1 x2 x3 x4 x5 x6 x8 i = (Q x0 x1 x2 x3 x4 x5 x6 x7 x8).arr.DGU (i 0).val (pr (i 1).val) := by
  rw [val_main_v48_apply, val_main_call1_v1_apply, val_main_call1_v2_apply, val_main_call1_v0_apply, v47_at x0 x1 x2 x3 x4 x5 x6 x7 x8, v41_2_at x0 x1 x2 x3 x4 x5 x6 x7 x8, v39_at x0 x1 x2 x3 x4 x5 x6 x7 x8, v41_1_at x0 x1 x2 x3 x4 x5 x6 x7 x8]
  exact gate_eq hp _ _ (i 1).isLt
theorem v49_at (hp : (Q x0 x1 x2 x3 x4 x5 x6 x7 x8).Fin) (i : S8192x5632.Idx) : val_main_v49 (F := Ideal) x0 x1 x2 x3 x4 x5 x6 x8 i = (Q x0 x1 x2 x3 x4 x5 x6 x7 x8).arr.DGU (i 0).val (pr (i 1).val) := by
  have h0 : (i 0).val < 8192 := (i 0).isLt
  have h1 : (i 1).val < 5632 := (i 1).isLt
  unfold val_main_v49
  by_cases h : (i 1).val < 2816
  · rw [concatenate_pair_apply_left (s₁ := S8192x2816) (s₂ := S8192x2816) 1 _ _ _ i rfl (ix2 (⟨(i 0).val, h0⟩ : Fin 8192) (⟨(i 1).val, h⟩ : Fin 2816))
      (fun b => by match b with | ⟨0, _⟩ => rfl | ⟨1, _⟩ => rfl)]
    exact v48_at x0 x1 x2 x3 x4 x5 x6 x7 x8 hp _
  · rw [concatenate_pair_apply_right (s₁ := S8192x2816) (s₂ := S8192x2816) 1 _ _ _ i rfl rfl (ix2 (⟨(i 0).val, h0⟩ : Fin 8192) (⟨(i 1).val - 2816, by omega⟩ : Fin 2816))
      (fun b hb => by match b with | ⟨0, _⟩ => rfl | ⟨1, _⟩ => exact absurd rfl hb) (by show (i 1).val - 2816 + 2816 = (i 1).val; omega)]
    exact (v46_at x0 x1 x2 x3 x4 x5 x6 x7 x8 _).trans (up_eq (Q x0 x1 x2 x3 x4 x5 x6 x7 x8) _ _ (by omega) h1)
theorem v50_at (hp : (Q x0 x1 x2 x3 x4 x5 x6 x7 x8).Fin) (i : S8192x5632.Idx) : val_main_v50 (F := Ideal) x0 x1 x2 x3 x4 x5 x6 x8 i = (Q x0 x1 x2 x3 x4 x5 x6 x7 x8).arr.DGU (i 0).val (pr (i 1).val) := by
  exact v49_at x0 x1 x2 x3 x4 x5 x6 x7 x8 hp i
theorem v52_at (hp : (Q x0 x1 x2 x3 x4 x5 x6 x7 x8).Fin) (i : S8192x1024.Idx) : val_main_v52 (F := Ideal) x0 x1 x2 x3 x4 x5 x6 x8 i = (Q x0 x1 x2 x3 x4 x5 x6 x7 x8).arr.DH (i 0).val (i 1).val := by
  rw [val_main_v52_apply]
  refine (Finset.sum_congr rfl fun k _ => congrArg₂ (· * ·) (v50_at x0 x1 x2 x3 x4 x5 x6 x7 x8 hp _) (rd_eq x5 _ rfl rfl)).trans ?_
  exact dh_eq (Q x0 x1 x2 x3 x4 x5 x6 x7 x8) _ _
theorem v54_at (hp : (Q x0 x1 x2 x3 x4 x5 x6 x7 x8).Fin) (i : S1x1024.Idx) : val_main_v54 (F := Ideal) x0 x1 x2 x3 x4 x5 x6 x8 i = ∑ g : Fin 8192, (Q x0 x1 x2 x3 x4 x5 x6 x7 x8).arr.DH g.val (i 1).val := by
  have h0 : (i 0).val < 1 := (i 0).isLt
  rw [val_main_v54_apply, val_main_v53_apply]
  show Ideal.ofBits .f32 0x00000000#32 + _ = _
  rw [Ideal.ofBits_zero_f32, zero_add]
  refine Finset.sum_congr rfl fun g _ => ?_
  refine (v52_at x0 x1 x2 x3 x4 x5 x6 x7 x8 hp _).trans ?_
  exact congrArg ((Q x0 x1 x2 x3 x4 x5 x6 x7 x8).arr.DH g.val) (show (i 0).val * 1024 + (i 1).val = (i 1).val by omega)
theorem v55_at (hp : (Q x0 x1 x2 x3 x4 x5 x6 x7 x8).Fin) (i : S8192x1024.Idx) : val_main_v55 (F := Ideal) x0 x1 x2 x3 x4 x5 x6 x8 i = (Q x0 x1 x2 x3 x4 x5 x6 x7 x8).arr.DH (i 0).val (i 1).val * nm (Q x0 x1 x2 x3 x4 x5 x6 x7 x8).XN (i 0).val (i 1).val := by
  rw [val_main_v55_apply, v30_at x0 x1 x2 x3 x4 x5 x6 x7 x8, v52_at x0 x1 x2 x3 x4 x5 x6 x7 x8 hp]
  exact mul_comm _ _
theorem v57_at (hp : (Q x0 x1 x2 x3 x4 x5 x6 x7 x8).Fin) (i : S1x1024.Idx) : val_main_v57 (F := Ideal) x0 x1 x2 x3 x4 x5 x6 x8 i = ∑ g : Fin 8192, (Q x0 x1 x2 x3 x4 x5 x6 x7 x8).arr.DH g.val (i 1).val * nm (Q x0 x1 x2 x3 x4 x5 x6 x7 x8).XN g.val (i 1).val := by
  have h0 : (i 0).val < 1 := (i 0).isLt
  rw [val_main_v57_apply, val_main_v56_apply]
  show Ideal.ofBits .f32 0x00000000#32 + _ = _
  rw [Ideal.ofBits_zero_f32, zero_add]
  refine Finset.sum_congr rfl fun g _ => ?_
  refine (v55_at x0 x1 x2 x3 x4 x5 x6 x7 x8 hp _).trans ?_
  exact congrArg (fun d => (Q x0 x1 x2 x3 x4 x5 x6 x7 x8).arr.DH g.val d * nm (Q x0 x1 x2 x3 x4 x5 x6 x7 x8).XN g.val d) (show (i 0).val * 1024 + (i 1).val = (i 1).val by omega)
theorem v59_at (hp : (Q x0 x1 x2 x3 x4 x5 x6 x7 x8).Fin) (i : S8192x1024.Idx) : val_main_v59 (F := Ideal) x0 x1 x2 x3 x4 x5 x6 x8 i = (Q x0 x1 x2 x3 x4 x5 x6 x7 x8).arr.DXH (i 0).val (i 1).val := by
  rw [val_main_v59_apply, val_main_v58_apply, v52_at x0 x1 x2 x3 x4 x5 x6 x7 x8 hp]
  exact congrArg ((Q x0 x1 x2 x3 x4 x5 x6 x7 x8).arr.DH (i 0).val (i 1).val * ·) (rd_eq x3 _ rfl rfl)
theorem v60_at (hp : (Q x0 x1 x2 x3 x4 x5 x6 x7 x8).Fin) (i : S8192x1024.Idx) : val_main_v60 (F := Ideal) x0 x1 x2 x3 x4 x5 x6 x8 i = (Q x0 x1 x2 x3 x4 x5 x6 x7 x8).XN (i 0).val (i 1).val * (Q x0 x1 x2 x3 x4 x5 x6 x7 x8).arr.DXH (i 0).val (i 1).val := by
  rw [val_main_v60_apply, v17_at x0 x1 x2 x3 x4 x5 x6 x7 x8, v59_at x0 x1 x2 x3 x4 x5 x6 x7 x8 hp]
  rfl
theorem v62_at (hp : (Q x0 x1 x2 x3 x4 x5 x6 x7 x8).Fin) (i : S8192x1.Idx) : val_main_v62 (F := Ideal) x0 x1 x2 x3 x4 x5 x6 x8 i = ∑ e : Fin 1024, (Q x0 x1 x2 x3 x4 x5 x6 x7 x8).XN (i 0).val e.val * (Q x0 x1 x2 x3 x4 x5 x6 x7 x8).arr.DXH (i 0).val e.val := by
  have h1 : (i 1).val < 1 := (i 1).isLt
  rw [val_main_v62_apply, val_main_v61_apply]
  show Ideal.ofBits .f32 0x00000000#32 + _ = _
  rw [Ideal.ofBits_zero_f32, zero_add]
  refine Finset.sum_congr rfl fun e _ => ?_
  refine (v60_at x0 x1 x2 x3 x4 x5 x6 x7 x8 hp _).trans ?_
  exact congrArg (fun g => (Q x0 x1 x2 x3 x4 x5 x6 x7 x8).XN g e.val * (Q x0 x1 x2 x3 x4 x5 x6 x7 x8).arr.DXH g e.val) (show (i 0).val * 1 + (i 1).val = (i 0).val by omega)
theorem v68_at (hp : (Q x0 x1 x2 x3 x4 x5 x6 x7 x8).Fin) (i : S8192x1.Idx) : val_main_v68 (F := Ideal) x0 x1 x2 x3 x4 x5 x6 x8 i = mq (Q x0 x1 x2 x3 x4 x5 x6 x7 x8).XN (Q x0 x1 x2 x3 x4 x5 x6 x7 x8).arr.DXH (i 0).val := by
  rw [val_main_v68_apply, val_main_v66_apply, val_main_v67_apply, v62_at x0 x1 x2 x3 x4 x5 x6 x7 x8 hp, v28_at x0 x1 x2 x3 x4 x5 x6 x7 x8]
  rfl
theorem v70_at (hp : (Q x0 x1 x2 x3 x4 x5 x6 x7 x8).Fin) (i : S8192x1024.Idx) : val_main_v70 (F := Ideal) x0 x1 x2 x3 x4 x5 x6 x8 i = mq (Q x0 x1 x2 x3 x4 x5 x6 x7 x8).XN (Q x0 x1 x2 x3 x4 x5 x6 x7 x8).arr.DXH (i 0).val := by
  rw [val_main_v70_apply, val_main_v69_apply]
  show Ideal.ofBits .f32 0x00000000#32 + _ = _
  rw [Ideal.ofBits_zero_f32, zero_add, Fin.sum_univ_one]
  exact v68_at x0 x1 x2 x3 x4 x5 x6 x7 x8 hp _
theorem v74_at (hp : (Q x0 x1 x2 x3 x4 x5 x6 x7 x8).Fin) (i : S8192x1024.Idx) : val_main_v74 (F := Ideal) x0 x1 x2 x3 x4 x5 x6 x7 x8 i = (Q x0 x1 x2 x3 x4 x5 x6 x7 x8).arr.DXN (i 0).val (i 1).val := by
  rw [val_main_v74_apply, val_main_v72_apply, val_main_v65_apply, val_main_v64_apply, val_main_v63_apply, val_main_v71_apply, val_main_v73_apply, v59_at x0 x1 x2 x3 x4 x5 x6 x7 x8 hp, v25_at x0 x1 x2 x3 x4 x5 x6 x7 x8, v17_at x0 x1 x2 x3 x4 x5 x6 x7 x8, v70_at x0 x1 x2 x3 x4 x5 x6 x7 x8 hp]
  refine Eq.trans ?_ (congrArg₂ (· + ·) (rd_eq x7 i rfl rfl) (pg_eq (Q x0 x1 x2 x3 x4 x5 x6 x7 x8).XN (Q x0 x1 x2 x3 x4 x5 x6 x7 x8).arr.DXH (i 0).val (i 1).val (hp.XN _) (hp.DXH _)))
  show x7 i + _ * _ + _ * _ + _ * _ = x7 i + (_ * _ + _ * _ + _ * _)
  rw [add_assoc, add_assoc, ← add_assoc ((Q x0 x1 x2 x3 x4 x5 x6 x7 x8).arr.DXH (i 0).val (i 1).val * _)]
theorem v75_at (hp : (Q x0 x1 x2 x3 x4 x5 x6 x7 x8).Fin) (i : S8192x1024.Idx) : val_main_v75 (F := Ideal) x0 x1 x2 x3 x4 x5 x6 x7 x8 i = (Q x0 x1 x2 x3 x4 x5 x6 x7 x8).arr.DXN (i 0).val (i 1).val := by
  have h0 : (i 0).val < 8192 := (i 0).isLt
  have h1 : (i 1).val < 1024 := (i 1).isLt
  rw [val_main_v75_apply]
  refine (v74_at x0 x1 x2 x3 x4 x5 x6 x7 x8 hp _).trans ?_
  exact congrArg₂ (Q x0 x1 x2 x3 x4 x5 x6 x7 x8).arr.DXN (show ((i 0).val * 1024 + (i 1).val) / 1024 = (i 0).val by omega) (show ((i 0).val * 1024 + (i 1).val) % 1024 = (i 1).val by omega)
theorem v77_at (hp : (Q x0 x1 x2 x3 x4 x5 x6 x7 x8).Fin) (i : S8192x1024.Idx) : val_main_v77 (F := Ideal) x0 x1 x2 x3 x4 x5 x6 x7 x8 i = (Q x0 x1 x2 x3 x4 x5 x6 x7 x8).arr.DN (i 0).val (i 1).val := by
  rw [val_main_v77_apply, val_main_v76_apply, v75_at x0 x1 x2 x3 x4 x5 x6 x7 x8 hp]
  exact (congrArg (· * (Q x0 x1 x2 x3 x4 x5 x6 x7 x8).arr.DXN (i 0).val (i 1).val) (rd_eq x2 _ rfl rfl)).trans (mul_comm _ _)
theorem v78_at (hp : (Q x0 x1 x2 x3 x4 x5 x6 x7 x8).Fin) (i : S8192x1024.Idx) : val_main_v78 (F := Ideal) x0 x1 x2 x3 x4 x5 x6 x7 x8 i = (Q x0 x1 x2 x3 x4 x5 x6 x7 x8).arr.DXN (i 0).val (i 1).val * nm (Q x0 x1 x2 x3 x4 x5 x6 x7 x8).y (i 0).val (i 1).val := by
  rw [val_main_v78_apply, v75_at x0 x1 x2 x3 x4 x5 x6 x7 x8 hp, v14_at x0 x1 x2 x3 x4 x5 x6 x7 x8]
  rfl
theorem v80_at (hp : (Q x0 x1 x2 x3 x4 x5 x6 x7 x8).Fin) (i : S1x1024.Idx) : val_main_v80 (F := Ideal) x0 x1 x2 x3 x4 x5 x6 x7 x8 i = ∑ g : Fin 8192, (Q x0 x1 x2 x3 x4 x5 x6 x7 x8).arr.DXN g.val (i 1).val * nm (Q x0 x1 x2 x3 x4 x5 x6 x7 x8).y g.val (i 1).val := by
  have h0 : (i 0).val < 1 := (i 0).isLt
  rw [val_main_v80_apply, val_main_v79_apply]
  show Ideal.ofBits .f32 0x00000000#32 + _ = _
  rw [Ideal.ofBits_zero_f32, zero_add]
  refine Finset.sum_congr rfl fun g _ => ?_
  refine (v78_at x0 x1 x2 x3 x4 x5 x6 x7 x8 hp _).trans ?_
  exact congrArg (fun d => (Q x0 x1 x2 x3 x4 x5 x6 x7 x8).arr.DXN g.val d * nm (Q x0 x1 x2 x3 x4 x5 x6 x7 x8).y g.val d) (show (i 0).val * 1024 + (i 1).val = (i 1).val by omega)
theorem v96_at (hp : (Q x0 x1 x2 x3 x4 x5 x6 x7 x8).Fin) (i : S1024.Idx) : val_main_v96 (F := Ideal) x0 x1 x2 x3 x4 x5 x6 x7 x8 i = ∑ g : Fin 8192, (Q x0 x1 x2 x3 x4 x5 x6 x7 x8).arr.DXN g.val (i 0).val * nm (Q x0 x1 x2 x3 x4 x5 x6 x7 x8).y g.val (i 0).val := by
  have h0 : (i 0).val < 1024 := (i 0).isLt
  rw [val_main_v96_apply]
  refine (v80_at x0 x1 x2 x3 x4 x5 x6 x7 x8 hp _).trans ?_
  exact congrArg (fun d => ∑ g : Fin 8192, (Q x0 x1 x2 x3 x4 x5 x6 x7 x8).arr.DXN g.val d * nm (Q x0 x1 x2 x3 x4 x5 x6 x7 x8).y g.val d) (show (i 0).val % 1024 = (i 0).val by omega)
theorem v83_at (hp : (Q x0 x1 x2 x3 x4 x5 x6 x7 x8).Fin) (i : S8192x1.Idx) : val_main_v83 (F := Ideal) x0 x1 x2 x3 x4 x5 x6 x7 x8 i = ∑ e : Fin 1024, (Q x0 x1 x2 x3 x4 x5 x6 x7 x8).y (i 0).val e.val * (Q x0 x1 x2 x3 x4 x5 x6 x7 x8).arr.DN (i 0).val e.val := by
  have h1 : (i 1).val < 1 := (i 1).isLt
  rw [val_main_v83_apply, val_main_v82_apply]
  show Ideal.ofBits .f32 0x00000000#32 + _ = _
  rw [Ideal.ofBits_zero_f32, zero_add]
  refine Finset.sum_congr rfl fun e _ => ?_
  refine (congrArg₂ (· * ·) (v0_at x0 x1 x2 x3 x4 x5 x6 x7 x8 _) (v77_at x0 x1 x2 x3 x4 x5 x6 x7 x8 hp _)).trans ?_
  exact congrArg (fun g => (Q x0 x1 x2 x3 x4 x5 x6 x7 x8).y g e.val * (Q x0 x1 x2 x3 x4 x5 x6 x7 x8).arr.DN g e.val) (show (i 0).val * 1 + (i 1).val = (i 0).val by omega)
theorem v88_at (hp : (Q x0 x1 x2 x3 x4 x5 x6 x7 x8).Fin) (i : S8192x1.Idx) : val_main_v88 (F := Ideal) x0 x1 x2 x3 x4 x5 x6 x7 x8 i = mq (Q x0 x1 x2 x3 x4 x5 x6 x7 x8).y (Q x0 x1 x2 x3 x4 x5 x6 x7 x8).arr.DN (i 0).val := by
  rw [val_main_v88_apply, val_main_v86_apply, val_main_v87_apply, v83_at x0 x1 x2 x3 x4 x5 x6 x7 x8 hp, v12_at x0 x1 x2 x3 x4 x5 x6 x7 x8]
  rfl
theorem v90_at (hp : (Q x0 x1 x2 x3 x4 x5 x6 x7 x8).Fin) (i : S8192x1024.Idx) : val_main_v90 (F := Ideal) x0 x1 x2 x3 x4 x5 x6 x7 x8 i = mq (Q x0 x1 x2 x3 x4 x5 x6 x7 x8).y (Q x0 x1 x2 x3 x4 x5 x6 x7 x8).arr.DN (i 0).val := by
  rw [val_main_v90_apply, val_main_v89_apply]
  show Ideal.ofBits .f32 0x00000000#32 + _ = _
  rw [Ideal.ofBits_zero_f32, zero_add, Fin.sum_univ_one]
  exact v88_at x0 x1 x2 x3 x4 x5 x6 x7 x8 hp _
theorem v95_at (hp : (Q x0 x1 x2 x3 x4 x5 x6 x7 x8).Fin) (i : S8192x1024.Idx) : val_main_v95 (F := Ideal) x0 x1 x2 x3 x4 x5 x6 x7 x8 i = (Q x0 x1 x2 x3 x4 x5 x6 x7 x8).arr.DYN (i 0).val (i 1).val := by
  rw [val_main_v95_apply, val_main_v94_apply, val_main_v92_apply, val_main_v85_apply, val_main_v84_apply, val_main_v91_apply, val_main_v93_apply, v77_at x0 x1 x2 x3 x4 x5 x6 x7 x8 hp, v9_at x0 x1 x2 x3 x4 x5 x6 x7 x8, v0_at x0 x1 x2 x3 x4 x5 x6 x7 x8, v90_at x0 x1 x2 x3 x4 x5 x6 x7 x8 hp]
  exact pg_eq (Q x0 x1 x2 x3 x4 x5 x6 x7 x8).y (Q x0 x1 x2 x3 x4 x5 x6 x7 x8).arr.DN (i 0).val (i 1).val (hp.y _) (hp.DN _)

end Cert.Reference2Ideal.Ffn
end
-- ==== Proof.FfnEq.lean ====
/- The two programs' results of the SwiGLU block's gradients are equal wherever the arguments are finite. -/
module

public import proofs.«01_k».proof.Proof.FfnRef
public import proofs.«01_k».proof.Proof.FfnRun
public import proofs.«01_k».proof.Proof.Gen.Pre_finite
public import proofs.«01_k».proof.Proof.Gen.Reference2Ideal.Run
public import proofs.«01_k».proof.Defs
public import Idealize.ShloMosaic.Lib.ReduceAll
public import Idealize.ShloMosaic.Lib.Affine

@[expose] public section

set_option maxRecDepth 16384

noncomputable section

open Idealize.ShloMosaic hiding ix1 ix2 ix3
open Idealize.ShloMosaic.ValueIdx Idealize.ShloMosaic.TcCoe Idealize.SL.Sem

namespace Cert.Ffn

open Cert.Conv

/-- A number whose absolute value is below infinity is real. -/
theorem isR_of_abs {x : EReal} (h : max x (-x) < ⊤) : IsR x := by
  induction x using EReal.rec with
  | bot => simp at h
  | top => simp at h
  | coe r => exact ⟨r, rfl⟩

theorem inf_eq : Ideal.ofBits .f32 0x7F800000#32 = ⊤ := by simp [Ideal.ofBits, Ideal.ieee]

/-- An array all of whose absolute values are below infinity has real elements, also read past its end. -/
theorem isR_rd {n k : ℕ} (x : FVec Ideal (⟨2, ![n, k]⟩ : Shape) .f32)
    (hb : Cert.Pre_finite.S_.BroadcastsInDim (⟨2, ![n, k]⟩ : Shape) (![] : Fin 0 → Fin (⟨2, ![n, k]⟩ : Shape).rank))
    (hr : (⟨2, ![n, k]⟩ : Shape).ReducesTo [0, 1] Cert.Pre_finite.S_) (hu : 0 < Cert.Pre_finite.S_.numel) (j : Cert.Pre_finite.S_.Idx)
    (e : Host.reduce IntOp.andi (cmpf .olt (Host.absf x) (broadcastInDim (⟨2, ![n, k]⟩ : Shape) ![] hb (constant (F := Ideal) Cert.Pre_finite.S_ .f32 0x7F800000#32)))
      (constantI Cert.Pre_finite.S_ 1 1#1) hr hu j = 1#1) (g d : ℕ) : IsR (rd (n := n) (k := k) x g d) := by
  have hx : ∀ i, IsR (x i) := by
    intro i
    have h := Host.reduce_andi_all _ _ hr hu j e i
    have h' : BitVec.ofBool (decide (max (x i) (-(x i)) < Ideal.ofBits .f32 0x7F800000#32)) = 1#1 := h
    rw [inf_eq] at h'
    refine isR_of_abs ?_
    by_contra hn
    rw [decide_eq_false hn] at h'
    exact absurd h' (by decide)
  unfold rd
  split
  · exact hx _
  · exact ⟨0, rfl⟩

/-- Finite arguments are real. -/
theorem finite (m : (ℓ : Loc Cert.Kernel2Ideal.nD Cert.Kernel2Ideal.τ Cert.Kernel2Ideal.sig) → Buf (Elt Ideal) ℓ)
    (h : Cert.Pre_Kernel2Ideal_finite m) (c : Dev Cert.Kernel2Ideal.nD) : (Cert.Kernel2Ideal.Ffn.P m c).Fin := by
  have e := congrFun (h c) (default : Cert.Pre_finite.S_.Idx)
  unfold Cert.Pre_finite.fn Cert.Pre_finite.fn_part1 Cert.Pre_finite.fn_part2 at e
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨e, h1⟩ := IntOp.andi_eq_one.1 e
  obtain ⟨-, h0⟩ := IntOp.andi_eq_one.1 e
  exact ⟨fun g d => isR_rd _ _ _ _ _ h0 g d, fun g d => isR_rd _ _ _ _ _ h1 g d, fun g d => isR_rd _ _ _ _ _ h2 g d,
    fun g d => isR_rd _ _ _ _ _ h3 g d, fun g d => isR_rd _ _ _ _ _ h4 g d, fun g d => isR_rd _ _ _ _ _ h5 g d,
    fun g d => isR_rd _ _ _ _ _ h6 g d, fun g d => isR_rd _ _ _ _ _ h7 g d, fun g d => isR_rd _ _ _ _ _ h8 g d⟩

theorem algebraic : Cert.algebraic_Kernel2Ideal_Reference2Ideal_pre_finite := by
  intro m g m' g' hf ha
  refine ⟨fun c => Cert.Kernel2Ideal.Ffn.res0 m c, fun c => Cert.Kernel2Ideal.Ffn.res_10 m c, fun c => Cert.Kernel2Ideal.Ffn.res2 m c,
    fun c => Cert.Kernel2Ideal.Ffn.res3 m c, fun c => Cert.Kernel2Ideal.Ffn.res_13 m c, fun c => Cert.Kernel2Ideal.Ffn.res5 m c,
    Cert.Kernel2Ideal.Ffn.run m g, ?_⟩
  refine (θ_run Cert.Reference2Ideal.defs _ _).mono (fun r h c => ?_) (Cert.Reference2Ideal.Value.run (F := Ideal) m' g')
  have hp := finite m hf c
  obtain ⟨a0, a1, a2, a3, a4, a5, a6, a7, a8⟩ := ha c
  have b0 : StableHlo.launchContents m' c (Proc.devRef .tc Cert.Reference2Ideal.main_arg0) = m ((c.tc : Thread Cert.Kernel2Ideal.nD Cert.Kernel2Ideal.τ).loc Cert.Kernel2Ideal.main_arg0) := a0
  have b1 : StableHlo.launchContents m' c (Proc.devRef .tc Cert.Reference2Ideal.main_arg1) = m ((c.tc : Thread Cert.Kernel2Ideal.nD Cert.Kernel2Ideal.τ).loc Cert.Kernel2Ideal.main_arg1) := a1
  have b2 : StableHlo.launchContents m' c (Proc.devRef .tc Cert.Reference2Ideal.main_arg2) = m ((c.tc : Thread Cert.Kernel2Ideal.nD Cert.Kernel2Ideal.τ).loc Cert.Kernel2Ideal.main_arg2) := a2
  have b3 : StableHlo.launchContents m' c (Proc.devRef .tc Cert.Reference2Ideal.main_arg3) = m ((c.tc : Thread Cert.Kernel2Ideal.nD Cert.Kernel2Ideal.τ).loc Cert.Kernel2Ideal.main_arg3) := a3
  have b4 : StableHlo.launchContents m' c (Proc.devRef .tc Cert.Reference2Ideal.main_arg4) = m ((c.tc : Thread Cert.Kernel2Ideal.nD Cert.Kernel2Ideal.τ).loc Cert.Kernel2Ideal.main_arg4) := a4
  have b5 : StableHlo.launchContents m' c (Proc.devRef .tc Cert.Reference2Ideal.main_arg5) = m ((c.tc : Thread Cert.Kernel2Ideal.nD Cert.Kernel2Ideal.τ).loc Cert.Kernel2Ideal.main_arg5) := a5
  have b6 : StableHlo.launchContents m' c (Proc.devRef .tc Cert.Reference2Ideal.main_arg6) = m ((c.tc : Thread Cert.Kernel2Ideal.nD Cert.Kernel2Ideal.τ).loc Cert.Kernel2Ideal.main_arg6) := a6
  have b7 : StableHlo.launchContents m' c (Proc.devRef .tc Cert.Reference2Ideal.main_arg7) = m ((c.tc : Thread Cert.Kernel2Ideal.nD Cert.Kernel2Ideal.τ).loc Cert.Kernel2Ideal.main_arg7) := a7
  have b8 : StableHlo.launchContents m' c (Proc.devRef .tc Cert.Reference2Ideal.main_arg8) = m ((c.tc : Thread Cert.Kernel2Ideal.nD Cert.Kernel2Ideal.τ).loc Cert.Kernel2Ideal.main_arg8) := a8
  obtain ⟨r0, r1, r2, r3, r4, r5, hargs⟩ := h c
  refine ⟨r0.trans ?_, r1.trans ?_, r2.trans ?_, r3.trans ?_, r4.trans ?_, r5.trans ?_, hargs⟩
  · refine (Cert.Reference2Ideal.Read.val_main_v50_eq _).trans ?_
    rw [b0, b1, b2, b3, b4, b5, b6, b8]
    funext i
    exact (Cert.Reference2Ideal.Ffn.v50_at _ _ _ _ _ _ _ (m ((c.tc : Thread Cert.Kernel2Ideal.nD Cert.Kernel2Ideal.τ).loc Cert.Kernel2Ideal.main_arg7)) _ hp i)
  · refine (Cert.Reference2Ideal.Read.val_main_v74_eq _).trans ?_
    rw [b0, b1, b2, b3, b4, b5, b6, b7, b8]
    funext i
    exact (Cert.Reference2Ideal.Ffn.v74_at _ _ _ _ _ _ _ _ _ hp i)
  · refine (Cert.Reference2Ideal.Read.val_main_v57_eq _).trans ?_
    rw [b0, b1, b2, b3, b4, b5, b6, b8]
    funext i
    exact (Cert.Reference2Ideal.Ffn.v57_at _ _ _ _ _ _ _ (m ((c.tc : Thread Cert.Kernel2Ideal.nD Cert.Kernel2Ideal.τ).loc Cert.Kernel2Ideal.main_arg7)) _ hp i).trans (rows_eq (fun g d => (Cert.Kernel2Ideal.Ffn.P m c).arr.DH g d * nm (Cert.Kernel2Ideal.Ffn.P m c).arr.X g d) _).symm
  · refine (Cert.Reference2Ideal.Read.val_main_v54_eq _).trans ?_
    rw [b0, b1, b2, b3, b4, b5, b6, b8]
    funext i
    exact (Cert.Reference2Ideal.Ffn.v54_at _ _ _ _ _ _ _ (m ((c.tc : Thread Cert.Kernel2Ideal.nD Cert.Kernel2Ideal.τ).loc Cert.Kernel2Ideal.main_arg7)) _ hp i).trans (rows_eq (Cert.Kernel2Ideal.Ffn.P m c).arr.DH _).symm
  · refine (Cert.Reference2Ideal.Read.val_main_v95_eq _).trans ?_
    rw [b0, b1, b2, b3, b4, b5, b6, b7, b8]
    funext i
    exact (Cert.Reference2Ideal.Ffn.v95_at _ _ _ _ _ _ _ _ _ hp i)
  · refine (Cert.Reference2Ideal.Read.val_main_v96_eq _).trans ?_
    rw [b0, b1, b2, b3, b4, b5, b6, b7, b8]
    funext i
    exact (Cert.Reference2Ideal.Ffn.v96_at _ _ _ _ _ _ _ _ _ hp i).trans (rows_eq (fun g d => (Cert.Kernel2Ideal.Ffn.P m c).arr.DXN g d * nm (Cert.Kernel2Ideal.Ffn.P m c).arr.Y g d) _).symm

theorem frame_reference : Cert.quiescent_Reference2Ideal := fun m ρ _ =>
  (θ_run Cert.Reference2Ideal.defs _ _).mono (fun r h => ⟨fun c => (h c).2.2.2.2.2.2, sem_eq_zero_of_no_sems (by decide) r.2⟩)
    (Cert.Reference2Ideal.Value.run (F := Ideal) m ρ)

theorem frame_reference_finite : Cert.quiescent_Reference2Ideal_pre_finite := fun m ρ _ => frame_reference m ρ trivial

end Cert.Ffn
end
-- ==== Proof.Mm.lean ====
/- A product that contracts both operands' rows, block of rows by block of rows. -/
module

public import proofs.«01_k».proof.Proof.FfnEq
public import Idealize.ShloMosaic.PureOps.Ideal.Laws

@[expose] public section

set_option maxRecDepth 16384

noncomputable section

open Idealize.ShloMosaic hiding ix1 ix2 ix3
open Idealize.ShloMosaic.ValueIdx Idealize.ShloMosaic.TcCoe Idealize.SL.Sem

namespace Cert.Mm

/-- The product of two columns over `n` rows from row `o` on. -/
def part (A B : ℕ → ℕ → EReal) (n o i j : ℕ) : EReal := ∑ r : Fin n, A (o + r.val) i * B (o + r.val) j

/-- Four blocks of 2048 rows are all rows. -/
theorem four (A B : ℕ → ℕ → EReal) (i j : ℕ) :
    ∑ t ∈ Finset.range 4, part A B 2048 (2048 * t) i j = ∑ g : Fin 8192, A g.val i * B g.val j := by
  rw [Finset.sum_range]
  exact (Cert.Conv.sum_blocks 4 2048 fun g => A g i * B g j).symm

/-- Rows contracted with rows: one entry of the product. -/
theorem rows_at {K M N : ℕ} {φ₁ φ₂ : FTy} (d : DotDims ⟨2, ![K, M]⟩ ⟨2, ![K, N]⟩ ⟨2, ![M, N]⟩)
    (hr : d.contr.rank = 1) (hs : d.contr.size ⟨0, by rw [hr]; exact Nat.one_pos⟩ = K)
    (hl0 : ∀ i k, (d.lhsIdx i k 0).val = (k ⟨0, by rw [hr]; exact Nat.one_pos⟩).val) (hl1 : ∀ i k, (d.lhsIdx i k 1).val = (i 0).val)
    (hr0 : ∀ i k, (d.rhsIdx i k 0).val = (k ⟨0, by rw [hr]; exact Nat.one_pos⟩).val) (hr1 : ∀ i k, (d.rhsIdx i k 1).val = (i 1).val)
    (x : FVec Ideal ⟨2, ![K, M]⟩ φ₁) (y : FVec Ideal ⟨2, ![K, N]⟩ φ₂) (A B : ℕ → ℕ → EReal) (o p q : ℕ)
    (hx : ∀ j, x j = A (o + (j 0).val) (p + (j 1).val)) (hy : ∀ j, y j = B (o + (j 0).val) (q + (j 1).val)) (i : (⟨2, ![M, N]⟩ : Shape).Idx) :
    FloatOps.matmul d none x y (constant ⟨2, ![M, N]⟩ .f32 0x00000000#32) i = part A B K o (p + (i 0).val) (q + (i 1).val) := by
  rw [Ideal.matmul_constant_zero_apply, ← Equiv.sum_comp (contrEquiv1 d K hr hs).symm]
  refine Finset.sum_congr rfl fun k _ => ?_
  have hk := contrEquiv1_symm_val d K hr hs k
  rw [hx, hy, hl0, hl1, hr0, hr1]
  refine congrArg₂ (· * ·) ?_ ?_
  · exact congrArg (fun z => A (o + z) (p + (i 0).val)) hk
  · exact congrArg (fun z => B (o + z) (q + (i 1).val)) hk

/-- One sum more. -/
def plus (x y : EReal) : EReal := x + y

/-- A pair's members, from the pair. -/
theorem of_fst {α β : Type} {x : α × β} {a : α} {b : β} {z : α} (h : x = (a, b)) (e : a = z) : x.1 = z := by rw [h]; exact e
theorem of_snd {α β : Type} {x : α × β} {a : α} {b : β} {z : β} (h : x = (a, b)) (e : b = z) : x.2 = z := by rw [h]; exact e

end Cert.Mm
end
-- ==== Proof.Mm3.lean ====
/- The gradient of the second projection of the SwiGLU block: the product of what it read and what came back, over all rows. -/
module

public import proofs.«01_k».proof.Proof.Mm
public import proofs.«01_k».proof.Proof.Gen.Kernel3Ideal.Value
public import proofs.«01_k».proof.Proof.Gen.Reference3Ideal.Run
public import proofs.«01_k».proof.Proof.Gen.Reference3Ideal.Read
public import proofs.«01_k».proof.Defs
public import Idealize.ShloMosaic.Lib.KernelVsHost
public import Idealize.ShloMosaic.Lib.StableHlo.Run
public import Idealize.ShloMosaic.Lib.StackMember
public import Idealize.ShloMosaic.Lib.Pointwise

@[expose] public section

set_option maxRecDepth 16384

noncomputable section

open Idealize.ShloMosaic hiding ix1 ix2 ix3
open Idealize.ShloMosaic.ValueIdx Idealize.ShloMosaic.TcCoe Idealize.SL.Sem

namespace Cert.Kernel3Ideal.Mm

open Cert.Kernel3Ideal Cert.Kernel3Ideal.Gen Cert.Kernel3Ideal.Value Cert.Mm Cert.Conv
open Idealize.ShloMosaic.Pipeline (Dat)

variable [Facts]

variable {A B : ℕ → ℕ → EReal} {o p q : ℕ}

/-- One block's product. -/
theorem pay1_at (v0 : Vec Ideal S2048x1408 .bf16) (v2 : Vec Ideal S2048x1024 .bf16)
    (h0 : ∀ j, v0 j = A (o + (j 0).val) (p + (j 1).val)) (h2 : ∀ j, v2 j = B (o + (j 0).val) (q + (j 1).val)) (y : S1408x1024.Idx) :
    k0_pay1 v0 v2 y = part A B 2048 o (p + (y 0).val) (q + (y 1).val) := by
  unfold k0_pay1
  dsimp only
  rw [shapeCast_self]
  exact rows_at (K := 2048) (M := 1408) (N := 1024) dot_S2048x1408_S2048x1024_S1408x1024_0_0_1_1_n_n rfl rfl (fun _ _ => rfl) (fun _ _ => rfl) (fun _ _ => rfl) (fun _ _ => rfl) v0 v2 A B o p q h0 h2 y

theorem rd_left (x0 : Vec Ideal S2048x1408 .bf16) (h0 : ∀ j, x0 j = A (o + (j 0).val) (p + (j 1).val))
    (arg3 : Memref sig .tc .vmem S2048x1408 .bf16) (harg3 : arg3.IsWhole) (inb) (j : S2048x1408.Idx) :
    View.readAt (Elt Ideal) arg3.view (Rect.unit (s := S2048x1408) ![0, 0] ![2048, 1408] inb).toLoadRect (harg3.unread x0) j
      = A (o + (j 0).val) (p + (j 1).val) := by
  rw [View.readAt_eq_ld, harg3.read_unread]
  refine (h0 _).trans ?_
  show A (o + (0 + 1 * (j 0).val)) (p + (0 + 1 * (j 1).val)) = _
  rw [Nat.zero_add, Nat.one_mul, Nat.zero_add, Nat.one_mul]
theorem rd_right (x1 : Vec Ideal S2048x1024 .bf16) (h1 : ∀ j, x1 j = B (o + (j 0).val) (q + (j 1).val))
    (arg4 : Memref sig .tc .vmem S2048x1024 .bf16) (harg4 : arg4.IsWhole) (inb) (j : S2048x1024.Idx) :
    View.readAt (Elt Ideal) arg4.view (Rect.unit (s := S2048x1024) ![0, 0] ![2048, 1024] inb).toLoadRect (harg4.unread x1) j
      = B (o + (j 0).val) (q + (j 1).val) := by
  rw [View.readAt_eq_ld, harg4.read_unread]
  refine (h1 _).trans ?_
  show B (o + (0 + 1 * (j 0).val)) (q + (0 + 1 * (j 1).val)) = _
  rw [Nat.zero_add, Nat.one_mul, Nat.zero_add, Nat.one_mul]
theorem rd_acc (xs : Vec Ideal S1408x1024 .f32) (arg6 : Memref sig .tc .vmem S1408x1024 .f32) (harg6 : arg6.IsWhole) (inb) (j : S1408x1024.Idx) :
    View.readAt (Elt Ideal) arg6.view (Rect.unit (s := S1408x1024) ![0, 0] ![1408, 1024] inb).toLoadRect (harg6.unread xs) j = xs j := by
  rw [View.readAt_eq_ld, harg6.read_unread]
  refine congrArg xs (funext fun a => Fin.ext ?_)
  match a with
  | ⟨0, _⟩ => show 0 + 1 * (j 0).val = (j 0).val; omega
  | ⟨1, _⟩ => show 0 + 1 * (j 1).val = (j 1).val; omega
/-- A sum and a block's product, added up. -/
theorem pay3_at (x0 : Vec Ideal S2048x1408 .bf16) (x1 : Vec Ideal S2048x1024 .bf16) (xs : Vec Ideal S1408x1024 .f32) (h0 : ∀ j, x0 j = A (o + (j 0).val) (p + (j 1).val)) (h1 : ∀ j, x1 j = B (o + (j 0).val) (q + (j 1).val))
    (arg3 : Memref sig .tc .vmem S2048x1408 .bf16) (harg3 : arg3.IsWhole) (arg4 : Memref sig .tc .vmem S2048x1024 .bf16) (harg4 : arg4.IsWhole)
    (arg6 : Memref sig .tc .vmem S1408x1024 .f32) (harg6 : arg6.IsWhole) (i3 i4 i6) (y : S1408x1024.Idx) :
    k0_pay3 (View.readAt (Elt Ideal) arg3.view (Rect.unit (s := S2048x1408) ![0, 0] ![2048, 1408] i3).toLoadRect (harg3.unread x0))
      (View.readAt (Elt Ideal) arg4.view (Rect.unit (s := S2048x1024) ![0, 0] ![2048, 1024] i4).toLoadRect (harg4.unread x1))
      (View.readAt (Elt Ideal) arg6.view (Rect.unit (s := S1408x1024) ![0, 0] ![1408, 1024] i6).toLoadRect (harg6.unread xs)) y
      = plus (xs y) (part A B 2048 o (p + (y 0).val) (q + (y 1).val)) := by
  unfold k0_pay3
  dsimp only
  rw [shapeCast_self]
  exact congrArg₂ plus (rd_acc xs arg6 harg6 i6 y) (pay1_at _ _ (rd_left x0 h0 arg3 harg3 i3) (rd_right x1 h1 arg4 harg4 i4) y)
theorem emb_self (inb) (j : (Rect.unit (s := S1408x1024) ![0, 0] ![1408, 1024] inb).shape.Idx) :
    (Rect.unit (s := S1408x1024) ![0, 0] ![1408, 1024] inb).emb j = (j : S1408x1024.Idx) := by
  refine funext fun a => Fin.ext ?_
  match a with
  | ⟨0, _⟩ => show 0 + 1 * (j 0).val = (j 0).val; omega
  | ⟨1, _⟩ => show 0 + 1 * (j 1).val = (j 1).val; omega

theorem pay4_at (v : Vec Ideal S1408x1024 .f32) (y : S1408x1024.Idx) : k0_pay4 v y = v y := rfl

/-- The first block starts the sum. -/
theorem sout_A (c : Dev nD) (i : grid0.Coords) (arg3 : Memref sig .tc .vmem S2048x1408 .bf16) (harg3 : arg3.IsWhole) (arg4 : Memref sig .tc .vmem S2048x1024 .bf16) (harg4 : arg4.IsWhole) (arg5 : Memref sig .tc .vmem S1408x1024 .bf16) (harg5 : arg5.IsWhole) (arg6 : Memref sig .tc .vmem S1408x1024 .f32) (harg6 : arg6.IsWhole) (hc0 : cond0_0 i) (hc1 : ¬cond0_1 i) (hc2 : ¬cond0_2 i)
    (x0 : Vec Ideal S2048x1408 .bf16) (x1 : Vec Ideal S2048x1024 .bf16) (h0 : ∀ j, x0 j = A (o + (j 0).val) (p + (j 1).val)) (h1 : ∀ j, x1 j = B (o + (j 0).val) (q + (j 1).val)) :
    sout0_A_0 c i arg3 harg3 arg4 harg4 arg5 harg5 arg6 harg6 hc0 hc1 hc2 x0 x1 = fun y => part A B 2048 o (p + (y 0).val) (q + (y 1).val) := by
  unfold sout0_A_0
  rw [View.read_writes_eq_canon _ _ _ (scover0_A_0 c i arg3 harg3 arg4 harg4 arg5 harg5 arg6 harg6 hc0 hc1 hc2 x0 x1)]
  funext y
  refine View.canon_apply_of_pieces (fun y => part A B 2048 o (p + (y 0).val) (q + (y 1).val)) _ ?_ y (scover0_A_0 c i arg3 harg3 arg4 harg4 arg5 harg5 arg6 harg6 hc0 hc1 hc2 x0 x1 y)
  unfold kernelRun0_A
  dsimp only
  sl_unfold_words
  simp only [List.mem_cons, List.not_mem_nil, or_false, forall_eq_or_imp, forall_eq]
  intro j
  rw [emb_self]
  unfold k0_pay2
  rw [shapeCast_self]
  exact pay1_at _ _ (rd_left x0 h0 arg3 harg3 inb_S2048x1408_S2048x1408_0_0) (rd_right x1 h1 arg4 harg4 inb_S2048x1024_S2048x1024_0_0) j

/-- Each further block is added. -/
theorem sout_B (c : Dev nD) (i : grid0.Coords) (arg3 : Memref sig .tc .vmem S2048x1408 .bf16) (harg3 : arg3.IsWhole) (arg4 : Memref sig .tc .vmem S2048x1024 .bf16) (harg4 : arg4.IsWhole) (arg5 : Memref sig .tc .vmem S1408x1024 .bf16) (harg5 : arg5.IsWhole) (arg6 : Memref sig .tc .vmem S1408x1024 .f32) (harg6 : arg6.IsWhole) (hc0 : ¬cond0_0 i) (hc1 : cond0_1 i) (hc2 : ¬cond0_2 i)
    (x0 : Vec Ideal S2048x1408 .bf16) (x1 : Vec Ideal S2048x1024 .bf16) (xs0 : Vec Ideal S1408x1024 .f32) (h0 : ∀ j, x0 j = A (o + (j 0).val) (p + (j 1).val)) (h1 : ∀ j, x1 j = B (o + (j 0).val) (q + (j 1).val)) :
    sout0_B_0 c i arg3 harg3 arg4 harg4 arg5 harg5 arg6 harg6 hc0 hc1 hc2 x0 x1 xs0 = fun y => plus (xs0 y) (part A B 2048 o (p + (y 0).val) (q + (y 1).val)) := by
  unfold sout0_B_0
  rw [View.read_writes_eq_canon _ _ _ (scover0_B_0 c i arg3 harg3 arg4 harg4 arg5 harg5 arg6 harg6 hc0 hc1 hc2 x0 x1 xs0)]
  funext y
  refine View.canon_apply_of_pieces (fun y => plus (xs0 y) (part A B 2048 o (p + (y 0).val) (q + (y 1).val))) _ ?_ y (scover0_B_0 c i arg3 harg3 arg4 harg4 arg5 harg5 arg6 harg6 hc0 hc1 hc2 x0 x1 xs0 y)
  unfold kernelRun0_B
  dsimp only
  sl_unfold_words
  simp only [List.mem_cons, List.not_mem_nil, or_false, forall_eq_or_imp, forall_eq]
  intro j
  rw [emb_self]
  exact pay3_at x0 x1 xs0 h0 h1 arg3 harg3 arg4 harg4 arg6 harg6 inb_S2048x1408_S2048x1408_0_0 inb_S2048x1024_S2048x1024_0_0 inb_S1408x1024_S1408x1024_0_0 j

/-- The last block's sum is the result. -/
theorem out_C (c : Dev nD) (i : grid0.Coords) (arg3 : Memref sig .tc .vmem S2048x1408 .bf16) (harg3 : arg3.IsWhole) (arg4 : Memref sig .tc .vmem S2048x1024 .bf16) (harg4 : arg4.IsWhole) (arg5 : Memref sig .tc .vmem S1408x1024 .bf16) (harg5 : arg5.IsWhole) (arg6 : Memref sig .tc .vmem S1408x1024 .f32) (harg6 : arg6.IsWhole) (hc0 : ¬cond0_0 i) (hc1 : cond0_1 i) (hc2 : cond0_2 i)
    (x0 : Vec Ideal S2048x1408 .bf16) (x1 : Vec Ideal S2048x1024 .bf16) (xs0 : Vec Ideal S1408x1024 .f32) (h0 : ∀ j, x0 j = A (o + (j 0).val) (p + (j 1).val)) (h1 : ∀ j, x1 j = B (o + (j 0).val) (q + (j 1).val)) :
    out0_C_2 c i arg3 harg3 arg4 harg4 arg5 harg5 arg6 harg6 hc0 hc1 hc2 x0 x1 xs0 = fun y => plus (xs0 y) (part A B 2048 o (p + (y 0).val) (q + (y 1).val)) := by
  unfold out0_C_2
  rw [View.read_writes_eq_canon _ _ _ (cover0_C_2 c i arg3 harg3 arg4 harg4 arg5 harg5 arg6 harg6 hc0 hc1 hc2 x0 x1 xs0)]
  funext y
  refine View.canon_apply_of_pieces (fun y => plus (xs0 y) (part A B 2048 o (p + (y 0).val) (q + (y 1).val))) _ ?_ y (cover0_C_2 c i arg3 harg3 arg4 harg4 arg5 harg5 arg6 harg6 hc0 hc1 hc2 x0 x1 xs0 y)
  unfold kernelRun0_C
  dsimp only
  sl_unfold_words
  simp only [List.mem_cons, List.not_mem_nil, or_false, forall_eq_or_imp, forall_eq]
  intro j
  rw [emb_self, View.readCov_cons_toLoadRect, pay4_at]
  exact pay3_at x0 x1 xs0 h0 h1 arg3 harg3 arg4 harg4 arg6 harg6 inb_S2048x1408_S2048x1408_0_0 inb_S2048x1024_S2048x1024_0_0 inb_S1408x1024_S1408x1024_0_0 j

variable (m : (ℓ : Loc nD τ sig) → Buf (Elt Ideal) ℓ) (ρ : Dev nD → PrngReg)

/-- The two operands, as the launch finds them. -/
abbrev L (c : Dev nD) : ℕ → ℕ → EReal := rd (n := 8192) (k := 2816) (V m c main_v5)
abbrev R (c : Dev nD) : ℕ → ℕ → EReal := rd (n := 8192) (k := 1024) (V m c main_arg2)

theorem ix_0 : ∀ t : Fin grid0.N, win0_0.index t 0 = t.val % 4 ∧ win0_0.index t 1 = t.val / 4 := by decide +kernel
theorem ix_1 : ∀ t : Fin grid0.N, win0_1.index t 0 = t.val % 4 ∧ win0_1.index t 1 = t.val / 4 % 1 := by decide +kernel

theorem rb_0 (c : Dev nD) (t : Fin cfg0.N) (j : S2048x1408.Idx) :
    (iblk m c 0 t : S2048x1408.Idx → EReal) j = L m c (2048 * (t.val % 4) + (j 0).val) (1408 * (t.val / 4) + (j 1).val) := by
  unfold iblk
  rw [View.read_apply]
  show V m c main_v5 _ = _
  refine rd_eq _ _ ?_ ?_
  · show win0_0.index t 0 * 2048 + 1 * (j 0).val = _; rw [(ix_0 t).1]; omega
  · show win0_0.index t 1 * 1408 + 1 * (j 1).val = _; rw [(ix_0 t).2]; omega
theorem rb_1 (c : Dev nD) (t : Fin cfg0.N) (j : S2048x1024.Idx) :
    (iblk m c 1 t : S2048x1024.Idx → EReal) j = R m c (2048 * (t.val % 4) + (j 0).val) (1024 * (t.val / 4 % 1) + (j 1).val) := by
  unfold iblk
  rw [View.read_apply]
  show V m c main_arg2 _ = _
  refine rd_eq _ _ ?_ ?_
  · show win0_1.index t 0 * 2048 + 1 * (j 0).val = _; rw [(ix_1 t).1]; omega
  · show win0_1.index t 1 * 1024 + 1 * (j 1).val = _; rw [(ix_1 t).2]; omega

theorem st_A (c : Dev nD) (t : Fin cfg0.N) (h0 : t.val % 4 = 0) (h1 : ¬1 ≤ t.val % 4) (h2 : ¬t.val % 4 = 3)
    (h3 : ∀ j : S2048x1408.Idx, (iblk m c 0 t : S2048x1408.Idx → EReal) j = A (o + (j 0).val) (p + (j 1).val))
    (h4 : ∀ j : S2048x1024.Idx, (iblk m c 1 t : S2048x1024.Idx → EReal) j = B (o + (j 0).val) (q + (j 1).val)) :
    (outsAt0 m c t.val t.isLt).2 = fun y => part A B 2048 o (p + (y 0).val) (q + (y 1).val) := by
  exact of_snd (outsAt0_A m c t h0 h1 h2) (sout_A c (grid0.coords t) (ms0_0 t) (hs0_0 t) (ms0_1 t) (hs0_1 t) (ms0_2 t) (hs0_2 t) scM0_0 (Memref.isWhole_whole _)
    ((hcond0_0 t).mpr h0) (fun h => h1 ((hcond0_1 t).mp h)) (fun h => h2 ((hcond0_2 t).mp h)) (iblk m c 0 t) (iblk m c 1 t)  h3 h4)
theorem st_B (c : Dev nD) (t : Fin cfg0.N) (h0 : ¬t.val % 4 = 0) (h1 : 1 ≤ t.val % 4) (h2 : ¬t.val % 4 = 3)
    (h3 : ∀ j : S2048x1408.Idx, (iblk m c 0 t : S2048x1408.Idx → EReal) j = A (o + (j 0).val) (p + (j 1).val))
    (h4 : ∀ j : S2048x1024.Idx, (iblk m c 1 t : S2048x1024.Idx → EReal) j = B (o + (j 0).val) (q + (j 1).val)) :
    (outsAt0 m c t.val t.isLt).2 = fun y => plus ((outsAt0 m c (t.val - 1) (Nat.lt_of_le_of_lt (Nat.sub_le _ _) t.isLt)).2 y) (part A B 2048 o (p + (y 0).val) (q + (y 1).val)) := by
  exact of_snd (outsAt0_B m c t h0 h1 h2) (sout_B c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) (fun h => h2 ((hcond0_2 t).mp h)) (iblk m c 0 t) (iblk m c 1 t) (outsAt0 m c (t.val - 1) (Nat.lt_of_le_of_lt (Nat.sub_le _ _) t.isLt)).2 h3 h4)
theorem st_C (c : Dev nD) (t : Fin cfg0.N) (h0 : ¬t.val % 4 = 0) (h1 : 1 ≤ t.val % 4) (h2 : t.val % 4 = 3)
    (h3 : ∀ j : S2048x1408.Idx, (iblk m c 0 t : S2048x1408.Idx → EReal) j = A (o + (j 0).val) (p + (j 1).val))
    (h4 : ∀ j : S2048x1024.Idx, (iblk m c 1 t : S2048x1024.Idx → EReal) j = B (o + (j 0).val) (q + (j 1).val)) :
    (outsAt0 m c t.val t.isLt).1 = fun y => plus ((outsAt0 m c (t.val - 1) (Nat.lt_of_le_of_lt (Nat.sub_le _ _) t.isLt)).2 y) (part A B 2048 o (p + (y 0).val) (q + (y 1).val)) := by
  exact of_fst (outsAt0_C m c t h0 h1 h2) (out_C c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) ((hcond0_2 t).mpr h2) (iblk m c 0 t) (iblk m c 1 t) (outsAt0 m c (t.val - 1) (Nat.lt_of_le_of_lt (Nat.sub_le _ _) t.isLt)).2 h3 h4)

/-- What the scratch holds after a point that is not the last of its four. -/
theorem acc_at (c : Dev nD) : ∀ (n : ℕ) (hn : n < cfg0.N), n % 4 < 3 → (outsAt0 m c n hn).2
    = fun y => ∑ s ∈ Finset.range (n % 4 + 1), part (L m c) (R m c) 2048 (2048 * s) (1408 * (n / 4) + (y 0).val) (1024 * (n / 4 % 1) + (y 1).val)
  | n, hn, hk => by
    by_cases h0 : n % 4 = 0
    · refine (st_A m c ⟨n, hn⟩ h0 (by show ¬1 ≤ n % 4; omega) (by show ¬n % 4 = 3; omega) (rb_0 m c ⟨n, hn⟩) (rb_1 m c ⟨n, hn⟩)).trans ?_
      funext y
      show part (L m c) (R m c) 2048 (2048 * (n % 4)) (1408 * (n / 4) + (y 0).val) (1024 * (n / 4 % 1) + (y 1).val) = _
      rw [h0, Nat.zero_add, Finset.sum_range_one]
    · refine (st_B m c ⟨n, hn⟩ h0 (by show 1 ≤ n % 4; omega) (by show ¬n % 4 = 3; omega) (rb_0 m c ⟨n, hn⟩) (rb_1 m c ⟨n, hn⟩)).trans ?_
      funext y
      show _ + part (L m c) (R m c) 2048 (2048 * (n % 4)) (1408 * (n / 4) + (y 0).val) (1024 * (n / 4 % 1) + (y 1).val) = _
      rw [acc_at c (n - 1) (Nat.lt_of_le_of_lt (Nat.sub_le _ _) hn) (by omega), Finset.sum_range_succ _ (n % 4)]
      rw [show (n - 1) % 4 + 1 = n % 4 by omega, show (n - 1) / 4 % 1 = n / 4 % 1 by omega, show (n - 1) / 4 = n / 4 by omega]
  termination_by n => n

/-- What the last of four points writes. -/
theorem out_at (c : Dev nD) (n : ℕ) (hn : n < cfg0.N) (hk : n % 4 = 3) (y : S1408x1024.Idx) : (outsAt0 m c n hn).1 y
    = ∑ g : Fin 8192, L m c g.val (1408 * (n / 4) + (y 0).val) * R m c g.val (1024 * (n / 4 % 1) + (y 1).val) := by
  refine (congrFun (st_C m c ⟨n, hn⟩ (by show ¬n % 4 = 0; omega) (by show 1 ≤ n % 4; omega) hk (rb_0 m c ⟨n, hn⟩) (rb_1 m c ⟨n, hn⟩)) y).trans ?_
  show _ + part (L m c) (R m c) 2048 (2048 * (n % 4)) (1408 * (n / 4) + (y 0).val) (1024 * (n / 4 % 1) + (y 1).val) = _
  rw [acc_at m c (n - 1) (Nat.lt_of_le_of_lt (Nat.sub_le _ _) hn) (by omega), ← four, Finset.sum_range_succ _ 3]
  rw [show (n - 1) % 4 + 1 = 3 by omega, show (n - 1) / 4 % 1 = n / 4 % 1 by omega, show (n - 1) / 4 = n / 4 by omega, hk]

/-- The launch's result, an entry at a time. -/
theorem G2_at (c : Dev nD) (i : S2816x1024.Idx) : (G2 m c : S2816x1024.Idx → EReal) i = ∑ g : Fin 8192, L m c g.val (i 0).val * R m c g.val (i 1).val := by
  have l0 : (i 0).val < 2816 := (i 0).isLt
  have l1 : (i 1).val < 1024 := (i 1).isLt
  have hN : cfg0.N = 8 := N_0
  have h : pt2Of i < cfg0.N := by rw [hN]; unfold pt2Of run2Of; omega
  unfold G2
  rw [dif_pos h, ← outsAt0_sweep m c (pt2Of i) h, out_at m c (pt2Of i) h (by unfold pt2Of; omega)]
  have e0 : 1408 * (pt2Of i / 4) + (i 0).val % 1408 = (i 0).val := by unfold pt2Of run2Of; omega
  have e1 : 1024 * (pt2Of i / 4 % 1) + (i 1).val % 1024 = (i 1).val := by unfold pt2Of run2Of; omega
  show ∑ g : Fin 8192, L m c g.val (1408 * (pt2Of i / 4) + (i 0).val % 1408) * R m c g.val (1024 * (pt2Of i / 4 % 1) + (i 1).val % 1024) = _
  rw [e0, e1]

/-- What the host forms for the left operand is the reference's. -/
theorem V_left (c : Dev nD) : (V m c main_v5 : S8192x2816.Idx → EReal) = Cert.Reference3Ideal.Read.val_main_v5 (F := Ideal) (m ((c : Thread nD τ).loc main_arg0)) := by
  unfold V
  simp only [hostOps0, hostOps0_1, hostOps0_2, List.flatten_cons, List.flatten_nil, List.append_nil, List.cons_append, List.nil_append, StableHlo.TRef.binary, StableHlo.TRef.nullary, StableHlo.TRef.unary, StableHlo.TRef.toBuf, StableHlo.TRef.ofBuf, cast_eq]
  after_results
  rfl

/-- The reference's product, an entry at a time. -/
theorem ref_at (c : Dev nD) (i : S2816x1024.Idx) :
    Cert.Reference3Ideal.Read.val_main_v10 (F := Ideal) (m ((c : Thread nD τ).loc main_arg0)) (m ((c : Thread nD τ).loc main_arg2)) i = (G2 m c : S2816x1024.Idx → EReal) i := by
  rw [G2_at]
  refine (Cert.Reference3Ideal.Read.val_main_v9_apply (F := Ideal) _ _ i).trans ((Cert.Reference3Ideal.Read.val_main_v8_apply _ _ _).trans ?_)
  refine Finset.sum_congr rfl fun k _ => ?_
  rw [mul_comm]
  refine congrArg₂ (· * ·) ?_ ?_
  · exact (congrFun (V_left m c).symm _).trans (rd_eq _ _ rfl rfl)
  · refine Eq.trans ?_ (congrArg (fun f => rd (n := 8192) (k := 1024) f k.val (i 1).val) (V_main_arg2 m c)).symm
    exact rd_eq (m ((c : Thread nD τ).loc main_arg2)) _ rfl rfl

end Cert.Kernel3Ideal.Mm

namespace Cert.Mm3

/-- Kernel and reference: the same gradient of the weight. -/
theorem algebraic : Cert.algebraic_Kernel3Ideal_Reference3Ideal := by
  intro m g m' g' _ ha
  refine ⟨fun c => Cert.Kernel3Ideal.Value.G2 m c, Cert.Kernel3Ideal.Value.run m g, ?_⟩
  refine (θ_run Cert.Reference3Ideal.defs _ _).mono (fun r h c => ⟨(h c).1.trans ?_, (h c).2⟩) (Cert.Reference3Ideal.Value.run (F := Ideal) m' g')
  obtain ⟨a0, a1, a2⟩ := ha c
  have b0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0) := a0
  have b1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1) := a1
  have b2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2) := a2
  refine (Cert.Reference3Ideal.Read.val_main_v10_eq _ _).trans ?_
  rw [b0, b2]
  funext i
  exact Cert.Kernel3Ideal.Mm.ref_at m c i

theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

end Cert.Mm3
end
-- ==== Proof.Mm4.lean ====
/- The gradient of the first projection of the SwiGLU block: the product of what it read and what came back, over all rows. -/
module

public import proofs.«01_k».proof.Proof.Mm3
public import proofs.«01_k».proof.Proof.Gen.Kernel4Ideal.Value
public import proofs.«01_k».proof.Proof.Gen.Reference4Ideal.Run
public import proofs.«01_k».proof.Proof.Gen.Reference4Ideal.Read
public import proofs.«01_k».proof.Defs
public import Idealize.ShloMosaic.Lib.KernelVsHost
public import Idealize.ShloMosaic.Lib.StableHlo.Run
public import Idealize.ShloMosaic.Lib.StackMember
public import Idealize.ShloMosaic.Lib.Pointwise

@[expose] public section

set_option maxRecDepth 16384

noncomputable section

open Idealize.ShloMosaic hiding ix1 ix2 ix3
open Idealize.ShloMosaic.ValueIdx Idealize.ShloMosaic.TcCoe Idealize.SL.Sem

namespace Cert.Kernel4Ideal.Mm

open Cert.Kernel4Ideal Cert.Kernel4Ideal.Gen Cert.Kernel4Ideal.Value Cert.Mm Cert.Conv
open Idealize.ShloMosaic.Pipeline (Dat)

variable [Facts]

variable {A B : ℕ → ℕ → EReal} {o p q : ℕ}

/-- One block's product. -/
theorem pay1_at (v0 : Vec Ideal S2048x1024 .bf16) (v2 : Vec Ideal S2048x1408 .bf16)
    (h0 : ∀ j, v0 j = A (o + (j 0).val) (p + (j 1).val)) (h2 : ∀ j, v2 j = B (o + (j 0).val) (q + (j 1).val)) (y : S1024x1408.Idx) :
    k0_pay1 v0 v2 y = part A B 2048 o (p + (y 0).val) (q + (y 1).val) := by
  unfold k0_pay1
  dsimp only
  rw [shapeCast_self]
  exact rows_at (K := 2048) (M := 1024) (N := 1408) dot_S2048x1024_S2048x1408_S1024x1408_0_0_1_1_n_n rfl rfl (fun _ _ => rfl) (fun _ _ => rfl) (fun _ _ => rfl) (fun _ _ => rfl) v0 v2 A B o p q h0 h2 y

theorem rd_left (x0 : Vec Ideal S2048x1024 .bf16) (h0 : ∀ j, x0 j = A (o + (j 0).val) (p + (j 1).val))
    (arg3 : Memref sig .tc .vmem S2048x1024 .bf16) (harg3 : arg3.IsWhole) (inb) (j : S2048x1024.Idx) :
    View.readAt (Elt Ideal) arg3.view (Rect.unit (s := S2048x1024) ![0, 0] ![2048, 1024] inb).toLoadRect (harg3.unread x0) j
      = A (o + (j 0).val) (p + (j 1).val) := by
  rw [View.readAt_eq_ld, harg3.read_unread]
  refine (h0 _).trans ?_
  show A (o + (0 + 1 * (j 0).val)) (p + (0 + 1 * (j 1).val)) = _
  rw [Nat.zero_add, Nat.one_mul, Nat.zero_add, Nat.one_mul]
theorem rd_right (x1 : Vec Ideal S2048x1408 .bf16) (h1 : ∀ j, x1 j = B (o + (j 0).val) (q + (j 1).val))
    (arg4 : Memref sig .tc .vmem S2048x1408 .bf16) (harg4 : arg4.IsWhole) (inb) (j : S2048x1408.Idx) :
    View.readAt (Elt Ideal) arg4.view (Rect.unit (s := S2048x1408) ![0, 0] ![2048, 1408] inb).toLoadRect (harg4.unread x1) j
      = B (o + (j 0).val) (q + (j 1).val) := by
  rw [View.readAt_eq_ld, harg4.read_unread]
  refine (h1 _).trans ?_
  show B (o + (0 + 1 * (j 0).val)) (q + (0 + 1 * (j 1).val)) = _
  rw [Nat.zero_add, Nat.one_mul, Nat.zero_add, Nat.one_mul]
theorem rd_acc (xs : Vec Ideal S1024x1408 .f32) (arg6 : Memref sig .tc .vmem S1024x1408 .f32) (harg6 : arg6.IsWhole) (inb) (j : S1024x1408.Idx) :
    View.readAt (Elt Ideal) arg6.view (Rect.unit (s := S1024x1408) ![0, 0] ![1024, 1408] inb).toLoadRect (harg6.unread xs) j = xs j := by
  rw [View.readAt_eq_ld, harg6.read_unread]
  refine congrArg xs (funext fun a => Fin.ext ?_)
  match a with
  | ⟨0, _⟩ => show 0 + 1 * (j 0).val = (j 0).val; omega
  | ⟨1, _⟩ => show 0 + 1 * (j 1).val = (j 1).val; omega
/-- A sum and a block's product, added up. -/
theorem pay3_at (x0 : Vec Ideal S2048x1024 .bf16) (x1 : Vec Ideal S2048x1408 .bf16) (xs : Vec Ideal S1024x1408 .f32) (h0 : ∀ j, x0 j = A (o + (j 0).val) (p + (j 1).val)) (h1 : ∀ j, x1 j = B (o + (j 0).val) (q + (j 1).val))
    (arg3 : Memref sig .tc .vmem S2048x1024 .bf16) (harg3 : arg3.IsWhole) (arg4 : Memref sig .tc .vmem S2048x1408 .bf16) (harg4 : arg4.IsWhole)
    (arg6 : Memref sig .tc .vmem S1024x1408 .f32) (harg6 : arg6.IsWhole) (i3 i4 i6) (y : S1024x1408.Idx) :
    k0_pay3 (View.readAt (Elt Ideal) arg3.view (Rect.unit (s := S2048x1024) ![0, 0] ![2048, 1024] i3).toLoadRect (harg3.unread x0))
      (View.readAt (Elt Ideal) arg4.view (Rect.unit (s := S2048x1408) ![0, 0] ![2048, 1408] i4).toLoadRect (harg4.unread x1))
      (View.readAt (Elt Ideal) arg6.view (Rect.unit (s := S1024x1408) ![0, 0] ![1024, 1408] i6).toLoadRect (harg6.unread xs)) y
      = plus (xs y) (part A B 2048 o (p + (y 0).val) (q + (y 1).val)) := by
  unfold k0_pay3
  dsimp only
  rw [shapeCast_self]
  exact congrArg₂ plus (rd_acc xs arg6 harg6 i6 y) (pay1_at _ _ (rd_left x0 h0 arg3 harg3 i3) (rd_right x1 h1 arg4 harg4 i4) y)
theorem emb_self (inb) (j : (Rect.unit (s := S1024x1408) ![0, 0] ![1024, 1408] inb).shape.Idx) :
    (Rect.unit (s := S1024x1408) ![0, 0] ![1024, 1408] inb).emb j = (j : S1024x1408.Idx) := by
  refine funext fun a => Fin.ext ?_
  match a with
  | ⟨0, _⟩ => show 0 + 1 * (j 0).val = (j 0).val; omega
  | ⟨1, _⟩ => show 0 + 1 * (j 1).val = (j 1).val; omega

theorem pay4_at (v : Vec Ideal S1024x1408 .f32) (y : S1024x1408.Idx) : k0_pay4 v y = v y := rfl

/-- The first block starts the sum. -/
theorem sout_A (c : Dev nD) (i : grid0.Coords) (arg3 : Memref sig .tc .vmem S2048x1024 .bf16) (harg3 : arg3.IsWhole) (arg4 : Memref sig .tc .vmem S2048x1408 .bf16) (harg4 : arg4.IsWhole) (arg5 : Memref sig .tc .vmem S1024x1408 .bf16) (harg5 : arg5.IsWhole) (arg6 : Memref sig .tc .vmem S1024x1408 .f32) (harg6 : arg6.IsWhole) (hc0 : cond0_0 i) (hc1 : ¬cond0_1 i) (hc2 : ¬cond0_2 i)
    (x0 : Vec Ideal S2048x1024 .bf16) (x1 : Vec Ideal S2048x1408 .bf16) (h0 : ∀ j, x0 j = A (o + (j 0).val) (p + (j 1).val)) (h1 : ∀ j, x1 j = B (o + (j 0).val) (q + (j 1).val)) :
    sout0_A_0 c i arg3 harg3 arg4 harg4 arg5 harg5 arg6 harg6 hc0 hc1 hc2 x0 x1 = fun y => part A B 2048 o (p + (y 0).val) (q + (y 1).val) := by
  unfold sout0_A_0
  rw [View.read_writes_eq_canon _ _ _ (scover0_A_0 c i arg3 harg3 arg4 harg4 arg5 harg5 arg6 harg6 hc0 hc1 hc2 x0 x1)]
  funext y
  refine View.canon_apply_of_pieces (fun y => part A B 2048 o (p + (y 0).val) (q + (y 1).val)) _ ?_ y (scover0_A_0 c i arg3 harg3 arg4 harg4 arg5 harg5 arg6 harg6 hc0 hc1 hc2 x0 x1 y)
  unfold kernelRun0_A
  dsimp only
  sl_unfold_words
  simp only [List.mem_cons, List.not_mem_nil, or_false, forall_eq_or_imp, forall_eq]
  intro j
  rw [emb_self]
  unfold k0_pay2
  rw [shapeCast_self]
  exact pay1_at _ _ (rd_left x0 h0 arg3 harg3 inb_S2048x1024_S2048x1024_0_0) (rd_right x1 h1 arg4 harg4 inb_S2048x1408_S2048x1408_0_0) j

/-- Each further block is added. -/
theorem sout_B (c : Dev nD) (i : grid0.Coords) (arg3 : Memref sig .tc .vmem S2048x1024 .bf16) (harg3 : arg3.IsWhole) (arg4 : Memref sig .tc .vmem S2048x1408 .bf16) (harg4 : arg4.IsWhole) (arg5 : Memref sig .tc .vmem S1024x1408 .bf16) (harg5 : arg5.IsWhole) (arg6 : Memref sig .tc .vmem S1024x1408 .f32) (harg6 : arg6.IsWhole) (hc0 : ¬cond0_0 i) (hc1 : cond0_1 i) (hc2 : ¬cond0_2 i)
    (x0 : Vec Ideal S2048x1024 .bf16) (x1 : Vec Ideal S2048x1408 .bf16) (xs0 : Vec Ideal S1024x1408 .f32) (h0 : ∀ j, x0 j = A (o + (j 0).val) (p + (j 1).val)) (h1 : ∀ j, x1 j = B (o + (j 0).val) (q + (j 1).val)) :
    sout0_B_0 c i arg3 harg3 arg4 harg4 arg5 harg5 arg6 harg6 hc0 hc1 hc2 x0 x1 xs0 = fun y => plus (xs0 y) (part A B 2048 o (p + (y 0).val) (q + (y 1).val)) := by
  unfold sout0_B_0
  rw [View.read_writes_eq_canon _ _ _ (scover0_B_0 c i arg3 harg3 arg4 harg4 arg5 harg5 arg6 harg6 hc0 hc1 hc2 x0 x1 xs0)]
  funext y
  refine View.canon_apply_of_pieces (fun y => plus (xs0 y) (part A B 2048 o (p + (y 0).val) (q + (y 1).val))) _ ?_ y (scover0_B_0 c i arg3 harg3 arg4 harg4 arg5 harg5 arg6 harg6 hc0 hc1 hc2 x0 x1 xs0 y)
  unfold kernelRun0_B
  dsimp only
  sl_unfold_words
  simp only [List.mem_cons, List.not_mem_nil, or_false, forall_eq_or_imp, forall_eq]
  intro j
  rw [emb_self]
  exact pay3_at x0 x1 xs0 h0 h1 arg3 harg3 arg4 harg4 arg6 harg6 inb_S2048x1024_S2048x1024_0_0 inb_S2048x1408_S2048x1408_0_0 inb_S1024x1408_S1024x1408_0_0 j

/-- The last block's sum is the result. -/
theorem out_C (c : Dev nD) (i : grid0.Coords) (arg3 : Memref sig .tc .vmem S2048x1024 .bf16) (harg3 : arg3.IsWhole) (arg4 : Memref sig .tc .vmem S2048x1408 .bf16) (harg4 : arg4.IsWhole) (arg5 : Memref sig .tc .vmem S1024x1408 .bf16) (harg5 : arg5.IsWhole) (arg6 : Memref sig .tc .vmem S1024x1408 .f32) (harg6 : arg6.IsWhole) (hc0 : ¬cond0_0 i) (hc1 : cond0_1 i) (hc2 : cond0_2 i)
    (x0 : Vec Ideal S2048x1024 .bf16) (x1 : Vec Ideal S2048x1408 .bf16) (xs0 : Vec Ideal S1024x1408 .f32) (h0 : ∀ j, x0 j = A (o + (j 0).val) (p + (j 1).val)) (h1 : ∀ j, x1 j = B (o + (j 0).val) (q + (j 1).val)) :
    out0_C_2 c i arg3 harg3 arg4 harg4 arg5 harg5 arg6 harg6 hc0 hc1 hc2 x0 x1 xs0 = fun y => plus (xs0 y) (part A B 2048 o (p + (y 0).val) (q + (y 1).val)) := by
  unfold out0_C_2
  rw [View.read_writes_eq_canon _ _ _ (cover0_C_2 c i arg3 harg3 arg4 harg4 arg5 harg5 arg6 harg6 hc0 hc1 hc2 x0 x1 xs0)]
  funext y
  refine View.canon_apply_of_pieces (fun y => plus (xs0 y) (part A B 2048 o (p + (y 0).val) (q + (y 1).val))) _ ?_ y (cover0_C_2 c i arg3 harg3 arg4 harg4 arg5 harg5 arg6 harg6 hc0 hc1 hc2 x0 x1 xs0 y)
  unfold kernelRun0_C
  dsimp only
  sl_unfold_words
  simp only [List.mem_cons, List.not_mem_nil, or_false, forall_eq_or_imp, forall_eq]
  intro j
  rw [emb_self, View.readCov_cons_toLoadRect, pay4_at]
  exact pay3_at x0 x1 xs0 h0 h1 arg3 harg3 arg4 harg4 arg6 harg6 inb_S2048x1024_S2048x1024_0_0 inb_S2048x1408_S2048x1408_0_0 inb_S1024x1408_S1024x1408_0_0 j

variable (m : (ℓ : Loc nD τ sig) → Buf (Elt Ideal) ℓ) (ρ : Dev nD → PrngReg)

/-- The two operands, as the launch finds them. -/
abbrev L (c : Dev nD) : ℕ → ℕ → EReal := rd (n := 8192) (k := 1024) (V m c main_v14)
abbrev R (c : Dev nD) : ℕ → ℕ → EReal := rd (n := 8192) (k := 5632) (V m c main_arg4)

theorem ix_0 : ∀ t : Fin grid0.N, win0_0.index t 0 = t.val % 4 ∧ win0_0.index t 1 = t.val / 16 := by decide +kernel
theorem ix_1 : ∀ t : Fin grid0.N, win0_1.index t 0 = t.val % 4 ∧ win0_1.index t 1 = t.val / 4 % 4 := by decide +kernel

theorem rb_0 (c : Dev nD) (t : Fin cfg0.N) (j : S2048x1024.Idx) :
    (iblk m c 0 t : S2048x1024.Idx → EReal) j = L m c (2048 * (t.val % 4) + (j 0).val) (1024 * (t.val / 16) + (j 1).val) := by
  unfold iblk
  rw [View.read_apply]
  show V m c main_v14 _ = _
  refine rd_eq _ _ ?_ ?_
  · show win0_0.index t 0 * 2048 + 1 * (j 0).val = _; rw [(ix_0 t).1]; omega
  · show win0_0.index t 1 * 1024 + 1 * (j 1).val = _; rw [(ix_0 t).2]; omega
theorem rb_1 (c : Dev nD) (t : Fin cfg0.N) (j : S2048x1408.Idx) :
    (iblk m c 1 t : S2048x1408.Idx → EReal) j = R m c (2048 * (t.val % 4) + (j 0).val) (1408 * (t.val / 4 % 4) + (j 1).val) := by
  unfold iblk
  rw [View.read_apply]
  show V m c main_arg4 _ = _
  refine rd_eq _ _ ?_ ?_
  · show win0_1.index t 0 * 2048 + 1 * (j 0).val = _; rw [(ix_1 t).1]; omega
  · show win0_1.index t 1 * 1408 + 1 * (j 1).val = _; rw [(ix_1 t).2]; omega

theorem st_A (c : Dev nD) (t : Fin cfg0.N) (h0 : t.val % 4 = 0) (h1 : ¬1 ≤ t.val % 4) (h2 : ¬t.val % 4 = 3)
    (h3 : ∀ j : S2048x1024.Idx, (iblk m c 0 t : S2048x1024.Idx → EReal) j = A (o + (j 0).val) (p + (j 1).val))
    (h4 : ∀ j : S2048x1408.Idx, (iblk m c 1 t : S2048x1408.Idx → EReal) j = B (o + (j 0).val) (q + (j 1).val)) :
    (outsAt0 m c t.val t.isLt).2 = fun y => part A B 2048 o (p + (y 0).val) (q + (y 1).val) := by
  exact of_snd (outsAt0_A m c t h0 h1 h2) (sout_A c (grid0.coords t) (ms0_0 t) (hs0_0 t) (ms0_1 t) (hs0_1 t) (ms0_2 t) (hs0_2 t) scM0_0 (Memref.isWhole_whole _)
    ((hcond0_0 t).mpr h0) (fun h => h1 ((hcond0_1 t).mp h)) (fun h => h2 ((hcond0_2 t).mp h)) (iblk m c 0 t) (iblk m c 1 t)  h3 h4)
theorem st_B (c : Dev nD) (t : Fin cfg0.N) (h0 : ¬t.val % 4 = 0) (h1 : 1 ≤ t.val % 4) (h2 : ¬t.val % 4 = 3)
    (h3 : ∀ j : S2048x1024.Idx, (iblk m c 0 t : S2048x1024.Idx → EReal) j = A (o + (j 0).val) (p + (j 1).val))
    (h4 : ∀ j : S2048x1408.Idx, (iblk m c 1 t : S2048x1408.Idx → EReal) j = B (o + (j 0).val) (q + (j 1).val)) :
    (outsAt0 m c t.val t.isLt).2 = fun y => plus ((outsAt0 m c (t.val - 1) (Nat.lt_of_le_of_lt (Nat.sub_le _ _) t.isLt)).2 y) (part A B 2048 o (p + (y 0).val) (q + (y 1).val)) := by
  exact of_snd (outsAt0_B m c t h0 h1 h2) (sout_B c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) (fun h => h2 ((hcond0_2 t).mp h)) (iblk m c 0 t) (iblk m c 1 t) (outsAt0 m c (t.val - 1) (Nat.lt_of_le_of_lt (Nat.sub_le _ _) t.isLt)).2 h3 h4)
theorem st_C (c : Dev nD) (t : Fin cfg0.N) (h0 : ¬t.val % 4 = 0) (h1 : 1 ≤ t.val % 4) (h2 : t.val % 4 = 3)
    (h3 : ∀ j : S2048x1024.Idx, (iblk m c 0 t : S2048x1024.Idx → EReal) j = A (o + (j 0).val) (p + (j 1).val))
    (h4 : ∀ j : S2048x1408.Idx, (iblk m c 1 t : S2048x1408.Idx → EReal) j = B (o + (j 0).val) (q + (j 1).val)) :
    (outsAt0 m c t.val t.isLt).1 = fun y => plus ((outsAt0 m c (t.val - 1) (Nat.lt_of_le_of_lt (Nat.sub_le _ _) t.isLt)).2 y) (part A B 2048 o (p + (y 0).val) (q + (y 1).val)) := by
  exact of_fst (outsAt0_C m c t h0 h1 h2) (out_C c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) ((hcond0_2 t).mpr h2) (iblk m c 0 t) (iblk m c 1 t) (outsAt0 m c (t.val - 1) (Nat.lt_of_le_of_lt (Nat.sub_le _ _) t.isLt)).2 h3 h4)

/-- What the scratch holds after a point that is not the last of its four. -/
theorem acc_at (c : Dev nD) : ∀ (n : ℕ) (hn : n < cfg0.N), n % 4 < 3 → (outsAt0 m c n hn).2
    = fun y => ∑ s ∈ Finset.range (n % 4 + 1), part (L m c) (R m c) 2048 (2048 * s) (1024 * (n / 16) + (y 0).val) (1408 * (n / 4 % 4) + (y 1).val)
  | n, hn, hk => by
    by_cases h0 : n % 4 = 0
    · refine (st_A m c ⟨n, hn⟩ h0 (by show ¬1 ≤ n % 4; omega) (by show ¬n % 4 = 3; omega) (rb_0 m c ⟨n, hn⟩) (rb_1 m c ⟨n, hn⟩)).trans ?_
      funext y
      show part (L m c) (R m c) 2048 (2048 * (n % 4)) (1024 * (n / 16) + (y 0).val) (1408 * (n / 4 % 4) + (y 1).val) = _
      rw [h0, Nat.zero_add, Finset.sum_range_one]
    · refine (st_B m c ⟨n, hn⟩ h0 (by show 1 ≤ n % 4; omega) (by show ¬n % 4 = 3; omega) (rb_0 m c ⟨n, hn⟩) (rb_1 m c ⟨n, hn⟩)).trans ?_
      funext y
      show _ + part (L m c) (R m c) 2048 (2048 * (n % 4)) (1024 * (n / 16) + (y 0).val) (1408 * (n / 4 % 4) + (y 1).val) = _
      rw [acc_at c (n - 1) (Nat.lt_of_le_of_lt (Nat.sub_le _ _) hn) (by omega), Finset.sum_range_succ _ (n % 4)]
      rw [show (n - 1) % 4 + 1 = n % 4 by omega, show (n - 1) / 4 % 4 = n / 4 % 4 by omega, show (n - 1) / 16 = n / 16 by omega]
  termination_by n => n

/-- What the last of four points writes. -/
theorem out_at (c : Dev nD) (n : ℕ) (hn : n < cfg0.N) (hk : n % 4 = 3) (y : S1024x1408.Idx) : (outsAt0 m c n hn).1 y
    = ∑ g : Fin 8192, L m c g.val (1024 * (n / 16) + (y 0).val) * R m c g.val (1408 * (n / 4 % 4) + (y 1).val) := by
  refine (congrFun (st_C m c ⟨n, hn⟩ (by show ¬n % 4 = 0; omega) (by show 1 ≤ n % 4; omega) hk (rb_0 m c ⟨n, hn⟩) (rb_1 m c ⟨n, hn⟩)) y).trans ?_
  show _ + part (L m c) (R m c) 2048 (2048 * (n % 4)) (1024 * (n / 16) + (y 0).val) (1408 * (n / 4 % 4) + (y 1).val) = _
  rw [acc_at m c (n - 1) (Nat.lt_of_le_of_lt (Nat.sub_le _ _) hn) (by omega), ← four, Finset.sum_range_succ _ 3]
  rw [show (n - 1) % 4 + 1 = 3 by omega, show (n - 1) / 4 % 4 = n / 4 % 4 by omega, show (n - 1) / 16 = n / 16 by omega, hk]

/-- The launch's result, an entry at a time. -/
theorem G2_at (c : Dev nD) (i : S1024x5632.Idx) : (G2 m c : S1024x5632.Idx → EReal) i = ∑ g : Fin 8192, L m c g.val (i 0).val * R m c g.val (i 1).val := by
  have l0 : (i 0).val < 1024 := (i 0).isLt
  have l1 : (i 1).val < 5632 := (i 1).isLt
  have hN : cfg0.N = 16 := N_0
  have h : pt2Of i < cfg0.N := by rw [hN]; unfold pt2Of run2Of; omega
  unfold G2
  rw [dif_pos h, ← outsAt0_sweep m c (pt2Of i) h, out_at m c (pt2Of i) h (by unfold pt2Of; omega)]
  have e0 : 1024 * (pt2Of i / 16) + (i 0).val % 1024 = (i 0).val := by unfold pt2Of run2Of; omega
  have e1 : 1408 * (pt2Of i / 4 % 4) + (i 1).val % 1408 = (i 1).val := by unfold pt2Of run2Of; omega
  show ∑ g : Fin 8192, L m c g.val (1024 * (pt2Of i / 16) + (i 0).val % 1024) * R m c g.val (1408 * (pt2Of i / 4 % 4) + (i 1).val % 1408) = _
  rw [e0, e1]

/-- What the host forms for the left operand is the reference's. -/
theorem V_left (c : Dev nD) : (V m c main_v14 : S8192x1024.Idx → EReal) = Cert.Reference4Ideal.Read.val_main_v14 (F := Ideal) (m ((c : Thread nD τ).loc main_arg0)) (m ((c : Thread nD τ).loc main_arg1)) (m ((c : Thread nD τ).loc main_arg2)) := by
  unfold V
  simp only [hostOps0, List.flatten_cons, List.flatten_nil, List.append_nil, List.cons_append, List.nil_append, StableHlo.TRef.binary, StableHlo.TRef.nullary, StableHlo.TRef.unary, StableHlo.TRef.toBuf, StableHlo.TRef.ofBuf, cast_eq]
  after_results
  rfl

/-- The reference's product, an entry at a time. -/
theorem ref_at (c : Dev nD) (i : S1024x5632.Idx) :
    Cert.Reference4Ideal.Read.val_main_v19 (F := Ideal) (m ((c : Thread nD τ).loc main_arg0)) (m ((c : Thread nD τ).loc main_arg1)) (m ((c : Thread nD τ).loc main_arg2)) (m ((c : Thread nD τ).loc main_arg4)) i = (G2 m c : S1024x5632.Idx → EReal) i := by
  rw [G2_at]
  refine (Cert.Reference4Ideal.Read.val_main_v18_apply (F := Ideal) _ _ _ _ i).trans ((Cert.Reference4Ideal.Read.val_main_v17_apply _ _ _ _ _).trans ?_)
  refine Finset.sum_congr rfl fun k _ => ?_
  rw [mul_comm]
  refine congrArg₂ (· * ·) ?_ ?_
  · exact (congrFun (V_left m c).symm _).trans (rd_eq _ _ rfl rfl)
  · refine Eq.trans ?_ (congrArg (fun f => rd (n := 8192) (k := 5632) f k.val (i 1).val) (V_main_arg4 m c)).symm
    exact rd_eq (m ((c : Thread nD τ).loc main_arg4)) _ rfl rfl

end Cert.Kernel4Ideal.Mm

namespace Cert.Mm4

/-- Kernel and reference: the same gradient of the weight. -/
theorem algebraic : Cert.algebraic_Kernel4Ideal_Reference4Ideal := by
  intro m g m' g' _ ha
  refine ⟨fun c => Cert.Kernel4Ideal.Value.G2 m c, Cert.Kernel4Ideal.Value.run m g, ?_⟩
  refine (θ_run Cert.Reference4Ideal.defs _ _).mono (fun r h c => ⟨(h c).1.trans ?_, (h c).2⟩) (Cert.Reference4Ideal.Value.run (F := Ideal) m' g')
  obtain ⟨a0, a1, a2, a3, a4⟩ := ha c
  have b0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0) := a0
  have b1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1) := a1
  have b2 : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2) := a2
  have b3 : m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3) := a3
  have b4 : m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4) := a4
  refine (Cert.Reference4Ideal.Read.val_main_v19_eq _ _ _ _).trans ?_
  rw [b0, b1, b2, b4]
  funext i
  exact Cert.Kernel4Ideal.Mm.ref_at m c i

theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

end Cert.Mm4
end
-- ==== Proof.Mm5.lean ====
/- The gradient of the first projection of the gated convolution: the product of what it read and what came back, over all rows. -/
module

public import proofs.«01_k».proof.Proof.Mm4
public import proofs.«01_k».proof.Proof.Gen.Kernel5Ideal.Value
public import proofs.«01_k».proof.Proof.Gen.Reference5Ideal.Run
public import proofs.«01_k».proof.Proof.Gen.Reference5Ideal.Read
public import proofs.«01_k».proof.Defs
public import Idealize.ShloMosaic.Lib.KernelVsHost
public import Idealize.ShloMosaic.Lib.StableHlo.Run
public import Idealize.ShloMosaic.Lib.StackMember
public import Idealize.ShloMosaic.Lib.Pointwise

@[expose] public section

set_option maxRecDepth 16384

noncomputable section

open Idealize.ShloMosaic hiding ix1 ix2 ix3
open Idealize.ShloMosaic.ValueIdx Idealize.ShloMosaic.TcCoe Idealize.SL.Sem

namespace Cert.Kernel5Ideal.Mm

open Cert.Kernel5Ideal Cert.Kernel5Ideal.Gen Cert.Kernel5Ideal.Value Cert.Mm Cert.Conv
open Idealize.ShloMosaic.Pipeline (Dat)

variable [Facts]

variable {A B : ℕ → ℕ → EReal} {o p q : ℕ}

/-- One block's product. -/
theorem pay1_at (v0 : Vec Ideal S2048x1024 .bf16) (v2 : Vec Ideal S2048x1024 .bf16)
    (h0 : ∀ j, v0 j = A (o + (j 0).val) (p + (j 1).val)) (h2 : ∀ j, v2 j = B (o + (j 0).val) (q + (j 1).val)) (y : S1024x1024.Idx) :
    k0_pay1 v0 v2 y = part A B 2048 o (p + (y 0).val) (q + (y 1).val) := by
  unfold k0_pay1
  dsimp only
  rw [shapeCast_self]
  exact rows_at (K := 2048) (M := 1024) (N := 1024) dot_S2048x1024_S2048x1024_S1024x1024_0_0_1_1_n_n rfl rfl (fun _ _ => rfl) (fun _ _ => rfl) (fun _ _ => rfl) (fun _ _ => rfl) v0 v2 A B o p q h0 h2 y

theorem rd_left (x0 : Vec Ideal S2048x1024 .bf16) (h0 : ∀ j, x0 j = A (o + (j 0).val) (p + (j 1).val))
    (arg3 : Memref sig .tc .vmem S2048x1024 .bf16) (harg3 : arg3.IsWhole) (inb) (j : S2048x1024.Idx) :
    View.readAt (Elt Ideal) arg3.view (Rect.unit (s := S2048x1024) ![0, 0] ![2048, 1024] inb).toLoadRect (harg3.unread x0) j
      = A (o + (j 0).val) (p + (j 1).val) := by
  rw [View.readAt_eq_ld, harg3.read_unread]
  refine (h0 _).trans ?_
  show A (o + (0 + 1 * (j 0).val)) (p + (0 + 1 * (j 1).val)) = _
  rw [Nat.zero_add, Nat.one_mul, Nat.zero_add, Nat.one_mul]
theorem rd_right (x1 : Vec Ideal S2048x1024 .bf16) (h1 : ∀ j, x1 j = B (o + (j 0).val) (q + (j 1).val))
    (arg4 : Memref sig .tc .vmem S2048x1024 .bf16) (harg4 : arg4.IsWhole) (inb) (j : S2048x1024.Idx) :
    View.readAt (Elt Ideal) arg4.view (Rect.unit (s := S2048x1024) ![0, 0] ![2048, 1024] inb).toLoadRect (harg4.unread x1) j
      = B (o + (j 0).val) (q + (j 1).val) := by
  rw [View.readAt_eq_ld, harg4.read_unread]
  refine (h1 _).trans ?_
  show B (o + (0 + 1 * (j 0).val)) (q + (0 + 1 * (j 1).val)) = _
  rw [Nat.zero_add, Nat.one_mul, Nat.zero_add, Nat.one_mul]
theorem rd_acc (xs : Vec Ideal S1024x1024 .f32) (arg6 : Memref sig .tc .vmem S1024x1024 .f32) (harg6 : arg6.IsWhole) (inb) (j : S1024x1024.Idx) :
    View.readAt (Elt Ideal) arg6.view (Rect.unit (s := S1024x1024) ![0, 0] ![1024, 1024] inb).toLoadRect (harg6.unread xs) j = xs j := by
  rw [View.readAt_eq_ld, harg6.read_unread]
  refine congrArg xs (funext fun a => Fin.ext ?_)
  match a with
  | ⟨0, _⟩ => show 0 + 1 * (j 0).val = (j 0).val; omega
  | ⟨1, _⟩ => show 0 + 1 * (j 1).val = (j 1).val; omega
/-- A sum and a block's product, added up. -/
theorem pay3_at (x0 : Vec Ideal S2048x1024 .bf16) (x1 : Vec Ideal S2048x1024 .bf16) (xs : Vec Ideal S1024x1024 .f32) (h0 : ∀ j, x0 j = A (o + (j 0).val) (p + (j 1).val)) (h1 : ∀ j, x1 j = B (o + (j 0).val) (q + (j 1).val))
    (arg3 : Memref sig .tc .vmem S2048x1024 .bf16) (harg3 : arg3.IsWhole) (arg4 : Memref sig .tc .vmem S2048x1024 .bf16) (harg4 : arg4.IsWhole)
    (arg6 : Memref sig .tc .vmem S1024x1024 .f32) (harg6 : arg6.IsWhole) (i3 i4 i6) (y : S1024x1024.Idx) :
    k0_pay3 (View.readAt (Elt Ideal) arg3.view (Rect.unit (s := S2048x1024) ![0, 0] ![2048, 1024] i3).toLoadRect (harg3.unread x0))
      (View.readAt (Elt Ideal) arg4.view (Rect.unit (s := S2048x1024) ![0, 0] ![2048, 1024] i4).toLoadRect (harg4.unread x1))
      (View.readAt (Elt Ideal) arg6.view (Rect.unit (s := S1024x1024) ![0, 0] ![1024, 1024] i6).toLoadRect (harg6.unread xs)) y
      = plus (xs y) (part A B 2048 o (p + (y 0).val) (q + (y 1).val)) := by
  unfold k0_pay3
  dsimp only
  rw [shapeCast_self]
  exact congrArg₂ plus (rd_acc xs arg6 harg6 i6 y) (pay1_at _ _ (rd_left x0 h0 arg3 harg3 i3) (rd_right x1 h1 arg4 harg4 i4) y)
theorem emb_self (inb) (j : (Rect.unit (s := S1024x1024) ![0, 0] ![1024, 1024] inb).shape.Idx) :
    (Rect.unit (s := S1024x1024) ![0, 0] ![1024, 1024] inb).emb j = (j : S1024x1024.Idx) := by
  refine funext fun a => Fin.ext ?_
  match a with
  | ⟨0, _⟩ => show 0 + 1 * (j 0).val = (j 0).val; omega
  | ⟨1, _⟩ => show 0 + 1 * (j 1).val = (j 1).val; omega

theorem pay4_at (v : Vec Ideal S1024x1024 .f32) (y : S1024x1024.Idx) : k0_pay4 v y = v y := rfl

/-- The first block starts the sum. -/
theorem sout_A (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i) (hc2 : ¬cond0_2 i)
    (x0 : Vec Ideal S2048x1024 .bf16) (x1 : Vec Ideal S2048x1024 .bf16) (h0 : ∀ j, x0 j = A (o + (j 0).val) (p + (j 1).val)) (h1 : ∀ j, x1 j = B (o + (j 0).val) (q + (j 1).val)) :
    sout0_A_0 c i arg3 harg3 arg4 harg4 arg5 harg5 arg6 harg6 hc0 hc1 hc2 x0 x1 = fun y => part A B 2048 o (p + (y 0).val) (q + (y 1).val) := by
  unfold sout0_A_0
  rw [View.read_writes_eq_canon _ _ _ (scover0_A_0 c i arg3 harg3 arg4 harg4 arg5 harg5 arg6 harg6 hc0 hc1 hc2 x0 x1)]
  funext y
  refine View.canon_apply_of_pieces (fun y => part A B 2048 o (p + (y 0).val) (q + (y 1).val)) _ ?_ y (scover0_A_0 c i arg3 harg3 arg4 harg4 arg5 harg5 arg6 harg6 hc0 hc1 hc2 x0 x1 y)
  unfold kernelRun0_A
  dsimp only
  sl_unfold_words
  simp only [List.mem_cons, List.not_mem_nil, or_false, forall_eq_or_imp, forall_eq]
  intro j
  rw [emb_self]
  unfold k0_pay2
  rw [shapeCast_self]
  exact pay1_at _ _ (rd_left x0 h0 arg3 harg3 inb_S2048x1024_S2048x1024_0_0) (rd_right x1 h1 arg4 harg4 inb_S2048x1024_S2048x1024_0_0) j

/-- Each further block is added. -/
theorem sout_B (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (hc2 : ¬cond0_2 i)
    (x0 : Vec Ideal S2048x1024 .bf16) (x1 : Vec Ideal S2048x1024 .bf16) (xs0 : Vec Ideal S1024x1024 .f32) (h0 : ∀ j, x0 j = A (o + (j 0).val) (p + (j 1).val)) (h1 : ∀ j, x1 j = B (o + (j 0).val) (q + (j 1).val)) :
    sout0_B_0 c i arg3 harg3 arg4 harg4 arg5 harg5 arg6 harg6 hc0 hc1 hc2 x0 x1 xs0 = fun y => plus (xs0 y) (part A B 2048 o (p + (y 0).val) (q + (y 1).val)) := by
  unfold sout0_B_0
  rw [View.read_writes_eq_canon _ _ _ (scover0_B_0 c i arg3 harg3 arg4 harg4 arg5 harg5 arg6 harg6 hc0 hc1 hc2 x0 x1 xs0)]
  funext y
  refine View.canon_apply_of_pieces (fun y => plus (xs0 y) (part A B 2048 o (p + (y 0).val) (q + (y 1).val))) _ ?_ y (scover0_B_0 c i arg3 harg3 arg4 harg4 arg5 harg5 arg6 harg6 hc0 hc1 hc2 x0 x1 xs0 y)
  unfold kernelRun0_B
  dsimp only
  sl_unfold_words
  simp only [List.mem_cons, List.not_mem_nil, or_false, forall_eq_or_imp, forall_eq]
  intro j
  rw [emb_self]
  exact pay3_at x0 x1 xs0 h0 h1 arg3 harg3 arg4 harg4 arg6 harg6 inb_S2048x1024_S2048x1024_0_0 inb_S2048x1024_S2048x1024_0_0 inb_S1024x1024_S1024x1024_0_0 j

/-- The last block's sum is the result. -/
theorem out_C (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (hc2 : cond0_2 i)
    (x0 : Vec Ideal S2048x1024 .bf16) (x1 : Vec Ideal S2048x1024 .bf16) (xs0 : Vec Ideal S1024x1024 .f32) (h0 : ∀ j, x0 j = A (o + (j 0).val) (p + (j 1).val)) (h1 : ∀ j, x1 j = B (o + (j 0).val) (q + (j 1).val)) :
    out0_C_2 c i arg3 harg3 arg4 harg4 arg5 harg5 arg6 harg6 hc0 hc1 hc2 x0 x1 xs0 = fun y => plus (xs0 y) (part A B 2048 o (p + (y 0).val) (q + (y 1).val)) := by
  unfold out0_C_2
  rw [View.read_writes_eq_canon _ _ _ (cover0_C_2 c i arg3 harg3 arg4 harg4 arg5 harg5 arg6 harg6 hc0 hc1 hc2 x0 x1 xs0)]
  funext y
  refine View.canon_apply_of_pieces (fun y => plus (xs0 y) (part A B 2048 o (p + (y 0).val) (q + (y 1).val))) _ ?_ y (cover0_C_2 c i arg3 harg3 arg4 harg4 arg5 harg5 arg6 harg6 hc0 hc1 hc2 x0 x1 xs0 y)
  unfold kernelRun0_C
  dsimp only
  sl_unfold_words
  simp only [List.mem_cons, List.not_mem_nil, or_false, forall_eq_or_imp, forall_eq]
  intro j
  rw [emb_self, View.readCov_cons_toLoadRect, pay4_at]
  exact pay3_at x0 x1 xs0 h0 h1 arg3 harg3 arg4 harg4 arg6 harg6 inb_S2048x1024_S2048x1024_0_0 inb_S2048x1024_S2048x1024_0_0 inb_S1024x1024_S1024x1024_0_0 j

variable (m : (ℓ : Loc nD τ sig) → Buf (Elt Ideal) ℓ) (ρ : Dev nD → PrngReg)

/-- The two operands, as the launch finds them. -/
abbrev L (c : Dev nD) : ℕ → ℕ → EReal := rd (n := 8192) (k := 1024) (V m c main_v14)
abbrev R (c : Dev nD) : ℕ → ℕ → EReal := rd (n := 8192) (k := 3072) (V m c main_arg4)

theorem ix_0 : ∀ t : Fin grid0.N, win0_0.index t 0 = t.val % 4 ∧ win0_0.index t 1 = t.val / 12 := by decide +kernel
theorem ix_1 : ∀ t : Fin grid0.N, win0_1.index t 0 = t.val % 4 ∧ win0_1.index t 1 = t.val / 4 % 3 := by decide +kernel

theorem rb_0 (c : Dev nD) (t : Fin cfg0.N) (j : S2048x1024.Idx) :
    (iblk m c 0 t : S2048x1024.Idx → EReal) j = L m c (2048 * (t.val % 4) + (j 0).val) (1024 * (t.val / 12) + (j 1).val) := by
  unfold iblk
  rw [View.read_apply]
  show V m c main_v14 _ = _
  refine rd_eq _ _ ?_ ?_
  · show win0_0.index t 0 * 2048 + 1 * (j 0).val = _; rw [(ix_0 t).1]; omega
  · show win0_0.index t 1 * 1024 + 1 * (j 1).val = _; rw [(ix_0 t).2]; omega
theorem rb_1 (c : Dev nD) (t : Fin cfg0.N) (j : S2048x1024.Idx) :
    (iblk m c 1 t : S2048x1024.Idx → EReal) j = R m c (2048 * (t.val % 4) + (j 0).val) (1024 * (t.val / 4 % 3) + (j 1).val) := by
  unfold iblk
  rw [View.read_apply]
  show V m c main_arg4 _ = _
  refine rd_eq _ _ ?_ ?_
  · show win0_1.index t 0 * 2048 + 1 * (j 0).val = _; rw [(ix_1 t).1]; omega
  · show win0_1.index t 1 * 1024 + 1 * (j 1).val = _; rw [(ix_1 t).2]; omega

theorem st_A (c : Dev nD) (t : Fin cfg0.N) (h0 : t.val % 4 = 0) (h1 : ¬1 ≤ t.val % 4) (h2 : ¬t.val % 4 = 3)
    (h3 : ∀ j : S2048x1024.Idx, (iblk m c 0 t : S2048x1024.Idx → EReal) j = A (o + (j 0).val) (p + (j 1).val))
    (h4 : ∀ j : S2048x1024.Idx, (iblk m c 1 t : S2048x1024.Idx → EReal) j = B (o + (j 0).val) (q + (j 1).val)) :
    (outsAt0 m c t.val t.isLt).2 = fun y => part A B 2048 o (p + (y 0).val) (q + (y 1).val) := by
  exact of_snd (outsAt0_A m c t h0 h1 h2) (sout_A c (grid0.coords t) (ms0_0 t) (hs0_0 t) (ms0_1 t) (hs0_1 t) (ms0_2 t) (hs0_2 t) scM0_0 (Memref.isWhole_whole _)
    ((hcond0_0 t).mpr h0) (fun h => h1 ((hcond0_1 t).mp h)) (fun h => h2 ((hcond0_2 t).mp h)) (iblk m c 0 t) (iblk m c 1 t)  h3 h4)
theorem st_B (c : Dev nD) (t : Fin cfg0.N) (h0 : ¬t.val % 4 = 0) (h1 : 1 ≤ t.val % 4) (h2 : ¬t.val % 4 = 3)
    (h3 : ∀ j : S2048x1024.Idx, (iblk m c 0 t : S2048x1024.Idx → EReal) j = A (o + (j 0).val) (p + (j 1).val))
    (h4 : ∀ j : S2048x1024.Idx, (iblk m c 1 t : S2048x1024.Idx → EReal) j = B (o + (j 0).val) (q + (j 1).val)) :
    (outsAt0 m c t.val t.isLt).2 = fun y => plus ((outsAt0 m c (t.val - 1) (Nat.lt_of_le_of_lt (Nat.sub_le _ _) t.isLt)).2 y) (part A B 2048 o (p + (y 0).val) (q + (y 1).val)) := by
  exact of_snd (outsAt0_B m c t h0 h1 h2) (sout_B c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) (fun h => h2 ((hcond0_2 t).mp h)) (iblk m c 0 t) (iblk m c 1 t) (outsAt0 m c (t.val - 1) (Nat.lt_of_le_of_lt (Nat.sub_le _ _) t.isLt)).2 h3 h4)
theorem st_C (c : Dev nD) (t : Fin cfg0.N) (h0 : ¬t.val % 4 = 0) (h1 : 1 ≤ t.val % 4) (h2 : t.val % 4 = 3)
    (h3 : ∀ j : S2048x1024.Idx, (iblk m c 0 t : S2048x1024.Idx → EReal) j = A (o + (j 0).val) (p + (j 1).val))
    (h4 : ∀ j : S2048x1024.Idx, (iblk m c 1 t : S2048x1024.Idx → EReal) j = B (o + (j 0).val) (q + (j 1).val)) :
    (outsAt0 m c t.val t.isLt).1 = fun y => plus ((outsAt0 m c (t.val - 1) (Nat.lt_of_le_of_lt (Nat.sub_le _ _) t.isLt)).2 y) (part A B 2048 o (p + (y 0).val) (q + (y 1).val)) := by
  exact of_fst (outsAt0_C m c t h0 h1 h2) (out_C c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) ((hcond0_2 t).mpr h2) (iblk m c 0 t) (iblk m c 1 t) (outsAt0 m c (t.val - 1) (Nat.lt_of_le_of_lt (Nat.sub_le _ _) t.isLt)).2 h3 h4)

/-- What the scratch holds after a point that is not the last of its four. -/
theorem acc_at (c : Dev nD) : ∀ (n : ℕ) (hn : n < cfg0.N), n % 4 < 3 → (outsAt0 m c n hn).2
    = fun y => ∑ s ∈ Finset.range (n % 4 + 1), part (L m c) (R m c) 2048 (2048 * s) (1024 * (n / 12) + (y 0).val) (1024 * (n / 4 % 3) + (y 1).val)
  | n, hn, hk => by
    by_cases h0 : n % 4 = 0
    · refine (st_A m c ⟨n, hn⟩ h0 (by show ¬1 ≤ n % 4; omega) (by show ¬n % 4 = 3; omega) (rb_0 m c ⟨n, hn⟩) (rb_1 m c ⟨n, hn⟩)).trans ?_
      funext y
      show part (L m c) (R m c) 2048 (2048 * (n % 4)) (1024 * (n / 12) + (y 0).val) (1024 * (n / 4 % 3) + (y 1).val) = _
      rw [h0, Nat.zero_add, Finset.sum_range_one]
    · refine (st_B m c ⟨n, hn⟩ h0 (by show 1 ≤ n % 4; omega) (by show ¬n % 4 = 3; omega) (rb_0 m c ⟨n, hn⟩) (rb_1 m c ⟨n, hn⟩)).trans ?_
      funext y
      show _ + part (L m c) (R m c) 2048 (2048 * (n % 4)) (1024 * (n / 12) + (y 0).val) (1024 * (n / 4 % 3) + (y 1).val) = _
      rw [acc_at c (n - 1) (Nat.lt_of_le_of_lt (Nat.sub_le _ _) hn) (by omega), Finset.sum_range_succ _ (n % 4)]
      rw [show (n - 1) % 4 + 1 = n % 4 by omega, show (n - 1) / 4 % 3 = n / 4 % 3 by omega, show (n - 1) / 12 = n / 12 by omega]
  termination_by n => n

/-- What the last of four points writes. -/
theorem out_at (c : Dev nD) (n : ℕ) (hn : n < cfg0.N) (hk : n % 4 = 3) (y : S1024x1024.Idx) : (outsAt0 m c n hn).1 y
    = ∑ g : Fin 8192, L m c g.val (1024 * (n / 12) + (y 0).val) * R m c g.val (1024 * (n / 4 % 3) + (y 1).val) := by
  refine (congrFun (st_C m c ⟨n, hn⟩ (by show ¬n % 4 = 0; omega) (by show 1 ≤ n % 4; omega) hk (rb_0 m c ⟨n, hn⟩) (rb_1 m c ⟨n, hn⟩)) y).trans ?_
  show _ + part (L m c) (R m c) 2048 (2048 * (n % 4)) (1024 * (n / 12) + (y 0).val) (1024 * (n / 4 % 3) + (y 1).val) = _
  rw [acc_at m c (n - 1) (Nat.lt_of_le_of_lt (Nat.sub_le _ _) hn) (by omega), ← four, Finset.sum_range_succ _ 3]
  rw [show (n - 1) % 4 + 1 = 3 by omega, show (n - 1) / 4 % 3 = n / 4 % 3 by omega, show (n - 1) / 12 = n / 12 by omega, hk]

/-- The launch's result, an entry at a time. -/
theorem G2_at (c : Dev nD) (i : S1024x3072.Idx) : (G2 m c : S1024x3072.Idx → EReal) i = ∑ g : Fin 8192, L m c g.val (i 0).val * R m c g.val (i 1).val := by
  have l0 : (i 0).val < 1024 := (i 0).isLt
  have l1 : (i 1).val < 3072 := (i 1).isLt
  have hN : cfg0.N = 12 := N_0
  have h : pt2Of i < cfg0.N := by rw [hN]; unfold pt2Of run2Of; omega
  unfold G2
  rw [dif_pos h, ← outsAt0_sweep m c (pt2Of i) h, out_at m c (pt2Of i) h (by unfold pt2Of; omega)]
  have e0 : 1024 * (pt2Of i / 12) + (i 0).val % 1024 = (i 0).val := by unfold pt2Of run2Of; omega
  have e1 : 1024 * (pt2Of i / 4 % 3) + (i 1).val % 1024 = (i 1).val := by unfold pt2Of run2Of; omega
  show ∑ g : Fin 8192, L m c g.val (1024 * (pt2Of i / 12) + (i 0).val % 1024) * R m c g.val (1024 * (pt2Of i / 4 % 3) + (i 1).val % 1024) = _
  rw [e0, e1]

/-- What the host forms for the left operand is the reference's. -/
theorem V_left (c : Dev nD) : (V m c main_v14 : S8192x1024.Idx → EReal) = Cert.Reference5Ideal.Read.val_main_v14 (F := Ideal) (m ((c : Thread nD τ).loc main_arg0)) (m ((c : Thread nD τ).loc main_arg1)) (m ((c : Thread nD τ).loc main_arg2)) := by
  unfold V
  simp only [hostOps0, List.flatten_cons, List.flatten_nil, List.append_nil, List.cons_append, List.nil_append, StableHlo.TRef.binary, StableHlo.TRef.nullary, StableHlo.TRef.unary, StableHlo.TRef.toBuf, StableHlo.TRef.ofBuf, cast_eq]
  after_results
  rfl

/-- The reference's product, an entry at a time. -/
theorem ref_at (c : Dev nD) (i : S1024x3072.Idx) :
    Cert.Reference5Ideal.Read.val_main_v19 (F := Ideal) (m ((c : Thread nD τ).loc main_arg0)) (m ((c : Thread nD τ).loc main_arg1)) (m ((c : Thread nD τ).loc main_arg2)) (m ((c : Thread nD τ).loc main_arg4)) i = (G2 m c : S1024x3072.Idx → EReal) i := by
  rw [G2_at]
  refine (Cert.Reference5Ideal.Read.val_main_v18_apply (F := Ideal) _ _ _ _ i).trans ((Cert.Reference5Ideal.Read.val_main_v17_apply _ _ _ _ _).trans ?_)
  refine Finset.sum_congr rfl fun k _ => ?_
  rw [mul_comm]
  refine congrArg₂ (· * ·) ?_ ?_
  · exact (congrFun (V_left m c).symm _).trans (rd_eq _ _ rfl rfl)
  · refine Eq.trans ?_ (congrArg (fun f => rd (n := 8192) (k := 3072) f k.val (i 1).val) (V_main_arg4 m c)).symm
    exact rd_eq (m ((c : Thread nD τ).loc main_arg4)) _ rfl rfl

end Cert.Kernel5Ideal.Mm

namespace Cert.Mm5

/-- Kernel and reference: the same gradient of the weight. -/
theorem algebraic : Cert.algebraic_Kernel5Ideal_Reference5Ideal := by
  intro m g m' g' _ ha
  refine ⟨fun c => Cert.Kernel5Ideal.Value.G2 m c, Cert.Kernel5Ideal.Value.run m g, ?_⟩
  refine (θ_run Cert.Reference5Ideal.defs _ _).mono (fun r h c => ⟨(h c).1.trans ?_, (h c).2⟩) (Cert.Reference5Ideal.Value.run (F := Ideal) m' g')
  obtain ⟨a0, a1, a2, a3, a4⟩ := ha c
  have b0 : m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0) := a0
  have b1 : m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1) := a1
  have b2 : m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2) := a2
  have b3 : m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3) := a3
  have b4 : m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4) := a4
  refine (Cert.Reference5Ideal.Read.val_main_v19_eq _ _ _ _).trans ?_
  rw [b0, b1, b2, b4]
  funext i
  exact Cert.Kernel5Ideal.Mm.ref_at m c i

theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

end Cert.Mm5
end
-- ==== Proof.Mm6.lean ====
/- The gradient of the projection to the attention's queries: the product of what it read and what came back, over all rows. -/
module

public import proofs.«01_k».proof.Proof.Mm5
public import proofs.«01_k».proof.Proof.Gen.Kernel6Ideal.Value
public import proofs.«01_k».proof.Proof.Gen.Reference6Ideal.Run
public import proofs.«01_k».proof.Proof.Gen.Reference6Ideal.Read
public import proofs.«01_k».proof.Defs
public import Idealize.ShloMosaic.Lib.KernelVsHost
public import Idealize.ShloMosaic.Lib.StableHlo.Run
public import Idealize.ShloMosaic.Lib.StackMember
public import Idealize.ShloMosaic.Lib.Pointwise

@[expose] public section

set_option maxRecDepth 16384

noncomputable section

open Idealize.ShloMosaic hiding ix1 ix2 ix3
open Idealize.ShloMosaic.ValueIdx Idealize.ShloMosaic.TcCoe Idealize.SL.Sem

namespace Cert.Kernel6Ideal.Mm

open Cert.Kernel6Ideal Cert.Kernel6Ideal.Gen Cert.Kernel6Ideal.Value Cert.Mm Cert.Conv
open Idealize.ShloMosaic.Pipeline (Dat)

variable [Facts]

variable {A B : ℕ → ℕ → EReal} {o p q : ℕ}

/-- One block's product. -/
theorem pay1_at (v0 : Vec Ideal S2048x1024 .bf16) (v2 : Vec Ideal S2048x1024 .bf16)
    (h0 : ∀ j, v0 j = A (o + (j 0).val) (p + (j 1).val)) (h2 : ∀ j, v2 j = B (o + (j 0).val) (q + (j 1).val)) (y : S1024x1024.Idx) :
    k0_pay1 v0 v2 y = part A B 2048 o (p + (y 0).val) (q + (y 1).val) := by
  unfold k0_pay1
  dsimp only
  rw [shapeCast_self]
  exact rows_at (K := 2048) (M := 1024) (N := 1024) dot_S2048x1024_S2048x1024_S1024x1024_0_0_1_1_n_n rfl rfl (fun _ _ => rfl) (fun _ _ => rfl) (fun _ _ => rfl) (fun _ _ => rfl) v0 v2 A B o p q h0 h2 y

theorem rd_left (x0 : Vec Ideal S2048x1024 .bf16) (h0 : ∀ j, x0 j = A (o + (j 0).val) (p + (j 1).val))
    (arg3 : Memref sig .tc .vmem S2048x1024 .bf16) (harg3 : arg3.IsWhole) (inb) (j : S2048x1024.Idx) :
    View.readAt (Elt Ideal) arg3.view (Rect.unit (s := S2048x1024) ![0, 0] ![2048, 1024] inb).toLoadRect (harg3.unread x0) j
      = A (o + (j 0).val) (p + (j 1).val) := by
  rw [View.readAt_eq_ld, harg3.read_unread]
  refine (h0 _).trans ?_
  show A (o + (0 + 1 * (j 0).val)) (p + (0 + 1 * (j 1).val)) = _
  rw [Nat.zero_add, Nat.one_mul, Nat.zero_add, Nat.one_mul]
theorem rd_right (x1 : Vec Ideal S2048x1024 .bf16) (h1 : ∀ j, x1 j = B (o + (j 0).val) (q + (j 1).val))
    (arg4 : Memref sig .tc .vmem S2048x1024 .bf16) (harg4 : arg4.IsWhole) (inb) (j : S2048x1024.Idx) :
    View.readAt (Elt Ideal) arg4.view (Rect.unit (s := S2048x1024) ![0, 0] ![2048, 1024] inb).toLoadRect (harg4.unread x1) j
      = B (o + (j 0).val) (q + (j 1).val) := by
  rw [View.readAt_eq_ld, harg4.read_unread]
  refine (h1 _).trans ?_
  show B (o + (0 + 1 * (j 0).val)) (q + (0 + 1 * (j 1).val)) = _
  rw [Nat.zero_add, Nat.one_mul, Nat.zero_add, Nat.one_mul]
theorem rd_acc (xs : Vec Ideal S1024x1024 .f32) (arg6 : Memref sig .tc .vmem S1024x1024 .f32) (harg6 : arg6.IsWhole) (inb) (j : S1024x1024.Idx) :
    View.readAt (Elt Ideal) arg6.view (Rect.unit (s := S1024x1024) ![0, 0] ![1024, 1024] inb).toLoadRect (harg6.unread xs) j = xs j := by
  rw [View.readAt_eq_ld, harg6.read_unread]
  refine congrArg xs (funext fun a => Fin.ext ?_)
  match a with
  | ⟨0, _⟩ => show 0 + 1 * (j 0).val = (j 0).val; omega
  | ⟨1, _⟩ => show 0 + 1 * (j 1).val = (j 1).val; omega
/-- A sum and a block's product, added up. -/
theorem pay3_at (x0 : Vec Ideal S2048x1024 .bf16) (x1 : Vec Ideal S2048x1024 .bf16) (xs : Vec Ideal S1024x1024 .f32) (h0 : ∀ j, x0 j = A (o + (j 0).val) (p + (j 1).val)) (h1 : ∀ j, x1 j = B (o + (j 0).val) (q + (j 1).val))
    (arg3 : Memref sig .tc .vmem S2048x1024 .bf16) (harg3 : arg3.IsWhole) (arg4 : Memref sig .tc .vmem S2048x1024 .bf16) (harg4 : arg4.IsWhole)
    (arg6 : Memref sig .tc .vmem S1024x1024 .f32) (harg6 : arg6.IsWhole) (i3 i4 i6) (y : S1024x1024.Idx) :
    k0_pay3 (View.readAt (Elt Ideal) arg3.view (Rect.unit (s := S2048x1024) ![0, 0] ![2048, 1024] i3).toLoadRect (harg3.unread x0))
      (View.readAt (Elt Ideal) arg4.view (Rect.unit (s := S2048x1024) ![0, 0] ![2048, 1024] i4).toLoadRect (harg4.unread x1))
      (View.readAt (Elt Ideal) arg6.view (Rect.unit (s := S1024x1024) ![0, 0] ![1024, 1024] i6).toLoadRect (harg6.unread xs)) y
      = plus (xs y) (part A B 2048 o (p + (y 0).val) (q + (y 1).val)) := by
  unfold k0_pay3
  dsimp only
  rw [shapeCast_self]
  exact congrArg₂ plus (rd_acc xs arg6 harg6 i6 y) (pay1_at _ _ (rd_left x0 h0 arg3 harg3 i3) (rd_right x1 h1 arg4 harg4 i4) y)
theorem emb_self (inb) (j : (Rect.unit (s := S1024x1024) ![0, 0] ![1024, 1024] inb).shape.Idx) :
    (Rect.unit (s := S1024x1024) ![0, 0] ![1024, 1024] inb).emb j = (j : S1024x1024.Idx) := by
  refine funext fun a => Fin.ext ?_
  match a with
  | ⟨0, _⟩ => show 0 + 1 * (j 0).val = (j 0).val; omega
  | ⟨1, _⟩ => show 0 + 1 * (j 1).val = (j 1).val; omega

theorem pay4_at (v : Vec Ideal S1024x1024 .f32) (y : S1024x1024.Idx) : k0_pay4 v y = v y := rfl

/-- The first block starts the sum. -/
theorem sout_A (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i) (hc2 : ¬cond0_2 i)
    (x0 : Vec Ideal S2048x1024 .bf16) (x1 : Vec Ideal S2048x1024 .bf16) (h0 : ∀ j, x0 j = A (o + (j 0).val) (p + (j 1).val)) (h1 : ∀ j, x1 j = B (o + (j 0).val) (q + (j 1).val)) :
    sout0_A_0 c i arg3 harg3 arg4 harg4 arg5 harg5 arg6 harg6 hc0 hc1 hc2 x0 x1 = fun y => part A B 2048 o (p + (y 0).val) (q + (y 1).val) := by
  unfold sout0_A_0
  rw [View.read_writes_eq_canon _ _ _ (scover0_A_0 c i arg3 harg3 arg4 harg4 arg5 harg5 arg6 harg6 hc0 hc1 hc2 x0 x1)]
  funext y
  refine View.canon_apply_of_pieces (fun y => part A B 2048 o (p + (y 0).val) (q + (y 1).val)) _ ?_ y (scover0_A_0 c i arg3 harg3 arg4 harg4 arg5 harg5 arg6 harg6 hc0 hc1 hc2 x0 x1 y)
  unfold kernelRun0_A
  dsimp only
  sl_unfold_words
  simp only [List.mem_cons, List.not_mem_nil, or_false, forall_eq_or_imp, forall_eq]
  intro j
  rw [emb_self]
  unfold k0_pay2
  rw [shapeCast_self]
  exact pay1_at _ _ (rd_left x0 h0 arg3 harg3 inb_S2048x1024_S2048x1024_0_0) (rd_right x1 h1 arg4 harg4 inb_S2048x1024_S2048x1024_0_0) j

/-- Each further block is added. -/
theorem sout_B (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (hc2 : ¬cond0_2 i)
    (x0 : Vec Ideal S2048x1024 .bf16) (x1 : Vec Ideal S2048x1024 .bf16) (xs0 : Vec Ideal S1024x1024 .f32) (h0 : ∀ j, x0 j = A (o + (j 0).val) (p + (j 1).val)) (h1 : ∀ j, x1 j = B (o + (j 0).val) (q + (j 1).val)) :
    sout0_B_0 c i arg3 harg3 arg4 harg4 arg5 harg5 arg6 harg6 hc0 hc1 hc2 x0 x1 xs0 = fun y => plus (xs0 y) (part A B 2048 o (p + (y 0).val) (q + (y 1).val)) := by
  unfold sout0_B_0
  rw [View.read_writes_eq_canon _ _ _ (scover0_B_0 c i arg3 harg3 arg4 harg4 arg5 harg5 arg6 harg6 hc0 hc1 hc2 x0 x1 xs0)]
  funext y
  refine View.canon_apply_of_pieces (fun y => plus (xs0 y) (part A B 2048 o (p + (y 0).val) (q + (y 1).val))) _ ?_ y (scover0_B_0 c i arg3 harg3 arg4 harg4 arg5 harg5 arg6 harg6 hc0 hc1 hc2 x0 x1 xs0 y)
  unfold kernelRun0_B
  dsimp only
  sl_unfold_words
  simp only [List.mem_cons, List.not_mem_nil, or_false, forall_eq_or_imp, forall_eq]
  intro j
  rw [emb_self]
  exact pay3_at x0 x1 xs0 h0 h1 arg3 harg3 arg4 harg4 arg6 harg6 inb_S2048x1024_S2048x1024_0_0 inb_S2048x1024_S2048x1024_0_0 inb_S1024x1024_S1024x1024_0_0 j

/-- The last block's sum is the result. -/
theorem out_C (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (hc2 : cond0_2 i)
    (x0 : Vec Ideal S2048x1024 .bf16) (x1 : Vec Ideal S2048x1024 .bf16) (xs0 : Vec Ideal S1024x1024 .f32) (h0 : ∀ j, x0 j = A (o + (j 0).val) (p + (j 1).val)) (h1 : ∀ j, x1 j = B (o + (j 0).val) (q + (j 1).val)) :
    out0_C_2 c i arg3 harg3 arg4 harg4 arg5 harg5 arg6 harg6 hc0 hc1 hc2 x0 x1 xs0 = fun y => plus (xs0 y) (part A B 2048 o (p + (y 0).val) (q + (y 1).val)) := by
  unfold out0_C_2
  rw [View.read_writes_eq_canon _ _ _ (cover0_C_2 c i arg3 harg3 arg4 harg4 arg5 harg5 arg6 harg6 hc0 hc1 hc2 x0 x1 xs0)]
  funext y
  refine View.canon_apply_of_pieces (fun y => plus (xs0 y) (part A B 2048 o (p + (y 0).val) (q + (y 1).val))) _ ?_ y (cover0_C_2 c i arg3 harg3 arg4 harg4 arg5 harg5 arg6 harg6 hc0 hc1 hc2 x0 x1 xs0 y)
  unfold kernelRun0_C
  dsimp only
  sl_unfold_words
  simp only [List.mem_cons, List.not_mem_nil, or_false, forall_eq_or_imp, forall_eq]
  intro j
  rw [emb_self, View.readCov_cons_toLoadRect, pay4_at]
  exact pay3_at x0 x1 xs0 h0 h1 arg3 harg3 arg4 harg4 arg6 harg6 inb_S2048x1024_S2048x1024_0_0 inb_S2048x1024_S2048x1024_0_0 inb_S1024x1024_S1024x1024_0_0 j

variable (m : (ℓ : Loc nD τ sig) → Buf (Elt Ideal) ℓ) (ρ : Dev nD → PrngReg)

/-- The two operands, as the launch finds them. -/
abbrev L (c : Dev nD) : ℕ → ℕ → EReal := rd (n := 8192) (k := 1024) (V m c main_v14)
abbrev R (c : Dev nD) : ℕ → ℕ → EReal := rd (n := 8192) (k := 1024) (V m c main_arg4)

theorem ix_0 : ∀ t : Fin grid0.N, win0_0.index t 0 = t.val % 4 ∧ win0_0.index t 1 = t.val / 4 := by decide +kernel
theorem ix_1 : ∀ t : Fin grid0.N, win0_1.index t 0 = t.val % 4 ∧ win0_1.index t 1 = t.val / 4 % 1 := by decide +kernel

theorem rb_0 (c : Dev nD) (t : Fin cfg0.N) (j : S2048x1024.Idx) :
    (iblk m c 0 t : S2048x1024.Idx → EReal) j = L m c (2048 * (t.val % 4) + (j 0).val) (1024 * (t.val / 4) + (j 1).val) := by
  unfold iblk
  rw [View.read_apply]
  show V m c main_v14 _ = _
  refine rd_eq _ _ ?_ ?_
  · show win0_0.index t 0 * 2048 + 1 * (j 0).val = _; rw [(ix_0 t).1]; omega
  · show win0_0.index t 1 * 1024 + 1 * (j 1).val = _; rw [(ix_0 t).2]; omega
theorem rb_1 (c : Dev nD) (t : Fin cfg0.N) (j : S2048x1024.Idx) :
    (iblk m c 1 t : S2048x1024.Idx → EReal) j = R m c (2048 * (t.val % 4) + (j 0).val) (1024 * (t.val / 4 % 1) + (j 1).val) := by
  unfold iblk
  rw [View.read_apply]
  show V m c main_arg4 _ = _
  refine rd_eq _ _ ?_ ?_
  · show win0_1.index t 0 * 2048 + 1 * (j 0).val = _; rw [(ix_1 t).1]; omega
  · show win0_1.index t 1 * 1024 + 1 * (j 1).val = _; rw [(ix_1 t).2]; omega

theorem st_A (c : Dev nD) (t : Fin cfg0.N) (h0 : t.val % 4 = 0) (h1 : ¬1 ≤ t.val) (h2 : ¬t.val % 4 = 3)
    (h3 : ∀ j : S2048x1024.Idx, (iblk m c 0 t : S2048x1024.Idx → EReal) j = A (o + (j 0).val) (p + (j 1).val))
    (h4 : ∀ j : S2048x1024.Idx, (iblk m c 1 t : S2048x1024.Idx → EReal) j = B (o + (j 0).val) (q + (j 1).val)) :
    (outsAt0 m c t.val t.isLt).2 = fun y => part A B 2048 o (p + (y 0).val) (q + (y 1).val) := by
  exact of_snd (outsAt0_A m c t h0 h1 h2) (sout_A c (grid0.coords t) (ms0_0 t) (hs0_0 t) (ms0_1 t) (hs0_1 t) (ms0_2 t) (hs0_2 t) scM0_0 (Memref.isWhole_whole _)
    ((hcond0_0 t).mpr h0) (fun h => h1 ((hcond0_1 t).mp h)) (fun h => h2 ((hcond0_2 t).mp h)) (iblk m c 0 t) (iblk m c 1 t)  h3 h4)
theorem st_B (c : Dev nD) (t : Fin cfg0.N) (h0 : ¬t.val % 4 = 0) (h1 : 1 ≤ t.val) (h2 : ¬t.val % 4 = 3)
    (h3 : ∀ j : S2048x1024.Idx, (iblk m c 0 t : S2048x1024.Idx → EReal) j = A (o + (j 0).val) (p + (j 1).val))
    (h4 : ∀ j : S2048x1024.Idx, (iblk m c 1 t : S2048x1024.Idx → EReal) j = B (o + (j 0).val) (q + (j 1).val)) :
    (outsAt0 m c t.val t.isLt).2 = fun y => plus ((outsAt0 m c (t.val - 1) (Nat.lt_of_le_of_lt (Nat.sub_le _ _) t.isLt)).2 y) (part A B 2048 o (p + (y 0).val) (q + (y 1).val)) := by
  exact of_snd (outsAt0_B m c t h0 h1 h2) (sout_B c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) (fun h => h2 ((hcond0_2 t).mp h)) (iblk m c 0 t) (iblk m c 1 t) (outsAt0 m c (t.val - 1) (Nat.lt_of_le_of_lt (Nat.sub_le _ _) t.isLt)).2 h3 h4)
theorem st_C (c : Dev nD) (t : Fin cfg0.N) (h0 : ¬t.val % 4 = 0) (h1 : 1 ≤ t.val) (h2 : t.val % 4 = 3)
    (h3 : ∀ j : S2048x1024.Idx, (iblk m c 0 t : S2048x1024.Idx → EReal) j = A (o + (j 0).val) (p + (j 1).val))
    (h4 : ∀ j : S2048x1024.Idx, (iblk m c 1 t : S2048x1024.Idx → EReal) j = B (o + (j 0).val) (q + (j 1).val)) :
    (outsAt0 m c t.val t.isLt).1 = fun y => plus ((outsAt0 m c (t.val - 1) (Nat.lt_of_le_of_lt (Nat.sub_le _ _) t.isLt)).2 y) (part A B 2048 o (p + (y 0).val) (q + (y 1).val)) := by
  exact of_fst (outsAt0_C m c t h0 h1 h2) (out_C c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) ((hcond0_2 t).mpr h2) (iblk m c 0 t) (iblk m c 1 t) (outsAt0 m c (t.val - 1) (Nat.lt_of_le_of_lt (Nat.sub_le _ _) t.isLt)).2 h3 h4)

/-- What the scratch holds after a point that is not the last of its four. -/
theorem acc_at (c : Dev nD) : ∀ (n : ℕ) (hn : n < cfg0.N), n % 4 < 3 → (outsAt0 m c n hn).2
    = fun y => ∑ s ∈ Finset.range (n % 4 + 1), part (L m c) (R m c) 2048 (2048 * s) (1024 * (n / 4) + (y 0).val) (1024 * (n / 4 % 1) + (y 1).val)
  | n, hn, hk => by
    by_cases h0 : n % 4 = 0
    · refine (st_A m c ⟨n, hn⟩ h0 (by show ¬1 ≤ n; have := hn.trans_eq N_0; omega) (by show ¬n % 4 = 3; omega) (rb_0 m c ⟨n, hn⟩) (rb_1 m c ⟨n, hn⟩)).trans ?_
      funext y
      show part (L m c) (R m c) 2048 (2048 * (n % 4)) (1024 * (n / 4) + (y 0).val) (1024 * (n / 4 % 1) + (y 1).val) = _
      rw [h0, Nat.zero_add, Finset.sum_range_one]
    · refine (st_B m c ⟨n, hn⟩ h0 (by show 1 ≤ n; omega) (by show ¬n % 4 = 3; omega) (rb_0 m c ⟨n, hn⟩) (rb_1 m c ⟨n, hn⟩)).trans ?_
      funext y
      show _ + part (L m c) (R m c) 2048 (2048 * (n % 4)) (1024 * (n / 4) + (y 0).val) (1024 * (n / 4 % 1) + (y 1).val) = _
      rw [acc_at c (n - 1) (Nat.lt_of_le_of_lt (Nat.sub_le _ _) hn) (by omega), Finset.sum_range_succ _ (n % 4)]
      rw [show (n - 1) % 4 + 1 = n % 4 by omega, show (n - 1) / 4 % 1 = n / 4 % 1 by omega, show (n - 1) / 4 = n / 4 by omega]
  termination_by n => n

/-- What the last of four points writes. -/
theorem out_at (c : Dev nD) (n : ℕ) (hn : n < cfg0.N) (hk : n % 4 = 3) (y : S1024x1024.Idx) : (outsAt0 m c n hn).1 y
    = ∑ g : Fin 8192, L m c g.val (1024 * (n / 4) + (y 0).val) * R m c g.val (1024 * (n / 4 % 1) + (y 1).val) := by
  refine (congrFun (st_C m c ⟨n, hn⟩ (by show ¬n % 4 = 0; omega) (by show 1 ≤ n; omega) hk (rb_0 m c ⟨n, hn⟩) (rb_1 m c ⟨n, hn⟩)) y).trans ?_
  show _ + part (L m c) (R m c) 2048 (2048 * (n % 4)) (1024 * (n / 4) + (y 0).val) (1024 * (n / 4 % 1) + (y 1).val) = _
  rw [acc_at m c (n - 1) (Nat.lt_of_le_of_lt (Nat.sub_le _ _) hn) (by omega), ← four, Finset.sum_range_succ _ 3]
  rw [show (n - 1) % 4 + 1 = 3 by omega, show (n - 1) / 4 % 1 = n / 4 % 1 by omega, show (n - 1) / 4 = n / 4 by omega, hk]

/-- The launch's result, an entry at a time. -/
theorem G2_at (c : Dev nD) (i : S1024x1024.Idx) : (G2 m c : S1024x1024.Idx → EReal) i = ∑ g : Fin 8192, L m c g.val (i 0).val * R m c g.val (i 1).val := by
  have l0 : (i 0).val < 1024 := (i 0).isLt
  have l1 : (i 1).val < 1024 := (i 1).isLt
  have hN : cfg0.N = 4 := N_0
  have h : pt2Of i < cfg0.N := by rw [hN]; unfold pt2Of run2Of; omega
  unfold G2
  rw [dif_pos h, ← outsAt0_sweep m c (pt2Of i) h, out_at m c (pt2Of i) h (by unfold pt2Of; omega)]
  have e0 : 1024 * (pt2Of i / 4) + (i 0).val % 1024 = (i 0).val := by unfold pt2Of run2Of; omega
  have e1 : 1024 * (pt2Of i / 4 % 1) + (i 1).val % 1024 = (i 1).val := by unfold pt2Of run2Of; omega
  show ∑ g : Fin 8192, L m c g.val (1024 * (pt2Of i / 4) + (i 0).val % 1024) * R m c g.val (1024 * (pt2Of i / 4 % 1) + (i 1).val % 1024) = _
  rw [e0, e1]

/-- What the host forms for the left operand is the reference's. -/
theorem V_left (c : Dev nD) : (V m c main_v14 : S8192x1024.Idx → EReal) = Cert.Reference6Ideal.Read.val_main_v14 (F := Ideal) (m ((c : Thread nD τ).loc main_arg0)) (m ((c : Thread nD τ).loc main_arg1)) (m ((c : Thread nD τ).loc main_arg2)) := by
  unfold V
  simp only [hostOps0, List.flatten_cons, List.flatten_nil, List.append_nil, List.cons_append, List.nil_append, StableHlo.TRef.binary, StableHlo.TRef.nullary, StableHlo.TRef.unary, StableHlo.TRef.toBuf, StableHlo.TRef.ofBuf, cast_eq]
  after_results
  rfl

/-- The reference's product, an entry at a time. -/
theorem ref_at (c : Dev nD) (i : S1024x1024.Idx) :
    Cert.Reference6Ideal.Read.val_main_v19 (F := Ideal) (m ((c : Thread nD τ).loc main_arg0)) (m ((c : Thread nD τ).loc main_arg1)) (m ((c : Thread nD τ).loc main_arg2)) (m ((c : Thread nD τ).loc main_arg4)) i = (G2 m c : S1024x1024.Idx → EReal) i := by
  rw [G2_at]
  refine (Cert.Reference6Ideal.Read.val_main_v18_apply (F := Ideal) _ _ _ _ i).trans ((Cert.Reference6Ideal.Read.val_main_v17_apply _ _ _ _ _).trans ?_)
  refine Finset.sum_congr rfl fun k _ => ?_
  rw [mul_comm]
  refine congrArg₂ (· * ·) ?_ ?_
  · exact (congrFun (V_left m c).symm _).trans (rd_eq _ _ rfl rfl)
  · refine Eq.trans ?_ (congrArg (fun f => rd (n := 8192) (k := 1024) f k.val (i 1).val) (V_main_arg4 m c)).symm
    exact rd_eq (m ((c : Thread nD τ).loc main_arg4)) _ rfl rfl

end Cert.Kernel6Ideal.Mm

namespace Cert.Mm6

/-- Kernel and reference: the same gradient of the weight. -/
theorem algebraic : Cert.algebraic_Kernel6Ideal_Reference6Ideal := by
  intro m g m' g' _ ha
  refine ⟨fun c => Cert.Kernel6Ideal.Value.G2 m c, Cert.Kernel6Ideal.Value.run m g, ?_⟩
  refine (θ_run Cert.Reference6Ideal.defs _ _).mono (fun r h c => ⟨(h c).1.trans ?_, (h c).2⟩) (Cert.Reference6Ideal.Value.run (F := Ideal) m' g')
  obtain ⟨a0, a1, a2, a3, a4⟩ := ha c
  have b0 : m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0) := a0
  have b1 : m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1) := a1
  have b2 : m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2) := a2
  have b3 : m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3) := a3
  have b4 : m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4) := a4
  refine (Cert.Reference6Ideal.Read.val_main_v19_eq _ _ _ _).trans ?_
  rw [b0, b1, b2, b4]
  funext i
  exact Cert.Kernel6Ideal.Mm.ref_at m c i

theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

end Cert.Mm6
end
-- ==== Proof.Mm7.lean ====
/- The gradient of the projection to the attention's keys and values: the product of what it read and what came back, over all rows. -/
module

public import proofs.«01_k».proof.Proof.Mm6
public import proofs.«01_k».proof.Proof.Gen.Kernel7Ideal.Value
public import proofs.«01_k».proof.Proof.Gen.Reference7Ideal.Run
public import proofs.«01_k».proof.Proof.Gen.Reference7Ideal.Read
public import proofs.«01_k».proof.Defs
public import Idealize.ShloMosaic.Lib.KernelVsHost
public import Idealize.ShloMosaic.Lib.StableHlo.Run
public import Idealize.ShloMosaic.Lib.StackMember
public import Idealize.ShloMosaic.Lib.Pointwise

@[expose] public section

set_option maxRecDepth 16384

noncomputable section

open Idealize.ShloMosaic hiding ix1 ix2 ix3
open Idealize.ShloMosaic.ValueIdx Idealize.ShloMosaic.TcCoe Idealize.SL.Sem

namespace Cert.Kernel7Ideal.Mm

open Cert.Kernel7Ideal Cert.Kernel7Ideal.Gen Cert.Kernel7Ideal.Value Cert.Mm Cert.Conv
open Idealize.ShloMosaic.Pipeline (Dat)

variable [Facts]

variable {A B : ℕ → ℕ → EReal} {o p q : ℕ}

/-- One block's product. -/
theorem pay1_at (v0 : Vec Ideal S2048x1024 .bf16) (v2 : Vec Ideal S2048x1024 .bf16)
    (h0 : ∀ j, v0 j = A (o + (j 0).val) (p + (j 1).val)) (h2 : ∀ j, v2 j = B (o + (j 0).val) (q + (j 1).val)) (y : S1024x1024.Idx) :
    k0_pay1 v0 v2 y = part A B 2048 o (p + (y 0).val) (q + (y 1).val) := by
  unfold k0_pay1
  dsimp only
  rw [shapeCast_self]
  exact rows_at (K := 2048) (M := 1024) (N := 1024) dot_S2048x1024_S2048x1024_S1024x1024_0_0_1_1_n_n rfl rfl (fun _ _ => rfl) (fun _ _ => rfl) (fun _ _ => rfl) (fun _ _ => rfl) v0 v2 A B o p q h0 h2 y

theorem rd_left (x0 : Vec Ideal S2048x1024 .bf16) (h0 : ∀ j, x0 j = A (o + (j 0).val) (p + (j 1).val))
    (arg3 : Memref sig .tc .vmem S2048x1024 .bf16) (harg3 : arg3.IsWhole) (inb) (j : S2048x1024.Idx) :
    View.readAt (Elt Ideal) arg3.view (Rect.unit (s := S2048x1024) ![0, 0] ![2048, 1024] inb).toLoadRect (harg3.unread x0) j
      = A (o + (j 0).val) (p + (j 1).val) := by
  rw [View.readAt_eq_ld, harg3.read_unread]
  refine (h0 _).trans ?_
  show A (o + (0 + 1 * (j 0).val)) (p + (0 + 1 * (j 1).val)) = _
  rw [Nat.zero_add, Nat.one_mul, Nat.zero_add, Nat.one_mul]
theorem rd_right (x1 : Vec Ideal S2048x1024 .bf16) (h1 : ∀ j, x1 j = B (o + (j 0).val) (q + (j 1).val))
    (arg4 : Memref sig .tc .vmem S2048x1024 .bf16) (harg4 : arg4.IsWhole) (inb) (j : S2048x1024.Idx) :
    View.readAt (Elt Ideal) arg4.view (Rect.unit (s := S2048x1024) ![0, 0] ![2048, 1024] inb).toLoadRect (harg4.unread x1) j
      = B (o + (j 0).val) (q + (j 1).val) := by
  rw [View.readAt_eq_ld, harg4.read_unread]
  refine (h1 _).trans ?_
  show B (o + (0 + 1 * (j 0).val)) (q + (0 + 1 * (j 1).val)) = _
  rw [Nat.zero_add, Nat.one_mul, Nat.zero_add, Nat.one_mul]
theorem rd_acc (xs : Vec Ideal S1024x1024 .f32) (arg6 : Memref sig .tc .vmem S1024x1024 .f32) (harg6 : arg6.IsWhole) (inb) (j : S1024x1024.Idx) :
    View.readAt (Elt Ideal) arg6.view (Rect.unit (s := S1024x1024) ![0, 0] ![1024, 1024] inb).toLoadRect (harg6.unread xs) j = xs j := by
  rw [View.readAt_eq_ld, harg6.read_unread]
  refine congrArg xs (funext fun a => Fin.ext ?_)
  match a with
  | ⟨0, _⟩ => show 0 + 1 * (j 0).val = (j 0).val; omega
  | ⟨1, _⟩ => show 0 + 1 * (j 1).val = (j 1).val; omega
/-- A sum and a block's product, added up. -/
theorem pay3_at (x0 : Vec Ideal S2048x1024 .bf16) (x1 : Vec Ideal S2048x1024 .bf16) (xs : Vec Ideal S1024x1024 .f32) (h0 : ∀ j, x0 j = A (o + (j 0).val) (p + (j 1).val)) (h1 : ∀ j, x1 j = B (o + (j 0).val) (q + (j 1).val))
    (arg3 : Memref sig .tc .vmem S2048x1024 .bf16) (harg3 : arg3.IsWhole) (arg4 : Memref sig .tc .vmem S2048x1024 .bf16) (harg4 : arg4.IsWhole)
    (arg6 : Memref sig .tc .vmem S1024x1024 .f32) (harg6 : arg6.IsWhole) (i3 i4 i6) (y : S1024x1024.Idx) :
    k0_pay3 (View.readAt (Elt Ideal) arg3.view (Rect.unit (s := S2048x1024) ![0, 0] ![2048, 1024] i3).toLoadRect (harg3.unread x0))
      (View.readAt (Elt Ideal) arg4.view (Rect.unit (s := S2048x1024) ![0, 0] ![2048, 1024] i4).toLoadRect (harg4.unread x1))
      (View.readAt (Elt Ideal) arg6.view (Rect.unit (s := S1024x1024) ![0, 0] ![1024, 1024] i6).toLoadRect (harg6.unread xs)) y
      = plus (xs y) (part A B 2048 o (p + (y 0).val) (q + (y 1).val)) := by
  unfold k0_pay3
  dsimp only
  rw [shapeCast_self]
  exact congrArg₂ plus (rd_acc xs arg6 harg6 i6 y) (pay1_at _ _ (rd_left x0 h0 arg3 harg3 i3) (rd_right x1 h1 arg4 harg4 i4) y)
theorem emb_self (inb) (j : (Rect.unit (s := S1024x1024) ![0, 0] ![1024, 1024] inb).shape.Idx) :
    (Rect.unit (s := S1024x1024) ![0, 0] ![1024, 1024] inb).emb j = (j : S1024x1024.Idx) := by
  refine funext fun a => Fin.ext ?_
  match a with
  | ⟨0, _⟩ => show 0 + 1 * (j 0).val = (j 0).val; omega
  | ⟨1, _⟩ => show 0 + 1 * (j 1).val = (j 1).val; omega

theorem pay4_at (v : Vec Ideal S1024x1024 .f32) (y : S1024x1024.Idx) : k0_pay4 v y = v y := rfl

/-- The first block starts the sum. -/
theorem sout_A (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i) (hc2 : ¬cond0_2 i)
    (x0 : Vec Ideal S2048x1024 .bf16) (x1 : Vec Ideal S2048x1024 .bf16) (h0 : ∀ j, x0 j = A (o + (j 0).val) (p + (j 1).val)) (h1 : ∀ j, x1 j = B (o + (j 0).val) (q + (j 1).val)) :
    sout0_A_0 c i arg3 harg3 arg4 harg4 arg5 harg5 arg6 harg6 hc0 hc1 hc2 x0 x1 = fun y => part A B 2048 o (p + (y 0).val) (q + (y 1).val) := by
  unfold sout0_A_0
  rw [View.read_writes_eq_canon _ _ _ (scover0_A_0 c i arg3 harg3 arg4 harg4 arg5 harg5 arg6 harg6 hc0 hc1 hc2 x0 x1)]
  funext y
  refine View.canon_apply_of_pieces (fun y => part A B 2048 o (p + (y 0).val) (q + (y 1).val)) _ ?_ y (scover0_A_0 c i arg3 harg3 arg4 harg4 arg5 harg5 arg6 harg6 hc0 hc1 hc2 x0 x1 y)
  unfold kernelRun0_A
  dsimp only
  sl_unfold_words
  simp only [List.mem_cons, List.not_mem_nil, or_false, forall_eq_or_imp, forall_eq]
  intro j
  rw [emb_self]
  unfold k0_pay2
  rw [shapeCast_self]
  exact pay1_at _ _ (rd_left x0 h0 arg3 harg3 inb_S2048x1024_S2048x1024_0_0) (rd_right x1 h1 arg4 harg4 inb_S2048x1024_S2048x1024_0_0) j

/-- Each further block is added. -/
theorem sout_B (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (hc2 : ¬cond0_2 i)
    (x0 : Vec Ideal S2048x1024 .bf16) (x1 : Vec Ideal S2048x1024 .bf16) (xs0 : Vec Ideal S1024x1024 .f32) (h0 : ∀ j, x0 j = A (o + (j 0).val) (p + (j 1).val)) (h1 : ∀ j, x1 j = B (o + (j 0).val) (q + (j 1).val)) :
    sout0_B_0 c i arg3 harg3 arg4 harg4 arg5 harg5 arg6 harg6 hc0 hc1 hc2 x0 x1 xs0 = fun y => plus (xs0 y) (part A B 2048 o (p + (y 0).val) (q + (y 1).val)) := by
  unfold sout0_B_0
  rw [View.read_writes_eq_canon _ _ _ (scover0_B_0 c i arg3 harg3 arg4 harg4 arg5 harg5 arg6 harg6 hc0 hc1 hc2 x0 x1 xs0)]
  funext y
  refine View.canon_apply_of_pieces (fun y => plus (xs0 y) (part A B 2048 o (p + (y 0).val) (q + (y 1).val))) _ ?_ y (scover0_B_0 c i arg3 harg3 arg4 harg4 arg5 harg5 arg6 harg6 hc0 hc1 hc2 x0 x1 xs0 y)
  unfold kernelRun0_B
  dsimp only
  sl_unfold_words
  simp only [List.mem_cons, List.not_mem_nil, or_false, forall_eq_or_imp, forall_eq]
  intro j
  rw [emb_self]
  exact pay3_at x0 x1 xs0 h0 h1 arg3 harg3 arg4 harg4 arg6 harg6 inb_S2048x1024_S2048x1024_0_0 inb_S2048x1024_S2048x1024_0_0 inb_S1024x1024_S1024x1024_0_0 j

/-- The last block's sum is the result. -/
theorem out_C (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (hc2 : cond0_2 i)
    (x0 : Vec Ideal S2048x1024 .bf16) (x1 : Vec Ideal S2048x1024 .bf16) (xs0 : Vec Ideal S1024x1024 .f32) (h0 : ∀ j, x0 j = A (o + (j 0).val) (p + (j 1).val)) (h1 : ∀ j, x1 j = B (o + (j 0).val) (q + (j 1).val)) :
    out0_C_2 c i arg3 harg3 arg4 harg4 arg5 harg5 arg6 harg6 hc0 hc1 hc2 x0 x1 xs0 = fun y => plus (xs0 y) (part A B 2048 o (p + (y 0).val) (q + (y 1).val)) := by
  unfold out0_C_2
  rw [View.read_writes_eq_canon _ _ _ (cover0_C_2 c i arg3 harg3 arg4 harg4 arg5 harg5 arg6 harg6 hc0 hc1 hc2 x0 x1 xs0)]
  funext y
  refine View.canon_apply_of_pieces (fun y => plus (xs0 y) (part A B 2048 o (p + (y 0).val) (q + (y 1).val))) _ ?_ y (cover0_C_2 c i arg3 harg3 arg4 harg4 arg5 harg5 arg6 harg6 hc0 hc1 hc2 x0 x1 xs0 y)
  unfold kernelRun0_C
  dsimp only
  sl_unfold_words
  simp only [List.mem_cons, List.not_mem_nil, or_false, forall_eq_or_imp, forall_eq]
  intro j
  rw [emb_self, View.readCov_cons_toLoadRect, pay4_at]
  exact pay3_at x0 x1 xs0 h0 h1 arg3 harg3 arg4 harg4 arg6 harg6 inb_S2048x1024_S2048x1024_0_0 inb_S2048x1024_S2048x1024_0_0 inb_S1024x1024_S1024x1024_0_0 j

variable (m : (ℓ : Loc nD τ sig) → Buf (Elt Ideal) ℓ) (ρ : Dev nD → PrngReg)

/-- The two operands, as the launch finds them. -/
abbrev L (c : Dev nD) : ℕ → ℕ → EReal := rd (n := 8192) (k := 1024) (V m c main_v14)
abbrev R (c : Dev nD) : ℕ → ℕ → EReal := rd (n := 8192) (k := 2048) (V m c main_arg4)

theorem ix_0 : ∀ t : Fin grid0.N, win0_0.index t 0 = t.val % 4 ∧ win0_0.index t 1 = t.val / 8 := by decide +kernel
theorem ix_1 : ∀ t : Fin grid0.N, win0_1.index t 0 = t.val % 4 ∧ win0_1.index t 1 = t.val / 4 % 2 := by decide +kernel

theorem rb_0 (c : Dev nD) (t : Fin cfg0.N) (j : S2048x1024.Idx) :
    (iblk m c 0 t : S2048x1024.Idx → EReal) j = L m c (2048 * (t.val % 4) + (j 0).val) (1024 * (t.val / 8) + (j 1).val) := by
  unfold iblk
  rw [View.read_apply]
  show V m c main_v14 _ = _
  refine rd_eq _ _ ?_ ?_
  · show win0_0.index t 0 * 2048 + 1 * (j 0).val = _; rw [(ix_0 t).1]; omega
  · show win0_0.index t 1 * 1024 + 1 * (j 1).val = _; rw [(ix_0 t).2]; omega
theorem rb_1 (c : Dev nD) (t : Fin cfg0.N) (j : S2048x1024.Idx) :
    (iblk m c 1 t : S2048x1024.Idx → EReal) j = R m c (2048 * (t.val % 4) + (j 0).val) (1024 * (t.val / 4 % 2) + (j 1).val) := by
  unfold iblk
  rw [View.read_apply]
  show V m c main_arg4 _ = _
  refine rd_eq _ _ ?_ ?_
  · show win0_1.index t 0 * 2048 + 1 * (j 0).val = _; rw [(ix_1 t).1]; omega
  · show win0_1.index t 1 * 1024 + 1 * (j 1).val = _; rw [(ix_1 t).2]; omega

theorem st_A (c : Dev nD) (t : Fin cfg0.N) (h0 : t.val % 4 = 0) (h1 : ¬1 ≤ t.val % 4) (h2 : ¬t.val % 4 = 3)
    (h3 : ∀ j : S2048x1024.Idx, (iblk m c 0 t : S2048x1024.Idx → EReal) j = A (o + (j 0).val) (p + (j 1).val))
    (h4 : ∀ j : S2048x1024.Idx, (iblk m c 1 t : S2048x1024.Idx → EReal) j = B (o + (j 0).val) (q + (j 1).val)) :
    (outsAt0 m c t.val t.isLt).2 = fun y => part A B 2048 o (p + (y 0).val) (q + (y 1).val) := by
  exact of_snd (outsAt0_A m c t h0 h1 h2) (sout_A c (grid0.coords t) (ms0_0 t) (hs0_0 t) (ms0_1 t) (hs0_1 t) (ms0_2 t) (hs0_2 t) scM0_0 (Memref.isWhole_whole _)
    ((hcond0_0 t).mpr h0) (fun h => h1 ((hcond0_1 t).mp h)) (fun h => h2 ((hcond0_2 t).mp h)) (iblk m c 0 t) (iblk m c 1 t)  h3 h4)
theorem st_B (c : Dev nD) (t : Fin cfg0.N) (h0 : ¬t.val % 4 = 0) (h1 : 1 ≤ t.val % 4) (h2 : ¬t.val % 4 = 3)
    (h3 : ∀ j : S2048x1024.Idx, (iblk m c 0 t : S2048x1024.Idx → EReal) j = A (o + (j 0).val) (p + (j 1).val))
    (h4 : ∀ j : S2048x1024.Idx, (iblk m c 1 t : S2048x1024.Idx → EReal) j = B (o + (j 0).val) (q + (j 1).val)) :
    (outsAt0 m c t.val t.isLt).2 = fun y => plus ((outsAt0 m c (t.val - 1) (Nat.lt_of_le_of_lt (Nat.sub_le _ _) t.isLt)).2 y) (part A B 2048 o (p + (y 0).val) (q + (y 1).val)) := by
  exact of_snd (outsAt0_B m c t h0 h1 h2) (sout_B c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) (fun h => h2 ((hcond0_2 t).mp h)) (iblk m c 0 t) (iblk m c 1 t) (outsAt0 m c (t.val - 1) (Nat.lt_of_le_of_lt (Nat.sub_le _ _) t.isLt)).2 h3 h4)
theorem st_C (c : Dev nD) (t : Fin cfg0.N) (h0 : ¬t.val % 4 = 0) (h1 : 1 ≤ t.val % 4) (h2 : t.val % 4 = 3)
    (h3 : ∀ j : S2048x1024.Idx, (iblk m c 0 t : S2048x1024.Idx → EReal) j = A (o + (j 0).val) (p + (j 1).val))
    (h4 : ∀ j : S2048x1024.Idx, (iblk m c 1 t : S2048x1024.Idx → EReal) j = B (o + (j 0).val) (q + (j 1).val)) :
    (outsAt0 m c t.val t.isLt).1 = fun y => plus ((outsAt0 m c (t.val - 1) (Nat.lt_of_le_of_lt (Nat.sub_le _ _) t.isLt)).2 y) (part A B 2048 o (p + (y 0).val) (q + (y 1).val)) := by
  exact of_fst (outsAt0_C m c t h0 h1 h2) (out_C c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) ((hcond0_2 t).mpr h2) (iblk m c 0 t) (iblk m c 1 t) (outsAt0 m c (t.val - 1) (Nat.lt_of_le_of_lt (Nat.sub_le _ _) t.isLt)).2 h3 h4)

/-- What the scratch holds after a point that is not the last of its four. -/
theorem acc_at (c : Dev nD) : ∀ (n : ℕ) (hn : n < cfg0.N), n % 4 < 3 → (outsAt0 m c n hn).2
    = fun y => ∑ s ∈ Finset.range (n % 4 + 1), part (L m c) (R m c) 2048 (2048 * s) (1024 * (n / 8) + (y 0).val) (1024 * (n / 4 % 2) + (y 1).val)
  | n, hn, hk => by
    by_cases h0 : n % 4 = 0
    · refine (st_A m c ⟨n, hn⟩ h0 (by show ¬1 ≤ n % 4; omega) (by show ¬n % 4 = 3; omega) (rb_0 m c ⟨n, hn⟩) (rb_1 m c ⟨n, hn⟩)).trans ?_
      funext y
      show part (L m c) (R m c) 2048 (2048 * (n % 4)) (1024 * (n / 8) + (y 0).val) (1024 * (n / 4 % 2) + (y 1).val) = _
      rw [h0, Nat.zero_add, Finset.sum_range_one]
    · refine (st_B m c ⟨n, hn⟩ h0 (by show 1 ≤ n % 4; omega) (by show ¬n % 4 = 3; omega) (rb_0 m c ⟨n, hn⟩) (rb_1 m c ⟨n, hn⟩)).trans ?_
      funext y
      show _ + part (L m c) (R m c) 2048 (2048 * (n % 4)) (1024 * (n / 8) + (y 0).val) (1024 * (n / 4 % 2) + (y 1).val) = _
      rw [acc_at c (n - 1) (Nat.lt_of_le_of_lt (Nat.sub_le _ _) hn) (by omega), Finset.sum_range_succ _ (n % 4)]
      rw [show (n - 1) % 4 + 1 = n % 4 by omega, show (n - 1) / 4 % 2 = n / 4 % 2 by omega, show (n - 1) / 8 = n / 8 by omega]
  termination_by n => n

/-- What the last of four points writes. -/
theorem out_at (c : Dev nD) (n : ℕ) (hn : n < cfg0.N) (hk : n % 4 = 3) (y : S1024x1024.Idx) : (outsAt0 m c n hn).1 y
    = ∑ g : Fin 8192, L m c g.val (1024 * (n / 8) + (y 0).val) * R m c g.val (1024 * (n / 4 % 2) + (y 1).val) := by
  refine (congrFun (st_C m c ⟨n, hn⟩ (by show ¬n % 4 = 0; omega) (by show 1 ≤ n % 4; omega) hk (rb_0 m c ⟨n, hn⟩) (rb_1 m c ⟨n, hn⟩)) y).trans ?_
  show _ + part (L m c) (R m c) 2048 (2048 * (n % 4)) (1024 * (n / 8) + (y 0).val) (1024 * (n / 4 % 2) + (y 1).val) = _
  rw [acc_at m c (n - 1) (Nat.lt_of_le_of_lt (Nat.sub_le _ _) hn) (by omega), ← four, Finset.sum_range_succ _ 3]
  rw [show (n - 1) % 4 + 1 = 3 by omega, show (n - 1) / 4 % 2 = n / 4 % 2 by omega, show (n - 1) / 8 = n / 8 by omega, hk]

/-- The launch's result, an entry at a time. -/
theorem G2_at (c : Dev nD) (i : S1024x2048.Idx) : (G2 m c : S1024x2048.Idx → EReal) i = ∑ g : Fin 8192, L m c g.val (i 0).val * R m c g.val (i 1).val := by
  have l0 : (i 0).val < 1024 := (i 0).isLt
  have l1 : (i 1).val < 2048 := (i 1).isLt
  have hN : cfg0.N = 8 := N_0
  have h : pt2Of i < cfg0.N := by rw [hN]; unfold pt2Of run2Of; omega
  unfold G2
  rw [dif_pos h, ← outsAt0_sweep m c (pt2Of i) h, out_at m c (pt2Of i) h (by unfold pt2Of; omega)]
  have e0 : 1024 * (pt2Of i / 8) + (i 0).val % 1024 = (i 0).val := by unfold pt2Of run2Of; omega
  have e1 : 1024 * (pt2Of i / 4 % 2) + (i 1).val % 1024 = (i 1).val := by unfold pt2Of run2Of; omega
  show ∑ g : Fin 8192, L m c g.val (1024 * (pt2Of i / 8) + (i 0).val % 1024) * R m c g.val (1024 * (pt2Of i / 4 % 2) + (i 1).val % 1024) = _
  rw [e0, e1]

/-- What the host forms for the left operand is the reference's. -/
theorem V_left (c : Dev nD) : (V m c main_v14 : S8192x1024.Idx → EReal) = Cert.Reference7Ideal.Read.val_main_v14 (F := Ideal) (m ((c : Thread nD τ).loc main_arg0)) (m ((c : Thread nD τ).loc main_arg1)) (m ((c : Thread nD τ).loc main_arg2)) := by
  unfold V
  simp only [hostOps0, List.flatten_cons, List.flatten_nil, List.append_nil, List.cons_append, List.nil_append, StableHlo.TRef.binary, StableHlo.TRef.nullary, StableHlo.TRef.unary, StableHlo.TRef.toBuf, StableHlo.TRef.ofBuf, cast_eq]
  after_results
  rfl

/-- The reference's product, an entry at a time. -/
theorem ref_at (c : Dev nD) (i : S1024x2048.Idx) :
    Cert.Reference7Ideal.Read.val_main_v19 (F := Ideal) (m ((c : Thread nD τ).loc main_arg0)) (m ((c : Thread nD τ).loc main_arg1)) (m ((c : Thread nD τ).loc main_arg2)) (m ((c : Thread nD τ).loc main_arg4)) i = (G2 m c : S1024x2048.Idx → EReal) i := by
  rw [G2_at]
  refine (Cert.Reference7Ideal.Read.val_main_v18_apply (F := Ideal) _ _ _ _ i).trans ((Cert.Reference7Ideal.Read.val_main_v17_apply _ _ _ _ _).trans ?_)
  refine Finset.sum_congr rfl fun k _ => ?_
  rw [mul_comm]
  refine congrArg₂ (· * ·) ?_ ?_
  · exact (congrFun (V_left m c).symm _).trans (rd_eq _ _ rfl rfl)
  · refine Eq.trans ?_ (congrArg (fun f => rd (n := 8192) (k := 2048) f k.val (i 1).val) (V_main_arg4 m c)).symm
    exact rd_eq (m ((c : Thread nD τ).loc main_arg4)) _ rfl rfl

end Cert.Kernel7Ideal.Mm

namespace Cert.Mm7

/-- Kernel and reference: the same gradient of the weight. -/
theorem algebraic : Cert.algebraic_Kernel7Ideal_Reference7Ideal := by
  intro m g m' g' _ ha
  refine ⟨fun c => Cert.Kernel7Ideal.Value.G2 m c, Cert.Kernel7Ideal.Value.run m g, ?_⟩
  refine (θ_run Cert.Reference7Ideal.defs _ _).mono (fun r h c => ⟨(h c).1.trans ?_, (h c).2⟩) (Cert.Reference7Ideal.Value.run (F := Ideal) m' g')
  obtain ⟨a0, a1, a2, a3, a4⟩ := ha c
  have b0 : m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0) := a0
  have b1 : m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1) := a1
  have b2 : m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2) := a2
  have b3 : m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3) := a3
  have b4 : m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4) := a4
  refine (Cert.Reference7Ideal.Read.val_main_v19_eq _ _ _ _).trans ?_
  rw [b0, b1, b2, b4]
  funext i
  exact Cert.Kernel7Ideal.Mm.ref_at m c i

theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

end Cert.Mm7
end
-- ==== Proof.Act.lean ====
/- The first half of the SwiGLU block's forward pass: the product with the input weights, and the activation. -/
module

public import proofs.«01_k».proof.Proof.Mm7
public import proofs.«01_k».proof.Proof.Gen.Kernel8Ideal.Value
public import proofs.«01_k».proof.Proof.Gen.Reference8Ideal.Run
public import proofs.«01_k».proof.Proof.Gen.Reference8Ideal.Read
public import proofs.«01_k».proof.Defs
public import Idealize.ShloMosaic.Lib.KernelVsHost
public import Idealize.ShloMosaic.Lib.StableHlo.Run
public import Idealize.ShloMosaic.Lib.StackMember
public import Idealize.ShloMosaic.Lib.Pointwise
public import Idealize.ShloMosaic.Lib.MatmulPlain

@[expose] public section

set_option maxRecDepth 16384

noncomputable section

open Idealize.ShloMosaic hiding ix1 ix2 ix3
open Idealize.ShloMosaic.ValueIdx Idealize.ShloMosaic.TcCoe Idealize.SL.Sem

namespace Cert.Act

/-- A row with a column. -/
def pd (A B : ℕ → ℕ → EReal) (g c : ℕ) : EReal := ∑ e : Fin 1024, A g e.val * B e.val c
/-- The activation of a gate and an up. -/
def sw (g u : EReal) : EReal := g * Ideal.logistic g * u
/-- The activation, columns in the reference's order. -/
def act (A B : ℕ → ℕ → EReal) (g c : ℕ) : EReal := sw (pd A B g c) (pd A B g (2816 + c))

end Cert.Act

namespace Cert.Kernel8Ideal.Act

open Cert.Kernel8Ideal Cert.Kernel8Ideal.Gen Cert.Kernel8Ideal.Value Cert.Act Cert.Ffn Cert.Conv
open Idealize.ShloMosaic.Pipeline (Dat)

variable [Facts]

variable {A B : ℕ → ℕ → EReal} {o q k : ℕ}

theorem pay1_at (v0 : Vec Ideal S256x1024 .bf16) (v1 : Vec Ideal S1x1024x2816 .bf16)
    (h0 : ∀ j, v0 j = A (o + (j 0).val) (j 1).val) (h1 : ∀ j, v1 j = B (j 1).val (q + (j 2).val)) (j : S256x2816.Idx) :
    k0_pay1 v0 v1 j = pd A B (o + (j 0).val) (q + (j 1).val) := by
  unfold k0_pay1
  dsimp only
  rw [show j = ix2 (j 0) (j 1) from ValueIdx.eq_ix2 j]
  refine (Ideal.matmul_plain_apply (M := 256) (K := 1024) (N := 2816) none v0 (shapeCast S1024x2816 v1 shapeCasts_S1x1024x2816_S1024x2816) _ (j 0) (j 1)).trans ?_
  rw [show (constant S256x2816 .f32 0x00000000#32 : FVec Ideal S256x2816 .f32) (ix2 (j 0) (j 1)) = 0 from Ideal.ofBits_zero_f32, zero_add]
  refine Finset.sum_congr rfl fun k _ => ?_
  refine congrArg₂ (· * ·) (h0 _) ?_
  rw [shapeCast_apply v1 _ _ (ix3 (0 : Fin 1) k (⟨(j 1).val, (j 1).isLt⟩ : Fin 2816)) (by
    rw [Shape.rowMajor_val_two, Shape.rowMajor_val_three]
    show (0 * 1024 + k.val) * 2816 + (j 1).val = k.val * 2816 + (j 1).val
    omega), h1]

/-- The activation of a product's two halves. -/
theorem pay3_at (v : FVec Ideal S256x2816 .f32) (f : ℕ → ℕ → EReal) (h : ∀ j, v j = f (j 0).val (j 1).val) (j : S256x1408.Idx) :
    k0_pay3 v j = sw (f (j 0).val (j 1).val) (f (j 0).val (1408 + (j 1).val)) := by
  have l0 : (j 0).val < 256 := (j 0).isLt
  have l1 : (j 1).val < 1408 := (j 1).isLt
  unfold k0_pay3
  dsimp only
  have e0 : extractStridedSlice S256x1408 ![0, 0] v slices_S256x2816_o0_0_S256x1408 j = f (j 0).val (j 1).val :=
    (extractStridedSlice_apply _ v _ j (ix2 (⟨(j 0).val, l0⟩ : Fin 256) (⟨(j 1).val, by omega⟩ : Fin 2816)) (fun a => by
      match a with | ⟨0, _⟩ => exact (Nat.zero_add _).symm | ⟨1, _⟩ => exact (Nat.zero_add _).symm)).trans (h _)
  have e1 : extractStridedSlice S256x1408 ![0, 1408] v slices_S256x2816_o0_1408_S256x1408 j = f (j 0).val (1408 + (j 1).val) :=
    (extractStridedSlice_apply _ v _ j (ix2 (⟨(j 0).val, l0⟩ : Fin 256) (⟨1408 + (j 1).val, by omega⟩ : Fin 2816)) (fun a => by
      match a with | ⟨0, _⟩ => exact (Nat.zero_add _).symm | ⟨1, _⟩ => rfl)).trans (h _)
  rw [← e0, ← e1]
  rfl

theorem ld_0 (x0 : Vec Ideal S1024x1024 .bf16) (h0 : ∀ j, x0 j = A (o + (j 0).val) (j 1).val) (inb) (j : S256x1024.Idx) :
    View.ld x0 (Rect.unit (s := S1024x1024) ![k, 0] S256x1024.size inb) j = A (o + k + (j 0).val) (j 1).val := by
  refine (h0 _).trans ?_
  show A (o + (k + 1 * (j 0).val)) (0 + 1 * (j 1).val) = _
  rw [Nat.one_mul, Nat.one_mul, Nat.zero_add, Nat.add_assoc]
theorem ld_1 (x1 : Vec Ideal S1x1024x2816 .bf16) (h1 : ∀ j, x1 j = B (j 1).val (q + (j 2).val)) (j : S1x1024x2816.Idx) :
    View.ld x1 r0_1 j = B (j 1).val (q + (j 2).val) := by
  refine (h1 _).trans ?_
  show B (0 + 1 * (j 1).val) (q + (0 + 1 * (j 2).val)) = _
  rw [Nat.one_mul, Nat.one_mul, Nat.zero_add, Nat.zero_add]

/-- What the two blocks hold. -/
def blk2 (A B : ℕ → ℕ → EReal) (o q : ℕ) : Vec Ideal S1024x2816 .bf16 := fun y => pd A B (o + (y 0).val) (q + (y 1).val)
def blk3 (A B : ℕ → ℕ → EReal) (o q : ℕ) : Vec Ideal S1024x1408 .bf16 :=
  fun y => sw (pd A B (o + (y 0).val) (q + (y 1).val)) (pd A B (o + (y 0).val) (q + (1408 + (y 1).val)))

/-- A piece of 256 rows of the product. -/
theorem piece (x0 : Vec Ideal S1024x1024 .bf16) (x1 : Vec Ideal S1x1024x2816 .bf16) (h0 : ∀ j, x0 j = A (o + (j 0).val) (j 1).val)
    (h1 : ∀ j, x1 j = B (j 1).val (q + (j 2).val)) (inb) (j : S256x2816.Idx) :
    k0_pay1 (View.ld x0 (Rect.unit (s := S1024x1024) ![k, 0] S256x1024.size inb)) (View.ld x1 r0_1) j = pd A B (o + k + (j 0).val) (q + (j 1).val) :=
  pay1_at _ _ (ld_0 x0 h0 inb) (ld_1 x1 h1) j

/-- The products' piece in its block. -/
theorem piece2 (x0 : Vec Ideal S1024x1024 .bf16) (x1 : Vec Ideal S1x1024x2816 .bf16) (h0 : ∀ j, x0 j = A (o + (j 0).val) (j 1).val)
    (h1 : ∀ j, x1 j = B (j 1).val (q + (j 2).val)) (inb inb') (j : S256x2816.Idx) :
    k0_pay1 (View.ld x0 (Rect.unit (s := S1024x1024) ![k, 0] S256x1024.size inb)) (View.ld x1 r0_1) j
      = (blk2 A B o q) ((Rect.unit (s := S1024x2816) ![k, 0] S256x2816.size inb').emb j) := by
  rw [piece x0 x1 h0 h1 inb j]
  show _ = pd A B (o + (k + 1 * (j 0).val)) (q + (0 + 1 * (j 1).val))
  rw [Nat.one_mul, Nat.one_mul, Nat.zero_add, Nat.add_assoc]
/-- The activations' piece in its block. -/
theorem piece3 (x0 : Vec Ideal S1024x1024 .bf16) (x1 : Vec Ideal S1x1024x2816 .bf16) (h0 : ∀ j, x0 j = A (o + (j 0).val) (j 1).val)
    (h1 : ∀ j, x1 j = B (j 1).val (q + (j 2).val)) (inb inb') (j : S256x1408.Idx) :
    k0_pay3 (k0_pay1 (View.ld x0 (Rect.unit (s := S1024x1024) ![k, 0] S256x1024.size inb)) (View.ld x1 r0_1)) j
      = (blk3 A B o q)
          ((Rect.unit (s := S1024x1408) ![k, 0] S256x1408.size inb').emb j) := by
  rw [pay3_at _ (fun g c => pd A B (o + k + g) (q + c)) (piece x0 x1 h0 h1 inb) j]
  show _ = sw (pd A B (o + (k + 1 * (j 0).val)) (q + (0 + 1 * (j 1).val))) (pd A B (o + (k + 1 * (j 0).val)) (q + (1408 + (0 + 1 * (j 1).val))))
  rw [Nat.one_mul, Nat.one_mul, Nat.zero_add, Nat.add_assoc o k]

theorem out_2 (x0 : Vec Ideal S1024x1024 .bf16) (x1 : Vec Ideal S1x1024x2816 .bf16) (h0 : ∀ j, x0 j = A (o + (j 0).val) (j 1).val)
    (h1 : ∀ j, x1 j = B (j 1).val (q + (j 2).val)) (y : S1024x2816.Idx) : out0_2 x0 x1 y = pd A B (o + (y 0).val) (q + (y 1).val) := by
  unfold out0_2
  refine View.canon_apply_of_pieces (blk2 A B o q) _ ?_ y (cover0_2 _ _ _ _ y)
  simp only [List.mem_cons, List.not_mem_nil, or_false, forall_eq_or_imp, forall_eq]
  exact ⟨piece2 x0 x1 h0 h1 inb_S1024x1024_S256x1024_768_0 inb_S1024x2816_S256x2816_768_0, piece2 x0 x1 h0 h1 inb_S1024x1024_S256x1024_512_0 inb_S1024x2816_S256x2816_512_0,
    piece2 x0 x1 h0 h1 inb_S1024x1024_S256x1024_256_0 inb_S1024x2816_S256x2816_256_0, piece2 x0 x1 h0 h1 inb_S1024x1024_S256x1024_0_0 inb_S1024x2816_S256x2816_0_0⟩
theorem out_3 (x0 : Vec Ideal S1024x1024 .bf16) (x1 : Vec Ideal S1x1024x2816 .bf16) (h0 : ∀ j, x0 j = A (o + (j 0).val) (j 1).val)
    (h1 : ∀ j, x1 j = B (j 1).val (q + (j 2).val)) (y : S1024x1408.Idx) :
    out0_3 x0 x1 y = sw (pd A B (o + (y 0).val) (q + (y 1).val)) (pd A B (o + (y 0).val) (q + (1408 + (y 1).val))) := by
  unfold out0_3
  refine View.canon_apply_of_pieces (blk3 A B o q) _ ?_ y (cover0_3 _ _ _ _ y)
  simp only [List.mem_cons, List.not_mem_nil, or_false, forall_eq_or_imp, forall_eq]
  exact ⟨piece3 x0 x1 h0 h1 inb_S1024x1024_S256x1024_768_0 inb_S1024x1408_S256x1408_768_0, piece3 x0 x1 h0 h1 inb_S1024x1024_S256x1024_512_0 inb_S1024x1408_S256x1408_512_0,
    piece3 x0 x1 h0 h1 inb_S1024x1024_S256x1024_256_0 inb_S1024x1408_S256x1408_256_0, piece3 x0 x1 h0 h1 inb_S1024x1024_S256x1024_0_0 inb_S1024x1408_S256x1408_0_0⟩

variable (m : (ℓ : Loc nD τ sig) → Buf (Elt Ideal) ℓ) (ρ : Dev nD → PrngReg)

/-- The two arguments. -/
abbrev H (c : Dev nD) : ℕ → ℕ → EReal := rd (n := 8192) (k := 1024) (m ((c : Thread nD τ).loc main_arg0))
abbrev W (c : Dev nD) : ℕ → ℕ → EReal := rd (n := 1024) (k := 5632) (m ((c : Thread nD τ).loc main_arg1))
/-- The weights in the order of the launch. -/
abbrev W' (c : Dev nD) : ℕ → ℕ → EReal := fun e d => W m c e (pr d)

/-- The host's paired weights. -/
def hW (w : FVec Ideal S1024x5632 .bf16) : FVec Ideal S1024x5632 .bf16 :=
  concatenate S1024x5632 1 [⟨S1024x1408, extractStridedSlice S1024x1408 ![0, 0] w slices_S1024x5632_S1024x1408_0_0⟩,
    ⟨S1024x1408, extractStridedSlice S1024x1408 ![0, 2816] w slices_S1024x5632_S1024x1408_0_2816⟩,
    ⟨S1024x1408, extractStridedSlice S1024x1408 ![0, 1408] w slices_S1024x5632_S1024x1408_0_1408⟩,
    ⟨S1024x1408, extractStridedSlice S1024x1408 ![0, 4224] w slices_S1024x5632_S1024x1408_0_4224⟩]
    concatenates_S1024x1408_S1024x1408_S1024x1408_S1024x1408_S1024x5632_d1
theorem hW_at (w : FVec Ideal S1024x5632 .bf16) (j : S1024x5632.Idx) : hW w j = rd (n := 1024) (k := 5632) w (j 0).val (pr (j 1).val) := by
  refine four_at (n := 1024) _ _ _ _ (rd (n := 1024) (k := 5632) w) _ (fun i => ?_) (fun i => ?_) (fun i => ?_) (fun i => ?_) j
  · exact rd_eq w _ (Nat.zero_add _) (Nat.zero_add _)
  · exact rd_eq w _ (Nat.zero_add _) rfl
  · exact rd_eq w _ (Nat.zero_add _) rfl
  · exact rd_eq w _ (Nat.zero_add _) rfl
theorem V_w (c : Dev nD) : V m c main_v5 = broadcastInDim S1x1024x5632 ![1, 2] bcast_S1024x5632_S1x1024x5632_1_2 (hW (m ((c : Thread nD τ).loc main_arg1))) := by
  unfold V
  simp only [hostOps0, List.flatten_cons, List.flatten_nil, List.append_nil, List.cons_append, List.nil_append]
  after_results
  rfl
theorem w_at (c : Dev nD) (j : S1x1024x5632.Idx) : (V m c main_v5 : S1x1024x5632.Idx → EReal) j = W' m c (j 1).val (j 2).val := by
  have l1 : (j 1).val < 1024 := (j 1).isLt
  have l2 : (j 2).val < 5632 := (j 2).isLt
  rw [V_w]
  refine (broadcastInDim_apply _ _ _ j (ix2 (⟨(j 1).val, l1⟩ : Fin 1024) (⟨(j 2).val, l2⟩ : Fin 5632)) (fun a => by match a with | ⟨0, _⟩ => rfl | ⟨1, _⟩ => rfl)).trans ?_
  exact hW_at _ _

theorem ix_0 : ∀ t : Fin grid0.N, win0_0.index t 0 = t.val % 8 ∧ win0_0.index t 1 = 0 := by decide +kernel
theorem ix_1 : ∀ t : Fin grid0.N, win0_1.index t 0 = 0 ∧ win0_1.index t 1 = 0 ∧ win0_1.index t 2 = t.val / 8 := by decide +kernel
theorem ix_2 : ∀ t : Fin grid0.N, win0_2.index t 0 = t.val % 8 ∧ win0_2.index t 1 = t.val / 8 := by decide +kernel
theorem ix_3 : ∀ t : Fin grid0.N, win0_3.index t 0 = t.val % 8 ∧ win0_3.index t 1 = t.val / 8 := by decide +kernel

theorem rb_0 (c : Dev nD) (t : Fin cfg0.N) (j : S1024x1024.Idx) :
    (iblk m c 0 t : S1024x1024.Idx → EReal) j = H m c (1024 * (t.val % 8) + (j 0).val) (j 1).val := by
  unfold iblk
  rw [View.read_apply]
  show V m c main_arg0 _ = _
  rw [V_main_arg0]
  refine rd_eq _ _ ?_ ?_
  · show win0_0.index t 0 * 1024 + 1 * (j 0).val = _; rw [(ix_0 t).1]; omega
  · show win0_0.index t 1 * 1024 + 1 * (j 1).val = _; rw [(ix_0 t).2]; omega
theorem rb_1 (c : Dev nD) (t : Fin cfg0.N) (j : S1x1024x2816.Idx) :
    (iblk m c 1 t : S1x1024x2816.Idx → EReal) j = W' m c (j 1).val (2816 * (t.val / 8) + (j 2).val) := by
  unfold iblk
  rw [View.read_apply]
  show V m c main_v5 _ = _
  rw [w_at]
  refine congrArg₂ (W' m c) ?_ ?_
  · show win0_1.index t 1 * 1024 + 1 * (j 1).val = _; rw [(ix_1 t).2.1]; omega
  · show win0_1.index t 2 * 2816 + 1 * (j 2).val = _; rw [(ix_1 t).2.2]; omega

/-- The gates and ups, columns in the order of the launch, and the activation. -/
def res_2 (c : Dev nD) : S8192x5632.Idx → EReal := fun i => pd (H m c) (W m c) (i 0).val (pr (i 1).val)
def res_3 (c : Dev nD) : S8192x2816.Idx → EReal := fun i => act (H m c) (W m c) (i 0).val (i 1).val

theorem N16 : cfg0.N = 16 := N_0

theorem final_2 (c : Dev nD) : (dats m 0 c).arrAt 2 cfg0.N = res_2 m c := by
  refine (dats m 0 c).arrAt_eq_of_cover 2 (res_2 m c) (fun t _ => ?_) fun (i : S8192x5632.Idx) => ?_
  · show (cfg0.win 2).cut (grid0.coords t) ((dats m 0 c).after 2 t) = _
    rw [after0_2]
    refine funext fun (y : S1024x2816.Idx) => ?_
    refine (out_2 (iblk m c 0 t) (iblk m c 1 t) (rb_0 m c t) (rb_1 m c t) _).trans ?_
    show pd (H m c) (W m c) (1024 * (t.val % 8) + (y 0).val) (pr (2816 * (t.val / 8) + (y 1).val)) = pd (H m c) (W m c) (win0_2.index t 0 * 1024 + 1 * (y 0).val) (pr (win0_2.index t 1 * 2816 + 1 * (y 1).val))
    rw [(ix_2 t).1, (ix_2 t).2]
    exact congrArg₂ _ (by omega) (congrArg pr (by omega))
  · have hN := N16
    have h0 : (i 0 : Nat) < 8192 := (i 0).isLt
    have h1 : (i 1 : Nat) < 5632 := (i 1).isLt
    have ht : 8 * ((i 1 : Nat) / 2816) + (i 0 : Nat) / 1024 < cfg0.N := by omega
    refine ⟨⟨8 * ((i 1 : Nat) / 2816) + (i 0 : Nat) / 1024, ht⟩, flush0_2 _, ?_⟩
    show i ∈ ((View.whole main_v6_0).slice (win0_2.rect ⟨8 * ((i 1 : Nat) / 2816) + (i 0 : Nat) / 1024, ht⟩)).set
    rw [View.set_slice_whole, Rect.mem_set_unit]
    intro a
    match a with
    | ⟨0, _⟩ =>
      show win0_2.index _ 0 * 1024 ≤ (i 0 : Nat) ∧ (i 0 : Nat) < win0_2.index _ 0 * 1024 + 1024
      rw [(ix_2 _).1]; dsimp only; omega
    | ⟨1, _⟩ =>
      show win0_2.index _ 1 * 2816 ≤ (i 1 : Nat) ∧ (i 1 : Nat) < win0_2.index _ 1 * 2816 + 2816
      rw [(ix_2 _).2]; dsimp only; omega

theorem pr_gate {p j : ℕ} (hp : p < 2) (hj : j < 1408) : pr (2816 * p + j) = 1408 * p + j := by unfold pr; split_ifs <;> omega
theorem pr_up {p j : ℕ} (hp : p < 2) (hj : j < 1408) : pr (2816 * p + (1408 + j)) = 2816 + (1408 * p + j) := by unfold pr; split_ifs <;> omega

theorem final_3 (c : Dev nD) : (dats m 0 c).arrAt 3 cfg0.N = res_3 m c := by
  refine (dats m 0 c).arrAt_eq_of_cover 3 (res_3 m c) (fun t _ => ?_) fun (i : S8192x2816.Idx) => ?_
  · show (cfg0.win 3).cut (grid0.coords t) ((dats m 0 c).after 3 t) = _
    rw [after0_3]
    refine funext fun (y : S1024x1408.Idx) => ?_
    have hp : t.val / 8 < 2 := by have := t.isLt.trans_eq N16; omega
    have hj : (y 1).val < 1408 := (y 1).isLt
    refine (out_3 (iblk m c 0 t) (iblk m c 1 t) (rb_0 m c t) (rb_1 m c t) _).trans ?_
    show sw (pd (H m c) (W m c) (1024 * (t.val % 8) + (y 0).val) (pr (2816 * (t.val / 8) + (y 1).val))) (pd (H m c) (W m c) (1024 * (t.val % 8) + (y 0).val) (pr (2816 * (t.val / 8) + (1408 + (y 1).val))))
      = act (H m c) (W m c) (win0_3.index t 0 * 1024 + 1 * (y 0).val) (win0_3.index t 1 * 1408 + 1 * (y 1).val)
    rw [(ix_3 t).1, (ix_3 t).2, pr_gate hp hj, pr_up hp hj]
    exact congrArg₂ (act (H m c) (W m c)) (by omega) (by omega)
  · have hN := N16
    have h0 : (i 0 : Nat) < 8192 := (i 0).isLt
    have h1 : (i 1 : Nat) < 2816 := (i 1).isLt
    have ht : 8 * ((i 1 : Nat) / 1408) + (i 0 : Nat) / 1024 < cfg0.N := by omega
    refine ⟨⟨8 * ((i 1 : Nat) / 1408) + (i 0 : Nat) / 1024, ht⟩, flush0_3 _, ?_⟩
    show i ∈ ((View.whole main_v6_1).slice (win0_3.rect ⟨8 * ((i 1 : Nat) / 1408) + (i 0 : Nat) / 1024, ht⟩)).set
    rw [View.set_slice_whole, Rect.mem_set_unit]
    intro a
    match a with
    | ⟨0, _⟩ =>
      show win0_3.index _ 0 * 1024 ≤ (i 0 : Nat) ∧ (i 0 : Nat) < win0_3.index _ 0 * 1024 + 1024
      rw [(ix_3 _).1]; dsimp only; omega
    | ⟨1, _⟩ =>
      show win0_3.index _ 1 * 1408 ≤ (i 1 : Nat) ∧ (i 1 : Nat) < win0_3.index _ 1 * 1408 + 1408
      rw [(ix_3 _).2]; dsimp only; omega

theorem run : θ_run defs (onTc (τ := τ) (main (F := Ideal))) ⟨m, fun _ => 0, ρ⟩ fun r => ∀ c : Dev nD,
      r.2.mem ((c : Thread nD τ).loc main_v6_0) = res_2 m c ∧ r.2.mem ((c : Thread nD τ).loc main_v6_1) = res_3 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_2 m c), (h c).2.1.trans (final_3 m c), (h c).2.2⟩) (run_blocks m ρ)

end Cert.Kernel8Ideal.Act

namespace Cert.Reference8Ideal.Act

open Cert.Reference8Ideal Cert.Reference8Ideal.Gen Cert.Reference8Ideal.Read Cert.Act Cert.Ffn Cert.Conv

variable (x0 : S8192x1024.Idx → EReal) (x1 : S1024x5632.Idx → EReal)

/-- Gates and ups. -/
abbrev GU : ℕ → ℕ → EReal := pd (rd (n := 8192) (k := 1024) x0) (rd (n := 1024) (k := 5632) x1)

theorem v2_at (i : S8192x5632.Idx) : val_main_v2 (F := Ideal) x0 x1 i = GU x0 x1 (i 0).val (i 1).val := by
  rw [val_main_v2_apply]
  exact Finset.sum_congr rfl fun k _ => congrArg₂ (· * ·) (rd_eq x0 _ rfl rfl) (rd_eq x1 _ rfl rfl)
theorem v3_at (i : S8192x2816.Idx) : val_main_v3 (F := Ideal) x0 x1 i = GU x0 x1 (i 0).val (i 1).val := by
  rw [val_main_v3_apply]
  exact v2_at x0 x1 _
theorem v4_at (i : S8192x2816.Idx) : val_main_v4 (F := Ideal) x0 x1 i = GU x0 x1 (i 0).val (2816 + (i 1).val) := by
  rw [val_main_v4_apply]
  exact v2_at x0 x1 _
theorem v10_at (i : S8192x5632.Idx) : val_main_v10 (F := Ideal) x0 x1 i = GU x0 x1 (i 0).val (pr (i 1).val) := by
  have h0 : ∀ j, val_main_v5 (F := Ideal) x0 x1 j = GU x0 x1 (j 0).val (j 1).val := fun j => by rw [val_main_v5_apply]; exact v3_at x0 x1 _
  have h1 : ∀ j, val_main_v7 (F := Ideal) x0 x1 j = GU x0 x1 (j 0).val (2816 + (j 1).val) := fun j => by rw [val_main_v7_apply]; exact v4_at x0 x1 _
  have h2 : ∀ j, val_main_v6 (F := Ideal) x0 x1 j = GU x0 x1 (j 0).val (1408 + (j 1).val) := fun j => by rw [val_main_v6_apply]; exact v3_at x0 x1 _
  have h3 : ∀ j, val_main_v8 (F := Ideal) x0 x1 j = GU x0 x1 (j 0).val (4224 + (j 1).val) := fun j => by
    rw [val_main_v8_apply]
    exact (v4_at x0 x1 _).trans (congrArg (GU x0 x1 _) (show 2816 + (1408 + (j 1).val) = 4224 + (j 1).val by omega))
  exact four_at (n := 8192) _ _ _ _ (GU x0 x1) concatenates_S8192x1408_S8192x1408_S8192x1408_S8192x1408_S8192x5632_d1 h0 h1 h2 h3 i
theorem v13_at (i : S8192x2816.Idx) : val_main_v13 (F := Ideal) x0 x1 i = act (rd (n := 8192) (k := 1024) x0) (rd (n := 1024) (k := 5632) x1) (i 0).val (i 1).val := by
  rw [val_main_v13_apply, val_main_v12_apply, val_main_v11_apply, val_main_call0_v5_apply, val_main_call0_v4_apply, val_main_call0_v3_apply, val_main_call0_v2_apply, val_main_call0_v1_apply,
    val_main_call0_v0_apply, v3_at, v4_at]
  show GU x0 x1 (i 0).val (i 1).val * Ideal.div (Ideal.ofBits .f32 0x3F800000#32) (Ideal.ofBits .f32 0x3F800000#32 + Ideal.exp (-GU x0 x1 (i 0).val (i 1).val)) * GU x0 x1 (i 0).val (2816 + (i 1).val) = _
  rw [Ideal.ofBits_one_f32]
  rfl

end Cert.Reference8Ideal.Act

namespace Cert.Act

/-- Kernel and reference: the same gates and ups, and the same activation. -/
theorem algebraic : Cert.algebraic_Kernel8Ideal_Reference8Ideal := by
  intro m g m' g' _ ha
  refine ⟨fun c => Cert.Kernel8Ideal.Act.res_2 m c, fun c => Cert.Kernel8Ideal.Act.res_3 m c, Cert.Kernel8Ideal.Act.run m g, ?_⟩
  refine (θ_run Cert.Reference8Ideal.defs _ _).mono (fun r h c => ⟨(h c).1.trans ?_, (h c).2.1.trans ?_, (h c).2.2⟩) (Cert.Reference8Ideal.Value.run (F := Ideal) m' g')
  · refine (Cert.Reference8Ideal.Read.val_main_v10_eq _ _).trans ?_
    rw [(ha c).1, (ha c).2]
    funext j
    exact Cert.Reference8Ideal.Act.v10_at _ _ j
  · refine (Cert.Reference8Ideal.Read.val_main_v13_eq _ _).trans ?_
    rw [(ha c).1, (ha c).2]
    funext j
    exact Cert.Reference8Ideal.Act.v13_at _ _ j

/-- The reference's frame. -/
theorem frame_reference : Cert.quiescent_Reference8Ideal := fun m ρ _ =>
  (θ_run Cert.Reference8Ideal.defs _ _).mono (fun r h => ⟨fun c => (h c).2.2, sem_eq_zero_of_no_sems (by decide) r.2⟩)
    (Cert.Reference8Ideal.Value.run (F := Ideal) m ρ)

end Cert.Act
end
-- ==== Proof.Proj.lean ====
/- The products of one block of rows with a whole weight: the mixers' projections forward, and the gradient of what the last of them read. -/
module

public import proofs.«01_k».proof.Proof.Act
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12Ideal.Value
public import proofs.«01_k».proof.Proof.Gen.Reference12Ideal.Run
public import proofs.«01_k».proof.Proof.Gen.Reference12Ideal.Read
public import proofs.«01_k».proof.Defs
public import Idealize.ShloMosaic.Lib.KernelVsHost
public import Idealize.ShloMosaic.Lib.StableHlo.Run
public import Idealize.ShloMosaic.Lib.StackMember
public import Idealize.ShloMosaic.Lib.Pointwise
public import Idealize.ShloMosaic.Lib.MatmulPlain

@[expose] public section

set_option maxRecDepth 16384

noncomputable section

open Idealize.ShloMosaic hiding ix1 ix2 ix3
open Idealize.ShloMosaic.ValueIdx Idealize.ShloMosaic.TcCoe Idealize.SL.Sem

namespace Cert.Proj

open Cert.Conv

/-- A row with a column. -/
def dt (K : ℕ) (A B : ℕ → ℕ → EReal) (g c : ℕ) : EReal := ∑ e : Fin K, A g e.val * B e.val c
/-- Rows as columns. -/
def tr (B : ℕ → ℕ → EReal) (e c : ℕ) : EReal := B c e

variable {M K N : ℕ} {A B : ℕ → ℕ → EReal} {o : ℕ}

/-- A block of rows times a weight. -/
theorem nn_at (v0 : FVec Ideal ⟨2, ![M, K]⟩ .bf16) (v1 : FVec Ideal ⟨3, ![1, K, N]⟩ .bf16) (hc : (⟨3, ![1, K, N]⟩ : Shape).ShapeCasts ⟨2, ![K, N]⟩)
    (h0 : ∀ j, v0 j = A (o + (j 0).val) (j 1).val) (h1 : ∀ j, v1 j = B (j 1).val (j 2).val) (j : (⟨2, ![M, N]⟩ : Shape).Idx) :
    FloatOps.matmul (DotDims.plain M K N) none v0 (shapeCast ⟨2, ![K, N]⟩ v1 hc) (constant ⟨2, ![M, N]⟩ .f32 0x00000000#32) j
      = dt K A B (o + (j 0).val) (j 1).val := by
  have hj : j = (ix2 (j 0) (j 1) : (⟨2, ![M, N]⟩ : Shape).Idx) := ValueIdx.eq_ix2 j
  rw [hj]
  refine (Ideal.matmul_plain_apply (M := M) (K := K) (N := N) none v0 (shapeCast _ v1 hc) _ (j 0) (j 1)).trans ?_
  rw [show (constant ⟨2, ![M, N]⟩ .f32 0x00000000#32 : FVec Ideal ⟨2, ![M, N]⟩ .f32) (ix2 (j 0) (j 1)) = 0 from Ideal.ofBits_zero_f32, zero_add]
  refine Finset.sum_congr rfl fun k _ => congrArg₂ (· * ·) (h0 _) ?_
  rw [shapeCast_apply v1 _ _ (ix3 (0 : Fin 1) k (⟨(j 1).val, (j 1).isLt⟩ : Fin N)) (by
    rw [Shape.rowMajor_val_two, Shape.rowMajor_val_three]
    show (0 * K + k.val) * N + (j 1).val = k.val * N + (j 1).val
    rw [Nat.zero_mul, Nat.zero_add]), h1]
  rfl
/-- A block of rows times a weight's rows. -/
theorem nt_at (v0 : FVec Ideal ⟨2, ![M, K]⟩ .bf16) (v1 : FVec Ideal ⟨3, ![1, N, K]⟩ .bf16) (hc : (⟨3, ![1, N, K]⟩ : Shape).ShapeCasts ⟨2, ![N, K]⟩)
    (h0 : ∀ j, v0 j = A (o + (j 0).val) (j 1).val) (h1 : ∀ j, v1 j = B (j 1).val (j 2).val) (j : (⟨2, ![M, N]⟩ : Shape).Idx) :
    FloatOps.matmul (DotDims.transposedRhs M K N) none v0 (shapeCast ⟨2, ![N, K]⟩ v1 hc) (constant ⟨2, ![M, N]⟩ .f32 0x00000000#32) j
      = dt K A (tr B) (o + (j 0).val) (j 1).val := by
  have hj : j = (ix2 (j 0) (j 1) : (⟨2, ![M, N]⟩ : Shape).Idx) := ValueIdx.eq_ix2 j
  rw [hj]
  refine (Ideal.matmul_transposedRhs_apply (M := M) (K := K) (N := N) none v0 (shapeCast _ v1 hc) _ (j 0) (j 1)).trans ?_
  rw [show (constant ⟨2, ![M, N]⟩ .f32 0x00000000#32 : FVec Ideal ⟨2, ![M, N]⟩ .f32) (ix2 (j 0) (j 1)) = 0 from Ideal.ofBits_zero_f32, zero_add]
  refine Finset.sum_congr rfl fun k _ => congrArg₂ (· * ·) (h0 _) ?_
  rw [shapeCast_apply v1 _ _ (ix3 (0 : Fin 1) (⟨(j 1).val, (j 1).isLt⟩ : Fin N) k) (by
    rw [Shape.rowMajor_val_two, Shape.rowMajor_val_three]
    show (0 * N + (j 1).val) * K + k.val = (j 1).val * K + k.val
    rw [Nat.zero_mul, Nat.zero_add]), h1]
  rfl

/-- Rows of a block, read. -/
theorem ld_at {n k m o' : ℕ} (x : (⟨2, ![n, k]⟩ : Shape).Idx → EReal) (h : ∀ j, x j = A (o + (j 0).val) (j 1).val)
    (inb) (j : (⟨2, ![m, k]⟩ : Shape).Idx) :
    x ((Rect.unit (s := ⟨2, ![n, k]⟩) ![o', 0] ![m, k] inb).idx j) = A (o + o' + (j 0).val) (j 1).val := by
  refine (h _).trans ?_
  show A (o + (o' + 1 * (j 0).val)) (0 + 1 * (j 1).val) = _
  rw [Nat.one_mul, Nat.one_mul, Nat.zero_add, Nat.add_assoc]
/-- A weight, read. -/
theorem ldw_at {n k : ℕ} (x : (⟨3, ![1, n, k]⟩ : Shape).Idx → EReal) (h : ∀ j, x j = B (j 1).val (j 2).val)
    (inb) (j : (⟨3, ![1, n, k]⟩ : Shape).Idx) :
    x ((Rect.unit (s := ⟨3, ![1, n, k]⟩) ![0, 0, 0] ![1, n, k] inb).idx j) = B (j 1).val (j 2).val := by
  refine (h _).trans ?_
  show B (0 + 1 * (j 1).val) (0 + 1 * (j 2).val) = _
  rw [Nat.one_mul, Nat.one_mul, Nat.zero_add, Nat.zero_add]
/-- A weight as the launch reads it, with a leading axis. -/
theorem lift_at {n k : ℕ} (w : (⟨2, ![n, k]⟩ : Shape).Idx → EReal) (hb) (j : (⟨3, ![1, n, k]⟩ : Shape).Idx) :
    broadcastInDim (⟨3, ![1, n, k]⟩ : Shape) ![1, 2] hb w j = rd (n := n) (k := k) w (j 1).val (j 2).val := by
  have l1 : (j 1).val < n := (j 1).isLt
  have l2 : (j 2).val < k := (j 2).isLt
  refine (broadcastInDim_apply _ _ _ j (ix2 (⟨(j 1).val, l1⟩ : Fin n) (⟨(j 2).val, l2⟩ : Fin k)) (fun a => ?_)).trans ?_
  · match a with
    | ⟨0, _⟩ => show (j 1).val = if n = 1 then 0 else (j 1).val; split_ifs <;> omega
    | ⟨1, _⟩ => show (j 2).val = if k = 1 then 0 else (j 2).val; split_ifs <;> omega
  exact rd_eq _ _ rfl rfl

end Cert.Proj

namespace Cert.Kernel10Ideal.Proj

open Cert.Kernel10Ideal Cert.Kernel10Ideal.Gen Cert.Kernel10Ideal.Value Cert.Proj Cert.Conv
open Idealize.ShloMosaic.Pipeline (Dat)

variable [Facts]

variable {A B : ℕ → ℕ → EReal} {o : ℕ}

theorem pay_at (v0 : Vec Ideal S1024x1024 .bf16) (v1 : Vec Ideal S1x1024x1024 .bf16)
    (h0 : ∀ j, v0 j = A (o + (j 0).val) (j 1).val) (h1 : ∀ j, v1 j = B (j 1).val (j 2).val) (j : S1024x1024.Idx) :
    k0_pay1 v0 v1 j = dt 1024 A (tr B) (o + (j 0).val) (j 1).val := by
  unfold k0_pay1
  exact nt_at (M := 1024) (K := 1024) (N := 1024) v0 v1 _ h0 h1 j

/-- The block of a step. -/
def blk (A B : ℕ → ℕ → EReal) (o : ℕ) : Vec Ideal S1024x1024 .bf16 := fun y => dt 1024 A (tr B) (o + (y 0).val) (y 1).val

theorem out_at (x0 : Vec Ideal S1024x1024 .bf16) (x1 : Vec Ideal S1x1024x1024 .bf16) (h0 : ∀ j, x0 j = A (o + (j 0).val) (j 1).val)
    (h1 : ∀ j, x1 j = B (j 1).val (j 2).val) (y : S1024x1024.Idx) : out0_2 x0 x1 y = blk A B o y := by
  unfold out0_2
  refine View.canon_apply_of_pieces (blk A B o) _ ?_ y (cover0_2 _ y)
  simp only [List.mem_cons, List.not_mem_nil, or_false, forall_eq_or_imp, forall_eq]
  intro j
  refine (pay_at (o := o + 0) _ _ (fun i => ld_at x0 h0 inb_S1024x1024_S1024x1024_0_0 i) (fun i => ldw_at x1 h1 inb_S1x1024x1024_S1x1024x1024_0_0_0 i) j).trans ?_
  show _ = dt 1024 A (tr B) (o + (0 + 1 * (j 0).val)) (0 + 1 * (j 1).val)
  rw [Nat.one_mul, Nat.one_mul, Nat.zero_add, Nat.zero_add, Nat.add_zero]

variable (m : (ℓ : Loc nD τ sig) → Buf (Elt Ideal) ℓ) (ρ : Dev nD → PrngReg)

/-- The rows and the weight. -/
abbrev H (c : Dev nD) : ℕ → ℕ → EReal := rd (n := 8192) (k := 1024) (m ((c : Thread nD τ).loc main_arg2))
abbrev W (c : Dev nD) : ℕ → ℕ → EReal := rd (n := 1024) (k := 1024) (m ((c : Thread nD τ).loc main_arg1))

theorem V_w (c : Dev nD) : V m c main_v0 = broadcastInDim S1x1024x1024 ![1, 2] bcast_S1024x1024_S1x1024x1024_1_2 (m ((c : Thread nD τ).loc main_arg1)) := by
  unfold V
  simp only [hostOps0, List.flatten_cons, List.flatten_nil, List.append_nil, List.cons_append, List.nil_append]
  after_results

theorem ix_0 : ∀ t : Fin grid0.N, win0_0.index t 0 = t.val ∧ win0_0.index t 1 = 0 := by decide +kernel
theorem ix_1 : ∀ t : Fin grid0.N, win0_1.index t 0 = 0 ∧ win0_1.index t 1 = 0 ∧ win0_1.index t 2 = 0 := by decide +kernel
theorem ix_2 : ∀ t : Fin grid0.N, win0_2.index t 0 = t.val ∧ win0_2.index t 1 = 0 := by decide +kernel

theorem rb_0 (c : Dev nD) (t : Fin cfg0.N) (j : S1024x1024.Idx) :
    (iblk m c 0 t : S1024x1024.Idx → EReal) j = H m c (1024 * t.val + (j 0).val) (j 1).val := by
  unfold iblk
  rw [View.read_apply]
  show V m c main_arg2 _ = _
  rw [V_main_arg2]
  refine rd_eq _ _ ?_ ?_
  · show win0_0.index t 0 * 1024 + 1 * (j 0).val = _; rw [(ix_0 t).1]; omega
  · show win0_0.index t 1 * 1024 + 1 * (j 1).val = _; rw [(ix_0 t).2]; omega
theorem rb_1 (c : Dev nD) (t : Fin cfg0.N) (j : S1x1024x1024.Idx) :
    (iblk m c 1 t : S1x1024x1024.Idx → EReal) j = W m c (j 1).val (j 2).val := by
  unfold iblk
  rw [View.read_apply]
  show V m c main_v0 _ = _
  rw [V_w]
  refine (lift_at (n := 1024) (k := 1024) _ _ _).trans (congrArg₂ (W m c) ?_ ?_)
  · show win0_1.index t 1 * 1024 + 1 * (j 1).val = _; rw [(ix_1 t).2.1]; omega
  · show win0_1.index t 2 * 1024 + 1 * (j 2).val = _; rw [(ix_1 t).2.2]; omega

def res (c : Dev nD) : S8192x1024.Idx → EReal := fun i => dt 1024 (H m c) (tr (W m c)) (i 0).val (i 1).val

theorem final (c : Dev nD) : (dats m 0 c).arrAt 2 cfg0.N = res m c := by
  refine (dats m 0 c).arrAt_eq_of_cover 2 (res m c) (fun t _ => ?_) fun (i : S8192x1024.Idx) => ?_
  · show (cfg0.win 2).cut (grid0.coords t) ((dats m 0 c).after 2 t) = _
    rw [after0_2]
    refine funext fun (y : S1024x1024.Idx) => ?_
    refine (out_at (iblk m c 0 t) (iblk m c 1 t) (rb_0 m c t) (rb_1 m c t) _).trans ?_
    show dt 1024 (H m c) (tr (W m c)) (1024 * t.val + (y 0).val) (y 1).val = dt 1024 (H m c) (tr (W m c)) (win0_2.index t 0 * 1024 + 1 * (y 0).val) (win0_2.index t 1 * 1024 + 1 * (y 1).val)
    rw [(ix_2 t).1, (ix_2 t).2, Nat.mul_comm, Nat.one_mul, Nat.one_mul, Nat.zero_mul, Nat.zero_add]
  · have hN : cfg0.N = 8 := N_0
    have h0 : (i 0 : Nat) < 8192 := (i 0).isLt
    have h1 : (i 1 : Nat) < 1024 := (i 1).isLt
    have ht : (i 0 : Nat) / 1024 < cfg0.N := by omega
    refine ⟨⟨(i 0 : Nat) / 1024, ht⟩, flush0_2 _, ?_⟩
    show i ∈ ((View.whole main_v1).slice (win0_2.rect ⟨(i 0 : Nat) / 1024, ht⟩)).set
    rw [View.set_slice_whole, Rect.mem_set_unit]
    intro a
    match a with
    | ⟨0, _⟩ =>
      show win0_2.index _ 0 * 1024 ≤ (i 0 : Nat) ∧ (i 0 : Nat) < win0_2.index _ 0 * 1024 + 1024
      rw [(ix_2 _).1]; dsimp only; omega
    | ⟨1, _⟩ =>
      show win0_2.index _ 1 * 1024 ≤ (i 1 : Nat) ∧ (i 1 : Nat) < win0_2.index _ 1 * 1024 + 1024
      rw [(ix_2 _).2]; dsimp only; omega

theorem run : θ_run defs (onTc (τ := τ) (main (F := Ideal))) ⟨m, fun _ => 0, ρ⟩ fun r => ∀ c : Dev nD,
      r.2.mem ((c : Thread nD τ).loc main_v1) = res m c ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) :=
  (θ_run defs _ _).mono (fun r h c => ⟨(h c).1.trans (final m c), (h c).2⟩) (run_blocks m ρ)

end Cert.Kernel10Ideal.Proj

namespace Cert.Proj10

open Cert.Reference10Ideal Cert.Reference10Ideal.Read Cert.Proj Cert.Conv

theorem ref_at (x1 : S1024x1024.Idx → EReal) (x2 : S8192x1024.Idx → EReal) (i : S8192x1024.Idx) : val_main_v5 (F := Ideal) x1 x2 i = (dt 1024 (rd (n := 8192) (k := 1024) x2) (tr (rd (n := 1024) (k := 1024) x1)) (i 0).val (i 1).val) := by
  rw [val_main_v5_apply]
  refine (val_main_v4_apply x1 x2 i).trans ?_
  exact Finset.sum_congr rfl fun k _ => congrArg₂ (· * ·) (rd_eq x2 _ rfl rfl) (rd_eq x1 _ rfl rfl)

/-- Kernel and reference: the same product. -/
theorem algebraic : Cert.algebraic_Kernel10Ideal_Reference10Ideal := by
  intro m g m' g' _ ha
  refine ⟨fun c => Cert.Kernel10Ideal.Proj.res m c, Cert.Kernel10Ideal.Proj.run m g, ?_⟩
  refine (θ_run Cert.Reference10Ideal.defs _ _).mono (fun r h c => ⟨(h c).1.trans ?_, (h c).2⟩) (Cert.Reference10Ideal.Value.run (F := Ideal) m' g')
  refine (val_main_v5_eq _ _).trans ?_
  rw [(ha c).2.1, (ha c).2.2]
  funext j
  exact ref_at _ _ j

theorem frame_reference : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

end Cert.Proj10

namespace Cert.Kernel11Ideal.Proj

open Cert.Kernel11Ideal Cert.Kernel11Ideal.Gen Cert.Kernel11Ideal.Value Cert.Proj Cert.Conv
open Idealize.ShloMosaic.Pipeline (Dat)

variable [Facts]

variable {A B : ℕ → ℕ → EReal} {o : ℕ}

theorem pay_at (v0 : Vec Ideal S512x1024 .bf16) (v1 : Vec Ideal S1x1024x2048 .bf16)
    (h0 : ∀ j, v0 j = A (o + (j 0).val) (j 1).val) (h1 : ∀ j, v1 j = B (j 1).val (j 2).val) (j : S512x2048.Idx) :
    k0_pay1 v0 v1 j = dt 1024 A B (o + (j 0).val) (j 1).val := by
  unfold k0_pay1
  exact nn_at (M := 512) (K := 1024) (N := 2048) v0 v1 _ h0 h1 j

/-- The block of a step. -/
def blk (A B : ℕ → ℕ → EReal) (o : ℕ) : Vec Ideal S512x2048 .bf16 := fun y => dt 1024 A B (o + (y 0).val) (y 1).val

theorem out_at (x0 : Vec Ideal S512x1024 .bf16) (x1 : Vec Ideal S1x1024x2048 .bf16) (h0 : ∀ j, x0 j = A (o + (j 0).val) (j 1).val)
    (h1 : ∀ j, x1 j = B (j 1).val (j 2).val) (y : S512x2048.Idx) : out0_2 x0 x1 y = blk A B o y := by
  unfold out0_2
  refine View.canon_apply_of_pieces (blk A B o) _ ?_ y (cover0_2 _ y)
  simp only [List.mem_cons, List.not_mem_nil, or_false, forall_eq_or_imp, forall_eq]
  intro j
  refine (pay_at (o := o + 0) _ _ (fun i => ld_at x0 h0 inb_S512x1024_S512x1024_0_0 i) (fun i => ldw_at x1 h1 inb_S1x1024x2048_S1x1024x2048_0_0_0 i) j).trans ?_
  show _ = dt 1024 A B (o + (0 + 1 * (j 0).val)) (0 + 1 * (j 1).val)
  rw [Nat.one_mul, Nat.one_mul, Nat.zero_add, Nat.zero_add, Nat.add_zero]

variable (m : (ℓ : Loc nD τ sig) → Buf (Elt Ideal) ℓ) (ρ : Dev nD → PrngReg)

/-- The rows and the weight. -/
abbrev H (c : Dev nD) : ℕ → ℕ → EReal := rd (n := 8192) (k := 1024) (m ((c : Thread nD τ).loc main_arg0))
abbrev W (c : Dev nD) : ℕ → ℕ → EReal := rd (n := 1024) (k := 2048) (m ((c : Thread nD τ).loc main_arg1))

theorem V_w (c : Dev nD) : V m c main_v0 = broadcastInDim S1x1024x2048 ![1, 2] bcast_S1024x2048_S1x1024x2048_1_2 (m ((c : Thread nD τ).loc main_arg1)) := by
  unfold V
  simp only [hostOps0, List.flatten_cons, List.flatten_nil, List.append_nil, List.cons_append, List.nil_append]
  after_results

theorem ix_0 : ∀ t : Fin grid0.N, win0_0.index t 0 = t.val ∧ win0_0.index t 1 = 0 := by decide +kernel
theorem ix_1 : ∀ t : Fin grid0.N, win0_1.index t 0 = 0 ∧ win0_1.index t 1 = 0 ∧ win0_1.index t 2 = 0 := by decide +kernel
theorem ix_2 : ∀ t : Fin grid0.N, win0_2.index t 0 = t.val ∧ win0_2.index t 1 = 0 := by decide +kernel

theorem rb_0 (c : Dev nD) (t : Fin cfg0.N) (j : S512x1024.Idx) :
    (iblk m c 0 t : S512x1024.Idx → EReal) j = H m c (512 * t.val + (j 0).val) (j 1).val := by
  unfold iblk
  rw [View.read_apply]
  show V m c main_arg0 _ = _
  rw [V_main_arg0]
  refine rd_eq _ _ ?_ ?_
  · show win0_0.index t 0 * 512 + 1 * (j 0).val = _; rw [(ix_0 t).1]; omega
  · show win0_0.index t 1 * 1024 + 1 * (j 1).val = _; rw [(ix_0 t).2]; omega
theorem rb_1 (c : Dev nD) (t : Fin cfg0.N) (j : S1x1024x2048.Idx) :
    (iblk m c 1 t : S1x1024x2048.Idx → EReal) j = W m c (j 1).val (j 2).val := by
  unfold iblk
  rw [View.read_apply]
  show V m c main_v0 _ = _
  rw [V_w]
  refine (lift_at (n := 1024) (k := 2048) _ _ _).trans (congrArg₂ (W m c) ?_ ?_)
  · show win0_1.index t 1 * 1024 + 1 * (j 1).val = _; rw [(ix_1 t).2.1]; omega
  · show win0_1.index t 2 * 2048 + 1 * (j 2).val = _; rw [(ix_1 t).2.2]; omega

def res (c : Dev nD) : S8192x2048.Idx → EReal := fun i => dt 1024 (H m c) (W m c) (i 0).val (i 1).val

theorem final (c : Dev nD) : (dats m 0 c).arrAt 2 cfg0.N = res m c := by
  refine (dats m 0 c).arrAt_eq_of_cover 2 (res m c) (fun t _ => ?_) fun (i : S8192x2048.Idx) => ?_
  · show (cfg0.win 2).cut (grid0.coords t) ((dats m 0 c).after 2 t) = _
    rw [after0_2]
    refine funext fun (y : S512x2048.Idx) => ?_
    refine (out_at (iblk m c 0 t) (iblk m c 1 t) (rb_0 m c t) (rb_1 m c t) _).trans ?_
    show dt 1024 (H m c) (W m c) (512 * t.val + (y 0).val) (y 1).val = dt 1024 (H m c) (W m c) (win0_2.index t 0 * 512 + 1 * (y 0).val) (win0_2.index t 1 * 2048 + 1 * (y 1).val)
    rw [(ix_2 t).1, (ix_2 t).2, Nat.mul_comm, Nat.one_mul, Nat.one_mul, Nat.zero_mul, Nat.zero_add]
  · have hN : cfg0.N = 16 := N_0
    have h0 : (i 0 : Nat) < 8192 := (i 0).isLt
    have h1 : (i 1 : Nat) < 2048 := (i 1).isLt
    have ht : (i 0 : Nat) / 512 < cfg0.N := by omega
    refine ⟨⟨(i 0 : Nat) / 512, ht⟩, flush0_2 _, ?_⟩
    show i ∈ ((View.whole main_v1).slice (win0_2.rect ⟨(i 0 : Nat) / 512, ht⟩)).set
    rw [View.set_slice_whole, Rect.mem_set_unit]
    intro a
    match a with
    | ⟨0, _⟩ =>
      show win0_2.index _ 0 * 512 ≤ (i 0 : Nat) ∧ (i 0 : Nat) < win0_2.index _ 0 * 512 + 512
      rw [(ix_2 _).1]; dsimp only; omega
    | ⟨1, _⟩ =>
      show win0_2.index _ 1 * 2048 ≤ (i 1 : Nat) ∧ (i 1 : Nat) < win0_2.index _ 1 * 2048 + 2048
      rw [(ix_2 _).2]; dsimp only; omega

theorem run : θ_run defs (onTc (τ := τ) (main (F := Ideal))) ⟨m, fun _ => 0, ρ⟩ fun r => ∀ c : Dev nD,
      r.2.mem ((c : Thread nD τ).loc main_v1) = res m c ∧ r.2.mem ((c : Thread nD τ).loc main_arg0) = m ((c : Thread nD τ).loc main_arg0) ∧ r.2.mem ((c : Thread nD τ).loc main_arg1) = m ((c : Thread nD τ).loc main_arg1) :=
  (θ_run defs _ _).mono (fun r h c => ⟨(h c).1.trans (final m c), (h c).2⟩) (run_blocks m ρ)

end Cert.Kernel11Ideal.Proj

namespace Cert.Proj11

open Cert.Reference11Ideal Cert.Reference11Ideal.Read Cert.Proj Cert.Conv

theorem ref_at (x0 : S8192x1024.Idx → EReal) (x1 : S1024x2048.Idx → EReal) (i : S8192x2048.Idx) : val_main_v3 (F := Ideal) x0 x1 i = (dt 1024 (rd (n := 8192) (k := 1024) x0) (rd (n := 1024) (k := 2048) x1) (i 0).val (i 1).val) := by
  rw [val_main_v3_apply]
  refine (val_main_v2_apply x0 x1 i).trans ?_
  exact Finset.sum_congr rfl fun k _ => congrArg₂ (· * ·) (rd_eq x0 _ rfl rfl) (rd_eq x1 _ rfl rfl)

/-- Kernel and reference: the same product. -/
theorem algebraic : Cert.algebraic_Kernel11Ideal_Reference11Ideal := by
  intro m g m' g' _ ha
  refine ⟨fun c => Cert.Kernel11Ideal.Proj.res m c, Cert.Kernel11Ideal.Proj.run m g, ?_⟩
  refine (θ_run Cert.Reference11Ideal.defs _ _).mono (fun r h c => ⟨(h c).1.trans ?_, (h c).2⟩) (Cert.Reference11Ideal.Value.run (F := Ideal) m' g')
  refine (val_main_v3_eq _ _).trans ?_
  rw [(ha c).1, (ha c).2]
  funext j
  exact ref_at _ _ j

theorem frame_reference : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

end Cert.Proj11

namespace Cert.Kernel12Ideal.Proj

open Cert.Kernel12Ideal Cert.Kernel12Ideal.Gen Cert.Kernel12Ideal.Value Cert.Proj Cert.Conv
open Idealize.ShloMosaic.Pipeline (Dat)

variable [Facts]

variable {A B : ℕ → ℕ → EReal} {o : ℕ}

theorem pay_at (v0 : Vec Ideal S1024x1024 .bf16) (v1 : Vec Ideal S1x1024x1024 .bf16)
    (h0 : ∀ j, v0 j = A (o + (j 0).val) (j 1).val) (h1 : ∀ j, v1 j = B (j 1).val (j 2).val) (j : S1024x1024.Idx) :
    k0_pay1 v0 v1 j = dt 1024 A B (o + (j 0).val) (j 1).val * Ideal.ofBits .f32 0x3E000000#32 := by
  unfold k0_pay1
  exact congrArg (fun z : EReal => z * Ideal.ofBits .f32 0x3E000000#32) (nn_at (M := 1024) (K := 1024) (N := 1024) v0 v1 _ h0 h1 j)

/-- The block of a step. -/
def blk (A B : ℕ → ℕ → EReal) (o : ℕ) : Vec Ideal S1024x1024 .bf16 := fun y => dt 1024 A B (o + (y 0).val) (y 1).val * Ideal.ofBits .f32 0x3E000000#32

theorem out_at (x0 : Vec Ideal S1024x1024 .bf16) (x1 : Vec Ideal S1x1024x1024 .bf16) (h0 : ∀ j, x0 j = A (o + (j 0).val) (j 1).val)
    (h1 : ∀ j, x1 j = B (j 1).val (j 2).val) (y : S1024x1024.Idx) : out0_2 x0 x1 y = blk A B o y := by
  unfold out0_2
  refine View.canon_apply_of_pieces (blk A B o) _ ?_ y (cover0_2 _ y)
  simp only [List.mem_cons, List.not_mem_nil, or_false, forall_eq_or_imp, forall_eq]
  intro j
  refine (pay_at (o := o + 0) _ _ (fun i => ld_at x0 h0 inb_S1024x1024_S1024x1024_0_0 i) (fun i => ldw_at x1 h1 inb_S1x1024x1024_S1x1024x1024_0_0_0 i) j).trans ?_
  show _ = dt 1024 A B (o + (0 + 1 * (j 0).val)) (0 + 1 * (j 1).val) * Ideal.ofBits .f32 0x3E000000#32
  rw [Nat.one_mul, Nat.one_mul, Nat.zero_add, Nat.zero_add, Nat.add_zero]

variable (m : (ℓ : Loc nD τ sig) → Buf (Elt Ideal) ℓ) (ρ : Dev nD → PrngReg)

/-- The rows and the weight. -/
abbrev H (c : Dev nD) : ℕ → ℕ → EReal := rd (n := 8192) (k := 1024) (m ((c : Thread nD τ).loc main_arg0))
abbrev W (c : Dev nD) : ℕ → ℕ → EReal := rd (n := 1024) (k := 1024) (m ((c : Thread nD τ).loc main_arg1))

theorem V_w (c : Dev nD) : V m c main_v0 = broadcastInDim S1x1024x1024 ![1, 2] bcast_S1024x1024_S1x1024x1024_1_2 (m ((c : Thread nD τ).loc main_arg1)) := by
  unfold V
  simp only [hostOps0, List.flatten_cons, List.flatten_nil, List.append_nil, List.cons_append, List.nil_append]
  after_results

theorem ix_0 : ∀ t : Fin grid0.N, win0_0.index t 0 = t.val ∧ win0_0.index t 1 = 0 := by decide +kernel
theorem ix_1 : ∀ t : Fin grid0.N, win0_1.index t 0 = 0 ∧ win0_1.index t 1 = 0 ∧ win0_1.index t 2 = 0 := by decide +kernel
theorem ix_2 : ∀ t : Fin grid0.N, win0_2.index t 0 = t.val ∧ win0_2.index t 1 = 0 := by decide +kernel

theorem rb_0 (c : Dev nD) (t : Fin cfg0.N) (j : S1024x1024.Idx) :
    (iblk m c 0 t : S1024x1024.Idx → EReal) j = H m c (1024 * t.val + (j 0).val) (j 1).val := by
  unfold iblk
  rw [View.read_apply]
  show V m c main_arg0 _ = _
  rw [V_main_arg0]
  refine rd_eq _ _ ?_ ?_
  · show win0_0.index t 0 * 1024 + 1 * (j 0).val = _; rw [(ix_0 t).1]; omega
  · show win0_0.index t 1 * 1024 + 1 * (j 1).val = _; rw [(ix_0 t).2]; omega
theorem rb_1 (c : Dev nD) (t : Fin cfg0.N) (j : S1x1024x1024.Idx) :
    (iblk m c 1 t : S1x1024x1024.Idx → EReal) j = W m c (j 1).val (j 2).val := by
  unfold iblk
  rw [View.read_apply]
  show V m c main_v0 _ = _
  rw [V_w]
  refine (lift_at (n := 1024) (k := 1024) _ _ _).trans (congrArg₂ (W m c) ?_ ?_)
  · show win0_1.index t 1 * 1024 + 1 * (j 1).val = _; rw [(ix_1 t).2.1]; omega
  · show win0_1.index t 2 * 1024 + 1 * (j 2).val = _; rw [(ix_1 t).2.2]; omega

def res (c : Dev nD) : S8192x1024.Idx → EReal := fun i => dt 1024 (H m c) (W m c) (i 0).val (i 1).val * Ideal.ofBits .f32 0x3E000000#32

theorem final (c : Dev nD) : (dats m 0 c).arrAt 2 cfg0.N = res m c := by
  refine (dats m 0 c).arrAt_eq_of_cover 2 (res m c) (fun t _ => ?_) fun (i : S8192x1024.Idx) => ?_
  · show (cfg0.win 2).cut (grid0.coords t) ((dats m 0 c).after 2 t) = _
    rw [after0_2]
    refine funext fun (y : S1024x1024.Idx) => ?_
    refine (out_at (iblk m c 0 t) (iblk m c 1 t) (rb_0 m c t) (rb_1 m c t) _).trans ?_
    show dt 1024 (H m c) (W m c) (1024 * t.val + (y 0).val) (y 1).val * Ideal.ofBits .f32 0x3E000000#32 = dt 1024 (H m c) (W m c) (win0_2.index t 0 * 1024 + 1 * (y 0).val) (win0_2.index t 1 * 1024 + 1 * (y 1).val) * Ideal.ofBits .f32 0x3E000000#32
    rw [(ix_2 t).1, (ix_2 t).2, Nat.mul_comm, Nat.one_mul, Nat.one_mul, Nat.zero_mul, Nat.zero_add]
  · have hN : cfg0.N = 8 := N_0
    have h0 : (i 0 : Nat) < 8192 := (i 0).isLt
    have h1 : (i 1 : Nat) < 1024 := (i 1).isLt
    have ht : (i 0 : Nat) / 1024 < cfg0.N := by omega
    refine ⟨⟨(i 0 : Nat) / 1024, ht⟩, flush0_2 _, ?_⟩
    show i ∈ ((View.whole main_v1).slice (win0_2.rect ⟨(i 0 : Nat) / 1024, ht⟩)).set
    rw [View.set_slice_whole, Rect.mem_set_unit]
    intro a
    match a with
    | ⟨0, _⟩ =>
      show win0_2.index _ 0 * 1024 ≤ (i 0 : Nat) ∧ (i 0 : Nat) < win0_2.index _ 0 * 1024 + 1024
      rw [(ix_2 _).1]; dsimp only; omega
    | ⟨1, _⟩ =>
      show win0_2.index _ 1 * 1024 ≤ (i 1 : Nat) ∧ (i 1 : Nat) < win0_2.index _ 1 * 1024 + 1024
      rw [(ix_2 _).2]; dsimp only; omega

theorem run : θ_run defs (onTc (τ := τ) (main (F := Ideal))) ⟨m, fun _ => 0, ρ⟩ fun r => ∀ c : Dev nD,
      r.2.mem ((c : Thread nD τ).loc main_v1) = res m c ∧ r.2.mem ((c : Thread nD τ).loc main_arg0) = m ((c : Thread nD τ).loc main_arg0) ∧ r.2.mem ((c : Thread nD τ).loc main_arg1) = m ((c : Thread nD τ).loc main_arg1) :=
  (θ_run defs _ _).mono (fun r h c => ⟨(h c).1.trans (final m c), (h c).2⟩) (run_blocks m ρ)

end Cert.Kernel12Ideal.Proj

namespace Cert.Proj12

open Cert.Reference12Ideal Cert.Reference12Ideal.Read Cert.Proj Cert.Conv

theorem ref_at (x0 : S8192x1024.Idx → EReal) (x1 : S1024x1024.Idx → EReal) (i : S8192x1024.Idx) : val_main_v5 (F := Ideal) x0 x1 i = (dt 1024 (rd (n := 8192) (k := 1024) x0) (rd (n := 1024) (k := 1024) x1) (i 0).val (i 1).val * Ideal.ofBits .f32 0x3E000000#32) := by
  rw [val_main_v5_apply, val_main_v4_apply, val_main_v3_apply, val_main_cst_apply]
  refine congrArg (fun z : EReal => z * Ideal.ofBits .f32 0x3E000000#32) ((val_main_v2_apply x0 x1 i).trans ?_)
  exact Finset.sum_congr rfl fun k _ => congrArg₂ (· * ·) (rd_eq x0 _ rfl rfl) (rd_eq x1 _ rfl rfl)

/-- Kernel and reference: the same product. -/
theorem algebraic : Cert.algebraic_Kernel12Ideal_Reference12Ideal := by
  intro m g m' g' _ ha
  refine ⟨fun c => Cert.Kernel12Ideal.Proj.res m c, Cert.Kernel12Ideal.Proj.run m g, ?_⟩
  refine (θ_run Cert.Reference12Ideal.defs _ _).mono (fun r h c => ⟨(h c).1.trans ?_, (h c).2⟩) (Cert.Reference12Ideal.Value.run (F := Ideal) m' g')
  refine (val_main_v5_eq _ _).trans ?_
  rw [(ha c).1, (ha c).2]
  funext j
  exact ref_at _ _ j

theorem frame_reference : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

end Cert.Proj12

end
-- ==== Proof.Mm9.lean ====
/- The gradient of a mixer's projection to the stream: the product of what it read and what came back, over all rows. -/
module

public import proofs.«01_k».proof.Proof.Proj
public import proofs.«01_k».proof.Proof.Gen.Kernel9Ideal.Value
public import proofs.«01_k».proof.Proof.Gen.Reference9Ideal.Run
public import proofs.«01_k».proof.Proof.Gen.Reference9Ideal.Read
public import proofs.«01_k».proof.Defs
public import Idealize.ShloMosaic.Lib.KernelVsHost
public import Idealize.ShloMosaic.Lib.StableHlo.Run
public import Idealize.ShloMosaic.Lib.StackMember
public import Idealize.ShloMosaic.Lib.Pointwise

@[expose] public section

set_option maxRecDepth 16384

noncomputable section

open Idealize.ShloMosaic hiding ix1 ix2 ix3
open Idealize.ShloMosaic.ValueIdx Idealize.ShloMosaic.TcCoe Idealize.SL.Sem

namespace Cert.Kernel9Ideal.Mm

open Cert.Kernel9Ideal Cert.Kernel9Ideal.Gen Cert.Kernel9Ideal.Value Cert.Mm Cert.Conv
open Idealize.ShloMosaic.Pipeline (Dat)

variable [Facts]

variable {A B : ℕ → ℕ → EReal} {o p q : ℕ}

/-- One block's product. -/
theorem pay1_at (v0 : Vec Ideal S2048x1024 .bf16) (v2 : Vec Ideal S2048x1024 .bf16)
    (h0 : ∀ j, v0 j = A (o + (j 0).val) (p + (j 1).val)) (h2 : ∀ j, v2 j = B (o + (j 0).val) (q + (j 1).val)) (y : S1024x1024.Idx) :
    k0_pay1 v0 v2 y = part A B 2048 o (p + (y 0).val) (q + (y 1).val) := by
  unfold k0_pay1
  dsimp only
  exact rows_at (K := 2048) (M := 1024) (N := 1024) dot_S2048x1024_S2048x1024_S1024x1024_0_0_1_1_n_n rfl rfl (fun _ _ => rfl) (fun _ _ => rfl) (fun _ _ => rfl) (fun _ _ => rfl) v0 v2 A B o p q h0 h2 y

theorem rd_left (x0 : Vec Ideal S2048x1024 .bf16) (h0 : ∀ j, x0 j = A (o + (j 0).val) (p + (j 1).val))
    (arg3 : Memref sig .tc .vmem S2048x1024 .bf16) (harg3 : arg3.IsWhole) (inb) (j : S2048x1024.Idx) :
    View.readAt (Elt Ideal) arg3.view (Rect.unit (s := S2048x1024) ![0, 0] ![2048, 1024] inb).toLoadRect (harg3.unread x0) j
      = A (o + (j 0).val) (p + (j 1).val) := by
  rw [View.readAt_eq_ld, harg3.read_unread]
  refine (h0 _).trans ?_
  show A (o + (0 + 1 * (j 0).val)) (p + (0 + 1 * (j 1).val)) = _
  rw [Nat.zero_add, Nat.one_mul, Nat.zero_add, Nat.one_mul]
theorem rd_right (x1 : Vec Ideal S2048x1024 .bf16) (h1 : ∀ j, x1 j = B (o + (j 0).val) (q + (j 1).val))
    (arg4 : Memref sig .tc .vmem S2048x1024 .bf16) (harg4 : arg4.IsWhole) (inb) (j : S2048x1024.Idx) :
    View.readAt (Elt Ideal) arg4.view (Rect.unit (s := S2048x1024) ![0, 0] ![2048, 1024] inb).toLoadRect (harg4.unread x1) j
      = B (o + (j 0).val) (q + (j 1).val) := by
  rw [View.readAt_eq_ld, harg4.read_unread]
  refine (h1 _).trans ?_
  show B (o + (0 + 1 * (j 0).val)) (q + (0 + 1 * (j 1).val)) = _
  rw [Nat.zero_add, Nat.one_mul, Nat.zero_add, Nat.one_mul]
theorem rd_acc (xs : Vec Ideal S1024x1024 .f32) (arg6 : Memref sig .tc .vmem S1024x1024 .f32) (harg6 : arg6.IsWhole) (inb) (j : S1024x1024.Idx) :
    View.readAt (Elt Ideal) arg6.view (Rect.unit (s := S1024x1024) ![0, 0] ![1024, 1024] inb).toLoadRect (harg6.unread xs) j = xs j := by
  rw [View.readAt_eq_ld, harg6.read_unread]
  refine congrArg xs (funext fun a => Fin.ext ?_)
  match a with
  | ⟨0, _⟩ => show 0 + 1 * (j 0).val = (j 0).val; omega
  | ⟨1, _⟩ => show 0 + 1 * (j 1).val = (j 1).val; omega
/-- A sum and a block's product, added up. -/
theorem pay3_at (x0 : Vec Ideal S2048x1024 .bf16) (x1 : Vec Ideal S2048x1024 .bf16) (xs : Vec Ideal S1024x1024 .f32) (h0 : ∀ j, x0 j = A (o + (j 0).val) (p + (j 1).val)) (h1 : ∀ j, x1 j = B (o + (j 0).val) (q + (j 1).val))
    (arg3 : Memref sig .tc .vmem S2048x1024 .bf16) (harg3 : arg3.IsWhole) (arg4 : Memref sig .tc .vmem S2048x1024 .bf16) (harg4 : arg4.IsWhole)
    (arg6 : Memref sig .tc .vmem S1024x1024 .f32) (harg6 : arg6.IsWhole) (i3 i4 i6) (y : S1024x1024.Idx) :
    k0_pay3 (View.readAt (Elt Ideal) arg3.view (Rect.unit (s := S2048x1024) ![0, 0] ![2048, 1024] i3).toLoadRect (harg3.unread x0))
      (View.readAt (Elt Ideal) arg4.view (Rect.unit (s := S2048x1024) ![0, 0] ![2048, 1024] i4).toLoadRect (harg4.unread x1))
      (View.readAt (Elt Ideal) arg6.view (Rect.unit (s := S1024x1024) ![0, 0] ![1024, 1024] i6).toLoadRect (harg6.unread xs)) y
      = plus (xs y) (part A B 2048 o (p + (y 0).val) (q + (y 1).val)) := by
  unfold k0_pay3
  dsimp only
  rw [shapeCast_self]
  exact congrArg₂ plus (rd_acc xs arg6 harg6 i6 y) (pay1_at _ _ (rd_left x0 h0 arg3 harg3 i3) (rd_right x1 h1 arg4 harg4 i4) y)
theorem emb_self (inb) (j : (Rect.unit (s := S1024x1024) ![0, 0] ![1024, 1024] inb).shape.Idx) :
    (Rect.unit (s := S1024x1024) ![0, 0] ![1024, 1024] inb).emb j = (j : S1024x1024.Idx) := by
  refine funext fun a => Fin.ext ?_
  match a with
  | ⟨0, _⟩ => show 0 + 1 * (j 0).val = (j 0).val; omega
  | ⟨1, _⟩ => show 0 + 1 * (j 1).val = (j 1).val; omega

theorem pay4_at (v : Vec Ideal S1024x1024 .f32) (y : S1024x1024.Idx) : k0_pay4 v y = v y := rfl

/-- The first block starts the sum. -/
theorem sout_A (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i) (hc2 : ¬cond0_2 i)
    (x0 : Vec Ideal S2048x1024 .bf16) (x1 : Vec Ideal S2048x1024 .bf16) (h0 : ∀ j, x0 j = A (o + (j 0).val) (p + (j 1).val)) (h1 : ∀ j, x1 j = B (o + (j 0).val) (q + (j 1).val)) :
    sout0_A_0 c i arg3 harg3 arg4 harg4 arg5 harg5 arg6 harg6 hc0 hc1 hc2 x0 x1 = fun y => part A B 2048 o (p + (y 0).val) (q + (y 1).val) := by
  unfold sout0_A_0
  rw [View.read_writes_eq_canon _ _ _ (scover0_A_0 c i arg3 harg3 arg4 harg4 arg5 harg5 arg6 harg6 hc0 hc1 hc2 x0 x1)]
  funext y
  refine View.canon_apply_of_pieces (fun y => part A B 2048 o (p + (y 0).val) (q + (y 1).val)) _ ?_ y (scover0_A_0 c i arg3 harg3 arg4 harg4 arg5 harg5 arg6 harg6 hc0 hc1 hc2 x0 x1 y)
  unfold kernelRun0_A
  dsimp only
  sl_unfold_words
  simp only [List.mem_cons, List.not_mem_nil, or_false, forall_eq_or_imp, forall_eq]
  intro j
  rw [emb_self]
  unfold k0_pay2
  rw [shapeCast_self]
  exact pay1_at _ _ (rd_left x0 h0 arg3 harg3 inb_S2048x1024_S2048x1024_0_0) (rd_right x1 h1 arg4 harg4 inb_S2048x1024_S2048x1024_0_0) j

/-- Each further block is added. -/
theorem sout_B (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (hc2 : ¬cond0_2 i)
    (x0 : Vec Ideal S2048x1024 .bf16) (x1 : Vec Ideal S2048x1024 .bf16) (xs0 : Vec Ideal S1024x1024 .f32) (h0 : ∀ j, x0 j = A (o + (j 0).val) (p + (j 1).val)) (h1 : ∀ j, x1 j = B (o + (j 0).val) (q + (j 1).val)) :
    sout0_B_0 c i arg3 harg3 arg4 harg4 arg5 harg5 arg6 harg6 hc0 hc1 hc2 x0 x1 xs0 = fun y => plus (xs0 y) (part A B 2048 o (p + (y 0).val) (q + (y 1).val)) := by
  unfold sout0_B_0
  rw [View.read_writes_eq_canon _ _ _ (scover0_B_0 c i arg3 harg3 arg4 harg4 arg5 harg5 arg6 harg6 hc0 hc1 hc2 x0 x1 xs0)]
  funext y
  refine View.canon_apply_of_pieces (fun y => plus (xs0 y) (part A B 2048 o (p + (y 0).val) (q + (y 1).val))) _ ?_ y (scover0_B_0 c i arg3 harg3 arg4 harg4 arg5 harg5 arg6 harg6 hc0 hc1 hc2 x0 x1 xs0 y)
  unfold kernelRun0_B
  dsimp only
  sl_unfold_words
  simp only [List.mem_cons, List.not_mem_nil, or_false, forall_eq_or_imp, forall_eq]
  intro j
  rw [emb_self]
  exact pay3_at x0 x1 xs0 h0 h1 arg3 harg3 arg4 harg4 arg6 harg6 inb_S2048x1024_S2048x1024_0_0 inb_S2048x1024_S2048x1024_0_0 inb_S1024x1024_S1024x1024_0_0 j

/-- The last block's sum is the result. -/
theorem out_C (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (hc2 : cond0_2 i)
    (x0 : Vec Ideal S2048x1024 .bf16) (x1 : Vec Ideal S2048x1024 .bf16) (xs0 : Vec Ideal S1024x1024 .f32) (h0 : ∀ j, x0 j = A (o + (j 0).val) (p + (j 1).val)) (h1 : ∀ j, x1 j = B (o + (j 0).val) (q + (j 1).val)) :
    out0_C_2 c i arg3 harg3 arg4 harg4 arg5 harg5 arg6 harg6 hc0 hc1 hc2 x0 x1 xs0 = fun y => plus (xs0 y) (part A B 2048 o (p + (y 0).val) (q + (y 1).val)) := by
  unfold out0_C_2
  rw [View.read_writes_eq_canon _ _ _ (cover0_C_2 c i arg3 harg3 arg4 harg4 arg5 harg5 arg6 harg6 hc0 hc1 hc2 x0 x1 xs0)]
  funext y
  refine View.canon_apply_of_pieces (fun y => plus (xs0 y) (part A B 2048 o (p + (y 0).val) (q + (y 1).val))) _ ?_ y (cover0_C_2 c i arg3 harg3 arg4 harg4 arg5 harg5 arg6 harg6 hc0 hc1 hc2 x0 x1 xs0 y)
  unfold kernelRun0_C
  dsimp only
  sl_unfold_words
  simp only [List.mem_cons, List.not_mem_nil, or_false, forall_eq_or_imp, forall_eq]
  intro j
  rw [emb_self, View.readCov_cons_toLoadRect, pay4_at]
  exact pay3_at x0 x1 xs0 h0 h1 arg3 harg3 arg4 harg4 arg6 harg6 inb_S2048x1024_S2048x1024_0_0 inb_S2048x1024_S2048x1024_0_0 inb_S1024x1024_S1024x1024_0_0 j

variable (m : (ℓ : Loc nD τ sig) → Buf (Elt Ideal) ℓ) (ρ : Dev nD → PrngReg)

/-- The two operands, as the launch finds them. -/
abbrev L (c : Dev nD) : ℕ → ℕ → EReal := rd (n := 8192) (k := 1024) (V m c main_arg0)
abbrev R (c : Dev nD) : ℕ → ℕ → EReal := rd (n := 8192) (k := 1024) (V m c main_arg2)

theorem ix_0 : ∀ t : Fin grid0.N, win0_0.index t 0 = t.val % 4 ∧ win0_0.index t 1 = t.val / 4 := by decide +kernel
theorem ix_1 : ∀ t : Fin grid0.N, win0_1.index t 0 = t.val % 4 ∧ win0_1.index t 1 = t.val / 4 % 1 := by decide +kernel

theorem rb_0 (c : Dev nD) (t : Fin cfg0.N) (j : S2048x1024.Idx) :
    (iblk m c 0 t : S2048x1024.Idx → EReal) j = L m c (2048 * (t.val % 4) + (j 0).val) (1024 * (t.val / 4) + (j 1).val) := by
  unfold iblk
  rw [View.read_apply]
  show V m c main_arg0 _ = _
  refine rd_eq _ _ ?_ ?_
  · show win0_0.index t 0 * 2048 + 1 * (j 0).val = _; rw [(ix_0 t).1]; omega
  · show win0_0.index t 1 * 1024 + 1 * (j 1).val = _; rw [(ix_0 t).2]; omega
theorem rb_1 (c : Dev nD) (t : Fin cfg0.N) (j : S2048x1024.Idx) :
    (iblk m c 1 t : S2048x1024.Idx → EReal) j = R m c (2048 * (t.val % 4) + (j 0).val) (1024 * (t.val / 4 % 1) + (j 1).val) := by
  unfold iblk
  rw [View.read_apply]
  show V m c main_arg2 _ = _
  refine rd_eq _ _ ?_ ?_
  · show win0_1.index t 0 * 2048 + 1 * (j 0).val = _; rw [(ix_1 t).1]; omega
  · show win0_1.index t 1 * 1024 + 1 * (j 1).val = _; rw [(ix_1 t).2]; omega

theorem st_A (c : Dev nD) (t : Fin cfg0.N) (h0 : t.val % 4 = 0) (h1 : ¬1 ≤ t.val) (h2 : ¬t.val % 4 = 3)
    (h3 : ∀ j : S2048x1024.Idx, (iblk m c 0 t : S2048x1024.Idx → EReal) j = A (o + (j 0).val) (p + (j 1).val))
    (h4 : ∀ j : S2048x1024.Idx, (iblk m c 1 t : S2048x1024.Idx → EReal) j = B (o + (j 0).val) (q + (j 1).val)) :
    (outsAt0 m c t.val t.isLt).2 = fun y => part A B 2048 o (p + (y 0).val) (q + (y 1).val) := by
  exact of_snd (outsAt0_A m c t h0 h1 h2) (sout_A c (grid0.coords t) (ms0_0 t) (hs0_0 t) (ms0_1 t) (hs0_1 t) (ms0_2 t) (hs0_2 t) scM0_0 (Memref.isWhole_whole _)
    ((hcond0_0 t).mpr h0) (fun h => h1 ((hcond0_1 t).mp h)) (fun h => h2 ((hcond0_2 t).mp h)) (iblk m c 0 t) (iblk m c 1 t)  h3 h4)
theorem st_B (c : Dev nD) (t : Fin cfg0.N) (h0 : ¬t.val % 4 = 0) (h1 : 1 ≤ t.val) (h2 : ¬t.val % 4 = 3)
    (h3 : ∀ j : S2048x1024.Idx, (iblk m c 0 t : S2048x1024.Idx → EReal) j = A (o + (j 0).val) (p + (j 1).val))
    (h4 : ∀ j : S2048x1024.Idx, (iblk m c 1 t : S2048x1024.Idx → EReal) j = B (o + (j 0).val) (q + (j 1).val)) :
    (outsAt0 m c t.val t.isLt).2 = fun y => plus ((outsAt0 m c (t.val - 1) (Nat.lt_of_le_of_lt (Nat.sub_le _ _) t.isLt)).2 y) (part A B 2048 o (p + (y 0).val) (q + (y 1).val)) := by
  exact of_snd (outsAt0_B m c t h0 h1 h2) (sout_B c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) (fun h => h2 ((hcond0_2 t).mp h)) (iblk m c 0 t) (iblk m c 1 t) (outsAt0 m c (t.val - 1) (Nat.lt_of_le_of_lt (Nat.sub_le _ _) t.isLt)).2 h3 h4)
theorem st_C (c : Dev nD) (t : Fin cfg0.N) (h0 : ¬t.val % 4 = 0) (h1 : 1 ≤ t.val) (h2 : t.val % 4 = 3)
    (h3 : ∀ j : S2048x1024.Idx, (iblk m c 0 t : S2048x1024.Idx → EReal) j = A (o + (j 0).val) (p + (j 1).val))
    (h4 : ∀ j : S2048x1024.Idx, (iblk m c 1 t : S2048x1024.Idx → EReal) j = B (o + (j 0).val) (q + (j 1).val)) :
    (outsAt0 m c t.val t.isLt).1 = fun y => plus ((outsAt0 m c (t.val - 1) (Nat.lt_of_le_of_lt (Nat.sub_le _ _) t.isLt)).2 y) (part A B 2048 o (p + (y 0).val) (q + (y 1).val)) := by
  exact of_fst (outsAt0_C m c t h0 h1 h2) (out_C c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) ((hcond0_2 t).mpr h2) (iblk m c 0 t) (iblk m c 1 t) (outsAt0 m c (t.val - 1) (Nat.lt_of_le_of_lt (Nat.sub_le _ _) t.isLt)).2 h3 h4)

/-- What the scratch holds after a point that is not the last of its four. -/
theorem acc_at (c : Dev nD) : ∀ (n : ℕ) (hn : n < cfg0.N), n % 4 < 3 → (outsAt0 m c n hn).2
    = fun y => ∑ s ∈ Finset.range (n % 4 + 1), part (L m c) (R m c) 2048 (2048 * s) (1024 * (n / 4) + (y 0).val) (1024 * (n / 4 % 1) + (y 1).val)
  | n, hn, hk => by
    by_cases h0 : n % 4 = 0
    · refine (st_A m c ⟨n, hn⟩ h0 (by show ¬1 ≤ n; have := hn.trans_eq N_0; omega) (by show ¬n % 4 = 3; omega) (rb_0 m c ⟨n, hn⟩) (rb_1 m c ⟨n, hn⟩)).trans ?_
      funext y
      show part (L m c) (R m c) 2048 (2048 * (n % 4)) (1024 * (n / 4) + (y 0).val) (1024 * (n / 4 % 1) + (y 1).val) = _
      rw [h0, Nat.zero_add, Finset.sum_range_one]
    · refine (st_B m c ⟨n, hn⟩ h0 (by show 1 ≤ n; omega) (by show ¬n % 4 = 3; omega) (rb_0 m c ⟨n, hn⟩) (rb_1 m c ⟨n, hn⟩)).trans ?_
      funext y
      show _ + part (L m c) (R m c) 2048 (2048 * (n % 4)) (1024 * (n / 4) + (y 0).val) (1024 * (n / 4 % 1) + (y 1).val) = _
      rw [acc_at c (n - 1) (Nat.lt_of_le_of_lt (Nat.sub_le _ _) hn) (by omega), Finset.sum_range_succ _ (n % 4)]
      rw [show (n - 1) % 4 + 1 = n % 4 by omega, show (n - 1) / 4 % 1 = n / 4 % 1 by omega, show (n - 1) / 4 = n / 4 by omega]
  termination_by n => n

/-- What the last of four points writes. -/
theorem out_at (c : Dev nD) (n : ℕ) (hn : n < cfg0.N) (hk : n % 4 = 3) (y : S1024x1024.Idx) : (outsAt0 m c n hn).1 y
    = ∑ g : Fin 8192, L m c g.val (1024 * (n / 4) + (y 0).val) * R m c g.val (1024 * (n / 4 % 1) + (y 1).val) := by
  refine (congrFun (st_C m c ⟨n, hn⟩ (by show ¬n % 4 = 0; omega) (by show 1 ≤ n; omega) hk (rb_0 m c ⟨n, hn⟩) (rb_1 m c ⟨n, hn⟩)) y).trans ?_
  show _ + part (L m c) (R m c) 2048 (2048 * (n % 4)) (1024 * (n / 4) + (y 0).val) (1024 * (n / 4 % 1) + (y 1).val) = _
  rw [acc_at m c (n - 1) (Nat.lt_of_le_of_lt (Nat.sub_le _ _) hn) (by omega), ← four, Finset.sum_range_succ _ 3]
  rw [show (n - 1) % 4 + 1 = 3 by omega, show (n - 1) / 4 % 1 = n / 4 % 1 by omega, show (n - 1) / 4 = n / 4 by omega, hk]

/-- The launch's result, an entry at a time. -/
theorem G2_at (c : Dev nD) (i : S1024x1024.Idx) : (G2 m c : S1024x1024.Idx → EReal) i = ∑ g : Fin 8192, L m c g.val (i 0).val * R m c g.val (i 1).val := by
  have l0 : (i 0).val < 1024 := (i 0).isLt
  have l1 : (i 1).val < 1024 := (i 1).isLt
  have hN : cfg0.N = 4 := N_0
  have h : pt2Of i < cfg0.N := by rw [hN]; unfold pt2Of run2Of; omega
  unfold G2
  rw [dif_pos h, ← outsAt0_sweep m c (pt2Of i) h, out_at m c (pt2Of i) h (by unfold pt2Of; omega)]
  have e0 : 1024 * (pt2Of i / 4) + (i 0).val % 1024 = (i 0).val := by unfold pt2Of run2Of; omega
  have e1 : 1024 * (pt2Of i / 4 % 1) + (i 1).val % 1024 = (i 1).val := by unfold pt2Of run2Of; omega
  show ∑ g : Fin 8192, L m c g.val (1024 * (pt2Of i / 4) + (i 0).val % 1024) * R m c g.val (1024 * (pt2Of i / 4 % 1) + (i 1).val % 1024) = _
  rw [e0, e1]

/-- The reference's product, an entry at a time. -/
theorem ref_at (c : Dev nD) (i : S1024x1024.Idx) :
    Cert.Reference9Ideal.Read.val_main_v6 (F := Ideal) (m ((c : Thread nD τ).loc main_arg0)) (m ((c : Thread nD τ).loc main_arg2)) i = (G2 m c : S1024x1024.Idx → EReal) i := by
  rw [G2_at]
  refine (Cert.Reference9Ideal.Read.val_main_v6_apply (F := Ideal) _ _ i).trans ((Cert.Reference9Ideal.Read.val_main_v5_apply (F := Ideal) _ _ _).trans ((Cert.Reference9Ideal.Read.val_main_v4_apply _ _ _).trans ?_))
  refine Finset.sum_congr rfl fun k _ => ?_
  rw [mul_comm]
  refine congrArg₂ (· * ·) ?_ ?_
  · refine Eq.trans ?_ (congrArg (fun f => rd (n := 8192) (k := 1024) f k.val (i 0).val) (V_main_arg0 m c)).symm
    exact rd_eq (m ((c : Thread nD τ).loc main_arg0)) _ rfl rfl
  · refine Eq.trans ?_ (congrArg (fun f => rd (n := 8192) (k := 1024) f k.val (i 1).val) (V_main_arg2 m c)).symm
    exact rd_eq (m ((c : Thread nD τ).loc main_arg2)) _ rfl rfl

end Cert.Kernel9Ideal.Mm

namespace Cert.Mm9

/-- Kernel and reference: the same gradient of the weight. -/
theorem algebraic : Cert.algebraic_Kernel9Ideal_Reference9Ideal := by
  intro m g m' g' _ ha
  refine ⟨fun c => Cert.Kernel9Ideal.Value.G2 m c, Cert.Kernel9Ideal.Value.run m g, ?_⟩
  refine (θ_run Cert.Reference9Ideal.defs _ _).mono (fun r h c => ⟨(h c).1.trans ?_, (h c).2⟩) (Cert.Reference9Ideal.Value.run (F := Ideal) m' g')
  refine (Cert.Reference9Ideal.Read.val_main_v6_eq _ _).trans ?_
  rw [(ha c).1, (ha c).2.2]
  funext i
  exact Cert.Kernel9Ideal.Mm.ref_at m c i

theorem frame_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

end Cert.Mm9
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Pre_finite
public import proofs.«01_k».proof.Proof.ConvEq
public import proofs.«01_k».proof.Proof.FfnEq
public import proofs.«01_k».proof.Proof.Mm9
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts, Cert.Pre_finite.Gen.facts, by
  exact ⟨fun m ρ _ => Cert.Kernel.Gen.frame m ρ, fun m ρ _ => Cert.KernelIdeal.Gen.frame m ρ, Cert.Conv.frame_reference,
    fun m ρ _ => Cert.Kernel2.Gen.frame m ρ, fun m ρ _ => Cert.Kernel2Ideal.Gen.frame m ρ, fun m ρ _ => Cert.Kernel2Ideal.Gen.frame m ρ,
    Cert.Ffn.frame_reference, Cert.Ffn.frame_reference_finite,
    fun m ρ _ => Cert.Kernel3.Gen.frame m ρ, fun m ρ _ => Cert.Kernel3Ideal.Gen.frame m ρ, Cert.Mm3.frame_reference,
    fun m ρ _ => Cert.Kernel4.Gen.frame m ρ, fun m ρ _ => Cert.Kernel4Ideal.Gen.frame m ρ, Cert.Mm4.frame_reference,
    fun m ρ _ => Cert.Kernel5.Gen.frame m ρ, fun m ρ _ => Cert.Kernel5Ideal.Gen.frame m ρ, Cert.Mm5.frame_reference,
    fun m ρ _ => Cert.Kernel6.Gen.frame m ρ, fun m ρ _ => Cert.Kernel6Ideal.Gen.frame m ρ, Cert.Mm6.frame_reference,
    fun m ρ _ => Cert.Kernel7.Gen.frame m ρ, fun m ρ _ => Cert.Kernel7Ideal.Gen.frame m ρ, Cert.Mm7.frame_reference,
    fun m ρ _ => Cert.Kernel8.Gen.frame m ρ, fun m ρ _ => Cert.Kernel8Ideal.Gen.frame m ρ, Cert.Act.frame_reference,
    fun m ρ _ => Cert.Kernel9.Gen.frame m ρ, fun m ρ _ => Cert.Kernel9Ideal.Gen.frame m ρ, Cert.Mm9.frame_reference,
    fun m ρ _ => Cert.Kernel10.Gen.frame m ρ, fun m ρ _ => Cert.Kernel10Ideal.Gen.frame m ρ, Cert.Proj10.frame_reference,
    fun m ρ _ => Cert.Kernel11.Gen.frame m ρ, fun m ρ _ => Cert.Kernel11Ideal.Gen.frame m ρ, Cert.Proj11.frame_reference,
    fun m ρ _ => Cert.Kernel12.Gen.frame m ρ, fun m ρ _ => Cert.Kernel12Ideal.Gen.frame m ρ, Cert.Proj12.frame_reference,
    trivial, Cert.Conv.algebraic, trivial, Cert.Ffn.algebraic, trivial, Cert.Mm3.algebraic, trivial, Cert.Mm4.algebraic,
    trivial, Cert.Mm5.algebraic, trivial, Cert.Mm6.algebraic, trivial, Cert.Mm7.algebraic, trivial, Cert.Act.algebraic,
    trivial, Cert.Mm9.algebraic, trivial, Cert.Proj10.algebraic, trivial, Cert.Proj11.algebraic, trivial, Cert.Proj12.algebraic⟩⟩

end Cert.Proof

end
